-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v1_2)) (v2 : (c : Dev Cert.Kernel3Ideal.nD) → Buf (Elt Ideal) ((c.tc : Thread Cert.Kernel3Ideal.nD Cert.Kernel3Ideal.τ).loc Cert.Kernel3Ideal.main_v1_3)) (v3 : (c : Dev Cert.Kernel3Ideal.nD) → Buf (Elt Ideal) ((c.tc : Thread Cert.Kernel3Ideal.nD Cert.Kernel3Ideal.τ).loc Cert.Kernel3Ideal.main_v1_4)) (v4 : (c : Dev Cert.Kernel3Ideal.nD) → Buf (Elt Ideal) ((c.tc : Thread Cert.Kernel3Ideal.nD Cert.Kernel3Ideal.τ).loc Cert.Kernel3Ideal.main_v2)) (v5 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v1_2) = v1 c
          ∧ r.2.mem ((c.tc : Thread Cert.Kernel3Ideal.nD Cert.Kernel3Ideal.τ).loc Cert.Kernel3Ideal.main_v1_3) = v2 c
          ∧ r.2.mem ((c.tc : Thread Cert.Kernel3Ideal.nD Cert.Kernel3Ideal.τ).loc Cert.Kernel3Ideal.main_v1_4) = v3 c
          ∧ r.2.mem ((c.tc : Thread Cert.Kernel3Ideal.nD Cert.Kernel3Ideal.τ).loc Cert.Kernel3Ideal.main_v2) = v4 c
          ∧ r.2.mem ((c.tc : Thread Cert.Kernel3Ideal.nD Cert.Kernel3Ideal.τ).loc Cert.Kernel3Ideal.main_v3) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v57) = v4 c
          ∧ r.2.mem ((c.tc : Thread Cert.Reference3Ideal.nD Cert.Reference3Ideal.τ).loc Cert.Reference3Ideal.main_v44) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v7) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "scale_log2e" .f32 0x3E38AA3B#32 (((1 / 8) * (Real.log 2)⁻¹ : ℝ) : EReal)
  ∧ IdealRules.named_const.Statement Cert.Kernel8Ideal.κ "log2e" .f32 0x3FB8AA3B#32 (((Real.log 2)⁻¹ : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v17_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v81) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4096x1024 : Shape := ⟨2, ![4096, 1024]⟩
abbrev S4096x4096 : Shape := ⟨2, ![4096, 4096]⟩
abbrev S3x1024 : Shape := ⟨2, ![3, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S3x1024 : S_.BroadcastsInDim S3x1024 (![] : Fin 0 → Fin S3x1024.rank)
  reducesTo_S3x1024_S_d0_1 : S3x1024.ReducesTo [0, 1] S_

variable [Facts]

def fn {F : FTy → Type} [FloatOps F] (main_arg0 : FVec F S4096x1024 .bf16) (main_arg1 : FVec F S4096x4096 .bf16) (main_arg2 : FVec F S3x1024 .f32) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .bf16 := Host.absf main_arg1
  let main_cst_0 : FVec F S_ .bf16 := constant S_ .bf16 0x7F80#16
  let main_v5 : FVec F S4096x4096 .bf16 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  main_v13
-- ==== Pre_finite2.lean ====
abbrev S4096x1024 : Shape := ⟨2, ![4096, 1024]⟩
abbrev S1x1024 : Shape := ⟨2, ![1, 1024]⟩
abbrev S1024x8704 : Shape := ⟨2, ![1024, 8704]⟩
abbrev S4096x4096 : Shape := ⟨2, ![4096, 4096]⟩
abbrev S4096x2560 : Shape := ⟨2, ![4096, 2560]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2560 : S_.BroadcastsInDim S4096x2560 (![] : Fin 0 → Fin S4096x2560.rank)
  reducesTo_S4096x2560_S_d0_1 : S4096x2560.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x8704 : S_.BroadcastsInDim S1024x8704 (![] : Fin 0 → Fin S1024x8704.rank)
  reducesTo_S1024x8704_S_d0_1 : S1024x8704.ReducesTo [0, 1] S_

variable [Facts]

def fn_part1 {F : FTy → Type} [FloatOps F] (main_arg1 : FVec F S1x1024 .f32) (main_arg2 : FVec F S1024x8704 .bf16) (main_arg6 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : FVec F S1x1024 .f32 := Host.absf main_arg1
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v17 main_v21
  let main_v23 : FVec F S4096x1024 .f32 := Host.absf main_arg6
  let main_cst_8 : FVec F S_ .f32 := constant S_ .f32 0x7F800000#32
  let main_v24 : FVec F S4096x1024 .f32 := broadcastInDim S4096x1024 ![] bcast_S_S4096x1024 main_cst_8
  let main_v25 : IVec S4096x1024 1 := cmpf .olt main_v23 main_v24
  let main_c_9 : IVec S_ 1 := constantI S_ 1 1#1
  let main_v26 : IVec S_ 1 := (fun x v => Host.reduce IntOp.andi x v reducesTo_S4096x1024_S_d0_1 h_S_) main_v25 main_c_9
  let main_v27 : IVec S_ 1 := andi main_v22 main_v26
  let main_v28 : IVec S_ 1 := andi main_v13 main_v27
  let main_v29 : FVec F S1024x8704 .bf16 := Host.absf main_arg2
  let main_cst_10 : FVec F S_ .bf16 := constant S_ .bf16 0x7F80#16
  let main_v30 : FVec F S1024x8704 .bf16 := broadcastInDim S1024x8704 ![] bcast_S_S1024x8704 main_cst_10
  let main_v31 : IVec S1024x8704 1 := cmpf .olt main_v29 main_v30
  let main_c_11 : IVec S_ 1 := constantI S_ 1 1#1
  let main_v32 : IVec S_ 1 := (fun x v => Host.reduce IntOp.andi x v reducesTo_S1024x8704_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x8704 .bf16) (main_arg3 : FVec F S4096x4096 .bf16) (main_arg4 : FVec F S4096x2560 .bf16) (main_arg5 : FVec F S4096x2048 .bf16) (main_arg6 : FVec F S4096x1024 .f32) : IVec S_ 1 :=
  let main_v0 : FVec F S4096x4096 .bf16 := Host.absf main_arg3
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2560 .bf16 := Host.absf main_arg4
  let main_cst_0 : FVec F S_ .bf16 := constant S_ .bf16 0x7F80#16
  let main_v5 : FVec F S4096x2560 .bf16 := broadcastInDim S4096x2560 ![] bcast_S_S4096x2560 main_cst_0
  let main_v6 : IVec S4096x2560 1 := cmpf .olt main_v4 main_v5
  let main_c_1 : IVec S_ 1 := constantI S_ 1 1#1
  let main_v7 : IVec S_ 1 := (fun x v => Host.reduce IntOp.andi x v reducesTo_S4096x2560_S_d0_1 h_S_) main_v6 main_c_1
  let main_v8 : IVec S_ 1 := andi main_v3 main_v7
  let main_v9 : FVec F S4096x2048 .bf16 := Host.absf main_arg5
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x1024 .f32 := Host.absf main_arg0
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg1 main_arg2 main_arg6 main_v13 main_v16
-- ==== Pre_finite8.lean ====
abbrev S4096x1024 : Shape := ⟨2, ![4096, 1024]⟩
abbrev S4096x256 : Shape := ⟨2, ![4096, 256]⟩
abbrev S1x16 : Shape := ⟨2, ![1, 16]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x16 : S_.BroadcastsInDim S1x16 (![] : Fin 0 → Fin S1x16.rank)
  reducesTo_S1x16_S_d0_1 : S1x16.ReducesTo [0, 1] S_
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  concatenates_S1x256x256_S1x256x256_S2x256x256_d0 : Shape.Concatenates [S1x256x256, S1x256x256] S2x256x256 0
  reducesTo_S2x256x256_S_d0_1_2 : S2x256x256.ReducesTo [0, 1, 2] S_

variable [Facts]

def fn_where {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_part2 {F : FTy → Type} [FloatOps F] (main_arg5 : FVec F S2x256x256 .f32) (main_v18 : IVec S_ 1) (main_v31 : FVec F S256x256 .f32) (main_v32 : FVec F S256x256 .f32) : IVec S_ 1 :=
  let main_v33 : FVec F S1x256x256 .f32 := broadcastInDim S1x256x256 ![1, 2] bcast_S256x256_S1x256x256_1_2 main_v31
  let main_v34 : FVec F S1x256x256 .f32 := broadcastInDim S1x256x256 ![1, 2] bcast_S256x256_S1x256x256_1_2 main_v32
  let main_v35 : FVec F S2x256x256 .f32 := (fun a b => concatenate S2x256x256 0 [⟨S1x256x256, a⟩, ⟨S1x256x256, b⟩] concatenates_S1x256x256_S1x256x256_S2x256x256_d0) main_v33 main_v34
  let main_v36 : FVec F S2x256x256 .f32 := id main_v35
  let main_v37 : IVec S2x256x256 1 := cmpf .oeq main_arg5 main_v36
  let main_c_13 : IVec S_ 1 := constantI S_ 1 1#1
  let main_v38 : IVec S_ 1 := (fun x v => Host.reduce IntOp.andi x v reducesTo_S2x256x256_S_d0_1_2 h_S_) main_v37 main_c_13
  let main_v39 : IVec S_ 1 := andi main_v18 main_v38
  main_v39

def fn_part1 {F : FTy → Type} [FloatOps F] (main_arg5 : FVec F S2x256x256 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : IVec S256x256 32 := iotaInDim S256x256 32 0
  let main_v20 : IVec S256x256 32 := iotaInDim S256x256 32 1
  let main_c_6 : IVec S_ 32 := constantI S_ 32 127#32
  let main_v21 : IVec S256x256 32 := broadcastInDim S256x256 ![] bcast_S_S256x256 main_c_6
  let main_v22 : IVec S256x256 32 := andi main_v20 main_v21
  let main_v23 : IVec S256x256 1 := cmpi .sgt main_v19 main_v22
  let main_c_7 : IVec S_ 32 := constantI S_ 32 128#32
  let main_v24 : IVec S256x256 32 := broadcastInDim S256x256 ![] bcast_S_S256x256 main_c_7
  let main_v25 : IVec S256x256 32 := addi main_v22 main_v24
  let main_v26 : IVec S256x256 1 := cmpi .sle main_v19 main_v25
  let main_v27 : IVec S256x256 1 := andi main_v23 main_v26
  let main_c_8 : IVec S_ 32 := constantI S_ 32 128#32
  let main_v28 : IVec S256x256 32 := broadcastInDim S256x256 ![] bcast_S_S256x256 main_c_8
  let main_v29 : IVec S256x256 1 := cmpi .sge main_v19 main_v28
  let main_v30 : IVec S256x256 1 := andi main_v27 main_v29
  let main_cst_9 : FVec F S_ .f32 := constant S_ .f32 0x00000000#32
  let main_cst_10 : FVec F S_ .f32 := constant S_ .f32 0xFF800000#32
  let main_v31 : FVec F S256x256 .f32 := fn_where (F := F) main_v30 main_cst_9 main_cst_10
  let main_cst_11 : FVec F S_ .f32 := constant S_ .f32 0x00000000#32
  let main_cst_12 : FVec F S_ .f32 := constant S_ .f32 0xFF800000#32
  let main_v32 : FVec F S256x256 .f32 := fn_where (F := F) main_v27 main_cst_11 main_cst_12
  fn_part2 (F := F) main_arg5 main_v18 main_v31 main_v32

def fn {F : FTy → Type} [FloatOps F] (main_arg0 : FVec F S4096x1024 .bf16) (main_arg1 : FVec F S4096x256 .bf16) (main_arg2 : FVec F S4096x256 .bf16) (main_arg3 : FVec F S4096x1024 .bf16) (main_arg4 : FVec F S1x16 .f32) (main_arg5 : FVec F S2x256x256 .f32) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .bf16 := Host.absf main_arg1
  let main_cst_0 : FVec F S_ .bf16 := constant S_ .bf16 0x7F80#16
  let main_v5 : FVec F S4096x256 .bf16 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .bf16 := Host.absf main_arg2
  let main_cst_2 : FVec F S_ .bf16 := constant S_ .bf16 0x7F80#16
  let main_v10 : FVec F S4096x256 .bf16 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S1x16 .f32 := Host.absf main_arg4
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg5 main_v13 main_v16
-- ==== Kernel.lean ====
abbrev S4096x1024 : Shape := ⟨2, ![4096, 1024]⟩
abbrev S4096x4096 : Shape := ⟨2, ![4096, 4096]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S512x4096 : Shape := ⟨2, ![512, 4096]⟩
abbrev S512x1 : Shape := ⟨2, ![512, 1]⟩
abbrev S1x1024 : Shape := ⟨2, ![1, 1024]⟩
abbrev S8x1 : Shape := ⟨2, ![8, 1]⟩
abbrev S1024 : Shape := ⟨1, ![1024]⟩

abbrev nBuf : Space → Nat
  | .hbm => 5
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S3x1024, .f32⟩
  | .hbm, ⟨3, _⟩ => ⟨S4096x4096, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S3x1024, .f32⟩
  | .local _ .vmem, ⟨21, _⟩ => ⟨S512x4096, .bf16⟩
  | .local _ .vmem, ⟨22, _⟩ => ⟨S512x4096, .bf16⟩
  | .local _ .vmem, ⟨23, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S4096x4096 : Shape := ⟨2, ![4096, 4096]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S3x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S_, .f32⟩
  | .hbm, ⟨13, _⟩ => ⟨S2x1024, .f32⟩
  | .hbm, ⟨14, _⟩ => ⟨S4096x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S3x1024, .f32⟩
  | .hbm, ⟨69, _⟩ => ⟨S_, .f32⟩
  | .hbm, ⟨70, _⟩ => ⟨S4098x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S_, .f32⟩
  | .hbm, ⟨84, _⟩ => ⟨S4098x1024, .f32⟩
  | .hbm, ⟨85, _⟩ => ⟨S4098x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S3x1024, .f32⟩
  | .hbm, ⟨97, _⟩ => ⟨S3x1024, .f32⟩
  | .hbm, ⟨98, _⟩ => ⟨S_, .f32⟩
  | .hbm, ⟨99, _⟩ => ⟨S4098x1024, .f32⟩
  | .hbm, ⟨100, _⟩ => ⟨S4098x1024, .f32⟩
  | .hbm, ⟨101, _⟩ => ⟨S2x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x4096, .f32⟩
  | .hbm, ⟨106, _⟩ => ⟨S4096x4096, .bf16⟩
  | .hbm, ⟨107, _⟩ => ⟨S_, .i32⟩
  | .hbm, ⟨108, _⟩ => ⟨S_, .f32⟩
  | .hbm, ⟨109, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v30_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v30_1 : Ref sig .tc := ⟨.hbm, 46, rfl⟩
abbrev main_v30_0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_1 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_cst_7 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c : Ref sig .tc := ⟨.hbm, 107, rfl⟩
abbrev main_call2_v0 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x8704 : Shape := ⟨2, ![1024, 8704]⟩
abbrev S4096x4096 : Shape := ⟨2, ![4096, 4096]⟩
abbrev S4096x2560 : Shape := ⟨2, ![4096, 2560]⟩
abbrev S4096x2048 : Shape := ⟨2, ![4096, 2048]⟩
abbrev S8x1024 : Shape := ⟨2, ![8, 1024]⟩
abbrev S256x4096 : Shape := ⟨2, ![256, 4096]⟩
abbrev S256x2560 : Shape := ⟨2, ![256, 2560]⟩
abbrev S256x2048 : Shape := ⟨2, ![256, 2048]⟩
abbrev S256x1024 : Shape := ⟨2, ![256, 1024]⟩
abbrev S_ : Shape := ⟨0, ![]⟩
abbrev S1024x4096 : Shape := ⟨2, ![1024, 4096]⟩
abbrev S1024x256 : Shape := ⟨2, ![1024, 256]⟩
abbrev S1024x2560 : Shape := ⟨2, ![1024, 2560]⟩
abbrev S1024x2048 : Shape := ⟨2, ![1024, 2048]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8704, .bf16⟩
  | .hbm, ⟨3, _⟩ => ⟨S4096x4096, .bf16⟩
  | .hbm, ⟨4, _⟩ => ⟨S4096x2560, .bf16⟩
  | .hbm, ⟨5, _⟩ => ⟨S4096x2048, .bf16⟩
  | .hbm, ⟨6, _⟩ => ⟨S4096x1024, .f32⟩
  | .hbm, ⟨7, _⟩ => ⟨S4096x1024, .f32⟩
  | .hbm, ⟨8, _⟩ => ⟨S8x1024, .f32⟩
  | .hbm, ⟨9, _⟩ => ⟨S_, .f32⟩
  | .hbm, ⟨10, _⟩ => ⟨S1024, .f32⟩
  | .local _ .vmem, ⟨0, _⟩ => ⟨S256x4096, .bf16⟩
  | .local _ .vmem, ⟨1, _⟩ => ⟨S256x4096, .bf16⟩
  | .local _ .vmem, ⟨2, _⟩ => ⟨S256x2560, .bf16⟩
  | .local _ .vmem, ⟨3, _⟩ => ⟨S256x2560, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | .local _ .vmem, ⟨14, _⟩ => ⟨S1024x8704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x1024 : Shape := ⟨2, ![4096, 1024]⟩
abbrev S1x1024 : Shape := ⟨2, ![1, 1024]⟩
abbrev S1024x8704 : Shape := ⟨2, ![1024, 8704]⟩
abbrev S4096x4096 : Shape := ⟨2, ![4096, 4096]⟩
abbrev S4096x2560 : Shape := ⟨2, ![4096, 2560]⟩
abbrev S4096x2048 : Shape := ⟨2, ![4096, 2048]⟩
abbrev S4096x8704 : Shape := ⟨2, ![4096, 8704]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8704, .bf16⟩
  | .hbm, ⟨3, _⟩ => ⟨S4096x4096, .bf16⟩
  | .hbm, ⟨4, _⟩ => ⟨S4096x2560, .bf16⟩
  | .hbm, ⟨5, _⟩ => ⟨S4096x2048, .bf16⟩
  | .hbm, ⟨6, _⟩ => ⟨S4096x1024, .f32⟩
  | .hbm, ⟨7, _⟩ => ⟨S4096x8704, .bf16⟩
  | .hbm, ⟨8, _⟩ => ⟨S4096x8704, .f32⟩
  | .hbm, ⟨9, _⟩ => ⟨S1024, .f32⟩
  | .hbm, ⟨10, _⟩ => ⟨S1024x8704, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x8704, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel3.lean ====
abbrev S4096x1024 : Shape := ⟨2, ![4096, 1024]⟩
abbrev S4096x2048 : Shape := ⟨2, ![4096, 2048]⟩
abbrev S1x2048 : Shape := ⟨2, ![1, 2048]⟩
abbrev S3x1024x1024 : Shape := ⟨3, ![3, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S8x2048 : Shape := ⟨2, ![8, 2048]⟩
abbrev S512x2048 : Shape := ⟨2, ![512, 2048]⟩
abbrev S8x1024 : Shape := ⟨2, ![8, 1024]⟩
abbrev S64x8x1024 : Shape := ⟨3, ![64, 8, 1024]⟩
abbrev S_ : Shape := ⟨0, ![]⟩
abbrev S2048 : Shape := ⟨1, ![2048]⟩

abbrev nBuf : Space → Nat
  | .hbm => 20
  | .vmem => 60
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S1x2048, .f32⟩
  | .hbm, ⟨5, _⟩ => ⟨S3x1024x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x2048, .bf16⟩
  | .hbm, ⟨14, _⟩ => ⟨S4096x1024, .bf16⟩
  | .hbm, ⟨15, _⟩ => ⟨S4096x1024, .bf16⟩
  | .hbm, ⟨16, _⟩ => ⟨S8x2048, .f32⟩
  | .hbm, ⟨17, _⟩ => ⟨S3x1024x1024, .f32⟩
  | .hbm, ⟨18, _⟩ => ⟨S_, .f32⟩
  | .hbm, ⟨19, _⟩ => ⟨S2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x2048, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1x2048, .f32⟩
  | .local _ .vmem, ⟨33, _⟩ => ⟨S1x1024x1024, .bf16⟩
  | .local _ .vmem, ⟨34, _⟩ => ⟨S1x1024x1024, .bf16⟩
  | .local _ .vmem, ⟨35, _⟩ => ⟨S1x1024x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x2048, .bf16⟩
  | .local _ .vmem, ⟨41, _⟩ => ⟨S512x2048, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S8x2048, .f32⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x1024, .bf16⟩
  | .local _ .vmem, ⟨55, _⟩ => ⟨S512x1024, .bf16⟩
  | .local _ .vmem, ⟨56, _⟩ => ⟨S512x1024, .bf16⟩
  | .local _ .vmem, ⟨57, _⟩ => ⟨S512x1024, .f32⟩
  | .local _ .vmem, ⟨58, _⟩ => ⟨S512x1024, .f32⟩
  | .local _ .vmem, ⟨59, _⟩ => ⟨S3x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc2_stg0_0 : Ref sig .tc := ⟨.vmem, 47, rfl⟩
abbrev cc2_stg0_1 : Ref sig .tc := ⟨.vmem, 48, rfl⟩
abbrev cc2_stg1_0 : Ref sig .tc := ⟨.vmem, 49, rfl⟩
abbrev cc2_stg1_1 : Ref sig .tc := ⟨.vmem, 50, rfl⟩
abbrev cc2_stg2_0 : Ref sig .tc := ⟨.vmem, 51, rfl⟩
abbrev cc2_stg2_1 : Ref sig .tc := ⟨.vmem, 52, rfl⟩
abbrev cc2_stg3_0 : Ref sig .tc := ⟨.vmem, 53, rfl⟩
abbrev cc2_stg3_1 : Ref sig .tc := ⟨.vmem, 54, rfl⟩
abbrev cc2_stg4_0 : Ref sig .tc := ⟨.vmem, 55, rfl⟩
abbrev cc2_stg4_1 : Ref sig .tc := ⟨.vmem, 56, rfl⟩
abbrev cc2_stg5_0 : Ref sig .tc := ⟨.vmem, 57, rfl⟩
abbrev cc2_stg5_1 : Ref sig .tc := ⟨.vmem, 58, rfl⟩
abbrev cc2_stg6_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc2_sem0_0 : DmaSem sig := 47
abbrev cc2_sem0_1 : DmaSem sig := 48
abbrev cc2_sem1_0 : DmaSem sig := 49
abbrev cc2_sem1_1 : DmaSem sig := 50
abbrev cc2_sem2_0 : DmaSem sig := 51
abbrev cc2_sem2_1 : DmaSem sig := 52
abbrev cc2_sem3_0 : DmaSem sig := 53
abbrev cc2_sem3_1 : DmaSem sig := 54
abbrev cc2_sem4_0 : DmaSem sig := 55
abbrev cc2_sem4_1 : DmaSem sig := 56
abbrev cc2_sem5_0 : DmaSem sig := 57
abbrev cc2_sem5_1 : DmaSem sig := 58
abbrev cc2_sem6_0 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S8x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S3x1024x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== Reference3Ideal.lean ====
abbrev S4096x1024 : Shape := ⟨2, ![4096, 1024]⟩
abbrev S4096x2048 : Shape := ⟨2, ![4096, 2048]⟩
abbrev S1x2048 : Shape := ⟨2, ![1, 2048]⟩
abbrev S3x1024x1024 : Shape := ⟨3, ![3, 1024, 1024]⟩
abbrev S2048 : Shape := ⟨1, ![2048]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S1x2048, .f32⟩
  | .hbm, ⟨5, _⟩ => ⟨S3x1024x1024, .bf16⟩
  | .hbm, ⟨6, _⟩ => ⟨S4096x1024, .f32⟩
  | .hbm, ⟨7, _⟩ => ⟨S3x1024x1024, .f32⟩
  | .hbm, ⟨8, _⟩ => ⟨S4096x1024, .f32⟩
  | .hbm, ⟨9, _⟩ => ⟨S4096x1024, .f32⟩
  | .hbm, ⟨10, _⟩ => ⟨S4096x2048, .f32⟩
  | .hbm, ⟨11, _⟩ => ⟨S2048, .f32⟩
  | .hbm, ⟨12, _⟩ => ⟨S1x1024x1024, .f32⟩
  | .hbm, ⟨13, _⟩ => ⟨S1024x1024, .f32⟩
  | .hbm, ⟨14, _⟩ => ⟨S1x1024x1024, .f32⟩
  | .hbm, ⟨15, _⟩ => ⟨S1024x1024, .f32⟩
  | .hbm, ⟨16, _⟩ => ⟨S1x1024x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S1024x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S_, .f32⟩
  | .hbm, ⟨56, _⟩ => ⟨S2048, .f32⟩
  | .hbm, ⟨57, _⟩ => ⟨S1024x1024, .f32⟩
  | .hbm, ⟨58, _⟩ => ⟨S1024x1024, .f32⟩
  | .hbm, ⟨59, _⟩ => ⟨S4096x1024, .f32⟩
  | .hbm, ⟨60, _⟩ => ⟨S1024x1024, .f32⟩
  | .hbm, ⟨61, _⟩ => ⟨S1024x1024, .f32⟩
  | .hbm, ⟨62, _⟩ => ⟨S4096x1024, .f32⟩
  | .hbm, ⟨63, _⟩ => ⟨S4096x2048, .bf16⟩
  | .hbm, ⟨64, _⟩ => ⟨S4096x1024, .bf16⟩
  | .hbm, ⟨65, _⟩ => ⟨S4096x1024, .bf16⟩
  | .hbm, ⟨66, _⟩ => ⟨S1x1024x1024, .f32⟩
  | .hbm, ⟨67, _⟩ => ⟨S1x1024x1024, .f32⟩
  | .hbm, ⟨68, _⟩ => ⟨S1x1024x1024, .f32⟩
  | .hbm, ⟨69, _⟩ => ⟨S3x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4096x4096 : Shape := ⟨2, ![4096, 4096]⟩
abbrev S4096x2560 : Shape := ⟨2, ![4096, 2560]⟩
abbrev S4096x2048 : Shape := ⟨2, ![4096, 2048]⟩
abbrev S1024x4096 : Shape := ⟨2, ![1024, 4096]⟩
abbrev S1024x1024 : Shape := ⟨2, ![1024, 1024]⟩
abbrev S1024 : Shape := ⟨1, ![1024]⟩
abbrev S1024x1 : Shape := ⟨2, ![1024, 1]⟩
abbrev S1024x8704 : Shape := ⟨2, ![1024, 8704]⟩
abbrev S4096x512 : Shape := ⟨2, ![4096, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .bf16⟩
  | .hbm, ⟨3, _⟩ => ⟨S4096x2560, .bf16⟩
  | .hbm, ⟨4, _⟩ => ⟨S4096x2048, .bf16⟩
  | .hbm, ⟨5, _⟩ => ⟨S4096x1024, .bf16⟩
  | .hbm, ⟨6, _⟩ => ⟨S1024x4096, .bf16⟩
  | .hbm, ⟨7, _⟩ => ⟨S1024x8704, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x4096, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S1024x512, .f32⟩
  | .local _ .vmem, ⟨15, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![17, 1], ![false, false]⟩

def k1_cond1 (i : grid1.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k1_cond2 (i : grid1.Coords) : BitVec 1 :=
  let arg0 : BitVec 32 := BitVec.ofNat 32 (i 0).val
  let c8_i32_1 : BitVec 32 := 8#32
  let v5 : BitVec 1 := Scalar.cmpi .sge arg0 c8_i32_1
  let c13_i32 : BitVec 32 := 13#32
  let v6 : BitVec 1 := Scalar.cmpi .slt arg0 c13_i32
  let v7 : BitVec 1 := Scalar.andi v5 v6
  let v8 : BitVec 32 := Scalar.extui v7
  let c0_i32_2 : BitVec 32 := 0#32
  let v9 : BitVec 1 := Scalar.cmpi .ne v8 c0_i32_2
  v9

def k1_cond3 (i : grid1.Coords) : BitVec 1 :=
  let arg0 : BitVec 32 := BitVec.ofNat 32 (i 0).val
  let c13_i32_3 : BitVec 32 := 13#32
  let v10 : BitVec 1 := Scalar.cmpi .sge arg0 c13_i32_3
  let c17_i32 : BitVec 32 := 17#32
  let v11 : BitVec 1 := Scalar.cmpi .slt arg0 c17_i32
  let v12 : BitVec 1 := Scalar.andi v10 v11
  let v13 : BitVec 32 := Scalar.extui v12
  let c0_i32_4 : BitVec 32 := 0#32
  let v14 : BitVec 1 := Scalar.cmpi .ne v13 c0_i32_4
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let v0 : BitVec 32 := Scalar.maxsi c0_i32 arg0
  let v1 : BitVec 32 := Scalar.minsi c7_i32 v0
  let c8_i32 : BitVec 32 := 8#32
  let v2 : BitVec 32 := Scalar.subi arg0 c8_i32
  let c0_i32_0 : BitVec 32 := 0#32
  let c4_i32 : BitVec 32 := 4#32
  let v3 : BitVec 32 := Scalar.maxsi c0_i32_0 v2
  let v4 : BitVec 32 := Scalar.minsi c4_i32 v3
  let c13_i32 : BitVec 32 := 13#32
  let v5 : BitVec 32 := Scalar.subi arg0 c13_i32
  let c0_i32_1 : BitVec 32 := 0#32
  let c3_i32 : BitVec 32 := 3#32
  let v6 : BitVec 32 := Scalar.maxsi c0_i32_1 v5
  let v7 : BitVec 32 := Scalar.minsi c3_i32 v6
  let c0_i32_2 : BitVec 32 := 0#32
  ![arg1.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let v0 : BitVec 32 := Scalar.maxsi c0_i32 arg0
  let v1 : BitVec 32 := Scalar.minsi c7_i32 v0
  let c8_i32 : BitVec 32 := 8#32
  let v2 : BitVec 32 := Scalar.subi arg0 c8_i32
  let c0_i32_0 : BitVec 32 := 0#32
  let c4_i32 : BitVec 32 := 4#32
  let v3 : BitVec 32 := Scalar.maxsi c0_i32_0 v2
  let v4 : BitVec 32 := Scalar.minsi c4_i32 v3
  let c13_i32 : BitVec 32 := 13#32
  let v5 : BitVec 32 := Scalar.subi arg0 c13_i32
  let c0_i32_1 : BitVec 32 := 0#32
  let c3_i32 : BitVec 32 := 3#32
  let v6 : BitVec 32 := Scalar.maxsi c0_i32_1 v5
  let v7 : BitVec 32 := Scalar.minsi c3_i32 v6
  let c0_i32_2 : BitVec 32 := 0#32
  ![arg1.toNat, v4.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let v0 : BitVec 32 := Scalar.maxsi c0_i32 arg0
  let v1 : BitVec 32 := Scalar.minsi c7_i32 v0
  let c8_i32 : BitVec 32 := 8#32
  let v2 : BitVec 32 := Scalar.subi arg0 c8_i32
  let c0_i32_0 : BitVec 32 := 0#32
  let c4_i32 : BitVec 32 := 4#32
  let v3 : BitVec 32 := Scalar.maxsi c0_i32_0 v2
  let v4 : BitVec 32 := Scalar.minsi c4_i32 v3
  let c13_i32 : BitVec 32 := 13#32
  let v5 : BitVec 32 := Scalar.subi arg0 c13_i32
  let c0_i32_1 : BitVec 32 := 0#32
  let c3_i32 : BitVec 32 := 3#32
  let v6 : BitVec 32 := Scalar.maxsi c0_i32_1 v5
  let v7 : BitVec 32 := Scalar.minsi c3_i32 v6
  let c0_i32_2 : BitVec 32 := 0#32
  ![arg1.toNat, v7.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== Reference4Ideal.lean ====
abbrev S4096x1024 : Shape := ⟨2, ![4096, 1024]⟩
abbrev S1x1024 : Shape := ⟨2, ![1, 1024]⟩
abbrev S4096x4096 : Shape := ⟨2, ![4096, 4096]⟩
abbrev S4096x2560 : Shape := ⟨2, ![4096, 2560]⟩
abbrev S4096x2048 : Shape := ⟨2, ![4096, 2048]⟩
abbrev S4096x8704 : Shape := ⟨2, ![4096, 8704]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8704x1024 : Shape := ⟨2, ![8704, 1024]⟩
abbrev S1024x8704 : Shape := ⟨2, ![1024, 8704]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .bf16⟩
  | .hbm, ⟨3, _⟩ => ⟨S4096x2560, .bf16⟩
  | .hbm, ⟨4, _⟩ => ⟨S4096x2048, .bf16⟩
  | .hbm, ⟨5, _⟩ => ⟨S4096x8704, .bf16⟩
  | .hbm, ⟨6, _⟩ => ⟨S4096x8704, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S8704x1024, .f32⟩
  | .hbm, ⟨25, _⟩ => ⟨S1024x8704, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel5.lean ====
abbrev S4096x1024 : Shape := ⟨2, ![4096, 1024]⟩
abbrev S1024x8704 : Shape := ⟨2, ![1024, 8704]⟩
abbrev S4096x4096 : Shape := ⟨2, ![4096, 4096]⟩
abbrev S4096x1536 : Shape := ⟨2, ![4096, 1536]⟩
abbrev S4096x2048 : Shape := ⟨2, ![4096, 2048]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x8704, .bf16⟩
  | .hbm, ⟨2, _⟩ => ⟨S4096x4096, .bf16⟩
  | .hbm, ⟨3, _⟩ => ⟨S4096x1536, .bf16⟩
  | .hbm, ⟨4, _⟩ => ⟨S4096x1024, .bf16⟩
  | .hbm, ⟨5, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c8_i32_1 : BitVec 32 := 8#32
  let v5 : BitVec 1 := Scalar.cmpi .sge arg1 c8_i32_1
  let c11_i32 : BitVec 32 := 11#32
  let v6 : BitVec 1 := Scalar.cmpi .slt arg1 c11_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c11_i32_3 : BitVec 32 := 11#32
  let v10 : BitVec 1 := Scalar.cmpi .sge arg1 c11_i32_3
  let c13_i32 : BitVec 32 := 13#32
  let v11 : BitVec 1 := Scalar.cmpi .slt arg1 c13_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c13_i32_5 : BitVec 32 := 13#32
  let v15 : BitVec 1 := Scalar.cmpi .sge arg1 c13_i32_5
  let c17_i32 : BitVec 32 := 17#32
  let v16 : BitVec 1 := Scalar.cmpi .slt arg1 c17_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S1024x8704 : Shape := ⟨2, ![1024, 8704]⟩
abbrev S4096x8704 : Shape := ⟨2, ![4096, 8704]⟩
abbrev S4096x4096 : Shape := ⟨2, ![4096, 4096]⟩
abbrev S4096x1536 : Shape := ⟨2, ![4096, 1536]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8704, .bf16⟩
  | .hbm, ⟨2, _⟩ => ⟨S4096x1024, .f32⟩
  | .hbm, ⟨3, _⟩ => ⟨S1024x8704, .f32⟩
  | .hbm, ⟨4, _⟩ => ⟨S4096x8704, .f32⟩
  | .hbm, ⟨5, _⟩ => ⟨S4096x8704, .bf16⟩
  | .hbm, ⟨6, _⟩ => ⟨S4096x4096, .bf16⟩
  | .hbm, ⟨7, _⟩ => ⟨S4096x1536, .bf16⟩
  | .hbm, ⟨8, _⟩ => ⟨S4096x1024, .bf16⟩
  | .hbm, ⟨9, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel6.lean ====
abbrev S4096x4096 : Shape := ⟨2, ![4096, 4096]⟩
abbrev S3x1024 : Shape := ⟨2, ![3, 1024]⟩
abbrev S4096x1024 : Shape := ⟨2, ![4096, 1024]⟩
abbrev S512x1024 : Shape := ⟨2, ![512, 1024]⟩
abbrev S16x1024 : Shape := ⟨2, ![16, 1024]⟩
abbrev S512x1 : Shape := ⟨2, ![512, 1]⟩
abbrev S1x1024 : Shape := ⟨2, ![1, 1024]⟩

abbrev nBuf : Space → Nat
  | .hbm => 3
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x4096 : Shape := ⟨2, ![4096, 4096]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S4096x1024 : Shape := ⟨2, ![4096, 1024]⟩
abbrev S4096x256 : Shape := ⟨2, ![4096, 256]⟩
abbrev S1x16 : Shape := ⟨2, ![1, 16]⟩
abbrev S2x256x256 : Shape := ⟨3, ![2, 256, 256]⟩
abbrev S4096x4x64 : Shape := ⟨3, ![4096, 4, 64]⟩
abbrev S_ : Shape := ⟨0, ![]⟩
abbrev S4096x4x128 : Shape := ⟨3, ![4096, 4, 128]⟩
abbrev S4096x512 : Shape := ⟨2, ![4096, 512]⟩
abbrev S4096x2048 : Shape := ⟨2, ![4096, 2048]⟩
abbrev S32x8x256 : Shape := ⟨3, ![32, 8, 256]⟩
abbrev S128x1024 : Shape := ⟨2, ![128, 1024]⟩
abbrev S128x2048 : Shape := ⟨2, ![128, 2048]⟩
abbrev S1x256x256 : Shape := ⟨3, ![1, 256, 256]⟩
abbrev S1x8x256 : Shape := ⟨3, ![1, 8, 256]⟩
abbrev S256x256 : Shape := ⟨2, ![256, 256]⟩
abbrev S256x1 : Shape := ⟨2, ![256, 1]⟩
abbrev S256x128 : Shape := ⟨2, ![256, 128]⟩
abbrev S128x128 : Shape := ⟨2, ![128, 128]⟩
abbrev S1x1 : Shape := ⟨2, ![1, 1]⟩
abbrev S1x128 : Shape := ⟨2, ![1, 128]⟩
abbrev S1x256 : Shape := ⟨2, ![1, 256]⟩
abbrev S256 : Shape := ⟨1, ![256]⟩
abbrev S1x1x256 : Shape := ⟨3, ![1, 1, 256]⟩

abbrev nBuf : Space → Nat
  | .hbm => 29
  | .vmem => 14
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S1x16, .f32⟩
  | .hbm, ⟨5, _⟩ => ⟨S2x256x256, .f32⟩
  | .hbm, ⟨6, _⟩ => ⟨S4096x4x64, .bf16⟩
  | .hbm, ⟨7, _⟩ => ⟨S_, .bf16⟩
  | .hbm, ⟨8, _⟩ => ⟨S4096x4x64, .bf16⟩
  | .hbm, ⟨9, _⟩ => ⟨S4096x4x128, .bf16⟩
  | .hbm, ⟨10, _⟩ => ⟨S4096x512, .bf16⟩
  | .hbm, ⟨11, _⟩ => ⟨S4096x4x64, .bf16⟩
  | .hbm, ⟨12, _⟩ => ⟨S_, .bf16⟩
  | .hbm, ⟨13, _⟩ => ⟨S4096x4x64, .bf16⟩
  | .hbm, ⟨14, _⟩ => ⟨S4096x4x128, .bf16⟩
  | .hbm, ⟨15, _⟩ => ⟨S4096x512, .bf16⟩
  | .hbm, ⟨16, _⟩ => ⟨S4096x4x64, .bf16⟩
  | .hbm, ⟨17, _⟩ => ⟨S_, .bf16⟩
  | .hbm, ⟨18, _⟩ => ⟨S4096x4x64, .bf16⟩
  | .hbm, ⟨19, _⟩ => ⟨S4096x4x128, .bf16⟩
  | .hbm, ⟨20, _⟩ => ⟨S4096x512, .bf16⟩
  | .hbm, ⟨21, _⟩ => ⟨S4096x4x64, .bf16⟩
  | .hbm, ⟨22, _⟩ => ⟨S_, .bf16⟩
  | .hbm, ⟨23, _⟩ => ⟨S4096x4x64, .bf16⟩
  | .hbm, ⟨24, _⟩ => ⟨S4096x4x128, .bf16⟩
  | .hbm, ⟨25, _⟩ => ⟨S4096x512, .bf16⟩
  | .hbm, ⟨26, _⟩ => ⟨S4096x2048, .bf16⟩
  | .hbm, ⟨27, _⟩ => ⟨S4096x1024, .bf16⟩
  | .hbm, ⟨28, _⟩ => ⟨S32x8x256, .f32⟩
  | .local _ .vmem, ⟨0, _⟩ => ⟨S128x1024, .bf16⟩
  | .local _ .vmem, ⟨1, _⟩ => ⟨S128x1024, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x1024, .bf16⟩
  | .local _ .vmem, ⟨7, _⟩ => ⟨S128x1024, .bf16⟩
  | .local _ .vmem, ⟨8, _⟩ => ⟨S1x256x256, .f32⟩
  | .local _ .vmem, ⟨9, _⟩ => ⟨S1x256x256, .f32⟩
  | .local _ .vmem, ⟨10, _⟩ => ⟨S128x1024, .bf16⟩
  | .local _ .vmem, ⟨11, _⟩ => ⟨S128x1024, .bf16⟩
  | .local _ .vmem, ⟨12, _⟩ => ⟨S1x8x256, .f32⟩
  | .local _ .vmem, ⟨13, _⟩ => ⟨S1x8x256, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== Reference8Ideal.lean ====
abbrev S4096x1024 : Shape := ⟨2, ![4096, 1024]⟩
abbrev S4096x256 : Shape := ⟨2, ![4096, 256]⟩
abbrev S1x16 : Shape := ⟨2, ![1, 16]⟩
abbrev S2x256x256 : Shape := ⟨3, ![2, 256, 256]⟩
abbrev S4096x16x64 : Shape := ⟨3, ![4096, 16, 64]⟩
abbrev S4096x4x64 : Shape := ⟨3, ![4096, 4, 64]⟩
abbrev S16 : Shape := ⟨1, ![16]⟩
abbrev S32x128x4x4x64 : Shape := ⟨5, ![32, 128, 4, 4, 64]⟩
abbrev S32x128x4x64 : Shape := ⟨4, ![32, 128, 4, 64]⟩
abbrev S31x128x4x64 : Shape := ⟨4, ![31, 128, 4, 64]⟩
abbrev S_ : Shape := ⟨0, ![]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S1x16, .f32⟩
  | .hbm, ⟨5, _⟩ => ⟨S2x256x256, .f32⟩
  | .hbm, ⟨6, _⟩ => ⟨S4096x1024, .f32⟩
  | .hbm, ⟨7, _⟩ => ⟨S4096x16x64, .bf16⟩
  | .hbm, ⟨8, _⟩ => ⟨S4096x4x64, .bf16⟩
  | .hbm, ⟨9, _⟩ => ⟨S4096x4x64, .bf16⟩
  | .hbm, ⟨10, _⟩ => ⟨S16, .f32⟩
  | .hbm, ⟨11, _⟩ => ⟨S32x128x4x4x64, .bf16⟩
  | .hbm, ⟨12, _⟩ => ⟨S32x128x4x64, .bf16⟩
  | .hbm, ⟨13, _⟩ => ⟨S31x128x4x64, .bf16⟩
  | .hbm, ⟨14, _⟩ => ⟨S_, .i32⟩
  | .hbm, ⟨15, _⟩ => ⟨S_, .bf16⟩
  | .hbm, ⟨16, _⟩ => ⟨S32x128x4x64, .bf16⟩
  | .hbm, ⟨17, _⟩ => ⟨S32x256x4x64, .bf16⟩
  | .hbm, ⟨18, _⟩ => ⟨S32x128x4x64, .bf16⟩
  | .hbm, ⟨19, _⟩ => ⟨S31x128x4x64, .bf16⟩
  | .hbm, ⟨20, _⟩ => ⟨S_, .i32⟩
  | .hbm, ⟨21, _⟩ => ⟨S_, .bf16⟩
  | .hbm, ⟨22, _⟩ => ⟨S32x128x4x64, .bf16⟩
  | .hbm, ⟨23, _⟩ => ⟨S32x256x4x64, .bf16⟩
  | .hbm, ⟨24, _⟩ => ⟨S32x128x4x4x64, .f32⟩
  | .hbm, ⟨25, _⟩ => ⟨S32x256x4x64, .f32⟩
  | .hbm, ⟨26, _⟩ => ⟨S32x4x256x128x4, .f32⟩
  | .hbm, ⟨27, _⟩ => ⟨S32x4x4x128x256, .f32⟩
  | .hbm, ⟨28, _⟩ => ⟨S_, .f32⟩
  | .hbm, ⟨29, _⟩ => ⟨S32x4x4x128x256, .f32⟩
  | .hbm, ⟨30, _⟩ => ⟨S32x4x4x128x256, .f32⟩
  | .hbm, ⟨31, _⟩ => ⟨S32, .i32⟩
  | .hbm, ⟨32, _⟩ => ⟨S32x1x1, .i32⟩
  | .hbm, ⟨33, _⟩ => ⟨S_, .i32⟩
  | .hbm, ⟨34, _⟩ => ⟨S32x1x1, .i32⟩
  | .hbm, ⟨35, _⟩ => ⟨S32x1x1, .i32⟩
  | .hbm, ⟨36, _⟩ => ⟨S128, .i32⟩
  | .hbm, ⟨37, _⟩ => ⟨S1x128x1, .i32⟩
  | .hbm, ⟨38, _⟩ => ⟨S32x128x1, .i32⟩
  | .hbm, ⟨39, _⟩ => ⟨S32x128x1, .i32⟩
  | .hbm, ⟨40, _⟩ => ⟨S32x128x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S256, .i32⟩
  | .hbm, ⟨48, _⟩ => ⟨S1x1x256, .i32⟩
  | .hbm, ⟨49, _⟩ => ⟨S32x1x256, .i32⟩
  | .hbm, ⟨50, _⟩ => ⟨S32x1x256, .i32⟩
  | .hbm, ⟨51, _⟩ => ⟨S32x1x256, .i32⟩
  | .hbm, ⟨52, _⟩ => ⟨S32x128x256, .i32⟩
  | .hbm, ⟨53, _⟩ => ⟨S32x128x256, .i32⟩
  | .hbm, ⟨54, _⟩ => ⟨S32x128x256, .i32⟩
  | .hbm, ⟨55, _⟩ => ⟨S_, .i32⟩
  | .hbm, ⟨56, _⟩ => ⟨S32x128x256, .i32⟩
  | .hbm, ⟨57, _⟩ => ⟨S32x128x256, .i1⟩
  | .hbm, ⟨58, _⟩ => ⟨S_, .i32⟩
  | .hbm, ⟨59, _⟩ => ⟨S32x128x256, .i32⟩
  | .hbm, ⟨60, _⟩ => ⟨S32x128x256, .i1⟩
  | .hbm, ⟨61, _⟩ => ⟨S32x128x256, .i1⟩
  | .hbm, ⟨62, _⟩ => ⟨S_, .i32⟩
  | .hbm, ⟨63, _⟩ => ⟨S32x1x256, .i32⟩
  | .hbm, ⟨64, _⟩ => ⟨S32x1x256, .i1⟩
  | .hbm, ⟨65, _⟩ => ⟨S32x128x256, .i1⟩
  | .hbm, ⟨66, _⟩ => ⟨S32x128x256, .i1⟩
  | .hbm, ⟨67, _⟩ => ⟨S32x1x1x128x256, .i1⟩
  | .hbm, ⟨68, _⟩ => ⟨S_, .f32⟩
  | .hbm, ⟨69, _⟩ => ⟨S_, .f32⟩
  | .hbm, ⟨70, _⟩ => ⟨S32x4x4x128x256, .i1⟩
  | .hbm, ⟨71, _⟩ => ⟨S32x4x4x128x256, .f32⟩
  | .hbm, ⟨72, _⟩ => ⟨S32x4x4x128x256, .f32⟩
  | .hbm, ⟨73, _⟩ => ⟨S4x4, .f32⟩
  | .hbm, ⟨74, _⟩ => ⟨S1x4x4x1x1, .f32⟩
  | .hbm, ⟨75, _⟩ => ⟨S_, .f32⟩
  | .hbm, ⟨76, _⟩ => ⟨S32x4x4x128, .f32⟩
  | .hbm, ⟨77, _⟩ => ⟨S32x4x4x128x1, .f32⟩
  | .hbm, ⟨78, _⟩ => ⟨S32x4x4x128x1, .f32⟩
  | .hbm, ⟨79, _⟩ => ⟨S32x4x4x128x1, .f32⟩
  | .hbm, ⟨80, _⟩ => ⟨S32x4x4x128x256, .f32⟩
  | .hbm, ⟨81, _⟩ => ⟨S32x4x4x128x256, .f32⟩
  | .hbm, ⟨82, _⟩ => ⟨S32x4x4x128x256, .f32⟩
  | .hbm, ⟨83, _⟩ => ⟨S_, .f32⟩
  | .hbm, ⟨84, _⟩ => ⟨S32x4x4x128, .f32⟩
  | .hbm, ⟨85, _⟩ => ⟨S32x4x4x128x1, .f32⟩
  | .hbm, ⟨86, _⟩ => ⟨S32x4x4x128x1, .f32⟩
  | .hbm, ⟨87, _⟩ => ⟨S32x4x4x128x1, .f32⟩
  | .hbm, ⟨88, _⟩ => ⟨S32x4x4x128x1, .f32⟩
  | .hbm, ⟨89, _⟩ => ⟨S32x4x4x128x1, .f32⟩
  | .hbm, ⟨90, _⟩ => ⟨S32x4x4x128x256, .f32⟩
  | .hbm, ⟨91, _⟩ => ⟨S32x4x4x128x256, .f32⟩
  | .hbm, ⟨92, _⟩ => ⟨S32x4x4x128x256, .bf16⟩
  | .hbm, ⟨93, _⟩ => ⟨S32x4x64x4x128, .f32⟩
  | .hbm, ⟨94, _⟩ => ⟨S32x128x4x4x64, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Proof.Conv.Spec.lean ====
module

public import Idealize.ShloMosaic.PureOps.Ideal

@[expose] public section

noncomputable section

/-! The gradient of the gated short convolution, row by row, in the order in which the kernel computes
it: `D` is the incoming gradient, `U k` the `k`-th column block of the saved activations (value, gate in,
gate of the value, SiLU gate), `w k` the taps. Rows are natural numbers below 4096. -/

namespace Cert.Conv

open Idealize.ShloMosaic

/-- One column block of a 2-D array, by row and lane. -/
abbrev Rows := ℕ → Fin 1024 → EReal

variable (D : Rows) (U : ℕ → Rows) (w : Fin 3 → Fin 1024 → EReal)

/-- What goes into the convolution: the gated value. -/
def cv (n : ℕ) (l : Fin 1024) : EReal := U 2 n l * U 0 n l

/-- One row of the past, zero before the sequence. -/
def s1 (n : ℕ) (l : Fin 1024) : EReal := if n = 0 then 0 else cv U (n - 1) l

/-- Two rows of the past, zero before the sequence. -/
def s2 (n : ℕ) (l : Fin 1024) : EReal := if n < 2 then 0 else cv U (n - 2) l

/-- The convolution, forward. -/
def conv (n : ℕ) (l : Fin 1024) : EReal := w 0 l * s2 U n l + w 1 l * s1 U n l + w 2 l * cv U n l

/-- The logistic of the SiLU gate. -/
def sg (n : ℕ) (l : Fin 1024) : EReal := Ideal.div 1 (1 + Ideal.exp (0 - U 3 n l))

/-- The gradient of the convolution's result. -/
def dconv (n : ℕ) (l : Fin 1024) : EReal := D n l * U 1 n l * (U 3 n l * sg U n l)

/-- The gradient one row later, zero after the sequence. -/
def a1 (n : ℕ) (l : Fin 1024) : EReal := if n + 1 < 4096 then dconv D U (n + 1) l else 0

/-- The gradient two rows later, zero after the sequence. -/
def a2 (n : ℕ) (l : Fin 1024) : EReal := if n + 2 < 4096 then dconv D U (n + 2) l else 0

/-- The gradient of the gated value. -/
def dcv (n : ℕ) (l : Fin 1024) : EReal := w 2 l * dconv D U n l + w 1 l * a1 D U n l + w 0 l * a2 D U n l

/-- The derivative of SiLU at the gate. -/
def dsz (n : ℕ) (l : Fin 1024) : EReal := sg U n l * (1 + U 3 n l * (1 - sg U n l))

/-- The gradient of the saved activations, by column block. -/
def du (k : ℕ) (n : ℕ) (l : Fin 1024) : EReal :=
  if k = 0 then dcv D U w n l * U 2 n l
  else if k = 1 then D n l * conv U w n l * (U 3 n l * sg U n l)
  else if k = 2 then dcv D U w n l * U 0 n l
  else D n l * U 1 n l * conv U w n l * dsz U n l

/-- What one row adds to the gradient of tap `k`. -/
def dwt (k : ℕ) (n : ℕ) (l : Fin 1024) : EReal :=
  if k = 0 then dconv D U n l * s2 U n l
  else if k = 1 then dconv D U n l * s1 U n l
  else if k = 2 then dconv D U n l * cv U n l
  else 0

end Cert.Conv
-- ==== Proof.Conv.Pay.lean ====
module

public import proofs.«01_k».proof.Proof.Gen.KernelIdeal.Skeleton
public import proofs.«01_k».proof.Proof.Conv.Spec
public import Idealize.ShloMosaic.Lib.Pipeline.Value
public import Idealize.ShloMosaic.Lib.Pointwise
public import Idealize.ShloMosaic.Lib.WordCmp

@[expose] public section

noncomputable section

namespace Cert.Conv

open Cert.KernelIdeal Cert.KernelIdeal.Gen Idealize.ShloMosaic Idealize.ShloMosaic.TcCoe

/-- The blocks a grid point `t` works on, as rows of the whole arrays. -/
structure Blk (D : Rows) (U : ℕ → Rows) (w : Fin 3 → Fin 1024 → EReal) (t : ℕ)
    (x0 x1 x2 x3 x4 : Vec Ideal S512x1024 .bf16) (x5 x6 x7 x8 x9 : Vec Ideal S16x1024 .bf16)
    (x10 : Vec Ideal S3x1024 .f32) : Prop where
  lt : t < 8
  h0 : ∀ (r : Fin 512) (l : Fin 1024), x0 (ix2 r l) = D (512 * t + r.val) l
  h1 : ∀ (r : Fin 512) (l : Fin 1024), x1 (ix2 r l) = U 0 (512 * t + r.val) l
  h2 : ∀ (r : Fin 512) (l : Fin 1024), x2 (ix2 r l) = U 1 (512 * t + r.val) l
  h3 : ∀ (r : Fin 512) (l : Fin 1024), x3 (ix2 r l) = U 2 (512 * t + r.val) l
  h4 : ∀ (r : Fin 512) (l : Fin 1024), x4 (ix2 r l) = U 3 (512 * t + r.val) l
  h5 : 0 < t → ∀ (r : Fin 16) (l : Fin 1024), x5 (ix2 r l) = U 0 (512 * t - 16 + r.val) l
  h6 : 0 < t → ∀ (r : Fin 16) (l : Fin 1024), x6 (ix2 r l) = U 2 (512 * t - 16 + r.val) l
  h7 : t < 7 → ∀ (r : Fin 16) (l : Fin 1024), x7 (ix2 r l) = D (512 * t + 512 + r.val) l
  h8 : t < 7 → ∀ (r : Fin 16) (l : Fin 1024), x8 (ix2 r l) = U 1 (512 * t + 512 + r.val) l
  h9 : t < 7 → ∀ (r : Fin 16) (l : Fin 1024), x9 (ix2 r l) = U 3 (512 * t + 512 + r.val) l
  h10 : ∀ (k : Fin 3) (l : Fin 1024), x10 (ix2 k l) = w k l

/-- A select on the equality of two counters. -/
theorem sel_eq {α : Type} (n k : ℕ) (hn : n < 2 ^ 32) (hk : k < 2 ^ 32) (a b : α) :
    Scalar.select (IntOp.cmpi CmpIPredicate.eq (BitVec.ofNat 32 n) (BitVec.ofNat 32 k)) a b = if n = k then a else b := by
  rw [WordCmp.cmpi_eq_ofNat hn hk, WordCmp.select_ofBool]
  simp

/-- A select on one counter being greater than another. -/
theorem sel_gt {α : Type} (n k : ℕ) (hn : n < 2 ^ 31) (hk : k < 2 ^ 31) (a b : α) :
    Scalar.select (Scalar.cmpi CmpIPredicate.sgt (BitVec.ofNat 32 n) (BitVec.ofNat 32 k)) a b = if k < n then a else b := by
  unfold Scalar.cmpi
  rw [WordCmp.cmpi_sgt_ofNat hn hk, WordCmp.select_ofBool]
  simp

/-- A select on one counter being less than another. -/
theorem sel_lt {α : Type} (n k : ℕ) (hn : n < 2 ^ 31) (hk : k < 2 ^ 31) (a b : α) :
    Scalar.select (Scalar.cmpi CmpIPredicate.slt (BitVec.ofNat 32 n) (BitVec.ofNat 32 k)) a b = if n < k then a else b := by
  unfold Scalar.cmpi
  rw [WordCmp.cmpi_slt_ofNat hn hk, WordCmp.select_ofBool]
  simp

variable {D : Rows} {U : ℕ → Rows} {w : Fin 3 → Fin 1024 → EReal} {t : ℕ}
    {x0 x1 x2 x3 x4 : Vec Ideal S512x1024 .bf16} {x5 x6 x7 x8 x9 : Vec Ideal S16x1024 .bf16}
    {x10 : Vec Ideal S3x1024 .f32} (B : Blk D U w t x0 x1 x2 x3 x4 x5 x6 x7 x8 x9 x10)

include B

/-- The gated value. -/
theorem pay7 (r : Fin 512) (l : Fin 1024) : k0_pay7 x1 x3 (ix2 r l) = cv U (512 * t + r.val) l := by
  unfold_payloads
  pointwise
  rw [B.h1, B.h3, cv]

/-- One row of the past, the first row of a block from the rows before it. -/
theorem pay9 (i : grid0.Coords) (hi : (i 0).val = t) (r : Fin 512) (l : Fin 1024) :
    k0_pay9 i x1 x3 x6 x5 (ix2 r l) = s1 U (512 * t + r.val) l := by
  have hr := r.isLt; have ht := B.lt
  unfold_payloads
  pointwise
  rw [hi, sel_eq _ _ (by omega) (by omega), sel_gt _ _ (by omega) (by omega), s1]
  by_cases h : r.val = 0
  · rw [if_pos h]
    by_cases h' : 0 < t
    · rw [if_pos h', if_neg (by omega), B.h5 h', B.h6 h', cv]
      congr 2 <;> simp <;> omega
    · rw [if_neg h', if_pos (by omega)]
  · rw [if_neg h, if_neg (by omega), B.h1, B.h3, cv]
    dsimp only
    rw [show 512 * t + (r.val + 512 - 1) % 512 = 512 * t + r.val - 1 by omega]

/-- Two rows of the past, the first two rows of a block from the rows before it. -/
theorem pay15 (i : grid0.Coords) (hi : (i 0).val = t) (r : Fin 512) (l : Fin 1024) :
    k0_pay15 k0_pay10 (k0_pay11 i x6 x5) k0_pay12 (k0_pay13 i x6 x5) (k0_pay14 x1 x3) (ix2 r l) = s2 U (512 * t + r.val) l := by
  have hr := r.isLt; have ht := B.lt
  unfold_payloads
  pointwise
  rw [hi, sel_eq _ _ (by omega) (by omega), sel_eq _ _ (by omega) (by omega), sel_gt _ _ (by omega) (by omega),
    sel_gt _ _ (by omega) (by omega), s2]
  by_cases h : r.val = 0
  · rw [if_pos h]
    by_cases h' : 0 < t
    · rw [if_pos h', if_neg (by omega), B.h5 h', B.h6 h', cv]
      congr 2 <;> simp <;> omega
    · rw [if_neg h', if_pos (by omega)]
  · rw [if_neg h]
    by_cases h1 : r.val = 1
    · rw [if_pos h1]
      by_cases h' : 0 < t
      · rw [if_pos h', if_neg (by omega), B.h5 h', B.h6 h', cv]
        congr 2 <;> simp <;> omega
      · rw [if_neg h', if_pos (by omega)]
    · rw [if_neg h1, if_neg (by omega), B.h1, B.h3, cv]
      dsimp only
      rw [show 512 * t + (r.val + 512 - 2) % 512 = 512 * t + r.val - 2 by omega]

/-- The convolution, forward. -/
theorem pay16 (i : grid0.Coords) (hi : (i 0).val = t) (r : Fin 512) (l : Fin 1024) :
    k0_pay16 (k0_pay7 x1 x3) (k0_pay9 i x1 x3 x6 x5) k0_pay10 (k0_pay11 i x6 x5) k0_pay12 (k0_pay13 i x6 x5) (k0_pay14 x1 x3)
      (View.ld x10 (Rect.unit ![0, 0] ![1, 1024] inb_S3x1024_S1x1024_0_0))
      (View.ld x10 (Rect.unit ![1, 0] ![1, 1024] inb_S3x1024_S1x1024_1_0))
      (View.ld x10 (Rect.unit ![2, 0] ![1, 1024] inb_S3x1024_S1x1024_2_0)) (ix2 r l) = conv U w (512 * t + r.val) l := by
  unfold k0_pay16
  pointwise
  rw [pay15 B i hi, pay9 B i hi, pay7 B, conv, ← B.h10, ← B.h10, ← B.h10]

/-- The logistic of the gate. -/
theorem pay17 (r : Fin 512) (l : Fin 1024) : k0_pay17 (k0_pay6 x4) (ix2 r l) = sg U (512 * t + r.val) l := by
  unfold_payloads
  pointwise
  rw [B.h4, sg]

/-- SiLU at the gate. -/
theorem pay18 (r : Fin 512) (l : Fin 1024) :
    k0_pay18 (k0_pay6 x4) (ix2 r l) = U 3 (512 * t + r.val) l * sg U (512 * t + r.val) l := by
  unfold k0_pay18
  pointwise
  rw [pay17 B]
  unfold_payloads
  pointwise
  rw [B.h4]

/-- The derivative of SiLU at the gate. -/
theorem pay19 (r : Fin 512) (l : Fin 1024) : k0_pay19 (k0_pay6 x4) (ix2 r l) = dsz U (512 * t + r.val) l := by
  unfold k0_pay19
  pointwise
  rw [pay17 B]
  unfold_payloads
  pointwise
  rw [B.h4, dsz]

/-- The gradient of the convolution's result. -/
theorem pay21 (r : Fin 512) (l : Fin 1024) :
    k0_pay21 (k0_pay5 x2) (k0_pay6 x4) x0 (ix2 r l) = dconv D U (512 * t + r.val) l := by
  unfold k0_pay21
  pointwise
  rw [pay18 B]
  unfold_payloads
  pointwise
  rw [B.h0, B.h2, dconv]

/-- The same gradient at the first rows after the block, zero after the last one. -/
theorem pay24 (i : grid0.Coords) (hi : (i 0).val = t) (r : Fin 16) (l : Fin 1024) :
    k0_pay24 (BitVec.ofNat 32 (i 0).val) (k0_pay22 x9) (k0_pay23 x7) x8 (ix2 r l)
      = if 512 * t + 512 + r.val < 4096 then dconv D U (512 * t + 512 + r.val) l else 0 := by
  have hr := r.isLt; have ht := B.lt
  unfold_payloads
  pointwise
  rw [hi, sel_lt _ _ (by omega) (by omega)]
  by_cases h : t < 7
  · rw [if_pos h, if_pos (by omega), B.h7 h, B.h8 h, B.h9 h, dconv, sg]
  · rw [if_neg h, if_neg (by omega)]

/-- The first two taps' part of the gradient of the gated value. -/
theorem pay25 (i : grid0.Coords) (hi : (i 0).val = t) (r : Fin 512) (l : Fin 1024) :
    k0_pay25 (BitVec.ofNat 32 (i 0).val) (iota Kind.tc S512x1 32 [0] iota_S512x1_d0_w32)
      (View.ld x10 (Rect.unit ![1, 0] ![1, 1024] inb_S3x1024_S1x1024_1_0))
      (View.ld x10 (Rect.unit ![2, 0] ![1, 1024] inb_S3x1024_S1x1024_2_0))
      (k0_pay21 (k0_pay5 x2) (k0_pay6 x4) x0) (k0_pay22 x9) (k0_pay23 x7) x8 (ix2 r l)
      = w 2 l * dconv D U (512 * t + r.val) l + w 1 l * a1 D U (512 * t + r.val) l := by
  have hr := r.isLt; have ht := B.lt
  unfold k0_pay25
  pointwise
  rw [pay21 B, pay24 B i hi, pay21 B, sel_eq _ _ (by omega) (by omega), B.h10, B.h10, a1]
  congr 2
  by_cases h : r.val = 511
  · rw [if_pos h, show 512 * t + 512 + ((0 : Fin 16)).val = 512 * t + r.val + 1 by simp; omega]
  · rw [if_neg h, if_pos (by omega)]
    dsimp only
    rw [show 512 * t + (r.val + 512 - 511) % 512 = 512 * t + r.val + 1 by omega]

/-- The last tap's part of the gradient of the gated value. -/
theorem pay26 (i : grid0.Coords) (hi : (i 0).val = t) (r : Fin 512) (l : Fin 1024) :
    k0_pay26 (BitVec.ofNat 32 (i 0).val) (iota Kind.tc S512x1 32 [0] iota_S512x1_d0_w32)
      (View.ld x10 (Rect.unit ![0, 0] ![1, 1024] inb_S3x1024_S1x1024_0_0))
      (k0_pay21 (k0_pay5 x2) (k0_pay6 x4) x0) (k0_pay22 x9) (k0_pay23 x7) x8 (ix2 r l)
      = w 0 l * a2 D U (512 * t + r.val) l := by
  have hr := r.isLt; have ht := B.lt
  unfold k0_pay26
  pointwise
  rw [pay24 B i hi, pay24 B i hi, pay21 B, sel_eq _ _ (by omega) (by omega), sel_eq _ _ (by omega) (by omega), B.h10, a2]
  congr 1
  by_cases h : r.val = 511
  · rw [if_neg (by omega), if_pos h, show 512 * t + 512 + ((1 : Fin 16)).val = 512 * t + r.val + 2 by simp; omega]
  · by_cases h' : r.val = 510
    · rw [if_pos h', show 512 * t + 512 + ((0 : Fin 16)).val = 512 * t + r.val + 2 by simp; omega]
    · rw [if_neg h', if_neg h, if_pos (by omega)]
      dsimp only
      rw [show 512 * t + (r.val + 512 - 510) % 512 = 512 * t + r.val + 2 by omega]

/-- The store of the value's gradient. -/
theorem pay28 (i : grid0.Coords) (hi : (i 0).val = t) (r : Fin 512) (l : Fin 1024) :
    k0_pay28 (k0_pay4 x3) (k0_pay25 (BitVec.ofNat 32 (i 0).val) (iota Kind.tc S512x1 32 [0] iota_S512x1_d0_w32)
        (View.ld x10 (Rect.unit ![1, 0] ![1, 1024] inb_S3x1024_S1x1024_1_0))
        (View.ld x10 (Rect.unit ![2, 0] ![1, 1024] inb_S3x1024_S1x1024_2_0))
        (k0_pay21 (k0_pay5 x2) (k0_pay6 x4) x0) (k0_pay22 x9) (k0_pay23 x7) x8)
      (k0_pay26 (BitVec.ofNat 32 (i 0).val) (iota Kind.tc S512x1 32 [0] iota_S512x1_d0_w32)
        (View.ld x10 (Rect.unit ![0, 0] ![1, 1024] inb_S3x1024_S1x1024_0_0))
        (k0_pay21 (k0_pay5 x2) (k0_pay6 x4) x0) (k0_pay22 x9) (k0_pay23 x7) x8) (ix2 r l) = du D U w 0 (512 * t + r.val) l := by
  unfold k0_pay28 k0_pay27 k0_pay4
  pointwise
  rw [pay25 B i hi, pay26 B i hi, B.h3]
  rfl

/-- The store of the input gate's gradient. -/
theorem pay29 (i : grid0.Coords) (hi : (i 0).val = t) (r : Fin 512) (l : Fin 1024) :
    k0_pay29 (k0_pay16 (k0_pay7 x1 x3) (k0_pay9 i x1 x3 x6 x5) k0_pay10 (k0_pay11 i x6 x5) k0_pay12 (k0_pay13 i x6 x5) (k0_pay14 x1 x3)
        (View.ld x10 (Rect.unit ![0, 0] ![1, 1024] inb_S3x1024_S1x1024_0_0))
        (View.ld x10 (Rect.unit ![1, 0] ![1, 1024] inb_S3x1024_S1x1024_1_0))
        (View.ld x10 (Rect.unit ![2, 0] ![1, 1024] inb_S3x1024_S1x1024_2_0)))
      (k0_pay18 (k0_pay6 x4)) (k0_pay20 x0) (ix2 r l) = du D U w 1 (512 * t + r.val) l := by
  unfold k0_pay29 k0_pay20
  pointwise
  rw [pay16 B i hi, pay18 B, B.h0]
  rfl

/-- The store of the gradient of the value's gate. -/
theorem pay30 (i : grid0.Coords) (hi : (i 0).val = t) (r : Fin 512) (l : Fin 1024) :
    k0_pay30 (k0_pay3 x1) (k0_pay25 (BitVec.ofNat 32 (i 0).val) (iota Kind.tc S512x1 32 [0] iota_S512x1_d0_w32)
        (View.ld x10 (Rect.unit ![1, 0] ![1, 1024] inb_S3x1024_S1x1024_1_0))
        (View.ld x10 (Rect.unit ![2, 0] ![1, 1024] inb_S3x1024_S1x1024_2_0))
        (k0_pay21 (k0_pay5 x2) (k0_pay6 x4) x0) (k0_pay22 x9) (k0_pay23 x7) x8)
      (k0_pay26 (BitVec.ofNat 32 (i 0).val) (iota Kind.tc S512x1 32 [0] iota_S512x1_d0_w32)
        (View.ld x10 (Rect.unit ![0, 0] ![1, 1024] inb_S3x1024_S1x1024_0_0))
        (k0_pay21 (k0_pay5 x2) (k0_pay6 x4) x0) (k0_pay22 x9) (k0_pay23 x7) x8) (ix2 r l) = du D U w 2 (512 * t + r.val) l := by
  unfold k0_pay30 k0_pay27 k0_pay3
  pointwise
  rw [pay25 B i hi, pay26 B i hi, B.h1]
  rfl

/-- The store of the SiLU gate's gradient. -/
theorem pay31 (i : grid0.Coords) (hi : (i 0).val = t) (r : Fin 512) (l : Fin 1024) :
    k0_pay31 (k0_pay5 x2) (k0_pay16 (k0_pay7 x1 x3) (k0_pay9 i x1 x3 x6 x5) k0_pay10 (k0_pay11 i x6 x5) k0_pay12 (k0_pay13 i x6 x5) (k0_pay14 x1 x3)
        (View.ld x10 (Rect.unit ![0, 0] ![1, 1024] inb_S3x1024_S1x1024_0_0))
        (View.ld x10 (Rect.unit ![1, 0] ![1, 1024] inb_S3x1024_S1x1024_1_0))
        (View.ld x10 (Rect.unit ![2, 0] ![1, 1024] inb_S3x1024_S1x1024_2_0)))
      (k0_pay19 (k0_pay6 x4)) (k0_pay20 x0) (ix2 r l) = du D U w 3 (512 * t + r.val) l := by
  unfold k0_pay31 k0_pay20 k0_pay5
  pointwise
  rw [pay16 B i hi, pay19 B, B.h0, B.h2]
  rfl

/-- The taps' gradient after a block: the block's row sums added to what was there. -/
theorem pay1 (i : grid0.Coords) (hi : (i 0).val = t) (xo : Vec Ideal S8x1024 .f32) (k : Fin 8) (l : Fin 1024) :
    k0_pay1 (k0_pay32 xo) k0_pay33
      (k0_pay34 (k0_pay15 k0_pay10 (k0_pay11 i x6 x5) k0_pay12 (k0_pay13 i x6 x5) (k0_pay14 x1 x3)) (k0_pay21 (k0_pay5 x2) (k0_pay6 x4) x0))
      k0_pay35 (k0_pay36 (k0_pay9 i x1 x3 x6 x5) (k0_pay21 (k0_pay5 x2) (k0_pay6 x4) x0)) k0_pay37
      (k0_pay38 (k0_pay7 x1 x3) (k0_pay21 (k0_pay5 x2) (k0_pay6 x4) x0)) k0_pay39 (ix2 k l)
      = xo (ix2 k l) + ∑ r : Fin 512, dwt D U k.val (512 * t + r.val) l := by
  unfold k0_pay1 k0_pay32 k0_pay33 k0_pay34 k0_pay35 k0_pay36 k0_pay37 k0_pay38 k0_pay39
  pointwise
  have hk := k.isLt
  rw [sel_eq _ _ (by omega) (by omega), sel_eq _ _ (by omega) (by omega), sel_eq _ _ (by omega) (by omega)]
  simp only [pay21 B, pay15 B i hi, pay9 B i hi, pay7 B]
  congr 1
  unfold dwt
  by_cases h0 : k.val = 0
  · simp only [if_pos h0]
  · by_cases h1 : k.val = 1
    · simp only [if_neg h0, if_pos h1]
    · by_cases h2 : k.val = 2
      · simp only [if_neg h0, if_neg h1, if_pos h2]
      · simp only [if_neg h0, if_neg h1, if_neg h2, Finset.sum_const_zero]

end Cert.Conv
-- ==== Proof.Conv.Block.lean ====
module

public import proofs.«01_k».proof.Proof.Gen.KernelIdeal.Frame
public import proofs.«01_k».proof.Proof.Conv.Pay

@[expose] public section

noncomputable section

namespace Cert.Conv

open Cert.KernelIdeal Cert.KernelIdeal.Gen Idealize.ShloMosaic Idealize.ShloMosaic.TcCoe Idealize.SL.Sem

/-- Block `t` of the gradient of the saved activations. -/
def duBlk (D : Rows) (U : ℕ → Rows) (w : Fin 3 → Fin 1024 → EReal) (t : ℕ) : Vec Ideal S512x4096 .bf16 := fun y =>
  du D U w ((y 1).val / 1024) (512 * t + (y 0).val) ⟨(y 1).val % 1024, Nat.mod_lt _ (by decide)⟩

/-- The block at the cell that row `r`, lane `l` of the store at column `1024 k` writes. -/
theorem duBlk_apply (D : Rows) (U : ℕ → Rows) (w : Fin 3 → Fin 1024 → EReal) (t : ℕ) (k : ℕ) (r : Fin 512) (l : Fin 1024)
    (y : S512x4096.Idx) (h0 : (y 0).val = r.val) (h1 : (y 1).val = 1024 * k + l.val) :
    duBlk D U w t y = du D U w k (512 * t + r.val) l := by
  have hl := l.isLt
  unfold duBlk
  congr 1
  · omega
  · omega
  · exact Fin.ext (show (y 1).val % 1024 = l.val by omega)

variable {D : Rows} {U : ℕ → Rows} {w : Fin 3 → Fin 1024 → EReal}
    {x0 x1 x2 x3 x4 : Vec Ideal S512x1024 .bf16} {x5 x6 x7 x8 x9 : Vec Ideal S16x1024 .bf16}
    {x10 : Vec Ideal S3x1024 .f32} (c : Dev nD) (t : Fin cfg0.N)
    (B : Blk D U w t.val x0 x1 x2 x3 x4 x5 x6 x7 x8 x9 x10) (hi : (grid0.coords t 0).val = t.val)

section
include B hi

/-- What a point of case A leaves of the gradient of the saved activations. -/
theorem duA (h) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h
      x0 x1 x2 x3 x4 x5 x6 x7 x8 x9 x10 = duBlk D U w t.val := by
  unfold out0_A_11
  rw [View.read_writes_eq_canon _ _ _ (cover0_A_11 c _ _ _ _ _ _ _ _ _ _ _ _ _ _ _ _ _ _ _ _ _ _ _ _ _ _ _ _ _ _ _ _ _ _ _ _ _ _ _)]
  funext y
  refine View.canon_apply_of_pieces _ _ ?_ y (cover0_A_11 c _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread]
  simp only [View.ld_unit_zero (Val := Elt Ideal) (S := S512x1024) (off := ![0,0]) (by decide),
    View.ld_unit_zero (Val := Elt Ideal) (S := S16x1024) (off := ![0,0]) (by decide)]
  intro p hp
  simp only [List.mem_cons, List.not_mem_nil, or_false] at hp
  rcases hp with rfl | rfl | rfl | rfl
  · intro q
    dsimp only at q ⊢
    idx_vars q
    rw [duBlk_apply D U w t.val 3 q0 q1 _ (by simp) (by simp)]
    exact pay31 B _ hi q0 q1
  · intro q
    dsimp only at q ⊢
    idx_vars q
    rw [duBlk_apply D U w t.val 2 q0 q1 _ (by simp) (by simp)]
    exact pay30 B _ hi q0 q1
  · intro q
    dsimp only at q ⊢
    idx_vars q
    rw [duBlk_apply D U w t.val 1 q0 q1 _ (by simp) (by simp)]
    exact pay29 B _ hi q0 q1
  · intro q
    dsimp only at q ⊢
    idx_vars q
    rw [duBlk_apply D U w t.val 0 q0 q1 _ (by simp) (by simp)]
    exact pay28 B _ hi q0 q1

/-- What a point of case B leaves of the gradient of the saved activations. -/
theorem duB (h) (xo : Vec Ideal S8x1024 .f32) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h
      x0 x1 x2 x3 x4 x5 x6 x7 x8 x9 x10 xo = duBlk D U w t.val := by
  unfold out0_B_11
  rw [View.read_writes_eq_canon _ _ _ (cover0_B_11 c _ _ _ _ _ _ _ _ _ _ _ _ _ _ _ _ _ _ _ _ _ _ _ _ _ _ _ _ _ _ _ _ _ _ _ _ _ _ _ _)]
  funext y
  refine View.canon_apply_of_pieces _ _ ?_ y (cover0_B_11 c _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread]
  simp only [View.ld_unit_zero (Val := Elt Ideal) (S := S512x1024) (off := ![0,0]) (by decide),
    View.ld_unit_zero (Val := Elt Ideal) (S := S16x1024) (off := ![0,0]) (by decide)]
  intro p hp
  simp only [List.mem_cons, List.not_mem_nil, or_false] at hp
  rcases hp with rfl | rfl | rfl | rfl
  · intro q
    dsimp only at q ⊢
    idx_vars q
    rw [duBlk_apply D U w t.val 3 q0 q1 _ (by simp) (by simp)]
    exact pay31 B _ hi q0 q1
  · intro q
    dsimp only at q ⊢
    idx_vars q
    rw [duBlk_apply D U w t.val 2 q0 q1 _ (by simp) (by simp)]
    exact pay30 B _ hi q0 q1
  · intro q
    dsimp only at q ⊢
    idx_vars q
    rw [duBlk_apply D U w t.val 1 q0 q1 _ (by simp) (by simp)]
    exact pay29 B _ hi q0 q1
  · intro q
    dsimp only at q ⊢
    idx_vars q
    rw [duBlk_apply D U w t.val 0 q0 q1 _ (by simp) (by simp)]
    exact pay28 B _ hi q0 q1

/-- What a point of case A leaves of the gradient of the taps. -/
theorem dwA (h) (k : Fin 8) (l : Fin 1024) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h
      x0 x1 x2 x3 x4 x5 x6 x7 x8 x9 x10 (ix2 k l) = ∑ r : Fin 512, dwt D U k.val (512 * t.val + r.val) l := by
  unfold out0_A_12
  rw [View.read_writes_eq_canon _ _ _ (cover0_A_12 c _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread]
  simp only [View.ld_unit_zero (Val := Elt Ideal) (S := S512x1024) (off := ![0,0]) (by decide),
    View.ld_unit_zero (Val := Elt Ideal) (S := S16x1024) (off := ![0,0]) (by decide),
    View.canon_cons_unit_zero (Val := Elt Ideal) (S := S8x1024) (off := ![0,0]) (by decide)]
  rw [View.readCov_unit_zero _ (S := S8x1024) (off := ![0,0]) (by decide)]
  refine (pay1 B _ hi (k0_pay2 (F := Ideal)) k l).trans ?_
  rw [show k0_pay2 (F := Ideal) (ix2 k l) = 0 by unfold_payloads; pointwise, zero_add]

/-- What a point of case B leaves of the gradient of the taps. -/
theorem dwB (h) (xo : Vec Ideal S8x1024 .f32) (k : Fin 8) (l : Fin 1024) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) h
      x0 x1 x2 x3 x4 x5 x6 x7 x8 x9 x10 xo (ix2 k l) = xo (ix2 k l) + ∑ r : Fin 512, dwt D U k.val (512 * t.val + r.val) l := by
  unfold out0_B_12
  rw [View.read_writes_eq_canon _ _ _ (cover0_B_12 c _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread]
  simp only [View.ld_unit_zero (Val := Elt Ideal) (S := S512x1024) (off := ![0,0]) (by decide),
    View.ld_unit_zero (Val := Elt Ideal) (S := S16x1024) (off := ![0,0]) (by decide),
    View.canon_unit_zero (Val := Elt Ideal) (S := S8x1024) (off := ![0,0]) (by decide),
    View.ld_unit_zero (Val := Elt Ideal) (S := S8x1024) (off := ![0,0]) (by decide)]
  exact pay1 B _ hi xo k l

end

end Cert.Conv
-- ==== Proof.Conv.Arr.lean ====
module

public import proofs.«01_k».proof.Proof.Gen.KernelIdeal.Value
public import proofs.«01_k».proof.Proof.Conv.Block

@[expose] public section

noncomputable section

namespace Cert.Conv

open Cert.KernelIdeal Cert.KernelIdeal.Gen Idealize.ShloMosaic Idealize.ShloMosaic.TcCoe Idealize.SL.Sem

/-- The incoming gradient's rows, zero past the end. -/
def rowsD (a : S4096x1024.Idx → EReal) : Rows := fun n l => if h : n < 4096 then a (ix2 ⟨n, h⟩ l) else 0

/-- The rows of column block `k` of the saved activations, zero past the end. -/
def rowsU (a : S4096x4096.Idx → EReal) (k : ℕ) : Rows := fun n l =>
  if h : n < 4096 ∧ 1024 * k + l.val < 4096 then a (ix2 ⟨n, h.1⟩ ⟨1024 * k + l.val, h.2⟩) else 0

/-- The taps. -/
def taps (a : S3x1024.Idx → EReal) (k : Fin 3) (l : Fin 1024) : EReal := a (ix2 k l)

variable (m : (ℓ : Loc nD τ sig) → Buf (Elt Ideal) ℓ) (c : Dev nD)

/-- The incoming gradient. -/
abbrev arrD : S4096x1024.Idx → EReal := m ((c : Thread nD τ).loc main_arg0)
/-- The projection's four column groups. -/
abbrev arrU : S4096x4096.Idx → EReal := m ((c : Thread nD τ).loc main_arg1)
/-- The three taps. -/
abbrev arrW : S3x1024.Idx → EReal := m ((c : Thread nD τ).loc main_arg2)

/-- Where each window's block lies at a grid point. -/
theorem idxs : ∀ t : Fin cfg0.N, (grid0.coords t 0).val = t.val
    ∧ (win0_0.index t 0 = t.val ∧ win0_0.index t 1 = 0)
    ∧ (win0_1.index t 0 = t.val ∧ win0_1.index t 1 = 0)
    ∧ (win0_2.index t 0 = t.val ∧ win0_2.index t 1 = 1)
    ∧ (win0_3.index t 0 = t.val ∧ win0_3.index t 1 = 2)
    ∧ (win0_4.index t 0 = t.val ∧ win0_4.index t 1 = 3)
    ∧ (win0_5.index t 0 = 32 * t.val - 1 ∧ win0_5.index t 1 = 0)
    ∧ (win0_6.index t 0 = 32 * t.val - 1 ∧ win0_6.index t 1 = 2)
    ∧ (t.val < 7 → win0_7.index t 0 = 32 * t.val + 32 ∧ win0_7.index t 1 = 0)
    ∧ (t.val < 7 → win0_8.index t 0 = 32 * t.val + 32 ∧ win0_8.index t 1 = 1)
    ∧ (t.val < 7 → win0_9.index t 0 = 32 * t.val + 32 ∧ win0_9.index t 1 = 3)
    ∧ (win0_10.index t 0 = 0 ∧ win0_10.index t 1 = 0)
    ∧ (win0_11.index t 0 = t.val ∧ win0_11.index t 1 = 0)
    ∧ (win0_12.index t 0 = 0 ∧ win0_12.index t 1 = 0) :=
  (by decide +kernel : ∀ t : Fin grid0.N, (grid0.coords t 0).val = t.val
    ∧ (win0_0.index t 0 = t.val ∧ win0_0.index t 1 = 0)
    ∧ (win0_1.index t 0 = t.val ∧ win0_1.index t 1 = 0)
    ∧ (win0_2.index t 0 = t.val ∧ win0_2.index t 1 = 1)
    ∧ (win0_3.index t 0 = t.val ∧ win0_3.index t 1 = 2)
    ∧ (win0_4.index t 0 = t.val ∧ win0_4.index t 1 = 3)
    ∧ (win0_5.index t 0 = 32 * t.val - 1 ∧ win0_5.index t 1 = 0)
    ∧ (win0_6.index t 0 = 32 * t.val - 1 ∧ win0_6.index t 1 = 2)
    ∧ (t.val < 7 → win0_7.index t 0 = 32 * t.val + 32 ∧ win0_7.index t 1 = 0)
    ∧ (t.val < 7 → win0_8.index t 0 = 32 * t.val + 32 ∧ win0_8.index t 1 = 1)
    ∧ (t.val < 7 → win0_9.index t 0 = 32 * t.val + 32 ∧ win0_9.index t 1 = 3)
    ∧ (win0_10.index t 0 = 0 ∧ win0_10.index t 1 = 0)
    ∧ (win0_11.index t 0 = t.val ∧ win0_11.index t 1 = 0)
    ∧ (win0_12.index t 0 = 0 ∧ win0_12.index t 1 = 0))

/-- The rows of a tile that a point reads. -/
theorem iblk0 (t : Fin cfg0.N) (r : Fin 512) (l : Fin 1024) :
    (iblk m c 0 t : Vec Ideal S512x1024 .bf16) (ix2 r l) = rowsD (arrD m c) (512 * t.val + r.val) l := by
  have ht : t.val < 8 := lt_of_lt_of_eq t.isLt (show cfg0.N = 8 from N_0)
  have hi := (idxs t).2.1
  unfold rowsD
  rw [dif_pos (by omega)]
  unfold iblk
  rw [View.read_apply]
  show V m c main_arg0 _ = arrD m c _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 1024 + 1 * l.val = l.val; rw [hi.2]; omega

/-- The rows of a tile that a point reads. -/
theorem iblk1 (t : Fin cfg0.N) (r : Fin 512) (l : Fin 1024) :
    (iblk m c 1 t : Vec Ideal S512x1024 .bf16) (ix2 r l) = rowsU (arrU m c) 0 (512 * t.val + r.val) l := by
  have ht : t.val < 8 := lt_of_lt_of_eq t.isLt (show cfg0.N = 8 from N_0)
  have hi := (idxs t).2.2.1
  unfold rowsU
  rw [dif_pos (by omega)]
  unfold iblk
  rw [View.read_apply]
  show V m c main_arg1 _ = arrU m c _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * l.val = 1024 * 0 + l.val; rw [hi.2]; omega

/-- The rows of a tile that a point reads. -/
theorem iblk2 (t : Fin cfg0.N) (r : Fin 512) (l : Fin 1024) :
    (iblk m c 2 t : Vec Ideal S512x1024 .bf16) (ix2 r l) = rowsU (arrU m c) 1 (512 * t.val + r.val) l := by
  have ht : t.val < 8 := lt_of_lt_of_eq t.isLt (show cfg0.N = 8 from N_0)
  have hi := (idxs t).2.2.2.1
  unfold rowsU
  rw [dif_pos (by omega)]
  unfold iblk
  rw [View.read_apply]
  show V m c main_arg1 _ = arrU m c _
  rw [V_main_arg1]
  congr 1
  funext a
  apply Fin.ext
  match a with
  | ⟨0, _⟩ => show win0_2.index t 0 * 512 + 1 * r.val = 512 * t.val + r.val; rw [hi.1]; omega
  | ⟨1, _⟩ => show win0_2.index t 1 * 1024 + 1 * l.val = 1024 * 1 + l.val; rw [hi.2]; omega

/-- The rows of a tile that a point reads. -/
theorem iblk3 (t : Fin cfg0.N) (r : Fin 512) (l : Fin 1024) :
    (iblk m c 3 t : Vec Ideal S512x1024 .bf16) (ix2 r l) = rowsU (arrU m c) 2 (512 * t.val + r.val) l := by
  have ht : t.val < 8 := lt_of_lt_of_eq t.isLt (show cfg0.N = 8 from N_0)
  have hi := (idxs t).2.2.2.2.1
  unfold rowsU
  rw [dif_pos (by omega)]
  unfold iblk
  rw [View.read_apply]
  show V m c main_arg1 _ = arrU m c _
  rw [V_main_arg1]
  congr 1
  funext a
  apply Fin.ext
  match a with
  | ⟨0, _⟩ => show win0_3.index t 0 * 512 + 1 * r.val = 512 * t.val + r.val; rw [hi.1]; omega
  | ⟨1, _⟩ => show win0_3.index t 1 * 1024 + 1 * l.val = 1024 * 2 + l.val; rw [hi.2]; omega

/-- The rows of a tile that a point reads. -/
theorem iblk4 (t : Fin cfg0.N) (r : Fin 512) (l : Fin 1024) :
    (iblk m c 4 t : Vec Ideal S512x1024 .bf16) (ix2 r l) = rowsU (arrU m c) 3 (512 * t.val + r.val) l := by
  have ht : t.val < 8 := lt_of_lt_of_eq t.isLt (show cfg0.N = 8 from N_0)
  have hi := (idxs t).2.2.2.2.2.1
  unfold rowsU
  rw [dif_pos (by omega)]
  unfold iblk
  rw [View.read_apply]
  show V m c main_arg1 _ = arrU m c _
  rw [V_main_arg1]
  congr 1
  funext a
  apply Fin.ext
  match a with
  | ⟨0, _⟩ => show win0_4.index t 0 * 512 + 1 * r.val = 512 * t.val + r.val; rw [hi.1]; omega
  | ⟨1, _⟩ => show win0_4.index t 1 * 1024 + 1 * l.val = 1024 * 3 + l.val; rw [hi.2]; omega

/-- The last rows of the tile before, as a point reads them. -/
theorem iblk5 (t : Fin cfg0.N) (h : 0 < t.val) (r : Fin 16) (l : Fin 1024) :
    (iblk m c 5 t : Vec Ideal S16x1024 .bf16) (ix2 r l) = rowsU (arrU m c) 0 (512 * t.val - 16 + r.val) l := by
  have ht : t.val < 8 := lt_of_lt_of_eq t.isLt (show cfg0.N = 8 from N_0)
  have hi := (idxs t).2.2.2.2.2.2.1
  unfold rowsU
  rw [dif_pos (by omega)]
  unfold iblk
  rw [View.read_apply]
  show V m c main_arg1 _ = arrU m c _
  rw [V_main_arg1]
  congr 1
  funext a
  apply Fin.ext
  match a with
  | ⟨0, _⟩ => show win0_5.index t 0 * 16 + 1 * r.val = 512 * t.val - 16 + r.val; rw [hi.1]; omega
  | ⟨1, _⟩ => show win0_5.index t 1 * 1024 + 1 * l.val = 1024 * 0 + l.val; rw [hi.2]; omega

/-- The last rows of the tile before, as a point reads them. -/
theorem iblk6 (t : Fin cfg0.N) (h : 0 < t.val) (r : Fin 16) (l : Fin 1024) :
    (iblk m c 6 t : Vec Ideal S16x1024 .bf16) (ix2 r l) = rowsU (arrU m c) 2 (512 * t.val - 16 + r.val) l := by
  have ht : t.val < 8 := lt_of_lt_of_eq t.isLt (show cfg0.N = 8 from N_0)
  have hi := (idxs t).2.2.2.2.2.2.2.1
  unfold rowsU
  rw [dif_pos (by omega)]
  unfold iblk
  rw [View.read_apply]
  show V m c main_arg1 _ = arrU m c _
  rw [V_main_arg1]
  congr 1
  funext a
  apply Fin.ext
  match a with
  | ⟨0, _⟩ => show win0_6.index t 0 * 16 + 1 * r.val = 512 * t.val - 16 + r.val; rw [hi.1]; omega
  | ⟨1, _⟩ => show win0_6.index t 1 * 1024 + 1 * l.val = 1024 * 2 + l.val; rw [hi.2]; omega

/-- The first rows of the tile after, as a point reads them. -/
theorem iblk7 (t : Fin cfg0.N) (h : t.val < 7) (r : Fin 16) (l : Fin 1024) :
    (iblk m c 7 t : Vec Ideal S16x1024 .bf16) (ix2 r l) = rowsD (arrD m c) (512 * t.val + 512 + r.val) l := by
  have ht : t.val < 8 := lt_of_lt_of_eq t.isLt (show cfg0.N = 8 from N_0)
  have hi := (idxs t).2.2.2.2.2.2.2.2.1 h
  unfold rowsD
  rw [dif_pos (by omega)]
  unfold iblk
  rw [View.read_apply]
  show V m c main_arg0 _ = arrD m c _
  rw [V_main_arg0]
  congr 1
  funext a
  apply Fin.ext
  match a with
  | ⟨0, _⟩ => show win0_7.index t 0 * 16 + 1 * r.val = 512 * t.val + 512 + r.val; rw [hi.1]; omega
  | ⟨1, _⟩ => show win0_7.index t 1 * 1024 + 1 * l.val = l.val; rw [hi.2]; omega

/-- The first rows of the tile after, as a point reads them. -/
theorem iblk8 (t : Fin cfg0.N) (h : t.val < 7) (r : Fin 16) (l : Fin 1024) :
    (iblk m c 8 t : Vec Ideal S16x1024 .bf16) (ix2 r l) = rowsU (arrU m c) 1 (512 * t.val + 512 + r.val) l := by
  have ht : t.val < 8 := lt_of_lt_of_eq t.isLt (show cfg0.N = 8 from N_0)
  have hi := (idxs t).2.2.2.2.2.2.2.2.2.1 h
  unfold rowsU
  rw [dif_pos (by omega)]
  unfold iblk
  rw [View.read_apply]
  show V m c main_arg1 _ = arrU m c _
  rw [V_main_arg1]
  congr 1
  funext a
  apply Fin.ext
  match a with
  | ⟨0, _⟩ => show win0_8.index t 0 * 16 + 1 * r.val = 512 * t.val + 512 + r.val; rw [hi.1]; omega
  | ⟨1, _⟩ => show win0_8.index t 1 * 1024 + 1 * l.val = 1024 * 1 + l.val; rw [hi.2]; omega

/-- The first rows of the tile after, as a point reads them. -/
theorem iblk9 (t : Fin cfg0.N) (h : t.val < 7) (r : Fin 16) (l : Fin 1024) :
    (iblk m c 9 t : Vec Ideal S16x1024 .bf16) (ix2 r l) = rowsU (arrU m c) 3 (512 * t.val + 512 + r.val) l := by
  have ht : t.val < 8 := lt_of_lt_of_eq t.isLt (show cfg0.N = 8 from N_0)
  have hi := (idxs t).2.2.2.2.2.2.2.2.2.2.1 h
  unfold rowsU
  rw [dif_pos (by omega)]
  unfold iblk
  rw [View.read_apply]
  show V m c main_arg1 _ = arrU m c _
  rw [V_main_arg1]
  congr 1
  funext a
  apply Fin.ext
  match a with
  | ⟨0, _⟩ => show win0_9.index t 0 * 16 + 1 * r.val = 512 * t.val + 512 + r.val; rw [hi.1]; omega
  | ⟨1, _⟩ => show win0_9.index t 1 * 1024 + 1 * l.val = 1024 * 3 + l.val; rw [hi.2]; omega

/-- The taps a point reads. -/
theorem iblk10 (t : Fin cfg0.N) (k : Fin 3) (l : Fin 1024) :
    (iblk m c 10 t : Vec Ideal S3x1024 .f32) (ix2 k l) = taps (arrW m c) k l := by
  have hi := (idxs t).2.2.2.2.2.2.2.2.2.2.2.1
  unfold taps iblk
  rw [View.read_apply]
  show V m c main_arg2 _ = arrW m c _
  rw [V_main_arg2]
  congr 1
  funext a
  apply Fin.ext
  match a with
  | ⟨0, _⟩ => show win0_10.index t 0 * 3 + 1 * k.val = k.val; rw [hi.1]; omega
  | ⟨1, _⟩ => show win0_10.index t 1 * 1024 + 1 * l.val = l.val; rw [hi.2]; omega

/-- The blocks of a grid point are rows of the argument arrays. -/
theorem blk (t : Fin cfg0.N) : Blk (rowsD (arrD m c)) (rowsU (arrU m c)) (taps (arrW m c)) t.val
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) where
  lt := lt_of_lt_of_eq t.isLt (show cfg0.N = 8 from N_0)
  h0 := iblk0 m c t
  h1 := iblk1 m c t
  h2 := iblk2 m c t
  h3 := iblk3 m c t
  h4 := iblk4 m c t
  h5 := iblk5 m c t
  h6 := iblk6 m c t
  h7 := iblk7 m c t
  h8 := iblk8 m c t
  h9 := iblk9 m c t
  h10 := iblk10 m c t

/-- What a point leaves in the first output's block. -/
theorem outs1 (t : Fin cfg0.N) :
    (outsAt0 m c t.val t.isLt).1 = duBlk (rowsD (arrD m c)) (rowsU (arrU m c)) (taps (arrW m c)) t.val := by
  by_cases h0 : t.val % 8 = 0
  · rw [outsAt0_A m c t h0]
    have e := duA c t (blk m c t) (idxs t).1 ((hcond0_0 t).mpr h0)
    dsimp only
    exact e
  · rw [outsAt0_B m c t h0]
    have e := duB c t (blk m c t) (idxs t).1 (fun h => h0 ((hcond0_0 t).mp h)) ((outsAt0 m c (t.val - 1) (Nat.lt_of_le_of_lt (Nat.sub_le _ _) t.isLt)).2)
    dsimp only
    exact e

/-- The second output's block after the first point. -/
theorem outs2A (t : Fin cfg0.N) (h0 : t.val % 8 = 0) (k : Fin 8) (l : Fin 1024) :
    (outsAt0 m c t.val t.isLt).2 (ix2 k l)
      = ∑ r : Fin 512, dwt (rowsD (arrD m c)) (rowsU (arrU m c)) k.val (512 * t.val + r.val) l := by
  rw [outsAt0_A m c t h0]
  have e := dwA c t (blk m c t) (idxs t).1 ((hcond0_0 t).mpr h0) k l
  dsimp only
  exact e

/-- The second output's block after a later point. -/
theorem outs2B (t : Fin cfg0.N) (h0 : ¬t.val % 8 = 0) (k : Fin 8) (l : Fin 1024) :
    (outsAt0 m c t.val t.isLt).2 (ix2 k l)
      = (outsAt0 m c (t.val - 1) (Nat.lt_of_le_of_lt (Nat.sub_le _ _) t.isLt)).2 (ix2 k l)
        + ∑ r : Fin 512, dwt (rowsD (arrD m c)) (rowsU (arrU m c)) k.val (512 * t.val + r.val) l := by
  rw [outsAt0_B m c t h0]
  have e := dwB c t (blk m c t) (idxs t).1 (fun h => h0 ((hcond0_0 t).mp h)) ((outsAt0 m c (t.val - 1) (Nat.lt_of_le_of_lt (Nat.sub_le _ _) t.isLt)).2) k l
  dsimp only
  exact e

/-- What the points up to `n` leave in the second output's block: the sum of the rows so far. -/
theorem outs2 (n : ℕ) (hn : n < cfg0.N) (k : Fin 8) (l : Fin 1024) :
    (outsAt0 m c n hn).2 (ix2 k l)
      = ∑ x ∈ Finset.range (512 * (n + 1)), dwt (rowsD (arrD m c)) (rowsU (arrU m c)) k.val x l := by
  have hN : cfg0.N = 8 := N_0
  induction n with
  | zero =>
    refine (outs2A m c ⟨0, hn⟩ rfl k l).trans ?_
    rw [Finset.sum_range]
    simp
  | succ n ih =>
    refine (outs2B m c ⟨n + 1, hn⟩ (by dsimp only; omega) k l).trans ?_
    rw [show 512 * (n + 1 + 1) = 512 * (n + 1) + 512 by ring, Finset.sum_range_add]
    congr 1
    exact ih (by omega)

/-- The gradient of the saved activations, as one array. -/
def duArr : S4096x4096.Idx → EReal := fun y =>
  du (rowsD (arrD m c)) (rowsU (arrU m c)) (taps (arrW m c)) ((y 1).val / 1024) (y 0).val ⟨(y 1).val % 1024, Nat.mod_lt _ (by decide)⟩

/-- The gradient of the taps, as one array. -/
def dwArr : S8x1024.Idx → EReal := fun y =>
  ∑ x ∈ Finset.range 4096, dwt (rowsD (arrD m c)) (rowsU (arrU m c)) (y 0).val x (y 1)

/-- Which point's block of this output holds an index. -/
theorem cover11 (i : S4096x4096.Idx) (t : Fin cfg0.N) (ht : t.val = (i 0).val / 512) : i ∈ ((View.whole main_v0_0).slice (win0_11.rect t)).set := by
  have h0 : (i 0 : ℕ) < 4096 := (i 0).isLt
  have h1 : (i 1 : ℕ) < 4096 := (i 1).isLt
  have hi := (idxs t).2.2.2.2.2.2.2.2.2.2.2.2.1
  rw [View.set_slice_whole, Rect.mem_set_unit]
  intro a
  match a with
  | ⟨0, _⟩ =>
    show win0_11.index t 0 * 512 ≤ (i 0 : ℕ) ∧ (i 0 : ℕ) < win0_11.index t 0 * 512 + 512
    rw [hi.1]; omega
  | ⟨1, _⟩ =>
    show win0_11.index t 1 * 4096 ≤ (i 1 : ℕ) ∧ (i 1 : ℕ) < win0_11.index t 1 * 4096 + 4096
    rw [hi.2]; omega

/-- Which point's block of this output holds an index. -/
theorem cover12 (i : S8x1024.Idx) (t : Fin cfg0.N) : i ∈ ((View.whole main_v0_1).slice (win0_12.rect t)).set := by
  have h0 : (i 0 : ℕ) < 8 := (i 0).isLt
  have h1 : (i 1 : ℕ) < 1024 := (i 1).isLt
  have hi := (idxs t).2.2.2.2.2.2.2.2.2.2.2.2.2
  rw [View.set_slice_whole, Rect.mem_set_unit]
  intro a
  match a with
  | ⟨0, _⟩ =>
    show win0_12.index t 0 * 8 ≤ (i 0 : ℕ) ∧ (i 0 : ℕ) < win0_12.index t 0 * 8 + 8
    rw [hi.1]; omega
  | ⟨1, _⟩ =>
    show win0_12.index t 1 * 1024 ≤ (i 1 : ℕ) ∧ (i 1 : ℕ) < win0_12.index t 1 * 1024 + 1024
    rw [hi.2]; omega

/-- The first output array after the run. -/
theorem final1 : (dats m 0 c).arrAt 11 cfg0.N = duArr m c := by
  refine (dats m 0 c).arrAt_eq_of_cover 11 (duArr m c) (fun t hf => ?_) (fun i => ?_)
  · rw [Cert.KernelIdeal.Value.flushed11, outs1]
    have hi := (idxs t).2.2.2.2.2.2.2.2.2.2.2.2.1
    funext y
    rw [View.read_apply]
    show duBlk _ _ _ t.val _ = duArr m c _
    unfold duBlk duArr
    have e0 : ((((cfg0.win 11).blk t).view.emb y) 0).val = win0_11.index t 0 * 512 + 1 * (y 0).val := rfl
    have e1 : ((((cfg0.win 11).blk t).view.emb y) 1).val = win0_11.index t 1 * 4096 + 1 * (y 1).val := rfl
    have e2 : ((cfg0.win 11).xinj (grid0.coords t) y 0).val = (y 0).val := rfl
    have e3 : ((cfg0.win 11).xinj (grid0.coords t) y 1).val = (y 1).val := rfl
    simp only [e0, e1, e2, e3, hi.1, hi.2, Nat.zero_mul, Nat.zero_add, Nat.one_mul, Nat.mul_comm t.val 512]
  · have hN : cfg0.N = 8 := N_0
    have h0 : (i 0 : ℕ) < 4096 := (i 0).isLt
    have h1 : (i 1 : ℕ) < 4096 := (i 1).isLt
    exact ⟨⟨(i 0).val / 512, by rw [hN]; omega⟩, flush0_11 _, cover11 i _ rfl⟩

/-- The second output array after the run. -/
theorem final2 : (dats m 0 c).arrAt 12 cfg0.N = dwArr m c := by
  have hN : cfg0.N = 8 := N_0
  refine (dats m 0 c).arrAt_eq_of_cover 12 (dwArr m c) (fun t hf => ?_) (fun i => ?_)
  · have ht : t.val % 8 = 7 := (flush0_12 t).mp hf
    have ht' : t.val < 8 := lt_of_lt_of_eq t.isLt hN
    rw [Cert.KernelIdeal.Value.flushed12]
    have hi := (idxs t).2.2.2.2.2.2.2.2.2.2.2.2.2
    funext y
    rw [View.read_apply]
    show (outsAt0 m c t.val t.isLt).2 _ = dwArr m c _
    have e0 : ((((cfg0.win 12).blk t).view.emb y) 0).val = win0_12.index t 0 * 8 + 1 * (y 0).val := rfl
    have e1 : ((((cfg0.win 12).blk t).view.emb y) 1).val = win0_12.index t 1 * 1024 + 1 * (y 1).val := rfl
    have hy : (cfg0.win 12).xinj (grid0.coords t) y = ix2 (n0 := 8) (n1 := 1024) ⟨(y 0).val, (y 0).isLt⟩ ⟨(y 1).val, (y 1).isLt⟩ := by
      funext a
      match a with
      | ⟨0, _⟩ => rfl
      | ⟨1, _⟩ => rfl
    rw [hy, outs2]
    unfold dwArr
    rw [show 512 * (t.val + 1) = 4096 by omega]
    refine Finset.sum_congr rfl fun x _ => ?_
    rw [e0, hi.1]
    congr 1
    · dsimp only; omega
    · exact Fin.ext (by rw [e1, hi.2]; dsimp only; omega)
  · exact ⟨⟨7, by rw [hN]; omega⟩, (flush0_12 _).mpr rfl, cover12 i _⟩

end Cert.Conv
-- ==== Proof.Conv.Ref.lean ====
module

public import proofs.«01_k».proof.Proof.Gen.ReferenceIdeal.Read
public import proofs.«01_k».proof.Proof.Conv.Spec
public import Idealize.ShloMosaic.Lib.Pipeline.Value
public import Idealize.ShloMosaic.Lib.Pointwise

@[expose] public section

noncomputable section

namespace Cert.Conv

open Cert.ReferenceIdeal Cert.ReferenceIdeal.Read Idealize.ShloMosaic Idealize.ShloMosaic.TcCoe

/-- A real number among the extended ones. -/
def IsR (x : EReal) : Prop := ∃ r : ℝ, x = (r : EReal)

/-- A product of reals is a real. -/
theorem IsR.mul {x y : EReal} (hx : IsR x) (hy : IsR y) : IsR (x * y) := by
  obtain ⟨a, rfl⟩ := hx; obtain ⟨b, rfl⟩ := hy; exact ⟨a * b, by push_cast; rfl⟩

/-- A sum of reals is a real. -/
theorem IsR.add {x y : EReal} (hx : IsR x) (hy : IsR y) : IsR (x + y) := by
  obtain ⟨a, rfl⟩ := hx; obtain ⟨b, rfl⟩ := hy; exact ⟨a + b, by push_cast; rfl⟩

/-- Zero is a real. -/
theorem IsR.zero : IsR 0 := ⟨0, rfl⟩

/-- The arguments' entries, by row and lane. -/
structure Args (D : Rows) (U : ℕ → Rows) (w : Fin 3 → Fin 1024 → EReal)
    (x0 : S4096x1024.Idx → EReal) (x1 : S4096x4096.Idx → EReal) (x2 : S3x1024.Idx → EReal) : Prop where
  d : ∀ (r : Fin 4096) (l : Fin 1024), x0 (ix2 r l) = D r.val l
  u : ∀ (k : ℕ) (r : Fin 4096) (l : Fin 1024) (j : Fin 4096), j.val = 1024 * k + l.val → x1 (ix2 r j) = U k r.val l
  w : ∀ (k : Fin 3) (l : Fin 1024), x2 (ix2 k l) = w k l

variable {D : Rows} {U : ℕ → Rows} {w : Fin 3 → Fin 1024 → EReal}
  {x0 : S4096x1024.Idx → EReal} {x1 : S4096x4096.Idx → EReal} {x2 : S3x1024.Idx → EReal} (A : Args D U w x0 x1 x2)

include A

/-- The projection's first column group. -/
theorem r1 (r : Fin 4096) (l : Fin 1024) : val_main_v1 (F := Ideal) x1 (ix2 r l) = U 0 r.val l := by
  unfold val_main_v1 val_main_v0
  pointwise
  exact A.u 0 r l _ (by simp)

/-- The projection's second column group. -/
theorem r2 (r : Fin 4096) (l : Fin 1024) : val_main_v2 (F := Ideal) x1 (ix2 r l) = U 1 r.val l := by
  unfold val_main_v2 val_main_v0
  pointwise
  exact A.u 1 r l _ (by simp)

/-- The projection's third column group. -/
theorem r3 (r : Fin 4096) (l : Fin 1024) : val_main_v3 (F := Ideal) x1 (ix2 r l) = U 2 r.val l := by
  unfold val_main_v3 val_main_v0
  pointwise
  exact A.u 2 r l _ (by simp)

/-- The projection's fourth column group. -/
theorem r4 (r : Fin 4096) (l : Fin 1024) : val_main_v4 (F := Ideal) x1 (ix2 r l) = U 3 r.val l := by
  unfold val_main_v4 val_main_v0
  pointwise
  exact A.u 3 r l _ (by simp)

/-- The product that is convolved. -/
theorem r5 (r : Fin 4096) (l : Fin 1024) : val_main_v5 (F := Ideal) x1 (ix2 r l) = cv U r.val l := by
  unfold val_main_v5
  pointwise
  rw [r3 A, r1 A, cv]

/-- The product, two rows earlier. -/
theorem r9 (r : Fin 4096) (l : Fin 1024) : val_main_v9 (F := Ideal) x1 (ix2 r l) = s2 U r.val l := by
  unfold val_main_v9 val_main_v7 val_main_v6 val_main_cst
  pointwise
  simp only [r5 A]
  unfold s2
  split <;> rfl

/-- The product, one row earlier. -/
theorem r15 (r : Fin 4096) (l : Fin 1024) : val_main_v15 (F := Ideal) x1 (ix2 r l) = s1 U r.val l := by
  unfold val_main_v15 val_main_v7 val_main_v6 val_main_cst
  pointwise
  simp only [r5 A]
  unfold s1
  by_cases h : r.val = 0
  · rw [if_pos h, dif_pos (by omega)]
  · rw [if_neg h, dif_neg (by omega)]
    congr 1; omega

/-- The product, in place. -/
theorem r22 (r : Fin 4096) (l : Fin 1024) : val_main_v22 (F := Ideal) x1 (ix2 r l) = cv U r.val l := by
  unfold val_main_v22 val_main_v7 val_main_v6 val_main_cst
  pointwise
  simp only [r5 A]

/-- The convolved rows. -/
theorem r28 (r : Fin 4096) (l : Fin 1024) : val_main_v28 (F := Ideal) x1 x2 (ix2 r l) = conv U w r.val l := by
  unfold val_main_v28 val_main_v21 val_main_v14 val_main_v20 val_main_v27 val_main_v13 val_main_v12 val_main_v11 val_main_v10
    val_main_v19 val_main_v18 val_main_v17 val_main_v16 val_main_v26 val_main_v25 val_main_v24 val_main_v23
  pointwise
  rw [r9 A, r15 A, r22 A, A.w, A.w, A.w, conv]
  simp only [mul_comm]

/-- The gate's sigmoid. -/
theorem r30s (r : Fin 4096) (l : Fin 1024) : val_main_v30_2 (F := Ideal) x1 (ix2 r l) = sg U r.val l := by
  unfold val_main_v30_2 val_main_call0_v4 val_main_call0_v3 val_main_call0_v2 val_main_call0_v1 val_main_call0_v0 val_main_call0_cst
    val_main_call0_cst_0
  pointwise
  rw [r4 A, sg, zero_sub]

/-- The gate. -/
theorem r30 (r : Fin 4096) (l : Fin 1024) : val_main_v30_0 (F := Ideal) x1 (ix2 r l) = U 3 r.val l * sg U r.val l := by
  unfold val_main_v30_0
  pointwise
  rw [r4 A, r30s A]

/-- The gradient at the convolved rows. -/
theorem r36 (r : Fin 4096) (l : Fin 1024) : val_main_v36 (F := Ideal) x0 x1 (ix2 r l) = dconv D U r.val l := by
  unfold val_main_v36 val_main_v34 val_main_v32
  pointwise
  rw [r2 A, r30 A, A.d, dconv]
  ac_rfl

/-- The gradient at the product that is convolved. -/
theorem r70 (r : Fin 4096) (l : Fin 1024) : val_main_v70 (F := Ideal) x0 x1 x2 (ix2 r l) = dcv D U w r.val l := by
  have hr := r.isLt
  unfold val_main_v70 val_main_v68 val_main_v67 val_main_v57 val_main_v46 val_main_v56 val_main_v62 val_main_v51 val_main_v42
    val_main_v41 val_main_v50 val_main_v61 val_main_v12 val_main_v11 val_main_v10
    val_main_v18 val_main_v17 val_main_v16 val_main_v25 val_main_v24 val_main_v23 val_main_cst_8 val_main_cst_12
  pointwise
  simp only [r36 A, A.w]
  unfold dcv a1 a2
  congr 1
  · congr 1
    · exact mul_comm _ _
    · by_cases h : r.val + 1 < 4096
      · rw [dif_pos (by omega), if_pos h, show 2 + r.val - 1 = r.val + 1 by omega]
        exact mul_comm _ _
      · rw [dif_neg (by omega), if_neg h, mul_zero]
  · by_cases h : r.val + 2 < 4096
    · rw [dif_pos (by omega), if_pos h, show 2 + r.val = r.val + 2 by omega]
      exact mul_comm _ _
    · rw [dif_neg (by omega), if_neg h, mul_zero]

/-- The gradient at the first column group. -/
theorem r71 (r : Fin 4096) (l : Fin 1024) : val_main_v71 (F := Ideal) x0 x1 x2 (ix2 r l) = du D U w 0 r.val l := by
  unfold val_main_v71
  pointwise
  rw [r3 A, r70 A]
  exact mul_comm _ _

/-- The gradient at the second column group. -/
theorem r37 (r : Fin 4096) (l : Fin 1024) : val_main_v37 (F := Ideal) x0 x1 x2 (ix2 r l) = du D U w 1 r.val l := by
  unfold val_main_v37 val_main_v34 val_main_v32
  pointwise
  rw [r28 A, r30 A, A.d]
  show _ = D r.val l * conv U w r.val l * (U 3 r.val l * sg U r.val l)
  ac_rfl

/-- The gradient at the third column group. -/
theorem r72 (r : Fin 4096) (l : Fin 1024) : val_main_v72 (F := Ideal) x0 x1 x2 (ix2 r l) = du D U w 2 r.val l := by
  unfold val_main_v72
  pointwise
  rw [r1 A, r70 A]
  rfl

/-- The gradient at the fourth column group. -/
theorem r35 (hd : ∀ n l, IsR (D n l)) (hu : ∀ k n l, IsR (U k n l)) (hw : ∀ k l, IsR (w k l)) (r : Fin 4096) (l : Fin 1024) :
    val_main_v35 (F := Ideal) x0 x1 x2 (ix2 r l) = du D U w 3 r.val l := by
  unfold val_main_v35 val_main_call1_v2 val_main_call1_v1 val_main_call1_v0 val_main_v33 val_main_v29 val_main_v32 val_main_v30_1
    val_main_call0_v7 val_main_call0_v6 val_main_call0_cst_1
  pointwise
  rw [r2 A, r4 A, r28 A, r30s A, A.d]
  show _ = D r.val l * U 1 r.val l * conv U w r.val l * dsz U r.val l
  have hcv : ∀ n, IsR (cv U n l) := fun n => (hu 2 n l).mul (hu 0 n l)
  have hc : IsR (conv U w r.val l) := by
    unfold conv s1 s2
    refine (((hw 0 l).mul ?_).add ((hw 1 l).mul ?_)).add ((hw 2 l).mul (hcv _))
    · split
      · exact IsR.zero
      · exact hcv _
    · split
      · exact IsR.zero
      · exact hcv _
  unfold dsz sg
  obtain ⟨c, hc⟩ := hc
  obtain ⟨d, hd⟩ := hd r.val l
  obtain ⟨b, hb⟩ := hu 1 r.val l
  obtain ⟨z, hz⟩ := hu 3 r.val l
  rw [hc, hd, hb, hz]
  have hs : Ideal.div 1 (1 + Ideal.exp (0 - (z : EReal))) = (((1 + Real.exp (-z))⁻¹ : ℝ) : EReal) := by
    rw [zero_sub]; exact Ideal.logistic_coe (r := z)
  rw [hs]
  generalize (1 + Real.exp (-z))⁻¹ = s
  norm_cast
  ring

omit A in
/-- Equal places of the gradient of the saved activations. -/
theorem du_congr {k k' n : ℕ} {l l' : Fin 1024} (hk : k = k') (hl : l.val = l'.val) : du D U w k n l = du D U w k' n l' := by
  rw [hk, Fin.ext hl]

/-- The gradient of the saved activations, in the reference. -/
theorem r74 (hd : ∀ n l, IsR (D n l)) (hu : ∀ k n l, IsR (U k n l)) (hw : ∀ k l, IsR (w k l)) (y : S4096x4096.Idx) :
    val_main_v74 (F := Ideal) x0 x1 x2 y
      = du D U w ((y 1).val / 1024) (y 0).val ⟨(y 1).val % 1024, Nat.mod_lt _ (by decide)⟩ := by
  idx_vars y
  unfold val_main_v74 val_main_v73
  pointwise
  have h1 := y1.isLt
  by_cases h : y1.val < 1024
  · refine (dif_pos h).trans ?_
    rw [r71 A]
    exact du_congr (by omega) (show y1.val = y1.val % 1024 by omega)
  refine (dif_neg h).trans ?_
  by_cases h' : y1.val - 1024 < 1024
  · refine (dif_pos h').trans ?_
    rw [r37 A]
    exact du_congr (by omega) (show y1.val - 1024 = y1.val % 1024 by omega)
  refine (dif_neg h').trans ?_
  by_cases h'' : y1.val - 1024 - 1024 < 1024
  · refine (dif_pos h'').trans ?_
    rw [r72 A]
    exact du_congr (by omega) (show y1.val - 1024 - 1024 = y1.val % 1024 by omega)
  · refine (dif_neg h'').trans ?_
    rw [r35 A hd hu hw]
    exact du_congr (by omega) (show y1.val - 1024 - 1024 - 1024 = y1.val % 1024 by omega)

/-- The gradient of the taps, in the reference. -/
theorem r75 (r : Fin 8) (l : Fin 1024) :
    val_main_v75 (F := Ideal) x0 x1 (ix2 r l) = ∑ x ∈ Finset.range 4096, dwt D U r.val x l := by
  unfold val_main_v75 val_main_v66 val_main_v65 val_main_v55 val_main_v45 val_main_v54 val_main_call2_v0 val_main_v44 val_main_v43 val_main_v40
    val_main_v39 val_main_v38 val_main_v53 val_main_v52 val_main_v49 val_main_v48 val_main_v47 val_main_v64 val_main_v63 val_main_v60
    val_main_v59 val_main_v58 val_main_cst_1 val_main_cst_2 val_main_cst_3 val_main_cst_5 val_main_cst_6 val_main_cst_7 val_main_cst_9
    val_main_cst_10 val_main_cst_11 val_main_c
  pointwise
  simp only [r36 A, r9 A, r15 A, r22 A]
  rw [Finset.sum_range]
  unfold dwt
  have hr := r.isLt
  by_cases h0 : r.val = 0
  · simp [h0, mul_comm]
  · by_cases h1 : r.val = 1
    · simp [h1, mul_comm]
    · by_cases h2 : r.val = 2
      · simp [h2, mul_comm]
      · rw [dif_neg (by omega)]
        simp only [if_neg h0, if_neg h1, if_neg h2, Finset.sum_const_zero]
        show (((0#32 : BitVec 32).toInt : ℝ) : EReal) = 0
        simp
end Cert.Conv
-- ==== Proof.Conv.Pre.lean ====
module

public import proofs.«01_k».proof.Pre_finite
public import proofs.«01_k».proof.Proof.Conv.Ref
public import Idealize.ShloMosaic.Lib.ReduceAll

@[expose] public section

noncomputable section

namespace Cert.Conv

open Idealize.ShloMosaic Idealize.ShloMosaic.TcCoe

/-- The side conditions of the precondition's operations. -/
theorem preFacts : Cert.Pre_finite.Facts where
  bcast_S_S4096x1024 := by decide
  reducesTo_S4096x1024_S_d0_1 := by decide
  h_S_ := by decide
  bcast_S_S4096x4096 := by decide
  reducesTo_S4096x4096_S_d0_1 := by decide
  bcast_S_S3x1024 := by decide
  reducesTo_S3x1024_S_d0_1 := by decide

/-- A number whose size is below infinity is real. -/
theorem isR_of_abs {x : EReal} (h : max x (-x) < ⊤) : IsR x := by
  induction x with
  | bot => simp at h
  | top => simp at h
  | coe r => exact ⟨r, rfl⟩

/-- A comparison's bit that is set says the comparison holds. -/
theorem lt_of_bit {a b : EReal} (e : BitVec.ofBool (decide (a < b)) = 1#1) : a < b := by
  by_contra h
  simp [h] at e

instance : Subsingleton Cert.Pre_finite.S_.Idx := ⟨fun a b => funext fun i => i.elim0⟩

/-- The precondition, read: every entry of the three arguments is a real number. -/
theorem pre_real [Cert.Pre_finite.Facts] (x0 : FVec Ideal Cert.Pre_finite.S4096x1024 .bf16) (x1 : FVec Ideal Cert.Pre_finite.S4096x4096 .bf16)
    (x2 : FVec Ideal Cert.Pre_finite.S3x1024 .f32) (h : Cert.Pre_finite.fn (F := Ideal) x0 x1 x2 = fun _ => 1#1) :
    (∀ i, IsR (x0 i)) ∧ (∀ i, IsR (x1 i)) ∧ (∀ i, IsR (x2 i)) := by
  have h := congrFun h (fun a => a.elim0)
  unfold Cert.Pre_finite.fn at h
  dsimp only at h
  obtain ⟨h01, h2⟩ := IntOp.andi_eq_one.mp h
  obtain ⟨h0, h1⟩ := IntOp.andi_eq_one.mp h01
  refine ⟨fun i => isR_of_abs ?_, fun i => isR_of_abs ?_, fun i => isR_of_abs ?_⟩
  · have e := Host.reduce_andi_all _ _ _ _ _ h0 i
    pointwise at e
    exact (lt_of_bit e).trans_eq (by simp [Ideal.ofBits, Ideal.ieee])
  · have e := Host.reduce_andi_all _ _ _ _ _ h1 i
    pointwise at e
    exact (lt_of_bit e).trans_eq (by simp [Ideal.ofBits, Ideal.ieee])
  · have e := Host.reduce_andi_all _ _ _ _ _ h2 i
    pointwise at e
    exact (lt_of_bit e).trans_eq (by simp [Ideal.ofBits, Ideal.ieee])

end Cert.Conv
-- ==== Proof.Conv.Claim.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Conv.Arr
public import proofs.«01_k».proof.Proof.Conv.Ref
public import proofs.«01_k».proof.Proof.Conv.Pre
public import Idealize.ShloMosaic.Lib.Claim

@[expose] public section

noncomputable section

namespace Cert.Conv

open Cert.KernelIdeal Cert.KernelIdeal.Gen Idealize.ShloMosaic Idealize.ShloMosaic.TcCoe Idealize.SL.Sem

/-- The arrays' entries are those of their own rows and taps. -/
theorem args_self (a0 : S4096x1024.Idx → EReal) (a1 : S4096x4096.Idx → EReal) (a2 : S3x1024.Idx → EReal) :
    Args (rowsD a0) (rowsU a1) (taps a2) a0 a1 a2 where
  d := fun r l => by unfold rowsD; rw [dif_pos r.isLt]
  u := fun k r l j h => by
    have hj : 1024 * k + l.val < 4096 := h ▸ j.isLt
    unfold rowsU; rw [dif_pos ⟨r.isLt, hj⟩]
    exact congrArg (fun j => a1 (ix2 r j)) (Fin.ext h)
  w := fun _ _ => rfl

/-- Rows of real entries, zero past the end, are real. -/
theorem isR_rowsD {a : S4096x1024.Idx → EReal} (h : ∀ i, IsR (a i)) (n : ℕ) (l : Fin 1024) : IsR (rowsD a n l) := by
  unfold rowsD; split
  · exact h _
  · exact IsR.zero

/-- The rows of a column block of real entries, zero past the end, are real. -/
theorem isR_rowsU {a : S4096x4096.Idx → EReal} (h : ∀ i, IsR (a i)) (k n : ℕ) (l : Fin 1024) : IsR (rowsU a k n l) := by
  unfold rowsU; split
  · exact h _
  · exact IsR.zero

/-- The reference's first result on arrays of real numbers is the gradient the kernel computes. -/
theorem ref1 {a0 : S4096x1024.Idx → EReal} {a1 : S4096x4096.Idx → EReal} {a2 : S3x1024.Idx → EReal}
    (h0 : ∀ i, IsR (a0 i)) (h1 : ∀ i, IsR (a1 i)) (h2 : ∀ i, IsR (a2 i)) :
    Cert.ReferenceIdeal.Read.val_main_v74 (F := Ideal) a0 a1 a2
      = fun y => du (rowsD a0) (rowsU a1) (taps a2) ((y 1).val / 1024) (y 0).val ⟨(y 1).val % 1024, Nat.mod_lt _ (by decide)⟩ := by
  funext y
  exact r74 (args_self a0 a1 a2) (isR_rowsD h0) (isR_rowsU h1) (fun k l => h2 _) y

/-- The reference's second result is the sum of the taps' gradients over all rows. -/
theorem ref2 (a0 : S4096x1024.Idx → EReal) (a1 : S4096x4096.Idx → EReal) (a2 : S3x1024.Idx → EReal) :
    Cert.ReferenceIdeal.Read.val_main_v75 (F := Ideal) a0 a1
      = fun y => ∑ x ∈ Finset.range 4096, dwt (rowsD a0) (rowsU a1) (y 0).val x (y 1) := by
  funext y
  obtain ⟨r, l, rfl⟩ : ∃ r l, y = ix2 r l := ⟨y 0, y 1, by funext a; match a with | ⟨0, _⟩ => rfl | ⟨1, _⟩ => rfl⟩
  exact r75 (args_self a0 a1 a2) r l

/-- The reference's run: it ends, its arguments stay, and it has no semaphore that could be left raised. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0 :=
  (θ_run Cert.ReferenceIdeal.defs _ _).mono
    (fun r h => ⟨fun c => (h c).2.2, sem_eq_zero_of_no_sems (by decide) r.2⟩)
    (Cert.ReferenceIdeal.Value.run m g)

/-- The convolution's backward call and the gradient of the plain lines end with equal results. -/
theorem algebraic : algebraic_KernelIdeal_ReferenceIdeal_pre_finite (hPre_finite := preFacts) := by
  intro m g m' g' hpre hargs
  refine ⟨fun c => duArr m c, fun c => dwArr m c, ?_, ?_⟩
  · refine (θ_run _ _ _).mono (fun r h c => ?_) (Cert.KernelIdeal.Value.run_blocks m g)
    obtain ⟨e0, e1, e2⟩ := h c
    exact ⟨e0.trans (final1 m c), e1.trans (final2 m c), e2⟩
  · refine (θ_run _ _ _).mono (fun r h c => ?_) (Cert.ReferenceIdeal.Value.run m' g')
    obtain ⟨e0, e1, e2⟩ := h c
    obtain ⟨a0, a1, a2⟩ := hargs c
    obtain ⟨p0, p1, p2⟩ := @pre_real preFacts _ _ _ (hpre c)
    refine ⟨e0.trans ((Cert.ReferenceIdeal.Read.val_main_v74_eq m' c).trans ?_), e1.trans ((Cert.ReferenceIdeal.Read.val_main_v75_eq m' c).trans ?_), e2⟩
    · rw [a0, a1, a2]
      exact ref1 p0 p1 p2
    · rw [a0, a1]
      exact ref2 _ _ (arrW m c)

end Cert.Conv
-- ==== Proof.Norm.Spec.lean ====
module

public import Idealize.ShloMosaic.Lib.Pointwise
public import Idealize.ShloMosaic.Lib.Pipeline.Value

@[expose] public section

noncomputable section

namespace Cert.Norm

open Idealize.ShloMosaic

/-- Rows of an array, numbered by naturals. -/
abbrev Rows (k : ℕ) := ℕ → Fin k → EReal

/-- The number of entries of a row. -/
abbrev count : EReal := Ideal.ofBits FTy.f32 1149239296#32

/-- The small number added to the mean square. -/
abbrev small : EReal := Ideal.ofBits FTy.f32 897988541#32

/-- One over the root of the mean square of row `n`. -/
def rs (X : Rows 1024) (n : ℕ) : EReal := Ideal.rsqrt (Ideal.div (∑ x, X n x * X n x) count + small)

/-- The normalised row. -/
def xh (X : Rows 1024) (n : ℕ) (l : Fin 1024) : EReal := X n l * rs X n

/-- The gradient of the normalised and scaled row: the product with the weights, transposed, in the three column groups. -/
def dh (W : Fin 1024 → ℕ → EReal) (A : Rows 4096) (B : Rows 2560) (C : Rows 2048) : Rows 1024 := fun n l =>
  ∑ x : Fin 4096, W l x.val * A n x + ∑ x : Fin 2560, W l (4096 + x.val) * B n x + ∑ x : Fin 2048, W l (6656 + x.val) * C n x

/-- The gradient of the input of the norm, with the gradient `D` of the residual branch added. -/
def dx (X : Rows 1024) (g : Fin 1024 → EReal) (H D : Rows 1024) (n : ℕ) (l : Fin 1024) : EReal :=
  D n l + rs X n * (H n l * g l - xh X n l * Ideal.div (∑ x, H n x * g x * xh X n x) count)

/-- What row `n` adds to the gradient of the gain. -/
def dg (X H : Rows 1024) (l : Fin 1024) (n : ℕ) : EReal := H n l * xh X n l

end Cert.Norm
-- ==== Proof.Norm.Pay.lean ====
module

public import proofs.«01_k».proof.Proof.Gen.Kernel2Ideal.Skeleton
public import proofs.«01_k».proof.Proof.Norm.Spec

@[expose] public section

noncomputable section

namespace Cert.Norm

open Cert.Kernel2Ideal Cert.Kernel2Ideal.Gen Idealize.ShloMosaic Idealize.ShloMosaic.TcCoe

variable {W : Fin 1024 → ℕ → EReal} {A : Rows 4096} {B : Rows 2560} {C : Rows 2048} {X D : Rows 1024} {g : Fin 1024 → EReal} {t : ℕ}
    {a0 : Vec Ideal S256x4096 .bf16} {a1 : Vec Ideal S256x2560 .bf16} {a2 : Vec Ideal S256x2048 .bf16}
    {x : Vec Ideal S256x1024 .f32} {g0 : Vec Ideal S1x1024 .f32} {d : Vec Ideal S256x1024 .f32}
    {w0 : Vec Ideal S1024x4096 .bf16} {w1 : Vec Ideal S1024x2560 .bf16} {w2 : Vec Ideal S1024x2048 .bf16}

/-- The blocks read at tile `t` are rows `256 t` and on of the whole arrays. -/
structure Blk (A : Rows 4096) (B : Rows 2560) (C : Rows 2048) (X D : Rows 1024) (g : Fin 1024 → EReal) (t : ℕ)
    (a0 : Vec Ideal S256x4096 .bf16) (a1 : Vec Ideal S256x2560 .bf16) (a2 : Vec Ideal S256x2048 .bf16)
    (x : Vec Ideal S256x1024 .f32) (g0 : Vec Ideal S1x1024 .f32) (d : Vec Ideal S256x1024 .f32) : Prop where
  h0 : ∀ (r : Fin 256) l, a0 (ix2 r l) = A (256 * t + r.val) l
  h1 : ∀ (r : Fin 256) l, a1 (ix2 r l) = B (256 * t + r.val) l
  h2 : ∀ (r : Fin 256) l, a2 (ix2 r l) = C (256 * t + r.val) l
  h3 : ∀ (r : Fin 256) l, x (ix2 r l) = X (256 * t + r.val) l
  h4 : ∀ l, g0 (ix2 0 l) = g l
  h5 : ∀ (r : Fin 256) l, d (ix2 r l) = D (256 * t + r.val) l

/-- The staged weights, in the three column groups the products read. -/
structure Wgt (W : Fin 1024 → ℕ → EReal) (w0 : Vec Ideal S1024x4096 .bf16) (w1 : Vec Ideal S1024x2560 .bf16) (w2 : Vec Ideal S1024x2048 .bf16) : Prop where
  h0 : ∀ l k, w0 (ix2 l k) = W l k.val
  h1 : ∀ l k, w1 (ix2 l k) = W l (4096 + k.val)
  h2 : ∀ l k, w2 (ix2 l k) = W l (6656 + k.val)

/-- The three products of a tile, summed and transposed. -/
theorem pay3 (b : Blk A B C X D g t a0 a1 a2 x g0 d) (w : Wgt W w0 w1 w2) (r : Fin 256) (l : Fin 1024) :
    k0_pay3 w0 a0 w1 a1 w2 a2 (ix2 r l) = dh W A B C (256 * t + r.val) l := by
  unfold k0_pay3
  pointwise
  simp only [b.h0, b.h1, b.h2, w.h0, w.h1, w.h2]
  rfl

/-- One over the root mean square of a tile's rows. -/
theorem pay4 (b : Blk A B C X D g t a0 a1 a2 x g0 d) (r : Fin 256) : k0_pay4 x (ix2 r 0) = rs X (256 * t + r.val) := by
  unfold k0_pay4
  pointwise
  simp only [b.h3]
  rfl

/-- The normalised rows of a tile. -/
theorem pay5 (b : Blk A B C X D g t a0 a1 a2 x g0 d) (r : Fin 256) (l : Fin 1024) : k0_pay5 x (ix2 r l) = xh X (256 * t + r.val) l := by
  unfold k0_pay5
  pointwise
  rw [b.h3, pay4 b]
  rfl

/-- The gradient of the input of the norm at a tile. -/
theorem pay1 (b : Blk A B C X D g t a0 a1 a2 x g0 d) (w : Wgt W w0 w1 w2) (r : Fin 256) (l : Fin 1024) :
    k0_pay1 (k0_pay3 w0 a0 w1 a1 w2 a2) (k0_pay4 x) (k0_pay5 x) g0 d (ix2 r l) = dx X g (dh W A B C) D (256 * t + r.val) l := by
  unfold k0_pay1
  pointwise
  simp only [b.h4, b.h5, pay3 b w, pay4 b, pay5 b]
  rfl

/-- What a tile adds to the gradient of the gain: every eighth row, starting from row `k`. -/
theorem pay6 (b : Blk A B C X D g t a0 a1 a2 x g0 d) (w : Wgt W w0 w1 w2) (p : Vec Ideal S8x1024 .f32) (k : Fin 8) (l : Fin 1024) :
    k0_pay6 w0 a0 w1 a1 w2 a2 x p (ix2 k l) = p (ix2 k l) + ∑ s : Fin 32, dg X (dh W A B C) l (256 * t + (s.val * 8 + k.val)) := by
  unfold k0_pay6
  pointwise
  simp only [pay3 b w, pay5 b]
  rfl

end Cert.Norm
-- ==== Proof.Norm.Block.lean ====
module

public import proofs.«01_k».proof.Proof.Gen.Kernel2Ideal.Frame
public import Idealize.ShloMosaic.Lib.Pipeline.ReadBack
public import Idealize.ShloMosaic.Lib.Pipeline.ValueKit.Tiles
public import proofs.«01_k».proof.Proof.Norm.Pay

@[expose] public section

noncomputable section

namespace Cert.Norm

open Cert.Kernel2Ideal Cert.Kernel2Ideal.Gen Idealize.ShloMosaic Idealize.ShloMosaic.TcCoe Idealize.SL.Sem

/-- A load of the staged weights after the copy reads what was copied. -/
theorem cov_whole (v : Vec Ideal S1024x8704 .bf16) (B : Rect S1024x8704) :
    (View.whole cc0_scratch0).readCov (Val := Elt Ideal) [⟨Rect.whole S1024x8704, v⟩] B.toLoadRect = View.ld (S := S1024x8704) (Val := Elt Ideal) (e' := .bf16) v B := by
  rw [View.readCov_eq_canon']
  funext j
  exact congrFun (View.canon_cons_unit_zero (Val := Elt Ideal) (S := S1024x8704) (e := .bf16) rfl _ v []) _

/-- The three column groups of the staged weights. -/
theorem wgt {W : Fin 1024 → ℕ → EReal} {v : Vec Ideal S1024x8704 .bf16} (hv : ∀ l (k : Fin 8704), v (ix2 l k) = W l k.val) :
    Wgt W (View.ld (S := S1024x8704) (Val := Elt Ideal) (e' := .bf16) v (Rect.unit ![0, 0] ![1024, 4096] inb_S1024x8704_S1024x4096_0_0))
      (View.ld (S := S1024x8704) (Val := Elt Ideal) (e' := .bf16) v (Rect.unit ![0, 4096] ![1024, 2560] inb_S1024x8704_S1024x2560_0_4096))
      (View.ld (S := S1024x8704) (Val := Elt Ideal) (e' := .bf16) v (Rect.unit ![0, 6656] ![1024, 2048] inb_S1024x8704_S1024x2048_0_6656)) where
  h0 l k := by
    refine (View.ld_unit_apply_of _ _ _ _ _ (ix2 l ⟨k.val, by omega⟩) ?_).trans (hv l _)
    intro a; fin_cases a
    · exact (Nat.zero_add _).symm
    · exact (Nat.zero_add _).symm
  h1 l k := by
    refine (View.ld_unit_apply_of _ _ _ _ _ (ix2 l ⟨4096 + k.val, by omega⟩) ?_).trans (hv l _)
    intro a; fin_cases a
    · exact (Nat.zero_add _).symm
    · rfl
  h2 l k := by
    refine (View.ld_unit_apply_of _ _ _ _ _ (ix2 l ⟨6656 + k.val, by omega⟩) ?_).trans (hv l _)
    intro a; fin_cases a
    · exact (Nat.zero_add _).symm
    · rfl

variable {W : Fin 1024 → ℕ → EReal} {A : Rows 4096} {B : Rows 2560} {C : Rows 2048} {X D : Rows 1024} {g : Fin 1024 → EReal}
    {a0 : Vec Ideal S256x4096 .bf16} {a1 : Vec Ideal S256x2560 .bf16} {a2 : Vec Ideal S256x2048 .bf16}
    {x : Vec Ideal S256x1024 .f32} {g0 : Vec Ideal S1x1024 .f32} {d : Vec Ideal S256x1024 .f32}
    (c : Dev nD) (t : Fin cfg0.N) (b : Blk A B C X D g t.val a0 a1 a2 x g0 d)

section
include b

/-- What a first point leaves of the gradient of the input. -/
theorem dxA (h) (f : S1024x8704.Idx → EReal) (hf : ∀ l (k : Fin 8704), f (ix2 l k) = W l k.val) (r : Fin 256) (l : Fin 1024) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h a0 a1 a2 x g0 d f (ix2 r l) = dx X g (dh W A B C) D (256 * t.val + r.val) l := by
  unfold out0_A_6
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_7 t).read_unread, View.read_whole]
  simp only [View.ld_unit_zero (Val := Elt Ideal) (S := S256x4096) (off := ![0,0]) (by decide),
    View.ld_unit_zero (Val := Elt Ideal) (S := S256x2560) (off := ![0,0]) (by decide),
    View.ld_unit_zero (Val := Elt Ideal) (S := S256x2048) (off := ![0,0]) (by decide),
    View.ld_unit_zero (Val := Elt Ideal) (S := S256x1024) (off := ![0,0]) (by decide),
    View.ld_unit_zero (Val := Elt Ideal) (S := S1x1024) (off := ![0,0]) (by decide),
    View.ld_unit_zero (Val := Elt Ideal) (S := S8x1024) (off := ![0,0]) (by decide)]
  rw [View.canon_unit_zero (S := S256x1024) (off := ![0,0]) (by decide)]
  rw [cov_whole (ReadAs.same.apply f), cov_whole (ReadAs.same.apply f), cov_whole (ReadAs.same.apply f)]
  exact pay1 b (wgt hf) r l

/-- What a later point leaves of the gradient of the input. -/
theorem dxB (h) (p : Vec Ideal S8x1024 .f32) (ws : Vec Ideal S1024x8704 .bf16) (hw : ∀ l (k : Fin 8704), ws (ix2 l k) = W l k.val)
    (f : HbBuf0 (F := Ideal) c hbM0_0) (r : Fin 256) (l : Fin 1024) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h a0 a1 a2 x g0 d p ws f (ix2 r l) = dx X g (dh W A B C) D (256 * t.val + r.val) l := by
  unfold out0_B_6
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_7 t).read_unread, read_unread_whole]
  simp only [View.ld_unit_zero (Val := Elt Ideal) (S := S256x4096) (off := ![0,0]) (by decide),
    View.ld_unit_zero (Val := Elt Ideal) (S := S256x2560) (off := ![0,0]) (by decide),
    View.ld_unit_zero (Val := Elt Ideal) (S := S256x2048) (off := ![0,0]) (by decide),
    View.ld_unit_zero (Val := Elt Ideal) (S := S256x1024) (off := ![0,0]) (by decide),
    View.ld_unit_zero (Val := Elt Ideal) (S := S1x1024) (off := ![0,0]) (by decide),
    View.ld_unit_zero (Val := Elt Ideal) (S := S8x1024) (off := ![0,0]) (by decide)]
  rw [View.canon_unit_zero (S := S256x1024) (off := ![0,0]) (by decide)]
  exact pay1 b (wgt hw) r l

/-- What a first point leaves of the gradient of the gain. -/
theorem dgA (h) (f : S1024x8704.Idx → EReal) (hf : ∀ l (k : Fin 8704), f (ix2 l k) = W l k.val) (r : Fin 8) (l : Fin 1024) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h a0 a1 a2 x g0 d f (ix2 r l) = ∑ s : Fin 32, dg X (dh W A B C) l (256 * t.val + (s.val * 8 + r.val)) := by
  unfold out0_A_7
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_7 t).read_unread, View.read_whole]
  simp only [View.ld_unit_zero (Val := Elt Ideal) (S := S256x4096) (off := ![0,0]) (by decide),
    View.ld_unit_zero (Val := Elt Ideal) (S := S256x2560) (off := ![0,0]) (by decide),
    View.ld_unit_zero (Val := Elt Ideal) (S := S256x2048) (off := ![0,0]) (by decide),
    View.ld_unit_zero (Val := Elt Ideal) (S := S256x1024) (off := ![0,0]) (by decide),
    View.ld_unit_zero (Val := Elt Ideal) (S := S1x1024) (off := ![0,0]) (by decide),
    View.ld_unit_zero (Val := Elt Ideal) (S := S8x1024) (off := ![0,0]) (by decide)]
  rw [View.canon_cons_unit_zero (S := S8x1024) (off := ![0,0]) (by decide)]
  rw [View.readCov_unit_zero _ (S := S8x1024) (off := ![0,0]) (by decide)]
  rw [cov_whole (ReadAs.same.apply f), cov_whole (ReadAs.same.apply f), cov_whole (ReadAs.same.apply f)]
  refine (pay6 b (wgt hf) _ r l).trans ?_
  have e : (k0_pay2 (F := Ideal)) (ix2 r l) = 0 := by
    unfold k0_pay2
    pointwise
  rw [e, zero_add]

/-- What a later point leaves of the gradient of the gain. -/
theorem dgB (h) (p : Vec Ideal S8x1024 .f32) (ws : Vec Ideal S1024x8704 .bf16) (hw : ∀ l (k : Fin 8704), ws (ix2 l k) = W l k.val)
    (f : HbBuf0 (F := Ideal) c hbM0_0) (r : Fin 8) (l : Fin 1024) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h a0 a1 a2 x g0 d p ws f (ix2 r l) = p (ix2 r l) + ∑ s : Fin 32, dg X (dh W A B C) l (256 * t.val + (s.val * 8 + r.val)) := by
  unfold out0_B_7
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_7 t).read_unread, read_unread_whole]
  simp only [View.ld_unit_zero (Val := Elt Ideal) (S := S256x4096) (off := ![0,0]) (by decide),
    View.ld_unit_zero (Val := Elt Ideal) (S := S256x2560) (off := ![0,0]) (by decide),
    View.ld_unit_zero (Val := Elt Ideal) (S := S256x2048) (off := ![0,0]) (by decide),
    View.ld_unit_zero (Val := Elt Ideal) (S := S256x1024) (off := ![0,0]) (by decide),
    View.ld_unit_zero (Val := Elt Ideal) (S := S1x1024) (off := ![0,0]) (by decide),
    View.ld_unit_zero (Val := Elt Ideal) (S := S8x1024) (off := ![0,0]) (by decide)]
  rw [View.canon_unit_zero (S := S8x1024) (off := ![0,0]) (by decide)]
  exact pay6 b (wgt hw) p r l

end

/-- What a first point leaves in the staged weights. -/
theorem wsA (h) (f : S1024x8704.Idx → EReal) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h a0 a1 a2 x g0 d f = f := by
  unfold sout0_A_0
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_7 t).read_unread, View.read_whole]
  exact View.canon_cons_unit_zero (Val := Elt Ideal) (S := S1024x8704) (e := .bf16) rfl _ f []

end Cert.Norm
-- ==== Proof.Norm.Arr.lean ====
module

public import proofs.«01_k».proof.Proof.Gen.Kernel2Ideal.Run
public import proofs.«01_k».proof.Proof.Norm.Block

@[expose] public section

noncomputable section

namespace Cert.Norm

open Cert.Kernel2Ideal Cert.Kernel2Ideal.Gen Idealize.ShloMosaic Idealize.ShloMosaic.TcCoe Idealize.SL.Sem

/-- The rows of an array, zero past the end. -/
def rows {k : ℕ} (a : (⟨2, ![4096, k]⟩ : Shape).Idx → EReal) : Rows k := fun n l => if h : n < 4096 then a (ix2 ⟨n, h⟩ l) else 0

/-- The weights, by row and column, zero past the end. -/
def cols (a : S1024x8704.Idx → EReal) : Fin 1024 → ℕ → EReal := fun l k => if h : k < 8704 then a (ix2 l ⟨k, h⟩) else 0

variable (m : (ℓ : Loc nD τ sig) → Buf (Elt Ideal) ℓ) (c : Dev nD)

/-- The input of the norm. -/
abbrev arrX : S4096x1024.Idx → EReal := m ((c : Thread nD τ).loc main_arg0)
/-- The gain. -/
abbrev arrG : S1x1024.Idx → EReal := m ((c : Thread nD τ).loc main_arg1)
/-- The weights. -/
abbrev arrW : S1024x8704.Idx → EReal := m ((c : Thread nD τ).loc main_arg2)
/-- The first column group of the incoming gradient. -/
abbrev arrA : S4096x4096.Idx → EReal := m ((c : Thread nD τ).loc main_arg3)
/-- The second column group of the incoming gradient. -/
abbrev arrB : S4096x2560.Idx → EReal := m ((c : Thread nD τ).loc main_arg4)
/-- The third column group of the incoming gradient. -/
abbrev arrC : S4096x2048.Idx → EReal := m ((c : Thread nD τ).loc main_arg5)
/-- The gradient of the residual branch. -/
abbrev arrD : S4096x1024.Idx → EReal := m ((c : Thread nD τ).loc main_arg6)

/-- The gain by lane. -/
def gain (a : S1x1024.Idx → EReal) (l : Fin 1024) : EReal := a (ix2 0 l)

/-- Where each window's block lies at a grid point. -/
theorem idxs : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0))

/-- Window 0's block is rows of its array. -/
theorem iblk0 (t : Fin cfg0.N) (r : Fin 256) (l : Fin 4096) :
    (iblk m c 0 t : Vec Ideal S256x4096 .bf16) (ix2 r l) = rows (arrA m c) (256 * t.val + r.val) l := by
  have ht : t.val < 16 := lt_of_lt_of_eq t.isLt (show cfg0.N = 16 from N_0)
  have hi := (idxs t).1
  unfold rows
  rw [dif_pos (by omega)]
  unfold iblk
  rw [View.read_apply]
  show V m c main_arg3 _ = arrA m c _
  rw [V_main_arg3]
  congr 1
  funext a
  apply Fin.ext
  match a with
  | ⟨0, _⟩ => show win0_0.index t 0 * 256 + 1 * r.val = 256 * t.val + r.val; rw [hi.1]; omega
  | ⟨1, _⟩ => show win0_0.index t 1 * 4096 + 1 * l.val = l.val; rw [hi.2]; omega

/-- Window 1's block is rows of its array. -/
theorem iblk1 (t : Fin cfg0.N) (r : Fin 256) (l : Fin 2560) :
    (iblk m c 1 t : Vec Ideal S256x2560 .bf16) (ix2 r l) = rows (arrB m c) (256 * t.val + r.val) l := by
  have ht : t.val < 16 := lt_of_lt_of_eq t.isLt (show cfg0.N = 16 from N_0)
  have hi := (idxs t).2.1
  unfold rows
  rw [dif_pos (by omega)]
  unfold iblk
  rw [View.read_apply]
  show V m c main_arg4 _ = arrB m c _
  rw [V_main_arg4]
  congr 1
  funext a
  apply Fin.ext
  match a with
  | ⟨0, _⟩ => show win0_1.index t 0 * 256 + 1 * r.val = 256 * t.val + r.val; rw [hi.1]; omega
  | ⟨1, _⟩ => show win0_1.index t 1 * 2560 + 1 * l.val = l.val; rw [hi.2]; omega

/-- Window 2's block is rows of its array. -/
theorem iblk2 (t : Fin cfg0.N) (r : Fin 256) (l : Fin 2048) :
    (iblk m c 2 t : Vec Ideal S256x2048 .bf16) (ix2 r l) = rows (arrC m c) (256 * t.val + r.val) l := by
  have ht : t.val < 16 := lt_of_lt_of_eq t.isLt (show cfg0.N = 16 from N_0)
  have hi := (idxs t).2.2.1
  unfold rows
  rw [dif_pos (by omega)]
  unfold iblk
  rw [View.read_apply]
  show V m c main_arg5 _ = arrC m c _
  rw [V_main_arg5]
  congr 1
  funext a
  apply Fin.ext
  match a with
  | ⟨0, _⟩ => show win0_2.index t 0 * 256 + 1 * r.val = 256 * t.val + r.val; rw [hi.1]; omega
  | ⟨1, _⟩ => show win0_2.index t 1 * 2048 + 1 * l.val = l.val; rw [hi.2]; omega

/-- Window 3's block is rows of its array. -/
theorem iblk3 (t : Fin cfg0.N) (r : Fin 256) (l : Fin 1024) :
    (iblk m c 3 t : Vec Ideal S256x1024 .f32) (ix2 r l) = rows (arrX m c) (256 * t.val + r.val) l := by
  have ht : t.val < 16 := lt_of_lt_of_eq t.isLt (show cfg0.N = 16 from N_0)
  have hi := (idxs t).2.2.2.1
  unfold rows
  rw [dif_pos (by omega)]
  unfold iblk
  rw [View.read_apply]
  show V m c main_arg0 _ = arrX m c _
  rw [V_main_arg0]
  congr 1
  funext a
  apply Fin.ext
  match a with
  | ⟨0, _⟩ => show win0_3.index t 0 * 256 + 1 * r.val = 256 * t.val + r.val; rw [hi.1]; omega
  | ⟨1, _⟩ => show win0_3.index t 1 * 1024 + 1 * l.val = l.val; rw [hi.2]; omega

/-- Window 5's block is rows of its array. -/
theorem iblk5 (t : Fin cfg0.N) (r : Fin 256) (l : Fin 1024) :
    (iblk m c 5 t : Vec Ideal S256x1024 .f32) (ix2 r l) = rows (arrD m c) (256 * t.val + r.val) l := by
  have ht : t.val < 16 := lt_of_lt_of_eq t.isLt (show cfg0.N = 16 from N_0)
  have hi := (idxs t).2.2.2.2.2.1
  unfold rows
  rw [dif_pos (by omega)]
  unfold iblk
  rw [View.read_apply]
  show V m c main_arg6 _ = arrD m c _
  rw [V_main_arg6]
  congr 1
  funext a
  apply Fin.ext
  match a with
  | ⟨0, _⟩ => show win0_5.index t 0 * 256 + 1 * r.val = 256 * t.val + r.val; rw [hi.1]; omega
  | ⟨1, _⟩ => show win0_5.index t 1 * 1024 + 1 * l.val = l.val; rw [hi.2]; omega

/-- The gain's block is the gain. -/
theorem iblk4 (t : Fin cfg0.N) (l : Fin 1024) : (iblk m c 4 t : Vec Ideal S1x1024 .f32) (ix2 0 l) = gain (arrG m c) l := by
  have hi := (idxs t).2.2.2.2.1
  unfold gain iblk
  rw [View.read_apply]
  show V m c main_arg1 _ = arrG m c _
  rw [V_main_arg1]
  congr 1
  funext a
  apply Fin.ext
  match a with
  | ⟨0, _⟩ => show win0_4.index t 0 * 1 + 1 * 0 = 0; rw [hi.1]
  | ⟨1, _⟩ => show win0_4.index t 1 * 1024 + 1 * l.val = l.val; rw [hi.2]; omega

/-- The blocks of a grid point are rows of the argument arrays. -/
theorem blk (t : Fin cfg0.N) : Blk (rows (arrA m c)) (rows (arrB m c)) (rows (arrC m c)) (rows (arrX m c)) (rows (arrD m c)) (gain (arrG m c)) t.val
    (iblk m c 0 t) (iblk m c 1 t) (iblk m c 2 t) (iblk m c 3 t) (iblk m c 4 t) (iblk m c 5 t) where
  h0 := iblk0 m c t
  h1 := iblk1 m c t
  h2 := iblk2 m c t
  h3 := iblk3 m c t
  h4 := iblk4 m c t
  h5 := iblk5 m c t

/-- The gradient of the normalised rows. -/
abbrev rowsH : Rows 1024 := dh (cols (arrW m c)) (rows (arrA m c)) (rows (arrB m c)) (rows (arrC m c))

/-- The weights by row and column. -/
theorem cols_apply (l : Fin 1024) (k : Fin 8704) : arrW m c (ix2 l k) = cols (arrW m c) l k.val := by
  unfold cols
  rw [dif_pos k.isLt]

/-- The buffer the copy reads holds the weights. -/
theorem weights : (V m c main_arg2 : S1024x8704.Idx → EReal) = arrW m c := V_main_arg2 m c

/-- The staged weights after the first point. -/
theorem outs3A (t : Fin cfg0.N) (h0 : t.val % 16 = 0) : (outsAt0 m c t.val t.isLt).2.2 = arrW m c := by
  rw [outsAt0_A m c t h0]
  have e := wsA (a0 := iblk m c 0 t) (a1 := iblk m c 1 t) (a2 := iblk m c 2 t) (x := iblk m c 3 t) (g0 := iblk m c 4 t) (d := iblk m c 5 t)
    c t ((hcond0_0 t).mpr h0) (V m c main_arg2)
  dsimp only
  exact e.trans (weights m c)

/-- A later point keeps the staged weights. -/
theorem outs3B (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  dsimp only
  unfold sout0_B_0
  rfl

/-- The staged weights after a point. -/
theorem outs3 (n : ℕ) (hn : n < cfg0.N) : (outsAt0 m c n hn).2.2 = arrW m c := by
  have hN : cfg0.N = 16 := N_0
  induction n with
  | zero => exact outs3A m c ⟨0, hn⟩ rfl
  | succ n ih => exact (outs3B m c ⟨n + 1, hn⟩ (by dsimp only; omega)).trans (ih (by omega))

/-- The staged weights after a point, by row and column. -/
theorem outs3' (n : ℕ) (hn : n < cfg0.N) (l : Fin 1024) (k : Fin 8704) :
    ((outsAt0 m c n hn).2.2 : Vec Ideal S1024x8704 .bf16) (ix2 l k) = cols (arrW m c) l k.val := by
  rw [outs3 m c n hn]
  exact cols_apply m c l k

/-- The copied weights by row and column. -/
theorem weights' (l : Fin 1024) (k : Fin 8704) : (V m c main_arg2 : S1024x8704.Idx → EReal) (ix2 l k) = cols (arrW m c) l k.val := by
  rw [weights m c]
  exact cols_apply m c l k

/-- What a point leaves in the first output's block. -/
theorem outs1 (t : Fin cfg0.N) (r : Fin 256) (l : Fin 1024) :
    (outsAt0 m c t.val t.isLt).1 (ix2 r l) = dx (rows (arrX m c)) (gain (arrG m c)) (rowsH m c) (rows (arrD m c)) (256 * t.val + r.val) l := by
  by_cases h0 : t.val % 16 = 0
  · rw [outsAt0_A m c t h0]
    have e := dxA c t (blk m c t) ((hcond0_0 t).mpr h0) (V m c main_arg2) (weights' m c) r l
    dsimp only
    exact e
  · rw [outsAt0_B m c t h0]
    have e := dxB c t (blk m c t) (fun h => h0 ((hcond0_0 t).mp h)) ((outsAt0 m c (t.val - 1) (Nat.lt_of_le_of_lt (Nat.sub_le _ _) t.isLt)).2.1)
      ((outsAt0 m c (t.val - 1) (Nat.lt_of_le_of_lt (Nat.sub_le _ _) t.isLt)).2.2) (outs3' m c _ _) (V m c main_arg2) r l
    dsimp only
    exact e

/-- The second output's block after the first point. -/
theorem outs2A (t : Fin cfg0.N) (h0 : t.val % 16 = 0) (k : Fin 8) (l : Fin 1024) :
    (outsAt0 m c t.val t.isLt).2.1 (ix2 k l) = ∑ s : Fin 32, dg (rows (arrX m c)) (rowsH m c) l (256 * t.val + (s.val * 8 + k.val)) := by
  rw [outsAt0_A m c t h0]
  have e := dgA c t (blk m c t) ((hcond0_0 t).mpr h0) (V m c main_arg2) (weights' m c) k l
  dsimp only
  exact e

/-- The second output's block after a later point. -/
theorem outs2B (t : Fin cfg0.N) (h0 : ¬t.val % 16 = 0) (k : Fin 8) (l : Fin 1024) :
    (outsAt0 m c t.val t.isLt).2.1 (ix2 k l)
      = (outsAt0 m c (t.val - 1) (Nat.lt_of_le_of_lt (Nat.sub_le _ _) t.isLt)).2.1 (ix2 k l)
        + ∑ s : Fin 32, dg (rows (arrX m c)) (rowsH m c) l (256 * t.val + (s.val * 8 + k.val)) := by
  rw [outsAt0_B m c t h0]
  have e := dgB c t (blk m c t) (fun h => h0 ((hcond0_0 t).mp h)) ((outsAt0 m c (t.val - 1) (Nat.lt_of_le_of_lt (Nat.sub_le _ _) t.isLt)).2.1)
    ((outsAt0 m c (t.val - 1) (Nat.lt_of_le_of_lt (Nat.sub_le _ _) t.isLt)).2.2) (outs3' m c _ _) (V m c main_arg2) k l
  dsimp only
  exact e

/-- What the points up to `n` leave in the second output's block. -/
theorem outs2 (n : ℕ) (hn : n < cfg0.N) (k : Fin 8) (l : Fin 1024) :
    (outsAt0 m c n hn).2.1 (ix2 k l)
      = ∑ t ∈ Finset.range (n + 1), ∑ s : Fin 32, dg (rows (arrX m c)) (rowsH m c) l (256 * t + (s.val * 8 + k.val)) := by
  have hN : cfg0.N = 16 := N_0
  induction n with
  | zero =>
    refine (outs2A m c ⟨0, hn⟩ rfl k l).trans ?_
    rw [Finset.sum_range_one]
  | succ n ih =>
    refine (outs2B m c ⟨n + 1, hn⟩ (by dsimp only; omega) k l).trans ?_
    rw [Finset.sum_range_succ _ (n + 1)]
    congr 1
    exact ih (by omega)

/-- The gradient of the input, as one array. -/
def dxArr : S4096x1024.Idx → EReal := fun y => dx (rows (arrX m c)) (gain (arrG m c)) (rowsH m c) (rows (arrD m c)) (y 0).val (y 1)

/-- The gradient of the gain in eight partial sums, as one array. -/
def dgArr : S8x1024.Idx → EReal := fun y =>
  ∑ t ∈ Finset.range 16, ∑ s : Fin 32, dg (rows (arrX m c)) (rowsH m c) (y 1) (256 * t + (s.val * 8 + (y 0).val))

/-- Which point's block of the first output holds an index. -/
theorem cover6 (i : S4096x1024.Idx) (t : Fin cfg0.N) (ht : t.val = (i 0).val / 256) : i ∈ ((View.whole main_v0_0).slice (win0_6.rect t)).set := by
  have h0 : (i 0 : ℕ) < 4096 := (i 0).isLt
  have h1 : (i 1 : ℕ) < 1024 := (i 1).isLt
  have hi := (idxs t).2.2.2.2.2.2.1
  rw [View.set_slice_whole, Rect.mem_set_unit]
  intro a
  match a with
  | ⟨0, _⟩ =>
    show win0_6.index t 0 * 256 ≤ (i 0 : ℕ) ∧ (i 0 : ℕ) < win0_6.index t 0 * 256 + 256
    rw [hi.1]; omega
  | ⟨1, _⟩ =>
    show win0_6.index t 1 * 1024 ≤ (i 1 : ℕ) ∧ (i 1 : ℕ) < win0_6.index t 1 * 1024 + 1024
    rw [hi.2]; omega

/-- The second output's one block holds every index. -/
theorem cover7 (i : S8x1024.Idx) (t : Fin cfg0.N) : i ∈ ((View.whole main_v0_1).slice (win0_7.rect t)).set := by
  have h0 : (i 0 : ℕ) < 8 := (i 0).isLt
  have h1 : (i 1 : ℕ) < 1024 := (i 1).isLt
  have hi := (idxs t).2.2.2.2.2.2.2
  rw [View.set_slice_whole, Rect.mem_set_unit]
  intro a
  match a with
  | ⟨0, _⟩ =>
    show win0_7.index t 0 * 8 ≤ (i 0 : ℕ) ∧ (i 0 : ℕ) < win0_7.index t 0 * 8 + 8
    rw [hi.1]; omega
  | ⟨1, _⟩ =>
    show win0_7.index t 1 * 1024 ≤ (i 1 : ℕ) ∧ (i 1 : ℕ) < win0_7.index t 1 * 1024 + 1024
    rw [hi.2]; omega

/-- The first output array after the run. -/
theorem final1 : (dats m 0 c).arrAt 6 cfg0.N = dxArr m c := by
  refine (dats m 0 c).arrAt_eq_of_cover 6 (dxArr m c) (fun t hf => ?_) (fun i => ?_)
  · have hfl : (dats m 0 c).flushed 6 t = (cfg0.win 6).cut (grid0.coords t) (outsAt0 m c t.val t.isLt).1 := by
      show (cfg0.win 6).cut (grid0.coords t) ((dats m 0 c).after 6 t) = _
      rw [after0_6]
    rw [hfl]
    have hi := (idxs t).2.2.2.2.2.2.1
    funext y
    rw [View.read_apply]
    show (outsAt0 m c t.val t.isLt).1 _ = dxArr m c _
    have e0 : ((((cfg0.win 6).blk t).view.emb y) 0).val = win0_6.index t 0 * 256 + 1 * (y 0).val := rfl
    have e1 : ((((cfg0.win 6).blk t).view.emb y) 1).val = win0_6.index t 1 * 1024 + 1 * (y 1).val := rfl
    have hy : (cfg0.win 6).xinj (grid0.coords t) y = ix2 (n0 := 256) (n1 := 1024) ⟨(y 0).val, (y 0).isLt⟩ ⟨(y 1).val, (y 1).isLt⟩ := by
      funext a
      match a with
      | ⟨0, _⟩ => rfl
      | ⟨1, _⟩ => rfl
    rw [hy, outs1]
    unfold dxArr
    rw [e0, hi.1]
    congr 1
    · dsimp only; omega
    · exact Fin.ext (by rw [e1, hi.2]; dsimp only; omega)
  · have hN : cfg0.N = 16 := N_0
    have h0 : (i 0 : ℕ) < 4096 := (i 0).isLt
    exact ⟨⟨(i 0).val / 256, by rw [hN]; omega⟩, flush0_6 _, cover6 i _ rfl⟩

/-- The second output array after the run. -/
theorem final2 : (dats m 0 c).arrAt 7 cfg0.N = dgArr m c := by
  have hN : cfg0.N = 16 := N_0
  refine (dats m 0 c).arrAt_eq_of_cover 7 (dgArr m c) (fun t hf => ?_) (fun i => ?_)
  · have ht : t.val % 16 = 15 := (flush0_7 t).mp hf
    have ht' : t.val < 16 := lt_of_lt_of_eq t.isLt hN
    have hfl : (dats m 0 c).flushed 7 t = (cfg0.win 7).cut (grid0.coords t) (outsAt0 m c t.val t.isLt).2.1 := by
      show (cfg0.win 7).cut (grid0.coords t) ((dats m 0 c).after 7 t) = _
      rw [after0_7]
    rw [hfl]
    have hi := (idxs t).2.2.2.2.2.2.2
    funext y
    rw [View.read_apply]
    show (outsAt0 m c t.val t.isLt).2.1 _ = dgArr m c _
    have e0 : ((((cfg0.win 7).blk t).view.emb y) 0).val = win0_7.index t 0 * 8 + 1 * (y 0).val := rfl
    have e1 : ((((cfg0.win 7).blk t).view.emb y) 1).val = win0_7.index t 1 * 1024 + 1 * (y 1).val := rfl
    have hy : (cfg0.win 7).xinj (grid0.coords t) y = ix2 (n0 := 8) (n1 := 1024) ⟨(y 0).val, (y 0).isLt⟩ ⟨(y 1).val, (y 1).isLt⟩ := by
      funext a
      match a with
      | ⟨0, _⟩ => rfl
      | ⟨1, _⟩ => rfl
    rw [hy, outs2]
    unfold dgArr
    rw [show t.val + 1 = 16 by omega]
    refine Finset.sum_congr rfl fun n _ => Finset.sum_congr rfl fun s _ => ?_
    rw [e0, hi.1]
    congr 1
    · exact Fin.ext (by rw [e1, hi.2]; dsimp only; omega)
    · dsimp only; omega
  · exact ⟨⟨15, by rw [hN]; omega⟩, (flush0_7 _).mpr rfl, cover7 i _⟩

end Cert.Norm
-- ==== Proof.Norm.Real.lean ====
module

public import proofs.«01_k».proof.Proof.Norm.Spec
public import proofs.«01_k».proof.Proof.Conv.Ref

@[expose] public section

noncomputable section

namespace Cert.Norm

open Idealize.ShloMosaic Cert.Conv

/-- A finite sum of real numbers is real. -/
theorem IsR.sum {ι : Type} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih

/-- The sum of real numbers among the extended ones. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The number of entries of a row is 1024. -/
theorem count_eq : count = ((1024 : ℝ) : EReal) := by
  unfold count
  simp [Ideal.ofBits, Ideal.ieee]
  rw [← EReal.coe_mul]
  norm_num

/-- The small number is a positive real. -/
theorem small_eq : ∃ e : ℝ, 0 < e ∧ small = (e : EReal) := by
  refine ⟨_, ?_, by unfold small; simp only [Ideal.ofBits, Ideal.ieee]; rfl⟩
  rw [if_neg (by decide)]
  positivity

/-- Minus one half. -/
theorem half_eq : Ideal.ofBits FTy.f32 0xBF000000#32 = ((-(1 / 2) : ℝ) : EReal) := by
  simp [Ideal.ofBits, Ideal.ieee]
  rw [← EReal.coe_mul]
  norm_num

/-- The quotient of two reals, the second not zero. -/
theorem div_real (a b : ℝ) (hb : b ≠ 0) : Ideal.div (a : EReal) (b : EReal) = ((a / b : ℝ) : EReal) := by
  rw [Ideal.div_coe hb, ← EReal.coe_mul, mul_one_div]

/-- One over the square root of a positive real. -/
theorem rsqrt_real (y : ℝ) (hy : 0 < y) : Ideal.rsqrt (y : EReal) = (((Real.sqrt y)⁻¹ : ℝ) : EReal) := by
  show (if y < 0 then ⊥ else if y = 0 then ⊤ else (((Real.sqrt y)⁻¹ : ℝ) : EReal)) = _
  rw [if_neg hy.not_gt, if_neg hy.ne']

/-- The gradient of the norm as differentiation writes it, against the form with the normalised rows. -/
theorem dx_eq {x h g : Fin 1024 → EReal} {d : EReal} (hx : ∀ l, IsR (x l)) (hh : ∀ l, IsR (h l)) (hg : ∀ l, IsR (g l)) (hd : IsR d) (l : Fin 1024)
    {y r s : EReal} (hy : y = Ideal.div (∑ k, x k * x k) count + small) (hr : r = Ideal.rsqrt y)
    (hs : s = Ideal.div ((∑ k, x k * (h k * g k)) * (Ideal.ofBits FTy.f32 0xBF000000#32 * Ideal.div r y)) count) :
    d + h l * g l * r + x l * s + s * x l
      = d + r * (h l * g l - x l * r * Ideal.div (∑ k, h k * g k * (x k * r)) count) := by
  choose x' hx using hx
  choose h' hh using hh
  choose g' hg using hg
  obtain ⟨d', rfl⟩ := hd
  obtain ⟨e, he, hse⟩ := small_eq
  have c0 : (1024 : ℝ) ≠ 0 := by norm_num
  have hpos : 0 < (∑ k, x' k * x' k) / 1024 + e :=
    add_pos_of_nonneg_of_pos (div_nonneg (Finset.sum_nonneg fun k _ => mul_self_nonneg _) (by norm_num)) he
  have hy' : y = (((∑ k, x' k * x' k) / 1024 + e : ℝ) : EReal) := by
    rw [hy, count_eq, hse]
    simp only [hx, ← EReal.coe_mul, coe_sum]
    rw [div_real _ _ c0, ← EReal.coe_add]
  generalize (∑ k, x' k * x' k) / 1024 + e = y' at hpos hy'
  rw [hy', rsqrt_real _ hpos] at hr
  have hq : (Real.sqrt y')⁻¹ * (Real.sqrt y')⁻¹ = 1 / y' := by
    rw [← mul_inv, Real.mul_self_sqrt hpos.le, one_div]
  generalize (Real.sqrt y')⁻¹ = q at hr hq
  have hS : ∑ k, h' k * g' k * (x' k * q) = (∑ k, x' k * (h' k * g' k)) * q := by
    rw [Finset.sum_mul]; exact Finset.sum_congr rfl fun k _ => by ring
  have e1 : s = (((∑ k, x' k * (h' k * g' k)) * (-(1 / 2) * (q / y')) / 1024 : ℝ) : EReal) := by
    rw [hs, hr, hy', count_eq, half_eq, div_real _ _ hpos.ne']
    simp only [hx, hh, hg, ← EReal.coe_mul, coe_sum]
    rw [div_real _ _ c0]
  rw [e1, hr, count_eq]
  simp only [hx, hh, hg, ← EReal.coe_mul, coe_sum]
  rw [div_real _ _ c0, hS]
  generalize ∑ k, x' k * (h' k * g' k) = S
  simp only [← EReal.coe_mul, ← EReal.coe_add, ← EReal.coe_sub]
  congr 1
  have : q / y' = q * (q * q) := by rw [hq]; ring
  rw [this]
  ring

end Cert.Norm
-- ==== Proof.Norm.Ref.lean ====
module

public import proofs.«01_k».proof.Proof.Gen.Reference2Ideal.Read
public import proofs.«01_k».proof.Proof.Norm.Real
public import Idealize.ShloMosaic.Lib.Pipeline.Value
public import Idealize.ShloMosaic.Lib.Pointwise

@[expose] public section

noncomputable section

namespace Cert.Norm

open Cert.Reference2Ideal Cert.Reference2Ideal.Read Idealize.ShloMosaic Idealize.ShloMosaic.TcCoe Cert.Conv

/-- The arguments' entries, by row and lane. -/
structure Args (W : Fin 1024 → ℕ → EReal) (A : Rows 4096) (B : Rows 2560) (C : Rows 2048) (X D : Rows 1024) (g : Fin 1024 → EReal)
    (x0 : S4096x1024.Idx → EReal) (x1 : S1x1024.Idx → EReal) (x2 : S1024x8704.Idx → EReal) (x3 : S4096x4096.Idx → EReal)
    (x4 : S4096x2560.Idx → EReal) (x5 : S4096x2048.Idx → EReal) (x6 : S4096x1024.Idx → EReal) : Prop where
  x : ∀ (r : Fin 4096) l, x0 (ix2 r l) = X r.val l
  g : ∀ l, x1 (ix2 0 l) = g l
  w : ∀ l (k : Fin 8704), x2 (ix2 l k) = W l k.val
  a : ∀ (r : Fin 4096) l, x3 (ix2 r l) = A r.val l
  b : ∀ (r : Fin 4096) l, x4 (ix2 r l) = B r.val l
  c : ∀ (r : Fin 4096) l, x5 (ix2 r l) = C r.val l
  d : ∀ (r : Fin 4096) l, x6 (ix2 r l) = D r.val l

variable {W : Fin 1024 → ℕ → EReal} {A : Rows 4096} {B : Rows 2560} {C : Rows 2048} {X D : Rows 1024} {g : Fin 1024 → EReal}
    {x0 : S4096x1024.Idx → EReal} {x1 : S1x1024.Idx → EReal} {x2 : S1024x8704.Idx → EReal} {x3 : S4096x4096.Idx → EReal}
    {x4 : S4096x2560.Idx → EReal} {x5 : S4096x2048.Idx → EReal} {x6 : S4096x1024.Idx → EReal} (P : Args W A B C X D g x0 x1 x2 x3 x4 x5 x6)

/-- The mean square plus the small number, and one over its root. -/
def ysq (X : Rows 1024) (n : ℕ) : EReal := Ideal.div (∑ x, X n x * X n x) count + small

/-- A sum over the columns is the sum over the three groups. -/
theorem sum3 (f : Fin 8704 → EReal) :
    ∑ x, f x = ∑ x : Fin 4096, f ⟨x.val, by omega⟩ + ∑ x : Fin 2560, f ⟨4096 + x.val, by omega⟩ + ∑ x : Fin 2048, f ⟨6656 + x.val, by omega⟩ :=
  (Fin.sum_univ_add (a := 6656) (b := 2048) f).trans
    (congrArg (· + ∑ x : Fin 2048, f ⟨6656 + x.val, by omega⟩) (Fin.sum_univ_add (a := 4096) (b := 2560) fun x => f ⟨x.val, by omega⟩))

include P

/-- The mean square of a row plus the small number. -/
theorem r10 (r : Fin 4096) : val_main_v10 (F := Ideal) x0 (ix2 r 0) = ysq X r.val := by
  unfold val_main_v10 val_main_v9 val_main_v8 val_main_v7 val_main_v6 val_main_v5 val_main_v4 val_main_cst val_main_cst_0 val_main_cst_1
  pointwise
  simp only [P.x]
  rfl

/-- One over the root mean square of a row. -/
theorem r11 (r : Fin 4096) : val_main_v11 (F := Ideal) x0 (ix2 r 0) = rs X r.val := by
  unfold val_main_v11
  pointwise
  rw [r10 P]
  rfl

/-- The normalised row. -/
theorem r16 (r : Fin 4096) (l : Fin 1024) : val_main_v16 (F := Ideal) x0 (ix2 r l) = xh X r.val l := by
  unfold val_main_v16 val_main_v15
  pointwise
  rw [P.x, r11 P]
  rfl

/-- The product with the weights, transposed. -/
theorem r21 (r : Fin 4096) (l : Fin 1024) : val_main_v21 (F := Ideal) x2 x3 x4 x5 (ix2 r l) = dh W A B C r.val l := by
  unfold val_main_v21 val_main_v3 val_main_v1 val_main_v0
  pointwise
  refine (sum3 _).trans ?_
  unfold dh
  refine congrArg₂ (· + ·) (congrArg₂ (· + ·) (Finset.sum_congr rfl fun k _ => ?_) (Finset.sum_congr rfl fun k _ => ?_)) (Finset.sum_congr rfl fun k _ => ?_)
  · rw [dif_pos k.isLt, mul_comm, P.w, P.a]
  · rw [dif_neg (by dsimp only; omega), dif_pos (by dsimp only; omega), mul_comm, P.w, P.b]
    exact congrArg (fun j => W l (4096 + k.val) * B r.val j) (Fin.ext (show 4096 + k.val - 4096 = k.val by omega))
  · rw [dif_neg (by dsimp only; omega), dif_neg (by dsimp only; omega), mul_comm, P.w, P.c]
    exact congrArg (fun j => W l (6656 + k.val) * C r.val j) (Fin.ext (show 6656 + k.val - 4096 - 2560 = k.val by omega))

/-- The gradient of the scaled row times the gain. -/
theorem r26 (r : Fin 4096) (l : Fin 1024) : val_main_v26 (F := Ideal) x1 x2 x3 x4 x5 (ix2 r l) = dh W A B C r.val l * g l := by
  unfold val_main_v26 val_main_v25 val_main_v17 val_main_v2
  pointwise
  rw [r21 P, P.g]

/-- The gradient of the gain. -/
theorem r27 (l : Fin 1024) : val_main_v27 (F := Ideal) x0 x2 x3 x4 x5 (ix1 l) = ∑ n ∈ Finset.range 4096, dg X (dh W A B C) l n := by
  unfold val_main_v27 val_main_v24 val_main_v23 val_main_v22 val_main_cst_3 val_main_cst_4
  pointwise
  simp only [r16 P, r21 P]
  rw [Finset.sum_range, Fin.sum_univ_one]
  exact Finset.sum_congr rfl fun n _ => mul_comm _ _

/-- The gradient of the input, where everything is real. -/
theorem r42 (hX : ∀ n l, IsR (X n l)) (hH : ∀ n l, IsR (dh W A B C n l)) (hg : ∀ l, IsR (g l)) (hD : ∀ n l, IsR (D n l)) (r : Fin 4096) (l : Fin 1024) :
    val_main_v42 (F := Ideal) x0 x1 x2 x3 x4 x5 x6 (ix2 r l) = dx X g (dh W A B C) D r.val l := by
  unfold val_main_v42 val_main_v41 val_main_v40 val_main_v39 val_main_v38 val_main_v37 val_main_v36 val_main_v35 val_main_v34 val_main_v33 val_main_v32 val_main_v31 val_main_v30 val_main_v29 val_main_v28 val_main_v14 val_main_v13 val_main_v12 val_main_cst_2 val_main_cst_5 val_main_cst_6 val_main_cst_7
  pointwise
  simp only [Fin.sum_univ_one, r26 P, r11 P, r10 P, P.x, P.d]
  exact dx_eq (hX r.val) (hH r.val) hg (hD r.val l) l rfl rfl rfl

end Cert.Norm
-- ==== Proof.Norm.Claim.lean ====
module

public import proofs.«01_k».proof.Proof.Gen.Kernel2Ideal.Run
public import proofs.«01_k».proof.Proof.Gen.Reference2Ideal.Run
public import proofs.«01_k».proof.Proof.Gen.Reference2Ideal.Read
public import proofs.«01_k».proof.Defs
public import proofs.«01_k».proof.Proof.Norm.Arr
public import proofs.«01_k».proof.Proof.Norm.Ref
public import proofs.«01_k».proof.Proof.Conv.Pre
public import Idealize.ShloMosaic.Lib.Claim
public import Idealize.ShloMosaic.Lib.ReduceAll

@[expose] public section

noncomputable section

namespace Cert.Norm

open Cert.Kernel2Ideal Cert.Kernel2Ideal.Gen Idealize.ShloMosaic Idealize.ShloMosaic.TcCoe Idealize.SL.Sem Cert.Conv

/-- The side conditions of the precondition's operations. -/
theorem preFacts : Cert.Pre_finite2.Facts where
  bcast_S_S4096x4096 := by decide
  reducesTo_S4096x4096_S_d0_1 := by decide
  h_S_ := by decide
  bcast_S_S4096x2560 := by decide
  reducesTo_S4096x2560_S_d0_1 := by decide
  bcast_S_S4096x2048 := by decide
  reducesTo_S4096x2048_S_d0_1 := by decide
  bcast_S_S4096x1024 := by decide
  reducesTo_S4096x1024_S_d0_1 := by decide
  bcast_S_S1x1024 := by decide
  reducesTo_S1x1024_S_d0_1 := by decide
  bcast_S_S1024x8704 := by decide
  reducesTo_S1024x8704_S_d0_1 := by decide

instance : Subsingleton Cert.Pre_finite2.S_.Idx := ⟨fun a b => funext fun i => i.elim0⟩

/-- The precondition, read: every entry of the seven arguments is a real number. -/
theorem pre_real [Cert.Pre_finite2.Facts] (x0 : FVec Ideal Cert.Pre_finite2.S4096x1024 .f32) (x1 : FVec Ideal Cert.Pre_finite2.S1x1024 .f32)
    (x2 : FVec Ideal Cert.Pre_finite2.S1024x8704 .bf16) (x3 : FVec Ideal Cert.Pre_finite2.S4096x4096 .bf16) (x4 : FVec Ideal Cert.Pre_finite2.S4096x2560 .bf16)
    (x5 : FVec Ideal Cert.Pre_finite2.S4096x2048 .bf16) (x6 : FVec Ideal Cert.Pre_finite2.S4096x1024 .f32)
    (h : Cert.Pre_finite2.fn (F := Ideal) x0 x1 x2 x3 x4 x5 x6 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) := by
  have h := congrFun h (fun a => a.elim0)
  unfold Cert.Pre_finite2.fn Cert.Pre_finite2.fn_part1 at h
  dsimp only at h
  obtain ⟨h', h2⟩ := IntOp.andi_eq_one.mp h
  obtain ⟨h345, h016⟩ := IntOp.andi_eq_one.mp h'
  obtain ⟨h34, h5⟩ := IntOp.andi_eq_one.mp h345
  obtain ⟨h3, h4⟩ := IntOp.andi_eq_one.mp h34
  obtain ⟨h01, h6⟩ := IntOp.andi_eq_one.mp h016
  obtain ⟨h0, h1⟩ := IntOp.andi_eq_one.mp h01
  refine ⟨fun i => isR_of_abs ?_, fun i => isR_of_abs ?_, fun i => isR_of_abs ?_, fun i => isR_of_abs ?_, fun i => isR_of_abs ?_, fun i => isR_of_abs ?_, fun i => isR_of_abs ?_⟩
  · have e := Host.reduce_andi_all _ _ _ _ _ h0 i
    pointwise at e
    exact (lt_of_bit e).trans_eq (by simp [Ideal.ofBits, Ideal.ieee])
  · have e := Host.reduce_andi_all _ _ _ _ _ h1 i
    pointwise at e
    exact (lt_of_bit e).trans_eq (by simp [Ideal.ofBits, Ideal.ieee])
  · have e := Host.reduce_andi_all _ _ _ _ _ h2 i
    pointwise at e
    exact (lt_of_bit e).trans_eq (by simp [Ideal.ofBits, Ideal.ieee])
  · have e := Host.reduce_andi_all _ _ _ _ _ h3 i
    pointwise at e
    exact (lt_of_bit e).trans_eq (by simp [Ideal.ofBits, Ideal.ieee])
  · have e := Host.reduce_andi_all _ _ _ _ _ h4 i
    pointwise at e
    exact (lt_of_bit e).trans_eq (by simp [Ideal.ofBits, Ideal.ieee])
  · have e := Host.reduce_andi_all _ _ _ _ _ h5 i
    pointwise at e
    exact (lt_of_bit e).trans_eq (by simp [Ideal.ofBits, Ideal.ieee])
  · have e := Host.reduce_andi_all _ _ _ _ _ h6 i
    pointwise at e
    exact (lt_of_bit e).trans_eq (by simp [Ideal.ofBits, Ideal.ieee])

/-- The arrays' entries are those of their own rows. -/
theorem args_self (a0 : S4096x1024.Idx → EReal) (a1 : S1x1024.Idx → EReal) (a2 : S1024x8704.Idx → EReal) (a3 : S4096x4096.Idx → EReal)
    (a4 : S4096x2560.Idx → EReal) (a5 : S4096x2048.Idx → EReal) (a6 : S4096x1024.Idx → EReal) :
    Args (cols a2) (rows a3) (rows a4) (rows a5) (rows a0) (rows a6) (gain a1) a0 a1 a2 a3 a4 a5 a6 where
  x r l := by unfold rows; rw [dif_pos r.isLt]
  g l := rfl
  w l k := by unfold cols; rw [dif_pos k.isLt]
  a r l := by unfold rows; rw [dif_pos r.isLt]
  b r l := by unfold rows; rw [dif_pos r.isLt]
  c r l := by unfold rows; rw [dif_pos r.isLt]
  d r l := by unfold rows; rw [dif_pos r.isLt]

/-- Rows of real entries, zero past the end, are real. -/
theorem isR_rows {k : ℕ} {a : (⟨2, ![4096, k]⟩ : Shape).Idx → EReal} (h : ∀ i, IsR (a i)) (n : ℕ) (l : Fin k) : IsR (rows a n l) := by
  unfold rows; split
  · exact h _
  · exact IsR.zero

/-- Real weights, zero past the end, are real. -/
theorem isR_cols {a : S1024x8704.Idx → EReal} (h : ∀ i, IsR (a i)) (l : Fin 1024) (k : ℕ) : IsR (cols a l k) := by
  unfold cols; split
  · exact h _
  · exact IsR.zero

/-- The product of real rows and real weights is real. -/
theorem isR_dh {W : Fin 1024 → ℕ → EReal} {A : Rows 4096} {B : Rows 2560} {C : Rows 2048} (hW : ∀ l k, IsR (W l k)) (hA : ∀ n l, IsR (A n l))
    (hB : ∀ n l, IsR (B n l)) (hC : ∀ n l, IsR (C n l)) (n : ℕ) (l : Fin 1024) : IsR (dh W A B C n l) :=
  ((IsR.sum _ fun x => (hW _ _).mul (hA _ _)).add (IsR.sum _ fun x => (hW _ _).mul (hB _ _))).add (IsR.sum _ fun x => (hW _ _).mul (hC _ _))

/-- The reference's first result on arrays of real numbers is the gradient the kernel computes. -/
theorem ref1 {a0 : S4096x1024.Idx → EReal} {a1 : S1x1024.Idx → EReal} {a2 : S1024x8704.Idx → EReal} {a3 : S4096x4096.Idx → EReal}
    {a4 : S4096x2560.Idx → EReal} {a5 : S4096x2048.Idx → EReal} {a6 : S4096x1024.Idx → EReal}
    (h0 : ∀ i, IsR (a0 i)) (h1 : ∀ i, IsR (a1 i)) (h2 : ∀ i, IsR (a2 i)) (h3 : ∀ i, IsR (a3 i)) (h4 : ∀ i, IsR (a4 i)) (h5 : ∀ i, IsR (a5 i)) (h6 : ∀ i, IsR (a6 i)) :
    Cert.Reference2Ideal.Read.val_main_v42 (F := Ideal) a0 a1 a2 a3 a4 a5 a6
      = fun y => dx (rows a0) (gain a1) (dh (cols a2) (rows a3) (rows a4) (rows a5)) (rows a6) (y 0).val (y 1) := by
  funext y
  obtain ⟨r, l, rfl⟩ : ∃ r l, y = ix2 r l := ⟨y 0, y 1, by funext a; match a with | ⟨0, _⟩ => rfl | ⟨1, _⟩ => rfl⟩
  exact r42 (args_self a0 a1 a2 a3 a4 a5 a6) (isR_rows h0) (isR_dh (isR_cols h2) (isR_rows h3) (isR_rows h4) (isR_rows h5)) (fun l => h1 _) (isR_rows h6) r l

/-- The reference's second result is the sum over all rows. -/
theorem ref2 (a0 : S4096x1024.Idx → EReal) (a2 : S1024x8704.Idx → EReal) (a3 : S4096x4096.Idx → EReal)
    (a4 : S4096x2560.Idx → EReal) (a5 : S4096x2048.Idx → EReal) :
    Cert.Reference2Ideal.Read.val_main_v27 (F := Ideal) a0 a2 a3 a4 a5
      = fun y => ∑ n ∈ Finset.range 4096, dg (rows a0) (dh (cols a2) (rows a3) (rows a4) (rows a5)) (y 0) n := by
  funext y
  obtain ⟨l, rfl⟩ : ∃ l, y = ix1 l := ⟨y 0, by funext a; match a with | ⟨0, _⟩ => rfl⟩
  exact r27 (args_self a0 (fun _ => 0) a2 a3 a4 a5 a0) l

/-- A sum over consecutive numbers, tile by tile. -/
theorem sum_tiles (f : ℕ → EReal) (a b : ℕ) : ∑ n ∈ Finset.range (b * a), f n = ∑ i ∈ Finset.range a, ∑ j ∈ Finset.range b, f (b * i + j) := by
  induction a with
  | zero => simp
  | succ a ih => rw [Nat.mul_succ, Finset.sum_range_add, ih, Finset.sum_range_succ]

/-- The eight partial sums over every eighth row of each tile add up to the sum over all rows. -/
theorem sum_eighths (f : ℕ → EReal) :
    ∑ k : Fin 8, ∑ t ∈ Finset.range 16, ∑ s : Fin 32, f (256 * t + (s.val * 8 + k.val)) = ∑ n ∈ Finset.range 4096, f n := by
  rw [Finset.sum_comm, show 4096 = 256 * 16 from rfl, sum_tiles f 16 256]
  refine Finset.sum_congr rfl fun t _ => ?_
  rw [Finset.sum_comm, show 256 = 8 * 32 from rfl, sum_tiles (fun j => f (8 * 32 * t + j)) 32 8, Finset.sum_range]
  refine Finset.sum_congr rfl fun s _ => ?_
  rw [Finset.sum_range]
  exact Finset.sum_congr rfl fun k _ => by rw [Nat.mul_comm s.val 8]

variable (m : (ℓ : Loc nD τ sig) → Buf (Elt Ideal) ℓ) (c : Dev nD)

/-- The gradient of the gain: the sum over all rows. -/
def dgSum : S1024.Idx → EReal := fun y => ∑ n ∈ Finset.range 4096, dg (rows (arrX m c)) (rowsH m c) (y 0) n

/-- Eight rows, summed. -/
theorem reduce8 (v : FVec Ideal S8x1024 .f32) (l : Fin 1024) :
    Host.reduceAdd (F := Ideal) (φ := .f32) v (constant S_ .f32 0x00000000#32) reducesTo_S8x1024_S1024_d0 h_S_ (ix1 l) = ∑ k : Fin 8, v (ix2 k l) := by
  pointwise

/-- The second output's eight rows, summed. -/
theorem final3 : Host.reduceAdd (F := Ideal) (φ := .f32) (dgArr m c) (constant S_ .f32 0x00000000#32) reducesTo_S8x1024_S1024_d0 h_S_ = dgSum m c := by
  funext y
  obtain ⟨l, rfl⟩ : ∃ l, y = ix1 l := ⟨y 0, by funext a; match a with | ⟨0, _⟩ => rfl⟩
  rw [reduce8]
  exact sum_eighths (dg (rows (arrX m c)) (rowsH m c) l)

/-- The reference's run: it ends, its arguments stay, and it has no semaphore that could be left raised. -/
theorem frame_ref (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r =>
      (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0 :=
  (θ_run Cert.Reference2Ideal.defs _ _).mono
    (fun r h => ⟨fun c => (h c).2.2, sem_eq_zero_of_no_sems (by decide) r.2⟩)
    (Cert.Reference2Ideal.Value.run m g)

/-- The backward call and the gradient of the plain lines end with equal results. -/
theorem algebraic : algebraic_Kernel2Ideal_Reference2Ideal_pre_finite2 (hPre_finite2 := preFacts) := by
  intro m g m' g' hpre hargs
  refine ⟨fun c => dxArr m c, fun c => dgSum m c, ?_, ?_⟩
  · refine (θ_run _ _ _).mono (fun r h c => ?_) (Cert.Kernel2Ideal.Value.run m g)
    obtain ⟨e0, e1, e2⟩ := h c
    refine ⟨e0.trans (final1 m c), e1.trans ?_, e2⟩
    have e : Cert.Kernel2Ideal.Value.reg_main_v0_1 m c = dgArr m c := final2 m c
    rw [e]
    exact final3 m c
  · refine (θ_run _ _ _).mono (fun r h c => ?_) (Cert.Reference2Ideal.Value.run m' g')
    obtain ⟨e0, e1, e2⟩ := h c
    obtain ⟨a0, a1, a2, a3, a4, a5, a6⟩ := hargs c
    obtain ⟨p0, p1, p2, p3, p4, p5, p6⟩ := @pre_real preFacts _ _ _ _ _ _ _ (hpre c)
    refine ⟨e0.trans ((Cert.Reference2Ideal.Read.val_main_v42_eq m' c).trans ?_), e1.trans ((Cert.Reference2Ideal.Read.val_main_v27_eq _ _ _ _ _).trans ?_), e2⟩
    · rw [a0, a1, a2, a3, a4, a5, a6]
      exact ref1 p0 p1 p2 p3 p4 p5 p6
    · rw [a0, a2, a3, a4, a5]
      exact ref2 (arrX m c) (arrW m c) (arrA m c) (arrB m c) (arrC m c)

end Cert.Norm
-- ==== Proof.Wgr.Rows.lean ====
module

public import proofs.«01_k».proof.Proof.Gen.Kernel4Ideal.Frame
public import Idealize.ShloMosaic.Lib.Pipeline.ReadBack
public import Idealize.ShloMosaic.Lib.Pipeline.ValueKit.Tiles
public import proofs.«01_k».proof.Proof.Norm.Spec

@[expose] public section

noncomputable section

namespace Cert.Wgr

open Cert.Kernel4Ideal Cert.Kernel4Ideal.Gen Idealize.ShloMosaic Idealize.ShloMosaic.TcCoe Idealize.SL.Sem Cert.Norm

/-- The normalised rows, scaled by the gain. -/
def nrm (x : S4096x1024.Idx → EReal) (g : S1x1024.Idx → EReal) (n : Fin 4096) (l : Fin 1024) : EReal :=
  x (ix2 n l) * Ideal.rsqrt (Ideal.div (∑ k : Fin 1024, x (ix2 n k) * x (ix2 n k)) count + small) * g (ix2 0 l)

/-- The transposed payload of a block is the block's rows, normalised and scaled. -/
theorem pay3 (v0 : Vec Ideal S1024x1024 .f32) (v1 : Vec Ideal S1x1024 .f32) (l r : Fin 1024) :
    k0_pay3 (F := Ideal) v0 v1 (ix2 l r)
      = v0 (ix2 r l) * Ideal.rsqrt (Ideal.div (∑ k : Fin 1024, v0 (ix2 r k) * v0 (ix2 r k)) count + small) * v1 (ix2 0 l) := by
  unfold k0_pay3 k0_pay1
  pointwise

variable (V : (c : Dev nD) → (b : Ref sig .tc) → Buf (Elt Ideal) ((c : Thread nD τ).loc b)) (c : Dev nD)

/-- Where each window's block lies at a grid point. -/
theorem idxs0 : ∀ t : Fin cfg0.N, (win0_0.index t 0 = t.val ∧ win0_0.index t 1 = 0)
    ∧ (win0_1.index t 0 = 0 ∧ win0_1.index t 1 = 0)
    ∧ (win0_3.index t 0 = 0 ∧ win0_3.index t 1 = t.val) :=
  (by decide +kernel : ∀ t : Fin grid0.N, (win0_0.index t 0 = t.val ∧ win0_0.index t 1 = 0)
    ∧ (win0_1.index t 0 = 0 ∧ win0_1.index t 1 = 0)
    ∧ (win0_3.index t 0 = 0 ∧ win0_3.index t 1 = t.val))

/-- The input of the norm. -/
abbrev inX : S4096x1024.Idx → EReal := V c main_arg0
/-- The gain. -/
abbrev inG : S1x1024.Idx → EReal := V c main_arg1

/-- The rows a grid point reads. -/
theorem blkX (t : Fin cfg0.N) (n : Fin 4096) (r l : Fin 1024) (hn : n.val = 1024 * t.val + r.val) :
    (iblk0 V c 0 t : Vec Ideal S1024x1024 .f32) (ix2 r l) = inX V c (ix2 n l) := by
  have hi := (idxs0 t).1
  unfold iblk0
  rw [View.read_apply]
  show V c main_arg0 _ = V c main_arg0 _
  congr 1
  funext a
  apply Fin.ext
  match a with
  | ⟨0, _⟩ => show win0_0.index t 0 * 1024 + 1 * r.val = n.val; rw [hi.1]; omega
  | ⟨1, _⟩ => show win0_0.index t 1 * 1024 + 1 * l.val = l.val; rw [hi.2]; omega

/-- The gain a grid point reads. -/
theorem blkG (t : Fin cfg0.N) (l : Fin 1024) :
    (iblk0 V c 1 t : Vec Ideal S1x1024 .f32) (ix2 0 l) = inG V c (ix2 0 l) := by
  have hi := (idxs0 t).2.1
  unfold iblk0
  rw [View.read_apply]
  show V c main_arg1 _ = V c main_arg1 _
  congr 1
  funext a
  apply Fin.ext
  match a with
  | ⟨0, _⟩ => show win0_1.index t 0 * 1 + 1 * 0 = 0; rw [hi.1]
  | ⟨1, _⟩ => show win0_1.index t 1 * 1024 + 1 * l.val = l.val; rw [hi.2]; omega

/-- What a grid point leaves of the transposed rows. -/
theorem out3 (t : Fin cfg0.N) (n : Fin 4096) (r l : Fin 1024) (hn : n.val = 1024 * t.val + r.val) :
    out0_3 (F := Ideal) (iblk0 V c 0 t) (iblk0 V c 1 t) (ix2 l r) = nrm (inX V c) (inG V c) n l := by
  unfold out0_3 r0_0 r0_1
  rw [View.canon_unit_zero (S := S1024x1024) (off := ![0,0]) (by decide),
    View.ld_unit_zero (Val := Elt Ideal) (S := S1024x1024) (off := ![0,0]) (by decide),
    View.ld_unit_zero (Val := Elt Ideal) (S := S1x1024) (off := ![0,0]) (by decide), pay3, blkG]
  unfold nrm
  simp only [blkX V c t n r _ hn]

/-- The transposed rows, as an array. -/
def hT : S1024x4096.Idx → EReal := fun y => nrm (inX V c) (inG V c) (y 1) (y 0)

/-- Which point's block of the transposed rows holds an index. -/
theorem cover3 (i : S1024x4096.Idx) (t : Fin cfg0.N) (ht : t.val = (i 1).val / 1024) : i ∈ ((View.whole main_v0_1).slice (win0_3.rect t)).set := by
  have h0 : (i 0 : ℕ) < 1024 := (i 0).isLt
  have h1 : (i 1 : ℕ) < 4096 := (i 1).isLt
  have hi := (idxs0 t).2.2
  rw [View.set_slice_whole, Rect.mem_set_unit]
  intro a
  match a with
  | ⟨0, _⟩ =>
    show win0_3.index t 0 * 1024 ≤ (i 0 : ℕ) ∧ (i 0 : ℕ) < win0_3.index t 0 * 1024 + 1024
    rw [hi.1]; omega
  | ⟨1, _⟩ =>
    show win0_3.index t 1 * 1024 ≤ (i 1 : ℕ) ∧ (i 1 : ℕ) < win0_3.index t 1 * 1024 + 1024
    rw [hi.2]; omega

/-- The first call leaves the transposed rows. -/
theorem final0 : (dat0 V c).arrAt 3 cfg0.N = hT V c := by
  have hN : cfg0.N = 4 := N_0
  refine (dat0 V c).arrAt_eq_of_cover 3 (hT V c) (fun t hf => ?_) (fun i => ?_)
  · have hfl : (dat0 V c).flushed 3 t = (cfg0.win 3).cut (grid0.coords t) (out0_3 (iblk0 V c 0 t) (iblk0 V c 1 t)) := by
      show (cfg0.win 3).cut (grid0.coords t) ((dat0 V c).after 3 t) = _
      rw [after0_3]
    rw [hfl]
    have hi := (idxs0 t).2.2
    have ht : t.val < 4 := lt_of_lt_of_eq t.isLt hN
    funext y
    rw [View.read_apply]
    show out0_3 (iblk0 V c 0 t) (iblk0 V c 1 t) _ = hT V c _
    have e0 : ((((cfg0.win 3).blk t).view.emb y) 0).val = win0_3.index t 0 * 1024 + 1 * (y 0).val := rfl
    have e1 : ((((cfg0.win 3).blk t).view.emb y) 1).val = win0_3.index t 1 * 1024 + 1 * (y 1).val := rfl
    have h0 : (y 0).val < 1024 := (y 0).isLt
    have h1 : (y 1).val < 1024 := (y 1).isLt
    have hy : (cfg0.win 3).xinj (grid0.coords t) y = ix2 (n0 := 1024) (n1 := 1024) ⟨(y 0).val, h0⟩ ⟨(y 1).val, h1⟩ := by
      funext a
      match a with
      | ⟨0, _⟩ => rfl
      | ⟨1, _⟩ => rfl
    rw [hy, out3 V c t ⟨1024 * t.val + (y 1).val, by omega⟩ ⟨(y 1).val, h1⟩ ⟨(y 0).val, h0⟩ rfl]
    unfold hT
    congr 1
    · exact Fin.ext (by rw [e1, hi.2]; dsimp only; omega)
    · exact Fin.ext (by rw [e0, hi.1]; dsimp only; omega)
  · have h1 : (i 1 : ℕ) < 4096 := (i 1).isLt
    exact ⟨⟨(i 1).val / 1024, by rw [hN]; omega⟩, flush0_3 _, cover3 i _ rfl⟩

end Cert.Wgr
-- ==== Proof.Wgr.Mul.lean ====
module

public import proofs.«01_k».proof.Proof.Gen.Kernel4Ideal.Frame
public import Idealize.ShloMosaic.Lib.Pipeline.ReadBack
public import Idealize.ShloMosaic.Lib.Pipeline.ValueKit.Tiles
public import Idealize.ShloMosaic.Lib.Pointwise

@[expose] public section

noncomputable section

namespace Cert.Wgr

open Cert.Kernel4Ideal Cert.Kernel4Ideal.Gen Idealize.ShloMosaic Idealize.ShloMosaic.TcCoe Idealize.SL.Sem

/-- The three column groups of the incoming gradient, side by side. -/
def du (a : S4096x4096.Idx → EReal) (b : S4096x2560.Idx → EReal) (d : S4096x2048.Idx → EReal) (n : Fin 4096) (j : Fin 8704) : EReal :=
  if h : j.val < 4096 then a (ix2 n ⟨j.val, h⟩) else if h' : j.val < 6656 then b (ix2 n ⟨j.val - 4096, by omega⟩) else d (ix2 n ⟨j.val - 6656, by omega⟩)

/-- The product a point of the first group computes. -/
theorem mul1 (v : Vec Ideal S1024x4096 .bf16) (w : Vec Ideal S4096x512 .bf16) (l : Fin 1024) (j : Fin 512) :
    k1_pay1 (F := Ideal) v w (ix2 l j) = ∑ n : Fin 4096, v (ix2 l n) * w (ix2 n j) := by
  unfold k1_pay1
  pointwise

/-- The product a point of the second group computes. -/
theorem mul2 (v : Vec Ideal S1024x4096 .bf16) (w : Vec Ideal S4096x512 .bf16) (l : Fin 1024) (j : Fin 512) :
    k1_pay2 (F := Ideal) v w (ix2 l j) = ∑ n : Fin 4096, v (ix2 l n) * w (ix2 n j) := by
  unfold k1_pay2
  pointwise

/-- The product a point of the third group computes. -/
theorem mul3 (v : Vec Ideal S1024x4096 .bf16) (w : Vec Ideal S4096x512 .bf16) (l : Fin 1024) (j : Fin 512) :
    k1_pay3 (F := Ideal) v w (ix2 l j) = ∑ n : Fin 4096, v (ix2 l n) * w (ix2 n j) := by
  unfold k1_pay3
  pointwise

variable (V : (c : Dev nD) → (b : Ref sig .tc) → Buf (Elt Ideal) ((c : Thread nD τ).loc b)) (c : Dev nD)

/-- Where each window's block lies at a grid point; a column group's only while the point works on it. -/
theorem idxs1 : ∀ t : Fin cfg1.N, (win1_0.index t 0 = 0 ∧ win1_0.index t 1 = 0)
    ∧ (win1_1.index t 0 = 0 ∧ (t.val < 8 → win1_1.index t 1 = t.val))
    ∧ (win1_2.index t 0 = 0 ∧ (8 ≤ t.val ∧ t.val ≤ 12 → win1_2.index t 1 = t.val - 8))
    ∧ (win1_3.index t 0 = 0 ∧ (13 ≤ t.val → win1_3.index t 1 = t.val - 13))
    ∧ (win1_4.index t 0 = 0 ∧ win1_4.index t 1 = t.val) :=
  (by decide +kernel : ∀ t : Fin grid1.N, (win1_0.index t 0 = 0 ∧ win1_0.index t 1 = 0)
    ∧ (win1_1.index t 0 = 0 ∧ (t.val < 8 → win1_1.index t 1 = t.val))
    ∧ (win1_2.index t 0 = 0 ∧ (8 ≤ t.val ∧ t.val ≤ 12 → win1_2.index t 1 = t.val - 8))
    ∧ (win1_3.index t 0 = 0 ∧ (13 ≤ t.val → win1_3.index t 1 = t.val - 13))
    ∧ (win1_4.index t 0 = 0 ∧ win1_4.index t 1 = t.val))

/-- The transposed rows. -/
abbrev inH : S1024x4096.Idx → EReal := V c main_v0_1
/-- The first column group of the incoming gradient. -/
abbrev inA : S4096x4096.Idx → EReal := V c main_arg2
/-- The second column group of the incoming gradient. -/
abbrev inB : S4096x2560.Idx → EReal := V c main_arg3
/-- The third column group of the incoming gradient. -/
abbrev inC : S4096x2048.Idx → EReal := V c main_arg4

/-- The transposed rows a grid point reads are all of them. -/
theorem blkH (t : Fin cfg1.N) (l : Fin 1024) (n : Fin 4096) :
    (iblk1 V c 0 t : Vec Ideal S1024x4096 .bf16) (ix2 l n) = inH V c (ix2 l n) := by
  have hi := (idxs1 t).1
  unfold iblk1
  rw [View.read_apply]
  show V c main_v0_1 _ = V c main_v0_1 _
  congr 1
  funext a
  apply Fin.ext
  match a with
  | ⟨0, _⟩ => show win1_0.index t 0 * 1024 + 1 * l.val = l.val; rw [hi.1]; omega
  | ⟨1, _⟩ => show win1_0.index t 1 * 4096 + 1 * n.val = n.val; rw [hi.2]; omega

/-- The columns of the first group a grid point works on. -/
theorem blkA (t : Fin cfg1.N) (h : t.val < 8) (n : Fin 4096) (j : Fin 512) (k : Fin 8704) (hk : k.val = 512 * t.val + j.val) :
    (iblk1 V c 1 t : Vec Ideal S4096x512 .bf16) (ix2 n j) = du (inA V c) (inB V c) (inC V c) n k := by
  have hi := (idxs1 t).2.1
  unfold du
  rw [dif_pos (by omega)]
  unfold iblk1
  rw [View.read_apply]
  show V c main_arg2 _ = V c main_arg2 _
  congr 1
  funext a
  apply Fin.ext
  match a with
  | ⟨0, _⟩ => show win1_1.index t 0 * 4096 + 1 * n.val = n.val; rw [hi.1]; omega
  | ⟨1, _⟩ => show win1_1.index t 1 * 512 + 1 * j.val = k.val; rw [hi.2 h]; omega

/-- The columns of the second group a grid point works on. -/
theorem blkB (t : Fin cfg1.N) (h : 8 ≤ t.val ∧ t.val ≤ 12) (n : Fin 4096) (j : Fin 512) (k : Fin 8704) (hk : k.val = 512 * t.val + j.val) :
    (iblk1 V c 2 t : Vec Ideal S4096x512 .bf16) (ix2 n j) = du (inA V c) (inB V c) (inC V c) n k := by
  have hi := (idxs1 t).2.2.1
  unfold du
  rw [dif_neg (by omega), dif_pos (by omega)]
  unfold iblk1
  rw [View.read_apply]
  show V c main_arg3 _ = V c main_arg3 _
  congr 1
  funext a
  apply Fin.ext
  match a with
  | ⟨0, _⟩ => show win1_2.index t 0 * 4096 + 1 * n.val = n.val; rw [hi.1]; omega
  | ⟨1, _⟩ => show win1_2.index t 1 * 512 + 1 * j.val = k.val - 4096; rw [hi.2 h]; omega

/-- The columns of the third group a grid point works on. -/
theorem blkC (t : Fin cfg1.N) (h : 13 ≤ t.val) (n : Fin 4096) (j : Fin 512) (k : Fin 8704) (hk : k.val = 512 * t.val + j.val) :
    (iblk1 V c 3 t : Vec Ideal S4096x512 .bf16) (ix2 n j) = du (inA V c) (inB V c) (inC V c) n k := by
  have hi := (idxs1 t).2.2.2.1
  unfold du
  rw [dif_neg (by omega), dif_neg (by omega)]
  unfold iblk1
  rw [View.read_apply]
  show V c main_arg4 _ = V c main_arg4 _
  congr 1
  funext a
  apply Fin.ext
  match a with
  | ⟨0, _⟩ => show win1_3.index t 0 * 4096 + 1 * n.val = n.val; rw [hi.1]; omega
  | ⟨1, _⟩ => show win1_3.index t 1 * 512 + 1 * j.val = k.val - 6656; rw [hi.2 h]; omega

/-- The gradient of the weights. -/
def gw : S1024x8704.Idx → EReal := fun y => ∑ n : Fin 4096, inH V c (ix2 (y 0) n) * du (inA V c) (inB V c) (inC V c) n (y 1)

/-- What a grid point of the first group leaves. -/
theorem outA (t : Fin cfg1.N) (h : t.val < 8) (l : Fin 1024) (j : Fin 512) (k : Fin 8704) (hk : k.val = 512 * t.val + j.val) :
    outsAt1 V c t.val t.isLt (ix2 l j) = gw V c (ix2 l k) := by
  rw [outsAt1_A V c t h (by omega) (by omega)]
  unfold out1_A_4
  rw [View.read_writes_junk_eq_canon]
  unfold kernelRun1_A
  dsimp only
  sl_unfold_words
  simp only [View.readAt_eq_ld, (hs1_0 t).read_unread, (hs1_1 t).read_unread]
  simp only [View.ld_unit_zero (Val := Elt Ideal) (S := S1024x4096) (off := ![0,0]) (by decide),
    View.ld_unit_zero (Val := Elt Ideal) (S := S4096x512) (off := ![0,0]) (by decide)]
  rw [View.canon_unit_zero (S := S1024x512) (off := ![0,0]) (by decide), mul1]
  unfold gw
  simp only [blkH, blkA V c t h _ j k hk]
  rfl

/-- What a grid point of the second group leaves. -/
theorem outB (t : Fin cfg1.N) (h : 8 ≤ t.val ∧ t.val ≤ 12) (l : Fin 1024) (j : Fin 512) (k : Fin 8704) (hk : k.val = 512 * t.val + j.val) :
    outsAt1 V c t.val t.isLt (ix2 l j) = gw V c (ix2 l k) := by
  rw [outsAt1_B V c t (by omega) (by omega) (by omega)]
  unfold out1_B_4
  rw [View.read_writes_junk_eq_canon]
  unfold kernelRun1_B
  dsimp only
  sl_unfold_words
  simp only [View.readAt_eq_ld, (hs1_0 t).read_unread, (hs1_2 t).read_unread]
  simp only [View.ld_unit_zero (Val := Elt Ideal) (S := S1024x4096) (off := ![0,0]) (by decide),
    View.ld_unit_zero (Val := Elt Ideal) (S := S4096x512) (off := ![0,0]) (by decide)]
  rw [View.canon_unit_zero (S := S1024x512) (off := ![0,0]) (by decide), mul2]
  unfold gw
  simp only [blkH, blkB V c t h _ j k hk]
  rfl

/-- What a grid point of the third group leaves. -/
theorem outC (t : Fin cfg1.N) (h : 13 ≤ t.val) (l : Fin 1024) (j : Fin 512) (k : Fin 8704) (hk : k.val = 512 * t.val + j.val) :
    outsAt1 V c t.val t.isLt (ix2 l j) = gw V c (ix2 l k) := by
  have ht : t.val < 17 := lt_of_lt_of_eq t.isLt (show cfg1.N = 17 from N_1)
  rw [outsAt1_C V c t (by omega) (by omega) (by omega)]
  unfold out1_C_4
  rw [View.read_writes_junk_eq_canon]
  unfold kernelRun1_C
  dsimp only
  sl_unfold_words
  simp only [View.readAt_eq_ld, (hs1_0 t).read_unread, (hs1_3 t).read_unread]
  simp only [View.ld_unit_zero (Val := Elt Ideal) (S := S1024x4096) (off := ![0,0]) (by decide),
    View.ld_unit_zero (Val := Elt Ideal) (S := S4096x512) (off := ![0,0]) (by decide)]
  rw [View.canon_unit_zero (S := S1024x512) (off := ![0,0]) (by decide), mul3]
  unfold gw
  simp only [blkH, blkC V c t h _ j k hk]
  rfl

/-- What any grid point leaves. -/
theorem outs (t : Fin cfg1.N) (l : Fin 1024) (j : Fin 512) (k : Fin 8704) (hk : k.val = 512 * t.val + j.val) :
    outsAt1 V c t.val t.isLt (ix2 l j) = gw V c (ix2 l k) := by
  by_cases h : t.val < 8
  · exact outA V c t h l j k hk
  · by_cases h' : t.val ≤ 12
    · exact outB V c t ⟨by omega, h'⟩ l j k hk
    · exact outC V c t (by omega) l j k hk

/-- Which point's block of the weights' gradient holds an index. -/
theorem cover4 (i : S1024x8704.Idx) (t : Fin cfg1.N) (ht : t.val = (i 1).val / 512) : i ∈ ((View.whole main_v1).slice (win1_4.rect t)).set := by
  have h0 : (i 0 : ℕ) < 1024 := (i 0).isLt
  have h1 : (i 1 : ℕ) < 8704 := (i 1).isLt
  have hi := (idxs1 t).2.2.2.2
  rw [View.set_slice_whole, Rect.mem_set_unit]
  intro a
  match a with
  | ⟨0, _⟩ =>
    show win1_4.index t 0 * 1024 ≤ (i 0 : ℕ) ∧ (i 0 : ℕ) < win1_4.index t 0 * 1024 + 1024
    rw [hi.1]; omega
  | ⟨1, _⟩ =>
    show win1_4.index t 1 * 512 ≤ (i 1 : ℕ) ∧ (i 1 : ℕ) < win1_4.index t 1 * 512 + 512
    rw [hi.2]; omega

/-- The second call leaves the gradient of the weights. -/
theorem final1 : (dat1 V c).arrAt 4 cfg1.N = gw V c := by
  have hN : cfg1.N = 17 := N_1
  refine (dat1 V c).arrAt_eq_of_cover 4 (gw V c) (fun t hf => ?_) (fun i => ?_)
  · have hfl : (dat1 V c).flushed 4 t = (cfg1.win 4).cut (grid1.coords t) (outsAt1 V c t.val t.isLt) := by
      show (cfg1.win 4).cut (grid1.coords t) ((dat1 V c).after 4 t) = _
      rw [after1_4]
    rw [hfl]
    have hi := (idxs1 t).2.2.2.2
    have ht : t.val < 17 := lt_of_lt_of_eq t.isLt hN
    funext y
    rw [View.read_apply]
    show outsAt1 V c t.val t.isLt _ = gw V c _
    have e0 : ((((cfg1.win 4).blk t).view.emb y) 0).val = win1_4.index t 0 * 1024 + 1 * (y 0).val := rfl
    have e1 : ((((cfg1.win 4).blk t).view.emb y) 1).val = win1_4.index t 1 * 512 + 1 * (y 1).val := rfl
    have h0 : (y 0).val < 1024 := (y 0).isLt
    have h1 : (y 1).val < 512 := (y 1).isLt
    have hy : (cfg1.win 4).xinj (grid1.coords t) y = ix2 (n0 := 1024) (n1 := 512) ⟨(y 0).val, h0⟩ ⟨(y 1).val, h1⟩ := by
      funext a
      match a with
      | ⟨0, _⟩ => rfl
      | ⟨1, _⟩ => rfl
    rw [hy, outs V c t ⟨(y 0).val, h0⟩ ⟨(y 1).val, h1⟩ ⟨512 * t.val + (y 1).val, by omega⟩ rfl]
    congr 1
    funext a
    apply Fin.ext
    match a with
    | ⟨0, _⟩ => exact (show (y 0).val = win1_4.index t 0 * 1024 + 1 * (y 0).val by rw [hi.1]; omega).trans e0.symm
    | ⟨1, _⟩ => exact (show 512 * t.val + (y 1).val = win1_4.index t 1 * 512 + 1 * (y 1).val by rw [hi.2]; omega).trans e1.symm
  · have h1 : (i 1 : ℕ) < 8704 := (i 1).isLt
    exact ⟨⟨(i 1).val / 512, by rw [hN]; omega⟩, flush1_4 _, cover4 i _ rfl⟩

end Cert.Wgr
-- ==== Proof.Wgr.Run.lean ====
module

public import proofs.«01_k».proof.Proof.Gen.Kernel4Ideal.Frame
public import Idealize.ShloMosaic.Lib.Pipeline.RegionsLoop
public import Idealize.ShloMosaic.Lib.Tactic
public import proofs.«01_k».proof.Proof.Wgr.Rows
public import proofs.«01_k».proof.Proof.Wgr.Mul

@[expose] public section

noncomputable section

namespace Cert.Wgr

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The run ends with every array at what the two calls leave it. -/
theorem run : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

variable (c : Dev nD)

/-- The input of the norm. -/
abbrev arrX : S4096x1024.Idx → EReal := m ((c : Thread nD τ).loc main_arg0)
/-- The gain. -/
abbrev arrG : S1x1024.Idx → EReal := m ((c : Thread nD τ).loc main_arg1)
/-- The first column group of the incoming gradient. -/
abbrev arrA : S4096x4096.Idx → EReal := m ((c : Thread nD τ).loc main_arg2)
/-- The second column group of the incoming gradient. -/
abbrev arrB : S4096x2560.Idx → EReal := m ((c : Thread nD τ).loc main_arg3)
/-- The third column group of the incoming gradient. -/
abbrev arrC : S4096x2048.Idx → EReal := m ((c : Thread nD τ).loc main_arg4)

/-- The gradient of the projection's weights, from the arrays the program is given. -/
def grad (x : S4096x1024.Idx → EReal) (g : S1x1024.Idx → EReal) (a : S4096x4096.Idx → EReal) (b : S4096x2560.Idx → EReal)
    (d : S4096x2048.Idx → EReal) : S1024x8704.Idx → EReal :=
  fun y => ∑ n : Fin 4096, nrm x g n (y 0) * du a b d n (y 1)

/-- The second call finds the transposed rows the first one left. -/
theorem second : inH (V1 m ρ) c = hT (V0 m ρ) c := (W1_arr m ρ c 3).trans (final0 (V0 m ρ) c)

/-- The result array after the run. -/
theorem result : (W2 m ρ c (Proc.devRef .tc main_v1) : S1024x8704.Idx → EReal) = grad (arrX m c) (arrG m c) (arrA m c) (arrB m c) (arrC m c) := by
  refine ((W2_arr m ρ c 4).trans (final1 (V1 m ρ) c)).trans ?_
  have ea : inA (V1 m ρ) c = arrA m c := W1_args m ρ c main_arg2 (by decide)
  have eb : inB (V1 m ρ) c = arrB m c := W1_args m ρ c main_arg3 (by decide)
  have ec : inC (V1 m ρ) c = arrC m c := W1_args m ρ c main_arg4 (by decide)
  unfold gw
  rw [second, ea, eb, ec]
  rfl

end Cert.Wgr
-- ==== Proof.Wgr.Ref.lean ====
module

public import proofs.«01_k».proof.Proof.Gen.Reference4Ideal.Read
public import proofs.«01_k».proof.Proof.Wgr.Run

@[expose] public section

noncomputable section

namespace Cert.Wgr

open Cert.Reference4Ideal Cert.Reference4Ideal.Gen Cert.Reference4Ideal.Read Idealize.ShloMosaic Idealize.ShloMosaic.TcCoe Cert.Norm

variable (x : S4096x1024.Idx → EReal) (g : S1x1024.Idx → EReal) (a : S4096x4096.Idx → EReal) (b : S4096x2560.Idx → EReal) (d : S4096x2048.Idx → EReal)

/-- The reference's normalised rows, scaled by the gain. -/
theorem r15 (n : Fin 4096) (l : Fin 1024) : val_main_v15 (F := Ideal) x g (ix2 n l) = nrm x g n l := by
  unfold val_main_v15 val_main_v12 val_main_v11 val_main_v10 val_main_v9 val_main_v8 val_main_v7 val_main_v6 val_main_v5 val_main_v4 val_main_v3
    val_main_v14 val_main_v13 val_main_v2 val_main_cst val_main_cst_0 val_main_cst_1 nrm
  pointwise

/-- The reference's incoming gradient: the three column groups side by side. -/
theorem r1 (n : Fin 4096) (j : Fin 8704) : val_main_v1 (F := Ideal) a b d (ix2 n j) = du a b d n j := by
  unfold val_main_v1 val_main_v0 du
  pointwise
  by_cases h : j.val < 4096
  · refine (dif_pos h).trans ?_
    rw [dif_pos h]
  · refine (dif_neg h).trans ?_
    rw [dif_neg h]
    by_cases h' : j.val < 6656
    · refine (dif_pos (by omega)).trans ?_
      rw [dif_pos h']
    · refine (dif_neg (by omega)).trans ?_
      rw [dif_neg h']
      exact congrArg (fun k => d (ix2 n k)) (Fin.ext (show j.val - 4096 - 2560 = j.val - 6656 by omega))

/-- The reference's product, transposed, over arbitrary factors. -/
theorem prod (u : FVec Ideal S4096x8704 .f32) (h : FVec Ideal S4096x1024 .f32) (l : Fin 1024) (j : Fin 8704) :
    transpose S1024x8704 [1, 0] (Host.dotGeneral dot_S4096x8704_S4096x1024_S8704x1024_0_0_1_1_n_n none u h) transposes_S8704x1024_S1024x8704_1_0 (ix2 l j)
      = ∑ n : Fin 4096, u (ix2 n j) * h (ix2 n l) := by
  pointwise

/-- The reference's result is the gradient the two calls compute. -/
theorem ref : val_main_v17 (F := Ideal) x g a b d = grad x g a b d := by
  funext y
  obtain ⟨l, j, rfl⟩ : ∃ l j, y = ix2 l j := ⟨y 0, y 1, by funext k; match k with | ⟨0, _⟩ => rfl | ⟨1, _⟩ => rfl⟩
  unfold val_main_v17 val_main_v16
  refine (prod _ _ l j).trans ?_
  refine Finset.sum_congr rfl fun n _ => ?_
  rw [r1, r15, mul_comm]
  rfl

end Cert.Wgr
-- ==== Proof.Wgr.Claim.lean ====
module

public import proofs.«01_k».proof.Proof.Gen.Reference4Ideal.Run
public import proofs.«01_k».proof.Proof.Gen.Reference4Ideal.Read
public import proofs.«01_k».proof.Defs
public import proofs.«01_k».proof.Proof.Wgr.Ref
public import Idealize.ShloMosaic.Lib.Claim

@[expose] public section

noncomputable section

namespace Cert.Wgr

open Cert.Kernel4Ideal Cert.Kernel4Ideal.Gen Idealize.ShloMosaic Idealize.ShloMosaic.TcCoe Idealize.SL.Sem

/-- The reference's run: it ends, its arguments stay, and it has no semaphore that could be left raised. -/
theorem frame_ref (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ fun r =>
      (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0 :=
  (θ_run Cert.Reference4Ideal.defs _ _).mono
    (fun r h => ⟨fun c => (h c).2, sem_eq_zero_of_no_sems (by decide) r.2⟩)
    (Cert.Reference4Ideal.Value.run m g)

/-- The two calls and the gradient of the plain lines end with equal results. -/
theorem algebraic : algebraic_Kernel4Ideal_Reference4Ideal := by
  intro m g m' g' hpre hargs
  refine ⟨fun c => grad (arrX m c) (arrG m c) (arrA m c) (arrB m c) (arrC m c), ?_, ?_⟩
  · refine (θ_run _ _ _).mono (fun r h c => ?_) (run m g)
    exact ⟨(h c _ (mem_uc main_v1 (by decide))).trans (result m g c),
      (h c _ (mem_uc main_arg0 (by decide))).trans (W2_main_arg0 m g c),
      (h c _ (mem_uc main_arg1 (by decide))).trans (W2_main_arg1 m g c),
      (h c _ (mem_uc main_arg2 (by decide))).trans (W2_main_arg2 m g c),
      (h c _ (mem_uc main_arg3 (by decide))).trans (W2_main_arg3 m g c),
      (h c _ (mem_uc main_arg4 (by decide))).trans (W2_main_arg4 m g c)⟩
  · refine (θ_run _ _ _).mono (fun r h c => ?_) (Cert.Reference4Ideal.Value.run m' g')
    obtain ⟨e0, e1⟩ := h c
    obtain ⟨a0, a1, a2, a3, a4⟩ := hargs c
    refine ⟨e0.trans ((Cert.Reference4Ideal.Read.val_main_v17_eq _ _ _ _ _).trans ?_), e1⟩
    rw [a0, a1, a2, a3, a4]
    exact ref (arrX m c) (arrG m c) (arrA m c) (arrB m c) (arrC m c)

end Cert.Wgr
-- ==== Proof.Mrg.Spec.lean ====
module

public import proofs.«01_k».proof.Proof.Gen.Kernel3Ideal.Skeleton
public import Idealize.ShloMosaic.Lib.Pointwise

@[expose] public section

noncomputable section

namespace Cert.Mrg

open Cert.Kernel3Ideal Cert.Kernel3Ideal.Gen Idealize.ShloMosaic Idealize.ShloMosaic.TcCoe Idealize.SL.Sem

/-- Equal factors in both terms of a sum. -/
theorem two_terms {a b s s' t t' : EReal} (h : s = s') (h' : t = t') : a * s + b * t = a * s' + b * t' := by rw [h, h']

/-- An equal second term of a sum. -/
theorem second_term {a s s' : EReal} (h : s = s') : a + s = a + s' := by rw [h]

/-- An equal second factor. -/
theorem second_factor {a s s' : EReal} (h : s = s') : a * s = a * s' := by rw [h]

/-- A column of the first half. -/
def lo (j : Fin 1024) : Fin 2048 := ⟨j.val, by omega⟩
/-- A column of the second half. -/
def hi (j : Fin 1024) : Fin 2048 := ⟨j.val + 1024, by omega⟩

/-- Rows times one of the three weight matrices. -/
def mm (a : S4096x1024.Idx → EReal) (w : S3x1024x1024.Idx → EReal) (k : Fin 3) (n : Fin 4096) (j : Fin 1024) : EReal :=
  ∑ i : Fin 1024, a (ix2 n i) * w (ix3 k i j)

/-- Rows times the transpose of one of the three weight matrices. -/
def mmT (a : S4096x1024.Idx → EReal) (w : S3x1024x1024.Idx → EReal) (k : Fin 3) (n : Fin 4096) (i : Fin 1024) : EReal :=
  ∑ j : Fin 1024, a (ix2 n j) * w (ix3 k i j)

/-- The logistic gate of a score. -/
def sig1 (z : EReal) : EReal := Ideal.div 1 (1 + Ideal.exp (0 - z))

/-- The first branch's gate. -/
def gA (u : S4096x2048.Idx → EReal) (b : S1x2048.Idx → EReal) (n : Fin 4096) (j : Fin 1024) : EReal :=
  sig1 (u (ix2 n (lo j)) + b (ix2 0 (lo j)))

/-- The second branch's gate. -/
def gB (u : S4096x2048.Idx → EReal) (b : S1x2048.Idx → EReal) (n : Fin 4096) (j : Fin 1024) : EReal :=
  sig1 (u (ix2 n (hi j)) + b (ix2 0 (hi j)))

/-- A function of a row and a column, as an array. -/
def arr (f : Fin 4096 → Fin 1024 → EReal) : S4096x1024.Idx → EReal := fun y => f (y 0) (y 1)

/-- The gated sum of the two projected branches. -/
def mrg (p q : S4096x1024.Idx → EReal) (u : S4096x2048.Idx → EReal) (b : S1x2048.Idx → EReal) (w : S3x1024x1024.Idx → EReal)
    (n : Fin 4096) (j : Fin 1024) : EReal :=
  gA u b n j * mm p w 0 n j + gB u b n j * mm q w 1 n j

/-- The input rows with the merged branches' projection added. -/
def nxt (x p q : S4096x1024.Idx → EReal) (u : S4096x2048.Idx → EReal) (b : S1x2048.Idx → EReal) (w : S3x1024x1024.Idx → EReal)
    (n : Fin 4096) (j : Fin 1024) : EReal :=
  x (ix2 n j) + mm (arr (mrg p q u b w)) w 2 n j

/-- A gated gradient of the merged rows, first branch. -/
def dA (d : S4096x1024.Idx → EReal) (u : S4096x2048.Idx → EReal) (b : S1x2048.Idx → EReal) (w : S3x1024x1024.Idx → EReal)
    (n : Fin 4096) (j : Fin 1024) : EReal :=
  gA u b n j * mmT d w 2 n j

/-- A gated gradient of the merged rows, second branch. -/
def dB (d : S4096x1024.Idx → EReal) (u : S4096x2048.Idx → EReal) (b : S1x2048.Idx → EReal) (w : S3x1024x1024.Idx → EReal)
    (n : Fin 4096) (j : Fin 1024) : EReal :=
  gB u b n j * mmT d w 2 n j

/-- The gradient of the scores: the gradient of the merged rows times the projected branch, times the gate's slope. -/
def dU (d y z : S4096x1024.Idx → EReal) (u : S4096x2048.Idx → EReal) (b : S1x2048.Idx → EReal) (w : S3x1024x1024.Idx → EReal)
    (n : Fin 4096) (j : Fin 2048) : EReal :=
  if h : j.val < 1024 then (y (ix2 n ⟨j.val, h⟩) * mmT d w 2 n ⟨j.val, h⟩) * (gA u b n ⟨j.val, h⟩ * (1 - gA u b n ⟨j.val, h⟩))
  else (z (ix2 n ⟨j.val - 1024, by omega⟩) * mmT d w 2 n ⟨j.val - 1024, by omega⟩)
    * (gB u b n ⟨j.val - 1024, by omega⟩ * (1 - gB u b n ⟨j.val - 1024, by omega⟩))

/-- Every column lies in one of the halves. -/
theorem lo_or_hi (k : Fin 2048) : (∃ j, k = lo j) ∨ (∃ j, k = hi j) := by
  by_cases h : k.val < 1024
  · exact Or.inl ⟨⟨k.val, h⟩, rfl⟩
  · exact Or.inr ⟨⟨k.val - 1024, by omega⟩, Fin.ext (show k.val = k.val - 1024 + 1024 by omega)⟩

/-- The gradient of the scores in the first half. -/
theorem dU_lo (d y z : S4096x1024.Idx → EReal) (u : S4096x2048.Idx → EReal) (b : S1x2048.Idx → EReal) (w : S3x1024x1024.Idx → EReal)
    (n : Fin 4096) (j : Fin 1024) :
    dU d y z u b w n (lo j) = (y (ix2 n j) * mmT d w 2 n j) * (gA u b n j * (1 - gA u b n j)) := dif_pos j.isLt

/-- The gradient of the scores in the second half. -/
theorem dU_hi (d y z : S4096x1024.Idx → EReal) (u : S4096x2048.Idx → EReal) (b : S1x2048.Idx → EReal) (w : S3x1024x1024.Idx → EReal)
    (n : Fin 4096) (j : Fin 1024) :
    dU d y z u b w n (hi j) = (z (ix2 n j) * mmT d w 2 n j) * (gB u b n j * (1 - gB u b n j)) := by
  have e : (⟨(hi j).val - 1024, by have := (hi j).isLt; omega⟩ : Fin 1024) = j := Fin.ext (Nat.add_sub_cancel _ _)
  unfold dU
  rw [dif_neg (show ¬(hi j).val < 1024 from Nat.not_lt.2 (Nat.le_add_left _ _)), e]

/-- A row of the scores' gradient, by its number. -/
def row (f : Fin 4096 → Fin 2048 → EReal) (j : Fin 2048) (n : ℕ) : EReal := if h : n < 4096 then f ⟨n, h⟩ j else 0

/-- A function of a row and a column of the wide array, as an array. -/
def arr2 (f : Fin 4096 → Fin 2048 → EReal) : S4096x2048.Idx → EReal := fun y => f (y 0) (y 1)

/-- The sums over every eighth row, in blocks of rows. -/
def parts (f : Fin 4096 → Fin 2048 → EReal) : S8x2048.Idx → EReal := fun y =>
  ∑ t ∈ Finset.range 8, ∑ q : Fin 64, row f (y 1) (512 * t + (q.val * 8 + (y 0).val))

/-- A row's share of a weight gradient, by the row's number. -/
def part (a b : S4096x1024.Idx → EReal) (i j : Fin 1024) (n : ℕ) : EReal :=
  if h : n < 4096 then a (ix2 ⟨n, h⟩ i) * b (ix2 ⟨n, h⟩ j) else 0

/-- A weight gradient: the sum over all rows. -/
def wsum (a b : S4096x1024.Idx → EReal) (i j : Fin 1024) : EReal := ∑ n : Fin 4096, a (ix2 n i) * b (ix2 n j)

/-- The three weight gradients, one above the other. -/
def wgr (a0 b0 a1 b1 a2 b2 : S4096x1024.Idx → EReal) : S3x1024x1024.Idx → EReal := fun y =>
  if (y 0).val = 0 then wsum a0 b0 (y 1) (y 2) else if (y 0).val = 1 then wsum a1 b1 (y 1) (y 2) else wsum a2 b2 (y 1) (y 2)

/-- A sum over consecutive numbers, in blocks. -/
theorem sum_blocks (f : ℕ → EReal) (a b : ℕ) : ∑ n ∈ Finset.range (b * a), f n = ∑ i ∈ Finset.range a, ∑ j ∈ Finset.range b, f (b * i + j) := by
  induction a with
  | zero => simp
  | succ a ih => rw [Nat.mul_succ, Finset.sum_range_add, ih, Finset.sum_range_succ]

/-- A weight gradient, in blocks of rows. -/
theorem wsum_eq (a b : S4096x1024.Idx → EReal) (i j : Fin 1024) :
    ∑ t ∈ Finset.range 8, ∑ s : Fin 512, part a b i j (512 * t + s.val) = wsum a b i j := by
  have e : ∑ n ∈ Finset.range (512 * 8), part a b i j n = wsum a b i j := by
    rw [Finset.sum_range]
    exact Finset.sum_congr rfl fun n _ => dif_pos n.isLt
  rw [← e, sum_blocks]
  exact Finset.sum_congr rfl fun t _ => (Finset.sum_range (fun s => part a b i j (512 * t + s))).symm

/-- The eight partial sums add up to the sum over all rows. -/
theorem parts_eq (f : Fin 4096 → Fin 2048 → EReal) (j : Fin 2048) : ∑ k : Fin 8, parts f (ix2 k j) = ∑ n : Fin 4096, f n j := by
  have e : ∑ n ∈ Finset.range (512 * 8), row f j n = ∑ n : Fin 4096, f n j := by
    rw [Finset.sum_range]
    exact Finset.sum_congr rfl fun n _ => dif_pos n.isLt
  rw [← e, sum_blocks]
  unfold parts
  rw [Finset.sum_comm]
  refine Finset.sum_congr rfl fun t _ => ?_
  rw [Finset.sum_comm, show 512 = 8 * 64 from rfl, sum_blocks (fun m => row f j (8 * 64 * t + m)) 64 8, Finset.sum_range]
  refine Finset.sum_congr rfl fun q _ => ?_
  rw [Finset.sum_range]
  exact Finset.sum_congr rfl fun k _ => by rw [Nat.mul_comm q.val 8]; rfl

end Cert.Mrg
-- ==== Proof.Mrg.Pay.lean ====
module

public import proofs.«01_k».proof.Proof.Mrg.Spec

@[expose] public section

noncomputable section

namespace Cert.Mrg

open Cert.Kernel3Ideal Cert.Kernel3Ideal.Gen Idealize.ShloMosaic Idealize.ShloMosaic.TcCoe Idealize.SL.Sem

/-- The first projection of a block of rows. -/
theorem pay0_5 (v : Vec Ideal S512x1024 .bf16) (w : Vec Ideal S1x1024x1024 .bf16) (r : Fin 512) (j : Fin 1024) :
    k0_pay5 (F := Ideal) v w (ix2 r j) = ∑ i : Fin 1024, v (ix2 r i) * w (ix3 0 i j) := by
  unfold k0_pay5
  pointwise

/-- The second projection of a block of rows. -/
theorem pay0_6 (v : Vec Ideal S512x1024 .bf16) (w : Vec Ideal S1x1024x1024 .bf16) (r : Fin 512) (j : Fin 1024) :
    k0_pay6 (F := Ideal) v w (ix2 r j) = ∑ i : Fin 1024, v (ix2 r i) * w (ix3 0 i j) := by
  unfold k0_pay6
  pointwise

/-- The first gate of a block of rows. -/
theorem pay1_5 (b : Vec Ideal S1x2048 .f32) (u : Vec Ideal S512x1024 .bf16) (r : Fin 512) (j : Fin 1024) :
    k1_pay5 (F := Ideal) b u (ix2 r j) = sig1 (u (ix2 r j) + b (ix2 0 (lo j))) := by
  unfold k1_pay5 sig1
  pointwise
  rfl

/-- The second gate of a block of rows. -/
theorem pay1_6 (b : Vec Ideal S1x2048 .f32) (u : Vec Ideal S512x1024 .bf16) (r : Fin 512) (j : Fin 1024) :
    k1_pay6 (F := Ideal) b u (ix2 r j) = sig1 (u (ix2 r j) + b (ix2 0 (hi j))) := by
  unfold k1_pay6 sig1
  pointwise
  have e : (⟨1024 + j.val, by omega⟩ : Fin 2048) = hi j := Fin.ext (Nat.add_comm _ _)
  rw [e]

/-- The first gate in the forward call. -/
theorem pay0_7 (v : Vec Ideal S512x1024 .bf16) (w : Vec Ideal S1x1024x1024 .bf16) (b : Vec Ideal S1x2048 .f32) (u : Vec Ideal S512x1024 .bf16)
    (r : Fin 512) (j : Fin 1024) :
    k0_pay7 (F := Ideal) v w b u (ix2 r j) = sig1 (u (ix2 r j) + b (ix2 0 (lo j))) * ∑ i : Fin 1024, v (ix2 r i) * w (ix3 0 i j) := by
  rw [← pay0_5, ← pay1_5]
  unfold k0_pay7 k1_pay5
  rfl

/-- The second gate in the forward call. -/
theorem pay0_8 (v : Vec Ideal S512x1024 .bf16) (w : Vec Ideal S1x1024x1024 .bf16) (b : Vec Ideal S1x2048 .f32) (u : Vec Ideal S512x1024 .bf16)
    (r : Fin 512) (j : Fin 1024) :
    k0_pay8 (F := Ideal) v w b u (ix2 r j) = sig1 (u (ix2 r j) + b (ix2 0 (hi j))) * ∑ i : Fin 1024, v (ix2 r i) * w (ix3 0 i j) := by
  rw [← pay0_6, ← pay1_6]
  unfold k0_pay8 k1_pay6
  rfl

/-- The merge of the two gated projections. -/
theorem pay0_1 (p q : Vec Ideal S512x1024 .f32) (r : Fin 512) (j : Fin 1024) :
    k0_pay1 (F := Ideal) p q (ix2 r j) = p (ix2 r j) + q (ix2 r j) := by
  unfold k0_pay1
  pointwise

/-- The merged rows through the output projection, added to the input rows. -/
theorem pay0_4 (p q x : Vec Ideal S512x1024 .f32) (w : Vec Ideal S1x1024x1024 .bf16) (r : Fin 512) (j : Fin 1024) :
    k0_pay4 (F := Ideal) p q x w (ix2 r j) = x (ix2 r j) + ∑ i : Fin 1024, k0_pay1 (F := Ideal) p q (ix2 r i) * w (ix3 0 i j) := by
  unfold k0_pay4
  generalize k0_pay1 (F := Ideal) p q = z
  pointwise

/-- The gradient of the merged rows. -/
theorem pay1_4 (d : Vec Ideal S512x1024 .f32) (w : Vec Ideal S1x1024x1024 .bf16) (r : Fin 512) (i : Fin 1024) :
    k1_pay4 (F := Ideal) d w (ix2 r i) = ∑ j : Fin 1024, d (ix2 r j) * w (ix3 0 i j) := by
  unfold k1_pay4
  pointwise

/-- The gradient of the first projected rows. -/
theorem pay1_7 (d : Vec Ideal S512x1024 .f32) (w : Vec Ideal S1x1024x1024 .bf16) (b : Vec Ideal S1x2048 .f32) (u : Vec Ideal S512x1024 .bf16)
    (r : Fin 512) (i : Fin 1024) :
    k1_pay7 (F := Ideal) d w b u (ix2 r i) = sig1 (u (ix2 r i) + b (ix2 0 (lo i))) * ∑ j : Fin 1024, d (ix2 r j) * w (ix3 0 i j) := by
  rw [← pay1_4, ← pay1_5]
  unfold k1_pay7
  pointwise

/-- The gradient of the second projected rows. -/
theorem pay1_8 (d : Vec Ideal S512x1024 .f32) (w : Vec Ideal S1x1024x1024 .bf16) (b : Vec Ideal S1x2048 .f32) (u : Vec Ideal S512x1024 .bf16)
    (r : Fin 512) (i : Fin 1024) :
    k1_pay8 (F := Ideal) d w b u (ix2 r i) = sig1 (u (ix2 r i) + b (ix2 0 (hi i))) * ∑ j : Fin 1024, d (ix2 r j) * w (ix3 0 i j) := by
  rw [← pay1_4, ← pay1_6]
  unfold k1_pay8
  pointwise

/-- The gradient of the first branch's input. -/
theorem pay1_1 (d : Vec Ideal S512x1024 .bf16) (w : Vec Ideal S1x1024x1024 .bf16) (r : Fin 512) (i : Fin 1024) :
    k1_pay1 (F := Ideal) d w (ix2 r i) = ∑ j : Fin 1024, d (ix2 r j) * w (ix3 0 i j) := by
  unfold k1_pay1
  pointwise

/-- The gradient of the second branch's input. -/
theorem pay1_2 (d : Vec Ideal S512x1024 .bf16) (w : Vec Ideal S1x1024x1024 .bf16) (r : Fin 512) (i : Fin 1024) :
    k1_pay2 (F := Ideal) d w (ix2 r i) = ∑ j : Fin 1024, d (ix2 r j) * w (ix3 0 i j) := by
  unfold k1_pay2
  pointwise

/-- The first half of the scores' gradient. -/
theorem pay1_9 (m g : Vec Ideal S512x1024 .f32) (y : Vec Ideal S512x1024 .bf16) (r : Fin 512) (j : Fin 1024) :
    k1_pay9 (F := Ideal) m g y (ix2 r j) = (y (ix2 r j) * m (ix2 r j)) * (g (ix2 r j) * (1 - g (ix2 r j))) := by
  unfold k1_pay9
  pointwise

/-- The second half of the scores' gradient. -/
theorem pay1_10 (m g : Vec Ideal S512x1024 .f32) (y : Vec Ideal S512x1024 .bf16) (r : Fin 512) (j : Fin 1024) :
    k1_pay10 (F := Ideal) m g y (ix2 r j) = (y (ix2 r j) * m (ix2 r j)) * (g (ix2 r j) * (1 - g (ix2 r j))) := by
  unfold k1_pay10
  pointwise

/-- The first half, as stored. -/
theorem pay1_11 (m g : Vec Ideal S512x1024 .f32) (y : Vec Ideal S512x1024 .bf16) (r : Fin 512) (j : Fin 1024) :
    k1_pay11 (F := Ideal) m g y (ix2 r j) = (y (ix2 r j) * m (ix2 r j)) * (g (ix2 r j) * (1 - g (ix2 r j))) := by
  rw [← pay1_9]
  unfold k1_pay11
  pointwise

/-- The second half, as stored. -/
theorem pay1_12 (m g : Vec Ideal S512x1024 .f32) (y : Vec Ideal S512x1024 .bf16) (r : Fin 512) (j : Fin 1024) :
    k1_pay12 (F := Ideal) m g y (ix2 r j) = (y (ix2 r j) * m (ix2 r j)) * (g (ix2 r j) * (1 - g (ix2 r j))) := by
  rw [← pay1_10]
  unfold k1_pay12
  pointwise

/-- The first half, summed over rows eight apart and added to what was there. -/
theorem pay1_13 (m g : Vec Ideal S512x1024 .f32) (y : Vec Ideal S512x1024 .bf16) (a : Vec Ideal S8x1024 .f32) (s : Fin 8) (j : Fin 1024) :
    k1_pay13 (F := Ideal) m g y a (ix2 s j) = a (ix2 s j) + ∑ q : Fin 64, k1_pay9 (F := Ideal) m g y (ix2 ⟨q.val * 8 + s.val, by omega⟩ j) := by
  unfold k1_pay13
  generalize k1_pay9 (F := Ideal) m g y = z
  pointwise

/-- The second half, summed over rows eight apart and added to what was there. -/
theorem pay1_14 (m g : Vec Ideal S512x1024 .f32) (y : Vec Ideal S512x1024 .bf16) (a : Vec Ideal S8x1024 .f32) (s : Fin 8) (j : Fin 1024) :
    k1_pay14 (F := Ideal) m g y a (ix2 s j) = a (ix2 s j) + ∑ q : Fin 64, k1_pay10 (F := Ideal) m g y (ix2 ⟨q.val * 8 + s.val, by omega⟩ j) := by
  unfold k1_pay14
  generalize k1_pay10 (F := Ideal) m g y = z
  pointwise

/-- One block of rows' share of the first weight gradient. -/
theorem pay2_3 (a : Vec Ideal S1x1024x1024 .f32) (x y : Vec Ideal S512x1024 .bf16) (k : Fin 1) (i j : Fin 1024) :
    k2_pay3 (F := Ideal) a x y (ix3 k i j) = a (ix3 0 i j) + ∑ n : Fin 512, x (ix2 n i) * y (ix2 n j) := by
  unfold k2_pay3
  pointwise

/-- One block of rows' share of the second weight gradient. -/
theorem pay2_4 (a : Vec Ideal S1x1024x1024 .f32) (x y : Vec Ideal S512x1024 .bf16) (k : Fin 1) (i j : Fin 1024) :
    k2_pay4 (F := Ideal) a x y (ix3 k i j) = a (ix3 0 i j) + ∑ n : Fin 512, x (ix2 n i) * y (ix2 n j) := by
  unfold k2_pay4
  pointwise

/-- One block of rows' share of the third weight gradient. -/
theorem pay2_1 (a : Vec Ideal S1x1024x1024 .f32) (x : Vec Ideal S512x1024 .bf16) (y : Vec Ideal S512x1024 .f32) (k : Fin 1) (i j : Fin 1024) :
    k2_pay1 (F := Ideal) (k2_pay5 (F := Ideal) a) (k2_pay6 (F := Ideal) x) y (ix3 k i j) = a (ix3 0 i j) + ∑ n : Fin 512, x (ix2 n i) * y (ix2 n j) := by
  unfold k2_pay1 k2_pay5 k2_pay6
  pointwise

/-- The cleared accumulator. -/
theorem pay2_2 (y : S3x1024x1024.Idx) : k2_pay2 (F := Ideal) y = 0 := by
  unfold k2_pay2
  pointwise

/-- The cleared accumulator of the bias. -/
theorem pay1_3 (y : S8x2048.Idx) : k1_pay3 (F := Ideal) y = 0 := by
  unfold k1_pay3
  pointwise

end Cert.Mrg
-- ==== Proof.Mrg.Fwd.lean ====
module

public import proofs.«01_k».proof.Proof.Gen.Kernel3Ideal.Frame
public import Idealize.ShloMosaic.Lib.Pipeline.ReadBack
public import Idealize.ShloMosaic.Lib.Pipeline.ValueKit.Tiles
public import proofs.«01_k».proof.Proof.Mrg.Pay

@[expose] public section

noncomputable section

namespace Cert.Mrg

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b)) (c : Dev nD)

/-- Where each window's block lies at a grid point. -/
theorem idxs0 : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 1) ∧ (win0_5.index t 0 = 0 ∧ win0_5.index t 1 = 0) ∧ (win0_6.index t 0 = 0 ∧ win0_6.index t 1 = 0 ∧ win0_6.index t 2 = 0) ∧ (win0_7.index t 0 = 1 ∧ win0_7.index t 1 = 0 ∧ win0_7.index t 2 = 0) ∧ (win0_8.index t 0 = 2 ∧ win0_8.index t 1 = 0 ∧ win0_8.index t 2 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 1) ∧ (win0_5.index t 0 = 0 ∧ win0_5.index t 1 = 0) ∧ (win0_6.index t 0 = 0 ∧ win0_6.index t 1 = 0 ∧ win0_6.index t 2 = 0) ∧ (win0_7.index t 0 = 1 ∧ win0_7.index t 1 = 0 ∧ win0_7.index t 2 = 0) ∧ (win0_8.index t 0 = 2 ∧ win0_8.index t 1 = 0 ∧ win0_8.index t 2 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0))

/-- The input rows a point reads. -/
theorem blk0x (t : Fin cfg0.N) (n : Fin 4096) (r : Fin 512) (j : Fin 1024) (hn : n.val = 512 * t.val + r.val) :
    (iblk0 V c 0 t : Vec Ideal S512x1024 .f32) (ix2 r j) = (V c main_arg0 : S4096x1024.Idx → EReal) (ix2 n j) := by
  have hi := (idxs0 t).1
  unfold iblk0
  rw [View.read_apply]
  show V c main_arg0 _ = V c main_arg0 _
  congr 1
  funext a
  apply Fin.ext
  match a with
  | ⟨0, _⟩ => show win0_0.index t 0 * 512 + 1 * r.val = n.val; rw [hi.1]; omega
  | ⟨1, _⟩ => show win0_0.index t 1 * 1024 + 1 * j.val = j.val; rw [hi.2]; omega

/-- The first branch's rows a point reads. -/
theorem blk0p (t : Fin cfg0.N) (n : Fin 4096) (r : Fin 512) (j : Fin 1024) (hn : n.val = 512 * t.val + r.val) :
    (iblk0 V c 1 t : Vec Ideal S512x1024 .bf16) (ix2 r j) = (V c main_arg1 : S4096x1024.Idx → EReal) (ix2 n j) := by
  have hi := (idxs0 t).2.1
  unfold iblk0
  rw [View.read_apply]
  show V c main_arg1 _ = V c main_arg1 _
  congr 1
  funext a
  apply Fin.ext
  match a with
  | ⟨0, _⟩ => show win0_1.index t 0 * 512 + 1 * r.val = n.val; rw [hi.1]; omega
  | ⟨1, _⟩ => show win0_1.index t 1 * 1024 + 1 * j.val = j.val; rw [hi.2]; omega

/-- The second branch's rows a point reads. -/
theorem blk0q (t : Fin cfg0.N) (n : Fin 4096) (r : Fin 512) (j : Fin 1024) (hn : n.val = 512 * t.val + r.val) :
    (iblk0 V c 2 t : Vec Ideal S512x1024 .bf16) (ix2 r j) = (V c main_arg2 : S4096x1024.Idx → EReal) (ix2 n j) := by
  have hi := (idxs0 t).2.2.1
  unfold iblk0
  rw [View.read_apply]
  show V c main_arg2 _ = V c main_arg2 _
  congr 1
  funext a
  apply Fin.ext
  match a with
  | ⟨0, _⟩ => show win0_2.index t 0 * 512 + 1 * r.val = n.val; rw [hi.1]; omega
  | ⟨1, _⟩ => show win0_2.index t 1 * 1024 + 1 * j.val = j.val; rw [hi.2]; omega

/-- The first half of the scores a point reads. -/
theorem blk0u (t : Fin cfg0.N) (n : Fin 4096) (r : Fin 512) (j : Fin 1024) (hn : n.val = 512 * t.val + r.val) :
    (iblk0 V c 3 t : Vec Ideal S512x1024 .bf16) (ix2 r j) = (V c main_arg3 : S4096x2048.Idx → EReal) (ix2 n (lo j)) := by
  have hi := (idxs0 t).2.2.2.1
  unfold iblk0
  rw [View.read_apply]
  show V c main_arg3 _ = V c main_arg3 _
  congr 1
  funext a
  apply Fin.ext
  match a with
  | ⟨0, _⟩ => show win0_3.index t 0 * 512 + 1 * r.val = n.val; rw [hi.1]; omega
  | ⟨1, _⟩ => show win0_3.index t 1 * 1024 + 1 * j.val = j.val; rw [hi.2]; omega

/-- The second half of the scores a point reads. -/
theorem blk0v (t : Fin cfg0.N) (n : Fin 4096) (r : Fin 512) (j : Fin 1024) (hn : n.val = 512 * t.val + r.val) :
    (iblk0 V c 4 t : Vec Ideal S512x1024 .bf16) (ix2 r j) = (V c main_arg3 : S4096x2048.Idx → EReal) (ix2 n (hi j)) := by
  have hi := (idxs0 t).2.2.2.2.1
  unfold iblk0
  rw [View.read_apply]
  show V c main_arg3 _ = V c main_arg3 _
  congr 1
  funext a
  apply Fin.ext
  match a with
  | ⟨0, _⟩ => show win0_4.index t 0 * 512 + 1 * r.val = n.val; rw [hi.1]; omega
  | ⟨1, _⟩ => show win0_4.index t 1 * 1024 + 1 * j.val = j.val + 1024; rw [hi.2]; omega

/-- The bias a point reads. -/
theorem blk0b (t : Fin cfg0.N) (j : Fin 2048) :
    (iblk0 V c 5 t : Vec Ideal S1x2048 .f32) (ix2 0 j) = (V c main_arg4 : S1x2048.Idx → EReal) (ix2 0 j) := by
  have hi := (idxs0 t).2.2.2.2.2.1
  unfold iblk0
  rw [View.read_apply]
  show V c main_arg4 _ = V c main_arg4 _
  congr 1
  funext a
  apply Fin.ext
  match a with
  | ⟨0, _⟩ => show win0_5.index t 0 * 1 + 1 * 0 = 0; rw [hi.1]
  | ⟨1, _⟩ => show win0_5.index t 1 * 2048 + 1 * j.val = j.val; rw [hi.2]; omega

/-- A weight matrix a point reads. -/
theorem blk0w0 (t : Fin cfg0.N) (i j : Fin 1024) :
    (iblk0 V c 6 t : Vec Ideal S1x1024x1024 .bf16) (ix3 0 i j) = (V c main_arg5 : S3x1024x1024.Idx → EReal) (ix3 0 i j) := by
  have hi := (idxs0 t).2.2.2.2.2.2.1
  unfold iblk0
  rw [View.read_apply]
  show V c main_arg5 _ = V c main_arg5 _
  congr 1
  funext a
  apply Fin.ext
  match a with
  | ⟨0, _⟩ => show win0_6.index t 0 * 1 + 1 * 0 = 0; rw [hi.1]
  | ⟨1, _⟩ => show win0_6.index t 1 * 1024 + 1 * i.val = i.val; rw [hi.2.1]; omega
  | ⟨2, _⟩ => show win0_6.index t 2 * 1024 + 1 * j.val = j.val; rw [hi.2.2]; omega

/-- A weight matrix a point reads. -/
theorem blk0w1 (t : Fin cfg0.N) (i j : Fin 1024) :
    (iblk0 V c 7 t : Vec Ideal S1x1024x1024 .bf16) (ix3 0 i j) = (V c main_arg5 : S3x1024x1024.Idx → EReal) (ix3 1 i j) := by
  have hi := (idxs0 t).2.2.2.2.2.2.2.1
  unfold iblk0
  rw [View.read_apply]
  show V c main_arg5 _ = V c main_arg5 _
  congr 1
  funext a
  apply Fin.ext
  match a with
  | ⟨0, _⟩ => show win0_7.index t 0 * 1 + 1 * 0 = 1; rw [hi.1]
  | ⟨1, _⟩ => show win0_7.index t 1 * 1024 + 1 * i.val = i.val; rw [hi.2.1]; omega
  | ⟨2, _⟩ => show win0_7.index t 2 * 1024 + 1 * j.val = j.val; rw [hi.2.2]; omega

/-- A weight matrix a point reads. -/
theorem blk0w2 (t : Fin cfg0.N) (i j : Fin 1024) :
    (iblk0 V c 8 t : Vec Ideal S1x1024x1024 .bf16) (ix3 0 i j) = (V c main_arg5 : S3x1024x1024.Idx → EReal) (ix3 2 i j) := by
  have hi := (idxs0 t).2.2.2.2.2.2.2.2.1
  unfold iblk0
  rw [View.read_apply]
  show V c main_arg5 _ = V c main_arg5 _
  congr 1
  funext a
  apply Fin.ext
  match a with
  | ⟨0, _⟩ => show win0_8.index t 0 * 1 + 1 * 0 = 2; rw [hi.1]
  | ⟨1, _⟩ => show win0_8.index t 1 * 1024 + 1 * i.val = i.val; rw [hi.2.1]; omega
  | ⟨2, _⟩ => show win0_8.index t 2 * 1024 + 1 * j.val = j.val; rw [hi.2.2]; omega

/-- What a point stores, as a function of the blocks it reads. -/
theorem raw0w9 (x0 : Vec Ideal S512x1024 .f32) (x1 x2 x3 x4 : Vec Ideal S512x1024 .bf16) (x5 : Vec Ideal S1x2048 .f32) (x6 x7 x8 : Vec Ideal S1x1024x1024 .bf16) :
    out0_9 (F := Ideal) x0 x1 x2 x3 x4 x5 x6 x7 x8 = k0_pay4 (F := Ideal) (k0_pay7 (F := Ideal) x1 x6 x5 x3) (k0_pay8 (F := Ideal) x2 x7 x5 x4) x0 x8 := by
  unfold out0_9 k0_pay10 k0_pay9 r0_0 r0_1 r0_2
  rw [View.canon_unit_zero (S := S512x1024) (off := ![0,0]) (by decide)]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]

/-- What a point stores, as a function of the blocks it reads. -/
theorem raw0w10 (x0 : Vec Ideal S512x1024 .f32) (x1 x2 x3 x4 : Vec Ideal S512x1024 .bf16) (x5 : Vec Ideal S1x2048 .f32) (x6 x7 x8 : Vec Ideal S1x1024x1024 .bf16) :
    out0_10 (F := Ideal) x0 x1 x2 x3 x4 x5 x6 x7 x8 = k0_pay5 (F := Ideal) x1 x6 := by
  unfold out0_10 r0_0 r0_1
  rw [View.canon_unit_zero (S := S512x1024) (off := ![0,0]) (by decide)]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  unfold k0_pay2
  rfl

/-- What a point stores, as a function of the blocks it reads. -/
theorem raw0w11 (x0 : Vec Ideal S512x1024 .f32) (x1 x2 x3 x4 : Vec Ideal S512x1024 .bf16) (x5 : Vec Ideal S1x2048 .f32) (x6 x7 x8 : Vec Ideal S1x1024x1024 .bf16) :
    out0_11 (F := Ideal) x0 x1 x2 x3 x4 x5 x6 x7 x8 = k0_pay6 (F := Ideal) x2 x7 := by
  unfold out0_11 r0_0 r0_1
  rw [View.canon_unit_zero (S := S512x1024) (off := ![0,0]) (by decide)]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  unfold k0_pay3
  rfl

/-- What a point stores, as a function of the blocks it reads. -/
theorem raw0w12 (x0 : Vec Ideal S512x1024 .f32) (x1 x2 x3 x4 : Vec Ideal S512x1024 .bf16) (x5 : Vec Ideal S1x2048 .f32) (x6 x7 x8 : Vec Ideal S1x1024x1024 .bf16) :
    out0_12 (F := Ideal) x0 x1 x2 x3 x4 x5 x6 x7 x8 = k0_pay1 (F := Ideal) (k0_pay7 (F := Ideal) x1 x6 x5 x3) (k0_pay8 (F := Ideal) x2 x7 x5 x4) := by
  unfold out0_12 k0_pay10 k0_pay9 r0_0 r0_1 r0_2
  rw [View.canon_unit_zero (S := S512x1024) (off := ![0,0]) (by decide)]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]

/-- What a point leaves of an output. -/
theorem outv0w10 (t : Fin cfg0.N) (n : Fin 4096) (r : Fin 512) (j : Fin 1024) (hn : n.val = 512 * t.val + r.val) :
    out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = arr (mm (V c main_arg1) (V c main_arg5) 0) (ix2 n j) := by
  show _ = (mm (V c main_arg1) (V c main_arg5) 0) n j
  rw [raw0w10]
  rw [pay0_5]
  unfold mm
  exact Finset.sum_congr rfl fun i _ => by rw [blk0p V c t n r i hn, blk0w0]

/-- What a point leaves of an output. -/
theorem outv0w11 (t : Fin cfg0.N) (n : Fin 4096) (r : Fin 512) (j : Fin 1024) (hn : n.val = 512 * t.val + r.val) :
    out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = arr (mm (V c main_arg2) (V c main_arg5) 1) (ix2 n j) := by
  show _ = (mm (V c main_arg2) (V c main_arg5) 1) n j
  rw [raw0w11]
  rw [pay0_6]
  unfold mm
  exact Finset.sum_congr rfl fun i _ => by rw [blk0q V c t n r i hn, blk0w1]

/-- What a point leaves of an output. -/
theorem outv0w12 (t : Fin cfg0.N) (n : Fin 4096) (r : Fin 512) (j : Fin 1024) (hn : n.val = 512 * t.val + r.val) :
    out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = arr (mrg (V c main_arg1) (V c main_arg2) (V c main_arg3) (V c main_arg4) (V c main_arg5)) (ix2 n j) := by
  show _ = (mrg (V c main_arg1) (V c main_arg2) (V c main_arg3) (V c main_arg4) (V c main_arg5)) n j
  rw [raw0w12]
  rw [pay0_1, pay0_7, pay0_8, blk0u V c t n r j hn, blk0v V c t n r j hn, blk0b, blk0b]
  unfold mrg mm gA gB
  refine two_terms ?_ ?_
  · exact Finset.sum_congr rfl fun i _ => by rw [blk0p V c t n r i hn, blk0w0]
  · exact Finset.sum_congr rfl fun i _ => by rw [blk0q V c t n r i hn, blk0w1]

/-- What a point leaves of an output. -/
theorem outv0w9 (t : Fin cfg0.N) (n : Fin 4096) (r : Fin 512) (j : Fin 1024) (hn : n.val = 512 * t.val + r.val) :
    out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = arr (nxt (V c main_arg0) (V c main_arg1) (V c main_arg2) (V c main_arg3) (V c main_arg4) (V c main_arg5)) (ix2 n j) := by
  show _ = (nxt (V c main_arg0) (V c main_arg1) (V c main_arg2) (V c main_arg3) (V c main_arg4) (V c main_arg5)) n j
  rw [raw0w9]
  rw [pay0_4, blk0x V c t n r j hn]
  unfold nxt
  refine second_term ?_
  unfold mm
  refine Finset.sum_congr rfl fun i _ => ?_
  rw [blk0w2, ← raw0w12 (iblk0 V c 0 t) (iblk0 V c 1 t) (iblk0 V c 2 t) (iblk0 V c 3 t) (iblk0 V c 4 t) (iblk0 V c 5 t) (iblk0 V c 6 t) (iblk0 V c 7 t) (iblk0 V c 8 t), outv0w12 V c t n r i hn]

/-- Which point's block holds an index. -/
theorem cover0w9 (i : S4096x1024.Idx) (t : Fin cfg0.N) (ht : t.val = (i 0).val / 512) : i ∈ ((View.whole main_v0_0).slice (win0_9.rect t)).set := by
  have h0 : (i 0 : ℕ) < 4096 := (i 0).isLt
  have h1 : (i 1 : ℕ) < 1024 := (i 1).isLt
  have hi := (idxs0 t).2.2.2.2.2.2.2.2.2.1
  rw [View.set_slice_whole, Rect.mem_set_unit]
  intro a
  match a with
  | ⟨0, _⟩ =>
    show win0_9.index t 0 * 512 ≤ (i 0 : ℕ) ∧ (i 0 : ℕ) < win0_9.index t 0 * 512 + 512
    rw [hi.1]; omega
  | ⟨1, _⟩ =>
    show win0_9.index t 1 * 1024 ≤ (i 1 : ℕ) ∧ (i 1 : ℕ) < win0_9.index t 1 * 1024 + 1024
    rw [hi.2]; omega

/-- What the call leaves of an output. -/
theorem fin0w9 : (dat0 V c).arrAt 9 cfg0.N = arr (nxt (V c main_arg0) (V c main_arg1) (V c main_arg2) (V c main_arg3) (V c main_arg4) (V c main_arg5)) := by
  have hN : cfg0.N = 8 := N_0
  refine (dat0 V c).arrAt_eq_of_cover 9 (arr (nxt (V c main_arg0) (V c main_arg1) (V c main_arg2) (V c main_arg3) (V c main_arg4) (V c main_arg5))) (fun t hf => ?_) (fun i => ?_)
  · have hfl : (dat0 V c).flushed 9 t = (cfg0.win 9).cut (grid0.coords t) (out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) := by
      show (cfg0.win 9).cut (grid0.coords t) ((dat0 V c).after 9 t) = _
      rw [after0_9]
    rw [hfl]
    have hi := (idxs0 t).2.2.2.2.2.2.2.2.2.1
    have ht : t.val < 8 := lt_of_lt_of_eq t.isLt hN
    funext y
    rw [View.read_apply]
    show (out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) _ = (arr (nxt (V c main_arg0) (V c main_arg1) (V c main_arg2) (V c main_arg3) (V c main_arg4) (V c main_arg5))) _
    have e0 : ((((cfg0.win 9).blk t).view.emb y) 0).val = win0_9.index t 0 * 512 + 1 * (y 0).val := rfl
    have e1 : ((((cfg0.win 9).blk t).view.emb y) 1).val = win0_9.index t 1 * 1024 + 1 * (y 1).val := rfl
    have h0 : (y 0).val < 512 := (y 0).isLt
    have h1 : (y 1).val < 1024 := (y 1).isLt
    have hy : (cfg0.win 9).xinj (grid0.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv0w9 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win0_9.index t 0 * 512 + 1 * (y 0).val by rw [hi.1]; omega)
    | ⟨1, _⟩ => exact Fin.ext (show (y 1).val = win0_9.index t 1 * 1024 + 1 * (y 1).val by rw [hi.2]; omega)
  · have h0 : (i 0 : ℕ) < 4096 := (i 0).isLt
    exact ⟨⟨(i 0).val / 512, by rw [hN]; omega⟩, flush0_9 _, cover0w9 i _ rfl⟩

/-- Which point's block holds an index. -/
theorem cover0w10 (i : S4096x1024.Idx) (t : Fin cfg0.N) (ht : t.val = (i 0).val / 512) : i ∈ ((View.whole main_v0_1).slice (win0_10.rect t)).set := by
  have h0 : (i 0 : ℕ) < 4096 := (i 0).isLt
  have h1 : (i 1 : ℕ) < 1024 := (i 1).isLt
  have hi := (idxs0 t).2.2.2.2.2.2.2.2.2.2.1
  rw [View.set_slice_whole, Rect.mem_set_unit]
  intro a
  match a with
  | ⟨0, _⟩ =>
    show win0_10.index t 0 * 512 ≤ (i 0 : ℕ) ∧ (i 0 : ℕ) < win0_10.index t 0 * 512 + 512
    rw [hi.1]; omega
  | ⟨1, _⟩ =>
    show win0_10.index t 1 * 1024 ≤ (i 1 : ℕ) ∧ (i 1 : ℕ) < win0_10.index t 1 * 1024 + 1024
    rw [hi.2]; omega

/-- What the call leaves of an output. -/
theorem fin0w10 : (dat0 V c).arrAt 10 cfg0.N = arr (mm (V c main_arg1) (V c main_arg5) 0) := by
  have hN : cfg0.N = 8 := N_0
  refine (dat0 V c).arrAt_eq_of_cover 10 (arr (mm (V c main_arg1) (V c main_arg5) 0)) (fun t hf => ?_) (fun i => ?_)
  · have hfl : (dat0 V c).flushed 10 t = (cfg0.win 10).cut (grid0.coords t) (out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) := by
      show (cfg0.win 10).cut (grid0.coords t) ((dat0 V c).after 10 t) = _
      rw [after0_10]
    rw [hfl]
    have hi := (idxs0 t).2.2.2.2.2.2.2.2.2.2.1
    have ht : t.val < 8 := lt_of_lt_of_eq t.isLt hN
    funext y
    rw [View.read_apply]
    show (out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) _ = (arr (mm (V c main_arg1) (V c main_arg5) 0)) _
    have e0 : ((((cfg0.win 10).blk t).view.emb y) 0).val = win0_10.index t 0 * 512 + 1 * (y 0).val := rfl
    have e1 : ((((cfg0.win 10).blk t).view.emb y) 1).val = win0_10.index t 1 * 1024 + 1 * (y 1).val := rfl
    have h0 : (y 0).val < 512 := (y 0).isLt
    have h1 : (y 1).val < 1024 := (y 1).isLt
    have hy : (cfg0.win 10).xinj (grid0.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv0w10 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win0_10.index t 0 * 512 + 1 * (y 0).val by rw [hi.1]; omega)
    | ⟨1, _⟩ => exact Fin.ext (show (y 1).val = win0_10.index t 1 * 1024 + 1 * (y 1).val by rw [hi.2]; omega)
  · have h0 : (i 0 : ℕ) < 4096 := (i 0).isLt
    exact ⟨⟨(i 0).val / 512, by rw [hN]; omega⟩, flush0_10 _, cover0w10 i _ rfl⟩

/-- Which point's block holds an index. -/
theorem cover0w11 (i : S4096x1024.Idx) (t : Fin cfg0.N) (ht : t.val = (i 0).val / 512) : i ∈ ((View.whole main_v0_2).slice (win0_11.rect t)).set := by
  have h0 : (i 0 : ℕ) < 4096 := (i 0).isLt
  have h1 : (i 1 : ℕ) < 1024 := (i 1).isLt
  have hi := (idxs0 t).2.2.2.2.2.2.2.2.2.2.2.1
  rw [View.set_slice_whole, Rect.mem_set_unit]
  intro a
  match a with
  | ⟨0, _⟩ =>
    show win0_11.index t 0 * 512 ≤ (i 0 : ℕ) ∧ (i 0 : ℕ) < win0_11.index t 0 * 512 + 512
    rw [hi.1]; omega
  | ⟨1, _⟩ =>
    show win0_11.index t 1 * 1024 ≤ (i 1 : ℕ) ∧ (i 1 : ℕ) < win0_11.index t 1 * 1024 + 1024
    rw [hi.2]; omega

/-- What the call leaves of an output. -/
theorem fin0w11 : (dat0 V c).arrAt 11 cfg0.N = arr (mm (V c main_arg2) (V c main_arg5) 1) := by
  have hN : cfg0.N = 8 := N_0
  refine (dat0 V c).arrAt_eq_of_cover 11 (arr (mm (V c main_arg2) (V c main_arg5) 1)) (fun t hf => ?_) (fun i => ?_)
  · have hfl : (dat0 V c).flushed 11 t = (cfg0.win 11).cut (grid0.coords t) (out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) := by
      show (cfg0.win 11).cut (grid0.coords t) ((dat0 V c).after 11 t) = _
      rw [after0_11]
    rw [hfl]
    have hi := (idxs0 t).2.2.2.2.2.2.2.2.2.2.2.1
    have ht : t.val < 8 := lt_of_lt_of_eq t.isLt hN
    funext y
    rw [View.read_apply]
    show (out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) _ = (arr (mm (V c main_arg2) (V c main_arg5) 1)) _
    have e0 : ((((cfg0.win 11).blk t).view.emb y) 0).val = win0_11.index t 0 * 512 + 1 * (y 0).val := rfl
    have e1 : ((((cfg0.win 11).blk t).view.emb y) 1).val = win0_11.index t 1 * 1024 + 1 * (y 1).val := rfl
    have h0 : (y 0).val < 512 := (y 0).isLt
    have h1 : (y 1).val < 1024 := (y 1).isLt
    have hy : (cfg0.win 11).xinj (grid0.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv0w11 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win0_11.index t 0 * 512 + 1 * (y 0).val by rw [hi.1]; omega)
    | ⟨1, _⟩ => exact Fin.ext (show (y 1).val = win0_11.index t 1 * 1024 + 1 * (y 1).val by rw [hi.2]; omega)
  · have h0 : (i 0 : ℕ) < 4096 := (i 0).isLt
    exact ⟨⟨(i 0).val / 512, by rw [hN]; omega⟩, flush0_11 _, cover0w11 i _ rfl⟩

/-- Which point's block holds an index. -/
theorem cover0w12 (i : S4096x1024.Idx) (t : Fin cfg0.N) (ht : t.val = (i 0).val / 512) : i ∈ ((View.whole main_v0_3).slice (win0_12.rect t)).set := by
  have h0 : (i 0 : ℕ) < 4096 := (i 0).isLt
  have h1 : (i 1 : ℕ) < 1024 := (i 1).isLt
  have hi := (idxs0 t).2.2.2.2.2.2.2.2.2.2.2.2
  rw [View.set_slice_whole, Rect.mem_set_unit]
  intro a
  match a with
  | ⟨0, _⟩ =>
    show win0_12.index t 0 * 512 ≤ (i 0 : ℕ) ∧ (i 0 : ℕ) < win0_12.index t 0 * 512 + 512
    rw [hi.1]; omega
  | ⟨1, _⟩ =>
    show win0_12.index t 1 * 1024 ≤ (i 1 : ℕ) ∧ (i 1 : ℕ) < win0_12.index t 1 * 1024 + 1024
    rw [hi.2]; omega

/-- What the call leaves of an output. -/
theorem fin0w12 : (dat0 V c).arrAt 12 cfg0.N = arr (mrg (V c main_arg1) (V c main_arg2) (V c main_arg3) (V c main_arg4) (V c main_arg5)) := by
  have hN : cfg0.N = 8 := N_0
  refine (dat0 V c).arrAt_eq_of_cover 12 (arr (mrg (V c main_arg1) (V c main_arg2) (V c main_arg3) (V c main_arg4) (V c main_arg5))) (fun t hf => ?_) (fun i => ?_)
  · have hfl : (dat0 V c).flushed 12 t = (cfg0.win 12).cut (grid0.coords t) (out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) := by
      show (cfg0.win 12).cut (grid0.coords t) ((dat0 V c).after 12 t) = _
      rw [after0_12]
    rw [hfl]
    have hi := (idxs0 t).2.2.2.2.2.2.2.2.2.2.2.2
    have ht : t.val < 8 := lt_of_lt_of_eq t.isLt hN
    funext y
    rw [View.read_apply]
    show (out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) _ = (arr (mrg (V c main_arg1) (V c main_arg2) (V c main_arg3) (V c main_arg4) (V c main_arg5))) _
    have e0 : ((((cfg0.win 12).blk t).view.emb y) 0).val = win0_12.index t 0 * 512 + 1 * (y 0).val := rfl
    have e1 : ((((cfg0.win 12).blk t).view.emb y) 1).val = win0_12.index t 1 * 1024 + 1 * (y 1).val := rfl
    have h0 : (y 0).val < 512 := (y 0).isLt
    have h1 : (y 1).val < 1024 := (y 1).isLt
    have hy : (cfg0.win 12).xinj (grid0.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv0w12 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win0_12.index t 0 * 512 + 1 * (y 0).val by rw [hi.1]; omega)
    | ⟨1, _⟩ => exact Fin.ext (show (y 1).val = win0_12.index t 1 * 1024 + 1 * (y 1).val by rw [hi.2]; omega)
  · have h0 : (i 0 : ℕ) < 4096 := (i 0).isLt
    exact ⟨⟨(i 0).val / 512, by rw [hN]; omega⟩, flush0_12 _, cover0w12 i _ rfl⟩

end Cert.Mrg
-- ==== Proof.Mrg.Raw.lean ====
module

public import proofs.«01_k».proof.Proof.Gen.Kernel3Ideal.Frame
public import Idealize.ShloMosaic.Lib.Pipeline.ReadBack
public import Idealize.ShloMosaic.Lib.Pipeline.ValueKit.Tiles
public import proofs.«01_k».proof.Proof.Mrg.Pay

@[expose] public section

noncomputable section

namespace Cert.Mrg

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b)) (c : Dev nD)

/-- What a point stores, as a function of the blocks it reads. -/
theorem raw1A9 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) :
    out1_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 = k1_pay7 (F := Ideal) x0 x8 x5 x3 := by
  unfold out1_A_9
  rw [View.read_writes_junk_eq_canon]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- What a point stores, as a function of the blocks it reads. -/
theorem raw1B9 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (p : Vec Ideal S8x2048 .f32) :
    out1_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 p = k1_pay7 (F := Ideal) x0 x8 x5 x3 := by
  unfold out1_B_9
  rw [View.read_writes_junk_eq_canon]
  unfold kernelRun1_B
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- What a point stores, as a function of the blocks it reads. -/
theorem raw1A10 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) :
    out1_A_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 = k1_pay8 (F := Ideal) x0 x8 x5 x4 := by
  unfold out1_A_10
  rw [View.read_writes_junk_eq_canon]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- What a point stores, as a function of the blocks it reads. -/
theorem raw1B10 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (p : Vec Ideal S8x2048 .f32) :
    out1_B_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 p = k1_pay8 (F := Ideal) x0 x8 x5 x4 := by
  unfold out1_B_10
  rw [View.read_writes_junk_eq_canon]
  unfold kernelRun1_B
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- What a point stores, as a function of the blocks it reads. -/
theorem raw1A11 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) :
    out1_A_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 = View.canon [⟨(Rect.unit (s := S512x2048) ![0, 1024] S512x1024.size inb_S512x2048_S512x1024_0_1024), k1_pay12 (F := Ideal) (k1_pay4 (F := Ideal) x0 x8) (k1_pay6 (F := Ideal) x5 x4) x2⟩, ⟨(Rect.unit (s := S512x2048) ![0, 0] S512x1024.size inb_S512x2048_S512x1024_0_0), k1_pay11 (F := Ideal) (k1_pay4 (F := Ideal) x0 x8) (k1_pay5 (F := Ideal) x5 x3) x1⟩] := by
  unfold out1_A_11
  rw [View.read_writes_junk_eq_canon]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]

/-- What a point stores, as a function of the blocks it reads. -/
theorem raw1B11 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (p : Vec Ideal S8x2048 .f32) :
    out1_B_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 p = View.canon [⟨(Rect.unit (s := S512x2048) ![0, 1024] S512x1024.size inb_S512x2048_S512x1024_0_1024), k1_pay12 (F := Ideal) (k1_pay4 (F := Ideal) x0 x8) (k1_pay6 (F := Ideal) x5 x4) x2⟩, ⟨(Rect.unit (s := S512x2048) ![0, 0] S512x1024.size inb_S512x2048_S512x1024_0_0), k1_pay11 (F := Ideal) (k1_pay4 (F := Ideal) x0 x8) (k1_pay5 (F := Ideal) x5 x3) x1⟩] := by
  unfold out1_B_11
  rw [View.read_writes_junk_eq_canon]
  unfold kernelRun1_B
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]

/-- What a point stores, as a function of the blocks it reads. -/
theorem raw1A12 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) :
    out1_A_12 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 = k1_pay1 (F := Ideal) (k1_pay7 (F := Ideal) x0 x8 x5 x3) x6 := by
  unfold out1_A_12
  rw [View.read_writes_junk_eq_canon]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- What a point stores, as a function of the blocks it reads. -/
theorem raw1B12 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (p : Vec Ideal S8x2048 .f32) :
    out1_B_12 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 p = k1_pay1 (F := Ideal) (k1_pay7 (F := Ideal) x0 x8 x5 x3) x6 := by
  unfold out1_B_12
  rw [View.read_writes_junk_eq_canon]
  unfold kernelRun1_B
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- What a point stores, as a function of the blocks it reads. -/
theorem raw1A13 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) :
    out1_A_13 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 = k1_pay2 (F := Ideal) (k1_pay8 (F := Ideal) x0 x8 x5 x4) x7 := by
  unfold out1_A_13
  rw [View.read_writes_junk_eq_canon]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- What a point stores, as a function of the blocks it reads. -/
theorem raw1B13 (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (p : Vec Ideal S8x2048 .f32) :
    out1_B_13 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 p = k1_pay2 (F := Ideal) (k1_pay8 (F := Ideal) x0 x8 x5 x4) x7 := by
  unfold out1_B_13
  rw [View.read_writes_junk_eq_canon]
  unfold kernelRun1_B
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  rw [View.canon_unit_zero (S := S512x1024) (off := ![0,0]) (by decide)]

/-- Two stored halves, read in the first. -/
theorem wide_lo (a b : S512x1024.Idx → Elt Ideal .bf16) (L : List (View.Piece (Elt Ideal) S512x2048 .bf16)) (r : Fin 512) (j : Fin 1024) :
    View.canon (⟨(Rect.unit (s := S512x2048) ![0, 1024] S512x1024.size inb_S512x2048_S512x1024_0_1024), a⟩ :: ⟨(Rect.unit (s := S512x2048) ![0, 0] S512x1024.size inb_S512x2048_S512x1024_0_0), b⟩ :: L) (ix2 r (lo j)) = b (ix2 r j) := by
  rw [View.canon_cons_of_not_mem]
  · have e : (Rect.unit (s := S512x2048) ![0, 0] S512x1024.size inb_S512x2048_S512x1024_0_0).emb (ix2 r j) = ix2 r (lo j) := by
      funext x
      match x with
      | ⟨0, _⟩ => exact Fin.ext (show 0 + 1 * r.val = r.val by omega)
      | ⟨1, _⟩ => exact Fin.ext (show 0 + 1 * j.val = j.val by omega)
    exact (congrArg _ e.symm).trans (View.canon_cons_emb (Rect.unit (s := S512x2048) ![0, 0] S512x1024.size inb_S512x2048_S512x1024_0_0) b L (ix2 r j))
  · intro hm
    have h := ((Rect.mem_set_unit (s := S512x2048) (off := ![0, 1024]) (size := S512x1024.size) (inb := inb_S512x2048_S512x1024_0_1024)).1 hm 1).1
    have h' : 1024 ≤ j.val := h
    omega

/-- Two stored halves, read in the second. -/
theorem wide_hi (a : S512x1024.Idx → Elt Ideal .bf16) (L : List (View.Piece (Elt Ideal) S512x2048 .bf16)) (r : Fin 512) (j : Fin 1024) :
    View.canon (⟨(Rect.unit (s := S512x2048) ![0, 1024] S512x1024.size inb_S512x2048_S512x1024_0_1024), a⟩ :: L) (ix2 r (hi j)) = a (ix2 r j) := by
  have e : (Rect.unit (s := S512x2048) ![0, 1024] S512x1024.size inb_S512x2048_S512x1024_0_1024).emb (ix2 r j) = ix2 r (hi j) := by
    funext x
    match x with
    | ⟨0, _⟩ => exact Fin.ext (show 0 + 1 * r.val = r.val by omega)
    | ⟨1, _⟩ => exact Fin.ext (show 1024 + 1 * j.val = j.val + 1024 by omega)
  exact (congrArg _ e.symm).trans (View.canon_cons_emb (Rect.unit (s := S512x2048) ![0, 1024] S512x1024.size inb_S512x2048_S512x1024_0_1024) a L (ix2 r j))

/-- Two stored halves, read in the first. -/
theorem eight_lo (a b : S8x1024.Idx → Elt Ideal .f32) (L : List (View.Piece (Elt Ideal) S8x2048 .f32)) (r : Fin 8) (j : Fin 1024) :
    View.canon (⟨(Rect.unit (s := S8x2048) ![0, 1024] S8x1024.size inb_S8x2048_S8x1024_0_1024), a⟩ :: ⟨(Rect.unit (s := S8x2048) ![0, 0] S8x1024.size inb_S8x2048_S8x1024_0_0), b⟩ :: L) (ix2 r (lo j)) = b (ix2 r j) := by
  rw [View.canon_cons_of_not_mem]
  · have e : (Rect.unit (s := S8x2048) ![0, 0] S8x1024.size inb_S8x2048_S8x1024_0_0).emb (ix2 r j) = ix2 r (lo j) := by
      funext x
      match x with
      | ⟨0, _⟩ => exact Fin.ext (show 0 + 1 * r.val = r.val by omega)
      | ⟨1, _⟩ => exact Fin.ext (show 0 + 1 * j.val = j.val by omega)
    exact (congrArg _ e.symm).trans (View.canon_cons_emb (Rect.unit (s := S8x2048) ![0, 0] S8x1024.size inb_S8x2048_S8x1024_0_0) b L (ix2 r j))
  · intro hm
    have h := ((Rect.mem_set_unit (s := S8x2048) (off := ![0, 1024]) (size := S8x1024.size) (inb := inb_S8x2048_S8x1024_0_1024)).1 hm 1).1
    have h' : 1024 ≤ j.val := h
    omega

/-- Two stored halves, read in the second. -/
theorem eight_hi (a : S8x1024.Idx → Elt Ideal .f32) (L : List (View.Piece (Elt Ideal) S8x2048 .f32)) (r : Fin 8) (j : Fin 1024) :
    View.canon (⟨(Rect.unit (s := S8x2048) ![0, 1024] S8x1024.size inb_S8x2048_S8x1024_0_1024), a⟩ :: L) (ix2 r (hi j)) = a (ix2 r j) := by
  have e : (Rect.unit (s := S8x2048) ![0, 1024] S8x1024.size inb_S8x2048_S8x1024_0_1024).emb (ix2 r j) = ix2 r (hi j) := by
    funext x
    match x with
    | ⟨0, _⟩ => exact Fin.ext (show 0 + 1 * r.val = r.val by omega)
    | ⟨1, _⟩ => exact Fin.ext (show 1024 + 1 * j.val = j.val + 1024 by omega)
  exact (congrArg _ e.symm).trans (View.canon_cons_emb (Rect.unit (s := S8x2048) ![0, 1024] S8x1024.size inb_S8x2048_S8x1024_0_1024) a L (ix2 r j))

/-- The first half of eight rows. -/
theorem ld_lo (p : Vec Ideal S8x2048 .f32) (r : Fin 8) (j : Fin 1024) :
    View.ld (S := S8x2048) (Val := Elt Ideal) (e' := .f32) p (Rect.unit ![0, 0] S8x1024.size inb_S8x2048_S8x1024_0_0) (ix2 r j) = p (ix2 r (lo j)) := by
  refine View.ld_unit_apply_of _ _ _ _ _ (ix2 r (lo j)) ?_
  intro a; fin_cases a
  · exact (Nat.zero_add _).symm
  · exact (Nat.zero_add _).symm

/-- The second half of eight rows. -/
theorem ld_hi (p : Vec Ideal S8x2048 .f32) (r : Fin 8) (j : Fin 1024) :
    View.ld (S := S8x2048) (Val := Elt Ideal) (e' := .f32) p (Rect.unit ![0, 1024] S8x1024.size inb_S8x2048_S8x1024_0_1024) (ix2 r j) = p (ix2 r (hi j)) := by
  refine View.ld_unit_apply_of _ _ _ _ _ (ix2 r (hi j)) ?_
  intro a; fin_cases a
  · exact (Nat.zero_add _).symm
  · exact Nat.add_comm _ _

/-- What a point leaves in a half of the eight rows. -/
theorem raw1A14lo (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (r : Fin 8) (j : Fin 1024) :
    out1_A_14 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 (ix2 r (lo j)) = ∑ q : Fin 64, k1_pay9 (F := Ideal) (k1_pay4 (F := Ideal) x0 x8) (k1_pay5 (F := Ideal) x5 x3) x1 (ix2 ⟨q.val * 8 + r.val, by omega⟩ j) := by
  unfold out1_A_14
  rw [View.read_writes_junk_eq_canon]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  refine (eight_lo _ _ _ r j).trans ?_
  rw [pay1_13]
  rw [View.readCov_fill _ _ _ _ _ (by decide)]
  refine (congrArg (· + _) ((ld_lo _ r j).trans (pay1_3 _))).trans (zero_add _)

/-- What a point leaves in a half of the eight rows. -/
theorem raw1B14lo (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (p : Vec Ideal S8x2048 .f32) (r : Fin 8) (j : Fin 1024) :
    out1_B_14 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 p (ix2 r (lo j)) = p (ix2 r (lo j)) + ∑ q : Fin 64, k1_pay9 (F := Ideal) (k1_pay4 (F := Ideal) x0 x8) (k1_pay5 (F := Ideal) x5 x3) x1 (ix2 ⟨q.val * 8 + r.val, by omega⟩ j) := by
  unfold out1_B_14
  rw [View.read_writes_junk_eq_canon]
  unfold kernelRun1_B
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  refine (eight_lo _ _ _ r j).trans ?_
  rw [pay1_13]
  rw [ld_lo]

/-- What a point leaves in a half of the eight rows. -/
theorem raw1A14hi (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (r : Fin 8) (j : Fin 1024) :
    out1_A_14 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 (ix2 r (hi j)) = ∑ q : Fin 64, k1_pay10 (F := Ideal) (k1_pay4 (F := Ideal) x0 x8) (k1_pay6 (F := Ideal) x5 x4) x2 (ix2 ⟨q.val * 8 + r.val, by omega⟩ j) := by
  unfold out1_A_14
  rw [View.read_writes_junk_eq_canon]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  refine (eight_hi _ _ r j).trans ?_
  rw [pay1_14]
  rw [View.readCov_skip _ _ _ _ _ (by decide)]
  rw [View.readCov_fill _ _ _ _ _ (by decide)]
  refine (congrArg (· + _) ((ld_hi _ r j).trans (pay1_3 _))).trans (zero_add _)

/-- What a point leaves in a half of the eight rows. -/
theorem raw1B14hi (t : Fin cfg1.N) (h) (x0 : Vec Ideal S512x1024 .f32) (x1 x2 x3 x4 : Vec Ideal S512x1024 .bf16) (x5 : Vec Ideal S1x2048 .f32) (x6 x7 x8 : Vec Ideal S1x1024x1024 .bf16) (p : Vec Ideal S8x2048 .f32) (r : Fin 8) (j : Fin 1024) :
    out1_B_14 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) h x0 x1 x2 x3 x4 x5 x6 x7 x8 p (ix2 r (hi j)) = p (ix2 r (hi j)) + ∑ q : Fin 64, k1_pay10 (F := Ideal) (k1_pay4 (F := Ideal) x0 x8) (k1_pay6 (F := Ideal) x5 x4) x2 (ix2 ⟨q.val * 8 + r.val, by omega⟩ j) := by
  unfold out1_B_14
  rw [View.read_writes_junk_eq_canon]
  unfold kernelRun1_B
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_14 t).read_unread]
  simp only [View.ld_unit_zero (Val := Elt Ideal) (S := S512x1024) (off := ![0,0]) (by decide),
    View.ld_unit_zero (Val := Elt Ideal) (S := S1x2048) (off := ![0,0]) (by decide),
    View.ld_unit_zero (Val := Elt Ideal) (S := S1x1024x1024) (off := ![0,0,0]) (by decide)]
  refine (eight_hi _ _ r j).trans ?_
  rw [pay1_14]
  rw [ld_hi]

end Cert.Mrg
-- ==== Proof.Mrg.Bwd.lean ====
module

public import proofs.«01_k».proof.Proof.Gen.Kernel3Ideal.Frame
public import Idealize.ShloMosaic.Lib.Pipeline.ReadBack
public import Idealize.ShloMosaic.Lib.Pipeline.ValueKit.Tiles
public import proofs.«01_k».proof.Proof.Mrg.Raw

@[expose] public section

noncomputable section

namespace Cert.Mrg

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b)) (c : Dev nD)

/-- Where each window's block lies at a grid point. -/
theorem idxs1 : ∀ t : Fin cfg1.N, (win1_0.index t 0 = t.val ∧ win1_0.index t 1 = 0) ∧ (win1_1.index t 0 = t.val ∧ win1_1.index t 1 = 0) ∧ (win1_2.index t 0 = t.val ∧ win1_2.index t 1 = 0) ∧ (win1_3.index t 0 = t.val ∧ win1_3.index t 1 = 0) ∧ (win1_4.index t 0 = t.val ∧ win1_4.index t 1 = 1) ∧ (win1_5.index t 0 = 0 ∧ win1_5.index t 1 = 0) ∧ (win1_6.index t 0 = 0 ∧ win1_6.index t 1 = 0 ∧ win1_6.index t 2 = 0) ∧ (win1_7.index t 0 = 1 ∧ win1_7.index t 1 = 0 ∧ win1_7.index t 2 = 0) ∧ (win1_8.index t 0 = 2 ∧ win1_8.index t 1 = 0 ∧ win1_8.index t 2 = 0) ∧ (win1_9.index t 0 = t.val ∧ win1_9.index t 1 = 0) ∧ (win1_10.index t 0 = t.val ∧ win1_10.index t 1 = 0) ∧ (win1_11.index t 0 = t.val ∧ win1_11.index t 1 = 0) ∧ (win1_12.index t 0 = t.val ∧ win1_12.index t 1 = 0) ∧ (win1_13.index t 0 = t.val ∧ win1_13.index t 1 = 0) ∧ (win1_14.index t 0 = 0 ∧ win1_14.index t 1 = 0) :=
  (by decide +kernel : ∀ t : Fin grid1.N, (win1_0.index t 0 = t.val ∧ win1_0.index t 1 = 0) ∧ (win1_1.index t 0 = t.val ∧ win1_1.index t 1 = 0) ∧ (win1_2.index t 0 = t.val ∧ win1_2.index t 1 = 0) ∧ (win1_3.index t 0 = t.val ∧ win1_3.index t 1 = 0) ∧ (win1_4.index t 0 = t.val ∧ win1_4.index t 1 = 1) ∧ (win1_5.index t 0 = 0 ∧ win1_5.index t 1 = 0) ∧ (win1_6.index t 0 = 0 ∧ win1_6.index t 1 = 0 ∧ win1_6.index t 2 = 0) ∧ (win1_7.index t 0 = 1 ∧ win1_7.index t 1 = 0 ∧ win1_7.index t 2 = 0) ∧ (win1_8.index t 0 = 2 ∧ win1_8.index t 1 = 0 ∧ win1_8.index t 2 = 0) ∧ (win1_9.index t 0 = t.val ∧ win1_9.index t 1 = 0) ∧ (win1_10.index t 0 = t.val ∧ win1_10.index t 1 = 0) ∧ (win1_11.index t 0 = t.val ∧ win1_11.index t 1 = 0) ∧ (win1_12.index t 0 = t.val ∧ win1_12.index t 1 = 0) ∧ (win1_13.index t 0 = t.val ∧ win1_13.index t 1 = 0) ∧ (win1_14.index t 0 = 0 ∧ win1_14.index t 1 = 0))

/-- The incoming gradient's rows a point reads. -/
theorem blk1d (t : Fin cfg1.N) (n : Fin 4096) (r : Fin 512) (j : Fin 1024) (hn : n.val = 512 * t.val + r.val) :
    (iblk1 V c 0 t : Vec Ideal S512x1024 .f32) (ix2 r j) = (V c main_arg6 : S4096x1024.Idx → EReal) (ix2 n j) := by
  have hi := (idxs1 t).1
  unfold iblk1
  rw [View.read_apply]
  show V c main_arg6 _ = V c main_arg6 _
  congr 1
  funext a
  apply Fin.ext
  match a with
  | ⟨0, _⟩ => show win1_0.index t 0 * 512 + 1 * r.val = n.val; rw [hi.1]; omega
  | ⟨1, _⟩ => show win1_0.index t 1 * 1024 + 1 * j.val = j.val; rw [hi.2]; omega

/-- The first projected branch's rows a point reads. -/
theorem blk1y (t : Fin cfg1.N) (n : Fin 4096) (r : Fin 512) (j : Fin 1024) (hn : n.val = 512 * t.val + r.val) :
    (iblk1 V c 1 t : Vec Ideal S512x1024 .bf16) (ix2 r j) = (V c main_v0_1 : S4096x1024.Idx → EReal) (ix2 n j) := by
  have hi := (idxs1 t).2.1
  unfold iblk1
  rw [View.read_apply]
  show V c main_v0_1 _ = V c main_v0_1 _
  congr 1
  funext a
  apply Fin.ext
  match a with
  | ⟨0, _⟩ => show win1_1.index t 0 * 512 + 1 * r.val = n.val; rw [hi.1]; omega
  | ⟨1, _⟩ => show win1_1.index t 1 * 1024 + 1 * j.val = j.val; rw [hi.2]; omega

/-- The second projected branch's rows a point reads. -/
theorem blk1z (t : Fin cfg1.N) (n : Fin 4096) (r : Fin 512) (j : Fin 1024) (hn : n.val = 512 * t.val + r.val) :
    (iblk1 V c 2 t : Vec Ideal S512x1024 .bf16) (ix2 r j) = (V c main_v0_2 : S4096x1024.Idx → EReal) (ix2 n j) := by
  have hi := (idxs1 t).2.2.1
  unfold iblk1
  rw [View.read_apply]
  show V c main_v0_2 _ = V c main_v0_2 _
  congr 1
  funext a
  apply Fin.ext
  match a with
  | ⟨0, _⟩ => show win1_2.index t 0 * 512 + 1 * r.val = n.val; rw [hi.1]; omega
  | ⟨1, _⟩ => show win1_2.index t 1 * 1024 + 1 * j.val = j.val; rw [hi.2]; omega

/-- The first half of the scores a point reads. -/
theorem blk1u (t : Fin cfg1.N) (n : Fin 4096) (r : Fin 512) (j : Fin 1024) (hn : n.val = 512 * t.val + r.val) :
    (iblk1 V c 3 t : Vec Ideal S512x1024 .bf16) (ix2 r j) = (V c main_arg3 : S4096x2048.Idx → EReal) (ix2 n (lo j)) := by
  have hi := (idxs1 t).2.2.2.1
  unfold iblk1
  rw [View.read_apply]
  show V c main_arg3 _ = V c main_arg3 _
  congr 1
  funext a
  apply Fin.ext
  match a with
  | ⟨0, _⟩ => show win1_3.index t 0 * 512 + 1 * r.val = n.val; rw [hi.1]; omega
  | ⟨1, _⟩ => show win1_3.index t 1 * 1024 + 1 * j.val = j.val; rw [hi.2]; omega

/-- The second half of the scores a point reads. -/
theorem blk1v (t : Fin cfg1.N) (n : Fin 4096) (r : Fin 512) (j : Fin 1024) (hn : n.val = 512 * t.val + r.val) :
    (iblk1 V c 4 t : Vec Ideal S512x1024 .bf16) (ix2 r j) = (V c main_arg3 : S4096x2048.Idx → EReal) (ix2 n (hi j)) := by
  have hi := (idxs1 t).2.2.2.2.1
  unfold iblk1
  rw [View.read_apply]
  show V c main_arg3 _ = V c main_arg3 _
  congr 1
  funext a
  apply Fin.ext
  match a with
  | ⟨0, _⟩ => show win1_4.index t 0 * 512 + 1 * r.val = n.val; rw [hi.1]; omega
  | ⟨1, _⟩ => show win1_4.index t 1 * 1024 + 1 * j.val = j.val + 1024; rw [hi.2]; omega

/-- The bias a point reads. -/
theorem blk1b (t : Fin cfg1.N) (j : Fin 2048) :
    (iblk1 V c 5 t : Vec Ideal S1x2048 .f32) (ix2 0 j) = (V c main_arg4 : S1x2048.Idx → EReal) (ix2 0 j) := by
  have hi := (idxs1 t).2.2.2.2.2.1
  unfold iblk1
  rw [View.read_apply]
  show V c main_arg4 _ = V c main_arg4 _
  congr 1
  funext a
  apply Fin.ext
  match a with
  | ⟨0, _⟩ => show win1_5.index t 0 * 1 + 1 * 0 = 0; rw [hi.1]
  | ⟨1, _⟩ => show win1_5.index t 1 * 2048 + 1 * j.val = j.val; rw [hi.2]; omega

/-- A weight matrix a point reads. -/
theorem blk1w0 (t : Fin cfg1.N) (i j : Fin 1024) :
    (iblk1 V c 6 t : Vec Ideal S1x1024x1024 .bf16) (ix3 0 i j) = (V c main_arg5 : S3x1024x1024.Idx → EReal) (ix3 0 i j) := by
  have hi := (idxs1 t).2.2.2.2.2.2.1
  unfold iblk1
  rw [View.read_apply]
  show V c main_arg5 _ = V c main_arg5 _
  congr 1
  funext a
  apply Fin.ext
  match a with
  | ⟨0, _⟩ => show win1_6.index t 0 * 1 + 1 * 0 = 0; rw [hi.1]
  | ⟨1, _⟩ => show win1_6.index t 1 * 1024 + 1 * i.val = i.val; rw [hi.2.1]; omega
  | ⟨2, _⟩ => show win1_6.index t 2 * 1024 + 1 * j.val = j.val; rw [hi.2.2]; omega

/-- A weight matrix a point reads. -/
theorem blk1w1 (t : Fin cfg1.N) (i j : Fin 1024) :
    (iblk1 V c 7 t : Vec Ideal S1x1024x1024 .bf16) (ix3 0 i j) = (V c main_arg5 : S3x1024x1024.Idx → EReal) (ix3 1 i j) := by
  have hi := (idxs1 t).2.2.2.2.2.2.2.1
  unfold iblk1
  rw [View.read_apply]
  show V c main_arg5 _ = V c main_arg5 _
  congr 1
  funext a
  apply Fin.ext
  match a with
  | ⟨0, _⟩ => show win1_7.index t 0 * 1 + 1 * 0 = 1; rw [hi.1]
  | ⟨1, _⟩ => show win1_7.index t 1 * 1024 + 1 * i.val = i.val; rw [hi.2.1]; omega
  | ⟨2, _⟩ => show win1_7.index t 2 * 1024 + 1 * j.val = j.val; rw [hi.2.2]; omega

/-- A weight matrix a point reads. -/
theorem blk1w2 (t : Fin cfg1.N) (i j : Fin 1024) :
    (iblk1 V c 8 t : Vec Ideal S1x1024x1024 .bf16) (ix3 0 i j) = (V c main_arg5 : S3x1024x1024.Idx → EReal) (ix3 2 i j) := by
  have hi := (idxs1 t).2.2.2.2.2.2.2.2.1
  unfold iblk1
  rw [View.read_apply]
  show V c main_arg5 _ = V c main_arg5 _
  congr 1
  funext a
  apply Fin.ext
  match a with
  | ⟨0, _⟩ => show win1_8.index t 0 * 1 + 1 * 0 = 2; rw [hi.1]
  | ⟨1, _⟩ => show win1_8.index t 1 * 1024 + 1 * i.val = i.val; rw [hi.2.1]; omega
  | ⟨2, _⟩ => show win1_8.index t 2 * 1024 + 1 * j.val = j.val; rw [hi.2.2]; omega

/-- What a point leaves of an output, from the blocks it reads. -/
theorem at1w9 (t : Fin cfg1.N) : (outsAt1 V c t.val t.isLt).1 = k1_pay7 (F := Ideal) (iblk1 V c 0 t) (iblk1 V c 8 t) (iblk1 V c 5 t) (iblk1 V c 3 t) := by
  by_cases h0 : t.val % 8 = 0
  · rw [outsAt1_A V c t h0]
    have e := raw1A9 c t ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
    dsimp only
    exact e
  · rw [outsAt1_B V c t h0]
    have e := raw1B9 c t (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2.2.2.2)
    dsimp only
    exact e

/-- What a point leaves of an output, from the blocks it reads. -/
theorem at1w10 (t : Fin cfg1.N) : (outsAt1 V c t.val t.isLt).2.1 = k1_pay8 (F := Ideal) (iblk1 V c 0 t) (iblk1 V c 8 t) (iblk1 V c 5 t) (iblk1 V c 4 t) := by
  by_cases h0 : t.val % 8 = 0
  · rw [outsAt1_A V c t h0]
    have e := raw1A10 c t ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
    dsimp only
    exact e
  · rw [outsAt1_B V c t h0]
    have e := raw1B10 c t (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2.2.2.2)
    dsimp only
    exact e

/-- What a point leaves of an output, from the blocks it reads. -/
theorem at1w11 (t : Fin cfg1.N) : (outsAt1 V c t.val t.isLt).2.2.1 = View.canon [⟨(Rect.unit (s := S512x2048) ![0, 1024] S512x1024.size inb_S512x2048_S512x1024_0_1024), k1_pay12 (F := Ideal) (k1_pay4 (F := Ideal) (iblk1 V c 0 t) (iblk1 V c 8 t)) (k1_pay6 (F := Ideal) (iblk1 V c 5 t) (iblk1 V c 4 t)) (iblk1 V c 2 t)⟩, ⟨(Rect.unit (s := S512x2048) ![0, 0] S512x1024.size inb_S512x2048_S512x1024_0_0), k1_pay11 (F := Ideal) (k1_pay4 (F := Ideal) (iblk1 V c 0 t) (iblk1 V c 8 t)) (k1_pay5 (F := Ideal) (iblk1 V c 5 t) (iblk1 V c 3 t)) (iblk1 V c 1 t)⟩] := by
  by_cases h0 : t.val % 8 = 0
  · rw [outsAt1_A V c t h0]
    have e := raw1A11 c t ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
    dsimp only
    exact e
  · rw [outsAt1_B V c t h0]
    have e := raw1B11 c t (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2.2.2.2)
    dsimp only
    exact e

/-- What a point leaves of an output, from the blocks it reads. -/
theorem at1w12 (t : Fin cfg1.N) : (outsAt1 V c t.val t.isLt).2.2.2.1 = k1_pay1 (F := Ideal) (k1_pay7 (F := Ideal) (iblk1 V c 0 t) (iblk1 V c 8 t) (iblk1 V c 5 t) (iblk1 V c 3 t)) (iblk1 V c 6 t) := by
  by_cases h0 : t.val % 8 = 0
  · rw [outsAt1_A V c t h0]
    have e := raw1A12 c t ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
    dsimp only
    exact e
  · rw [outsAt1_B V c t h0]
    have e := raw1B12 c t (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2.2.2.2)
    dsimp only
    exact e

/-- What a point leaves of an output, from the blocks it reads. -/
theorem at1w13 (t : Fin cfg1.N) : (outsAt1 V c t.val t.isLt).2.2.2.2.1 = k1_pay2 (F := Ideal) (k1_pay8 (F := Ideal) (iblk1 V c 0 t) (iblk1 V c 8 t) (iblk1 V c 5 t) (iblk1 V c 4 t)) (iblk1 V c 7 t) := by
  by_cases h0 : t.val % 8 = 0
  · rw [outsAt1_A V c t h0]
    have e := raw1A13 c t ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
    dsimp only
    exact e
  · rw [outsAt1_B V c t h0]
    have e := raw1B13 c t (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2.2.2.2)
    dsimp only
    exact e

/-- The gradient of the merged rows at a point. -/
theorem dm1 (t : Fin cfg1.N) (n : Fin 4096) (r : Fin 512) (j : Fin 1024) (hn : n.val = 512 * t.val + r.val) :
    k1_pay4 (F := Ideal) (iblk1 V c 0 t) (iblk1 V c 8 t) (ix2 r j) = mmT (V c main_arg6) (V c main_arg5) 2 n j := by
  rw [pay1_4]
  unfold mmT
  exact Finset.sum_congr rfl fun i _ => by rw [blk1d V c t n r i hn, blk1w2]

/-- The first gate at a point. -/
theorem ga1 (t : Fin cfg1.N) (n : Fin 4096) (r : Fin 512) (j : Fin 1024) (hn : n.val = 512 * t.val + r.val) :
    k1_pay5 (F := Ideal) (iblk1 V c 5 t) (iblk1 V c 3 t) (ix2 r j) = gA (V c main_arg3) (V c main_arg4) n j := by
  rw [pay1_5, blk1u V c t n r j hn, blk1b]
  rfl

/-- The second gate at a point. -/
theorem gb1 (t : Fin cfg1.N) (n : Fin 4096) (r : Fin 512) (j : Fin 1024) (hn : n.val = 512 * t.val + r.val) :
    k1_pay6 (F := Ideal) (iblk1 V c 5 t) (iblk1 V c 4 t) (ix2 r j) = gB (V c main_arg3) (V c main_arg4) n j := by
  rw [pay1_6, blk1v V c t n r j hn, blk1b]
  rfl

/-- The first projected branch's gradient at a point. -/
theorem da1 (t : Fin cfg1.N) (n : Fin 4096) (r : Fin 512) (j : Fin 1024) (hn : n.val = 512 * t.val + r.val) :
    k1_pay7 (F := Ideal) (iblk1 V c 0 t) (iblk1 V c 8 t) (iblk1 V c 5 t) (iblk1 V c 3 t) (ix2 r j) = dA (V c main_arg6) (V c main_arg3) (V c main_arg4) (V c main_arg5) n j := by
  rw [pay1_7, ← pay1_4, ← pay1_5, dm1 V c t n r j hn, ga1 V c t n r j hn]
  rfl

/-- The second projected branch's gradient at a point. -/
theorem db1 (t : Fin cfg1.N) (n : Fin 4096) (r : Fin 512) (j : Fin 1024) (hn : n.val = 512 * t.val + r.val) :
    k1_pay8 (F := Ideal) (iblk1 V c 0 t) (iblk1 V c 8 t) (iblk1 V c 5 t) (iblk1 V c 4 t) (ix2 r j) = dB (V c main_arg6) (V c main_arg3) (V c main_arg4) (V c main_arg5) n j := by
  rw [pay1_8, ← pay1_4, ← pay1_6, dm1 V c t n r j hn, gb1 V c t n r j hn]
  rfl

/-- The first half of the scores' gradient at a point. -/
theorem du1 (t : Fin cfg1.N) (n : Fin 4096) (r : Fin 512) (j : Fin 1024) (hn : n.val = 512 * t.val + r.val) :
    k1_pay9 (F := Ideal) (k1_pay4 (F := Ideal) (iblk1 V c 0 t) (iblk1 V c 8 t)) (k1_pay5 (F := Ideal) (iblk1 V c 5 t) (iblk1 V c 3 t)) (iblk1 V c 1 t) (ix2 r j)
      = (dU (V c main_arg6) (V c main_v0_1) (V c main_v0_2) (V c main_arg3) (V c main_arg4) (V c main_arg5)) n (lo j) := by
  rw [pay1_9, dm1 V c t n r j hn, ga1 V c t n r j hn, blk1y V c t n r j hn, dU_lo]

/-- The second half of the scores' gradient at a point. -/
theorem dv1 (t : Fin cfg1.N) (n : Fin 4096) (r : Fin 512) (j : Fin 1024) (hn : n.val = 512 * t.val + r.val) :
    k1_pay10 (F := Ideal) (k1_pay4 (F := Ideal) (iblk1 V c 0 t) (iblk1 V c 8 t)) (k1_pay6 (F := Ideal) (iblk1 V c 5 t) (iblk1 V c 4 t)) (iblk1 V c 2 t) (ix2 r j)
      = (dU (V c main_arg6) (V c main_v0_1) (V c main_v0_2) (V c main_arg3) (V c main_arg4) (V c main_arg5)) n (hi j) := by
  rw [pay1_10, dm1 V c t n r j hn, gb1 V c t n r j hn, blk1z V c t n r j hn, dU_hi]

/-- What a point leaves of an output. -/
theorem outv1w9 (t : Fin cfg1.N) (n : Fin 4096) (r : Fin 512) (j : Fin 1024) (hn : n.val = 512 * t.val + r.val) :
    (outsAt1 V c t.val t.isLt).1 (ix2 r j) = (arr (dA (V c main_arg6) (V c main_arg3) (V c main_arg4) (V c main_arg5))) (ix2 n j) := by
  rw [at1w9]
  exact da1 V c t n r j hn

/-- What a point leaves of an output. -/
theorem outv1w10 (t : Fin cfg1.N) (n : Fin 4096) (r : Fin 512) (j : Fin 1024) (hn : n.val = 512 * t.val + r.val) :
    (outsAt1 V c t.val t.isLt).2.1 (ix2 r j) = (arr (dB (V c main_arg6) (V c main_arg3) (V c main_arg4) (V c main_arg5))) (ix2 n j) := by
  rw [at1w10]
  exact db1 V c t n r j hn

/-- What a point leaves of an output. -/
theorem outv1w11 (t : Fin cfg1.N) (n : Fin 4096) (r : Fin 512) (j : Fin 2048) (hn : n.val = 512 * t.val + r.val) :
    (outsAt1 V c t.val t.isLt).2.2.1 (ix2 r j) = (arr2 (dU (V c main_arg6) (V c main_v0_1) (V c main_v0_2) (V c main_arg3) (V c main_arg4) (V c main_arg5))) (ix2 n j) := by
  rw [at1w11]
  rcases lo_or_hi j with ⟨k, rfl⟩ | ⟨k, rfl⟩
  · refine (wide_lo _ _ _ r k).trans ?_
    rw [pay1_11, dm1 V c t n r k hn, ga1 V c t n r k hn, blk1y V c t n r k hn, ← dU_lo (V c main_arg6) (V c main_v0_1) (V c main_v0_2) (V c main_arg3) (V c main_arg4) (V c main_arg5)]
    rfl
  · refine (wide_hi _ _ r k).trans ?_
    rw [pay1_12, dm1 V c t n r k hn, gb1 V c t n r k hn, blk1z V c t n r k hn, ← dU_hi (V c main_arg6) (V c main_v0_1) (V c main_v0_2) (V c main_arg3) (V c main_arg4) (V c main_arg5)]
    rfl

/-- What a point leaves of an output. -/
theorem outv1w12 (t : Fin cfg1.N) (n : Fin 4096) (r : Fin 512) (j : Fin 1024) (hn : n.val = 512 * t.val + r.val) :
    (outsAt1 V c t.val t.isLt).2.2.2.1 (ix2 r j) = (arr (mmT (arr (dA (V c main_arg6) (V c main_arg3) (V c main_arg4) (V c main_arg5))) (V c main_arg5) 0)) (ix2 n j) := by
  rw [at1w12]
  show _ = mmT (arr (dA (V c main_arg6) (V c main_arg3) (V c main_arg4) (V c main_arg5))) (V c main_arg5) 0 n j
  rw [pay1_1]
  unfold mmT
  refine Finset.sum_congr rfl fun i _ => ?_
  rw [da1 V c t n r i hn, blk1w0]
  rfl

/-- What a point leaves of an output. -/
theorem outv1w13 (t : Fin cfg1.N) (n : Fin 4096) (r : Fin 512) (j : Fin 1024) (hn : n.val = 512 * t.val + r.val) :
    (outsAt1 V c t.val t.isLt).2.2.2.2.1 (ix2 r j) = (arr (mmT (arr (dB (V c main_arg6) (V c main_arg3) (V c main_arg4) (V c main_arg5))) (V c main_arg5) 1)) (ix2 n j) := by
  rw [at1w13]
  show _ = mmT (arr (dB (V c main_arg6) (V c main_arg3) (V c main_arg4) (V c main_arg5))) (V c main_arg5) 1 n j
  rw [pay1_2]
  unfold mmT
  refine Finset.sum_congr rfl fun i _ => ?_
  rw [db1 V c t n r i hn, blk1w1]
  rfl

/-- Which point's block holds an index. -/
theorem cover1w9 (i : S4096x1024.Idx) (t : Fin cfg1.N) (ht : t.val = (i 0).val / 512) : i ∈ ((View.whole main_v1_0).slice (win1_9.rect t)).set := by
  have h0 : (i 0 : ℕ) < 4096 := (i 0).isLt
  have h1 : (i 1 : ℕ) < 1024 := (i 1).isLt
  have hi := (idxs1 t).2.2.2.2.2.2.2.2.2.1
  rw [View.set_slice_whole, Rect.mem_set_unit]
  intro a
  match a with
  | ⟨0, _⟩ =>
    show win1_9.index t 0 * 512 ≤ (i 0 : ℕ) ∧ (i 0 : ℕ) < win1_9.index t 0 * 512 + 512
    rw [hi.1]; omega
  | ⟨1, _⟩ =>
    show win1_9.index t 1 * 1024 ≤ (i 1 : ℕ) ∧ (i 1 : ℕ) < win1_9.index t 1 * 1024 + 1024
    rw [hi.2]; omega

/-- What the call leaves of an output. -/
theorem fin1w9 : (dat1 V c).arrAt 9 cfg1.N = arr (dA (V c main_arg6) (V c main_arg3) (V c main_arg4) (V c main_arg5)) := by
  have hN : cfg1.N = 8 := N_1
  refine (dat1 V c).arrAt_eq_of_cover 9 (arr (dA (V c main_arg6) (V c main_arg3) (V c main_arg4) (V c main_arg5))) (fun t hf => ?_) (fun i => ?_)
  · have hfl : (dat1 V c).flushed 9 t = (cfg1.win 9).cut (grid1.coords t) ((outsAt1 V c t.val t.isLt).1) := by
      show (cfg1.win 9).cut (grid1.coords t) ((dat1 V c).after 9 t) = _
      rw [after1_9]
    rw [hfl]
    have hi := (idxs1 t).2.2.2.2.2.2.2.2.2.1
    have ht : t.val < 8 := lt_of_lt_of_eq t.isLt hN
    funext y
    rw [View.read_apply]
    show ((outsAt1 V c t.val t.isLt).1) _ = (arr (dA (V c main_arg6) (V c main_arg3) (V c main_arg4) (V c main_arg5))) _
    have e0 : ((((cfg1.win 9).blk t).view.emb y) 0).val = win1_9.index t 0 * 512 + 1 * (y 0).val := rfl
    have e1 : ((((cfg1.win 9).blk t).view.emb y) 1).val = win1_9.index t 1 * 1024 + 1 * (y 1).val := rfl
    have h0 : (y 0).val < 512 := (y 0).isLt
    have h1 : (y 1).val < 1024 := (y 1).isLt
    have hy : (cfg1.win 9).xinj (grid1.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv1w9 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win1_9.index t 0 * 512 + 1 * (y 0).val by rw [hi.1]; omega)
    | ⟨1, _⟩ => exact Fin.ext (show (y 1).val = win1_9.index t 1 * 1024 + 1 * (y 1).val by rw [hi.2]; omega)
  · have h0 : (i 0 : ℕ) < 4096 := (i 0).isLt
    exact ⟨⟨(i 0).val / 512, by rw [hN]; omega⟩, flush1_9 _, cover1w9 i _ rfl⟩

/-- Which point's block holds an index. -/
theorem cover1w10 (i : S4096x1024.Idx) (t : Fin cfg1.N) (ht : t.val = (i 0).val / 512) : i ∈ ((View.whole main_v1_1).slice (win1_10.rect t)).set := by
  have h0 : (i 0 : ℕ) < 4096 := (i 0).isLt
  have h1 : (i 1 : ℕ) < 1024 := (i 1).isLt
  have hi := (idxs1 t).2.2.2.2.2.2.2.2.2.2.1
  rw [View.set_slice_whole, Rect.mem_set_unit]
  intro a
  match a with
  | ⟨0, _⟩ =>
    show win1_10.index t 0 * 512 ≤ (i 0 : ℕ) ∧ (i 0 : ℕ) < win1_10.index t 0 * 512 + 512
    rw [hi.1]; omega
  | ⟨1, _⟩ =>
    show win1_10.index t 1 * 1024 ≤ (i 1 : ℕ) ∧ (i 1 : ℕ) < win1_10.index t 1 * 1024 + 1024
    rw [hi.2]; omega

/-- What the call leaves of an output. -/
theorem fin1w10 : (dat1 V c).arrAt 10 cfg1.N = arr (dB (V c main_arg6) (V c main_arg3) (V c main_arg4) (V c main_arg5)) := by
  have hN : cfg1.N = 8 := N_1
  refine (dat1 V c).arrAt_eq_of_cover 10 (arr (dB (V c main_arg6) (V c main_arg3) (V c main_arg4) (V c main_arg5))) (fun t hf => ?_) (fun i => ?_)
  · have hfl : (dat1 V c).flushed 10 t = (cfg1.win 10).cut (grid1.coords t) ((outsAt1 V c t.val t.isLt).2.1) := by
      show (cfg1.win 10).cut (grid1.coords t) ((dat1 V c).after 10 t) = _
      rw [after1_10]
    rw [hfl]
    have hi := (idxs1 t).2.2.2.2.2.2.2.2.2.2.1
    have ht : t.val < 8 := lt_of_lt_of_eq t.isLt hN
    funext y
    rw [View.read_apply]
    show ((outsAt1 V c t.val t.isLt).2.1) _ = (arr (dB (V c main_arg6) (V c main_arg3) (V c main_arg4) (V c main_arg5))) _
    have e0 : ((((cfg1.win 10).blk t).view.emb y) 0).val = win1_10.index t 0 * 512 + 1 * (y 0).val := rfl
    have e1 : ((((cfg1.win 10).blk t).view.emb y) 1).val = win1_10.index t 1 * 1024 + 1 * (y 1).val := rfl
    have h0 : (y 0).val < 512 := (y 0).isLt
    have h1 : (y 1).val < 1024 := (y 1).isLt
    have hy : (cfg1.win 10).xinj (grid1.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv1w10 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win1_10.index t 0 * 512 + 1 * (y 0).val by rw [hi.1]; omega)
    | ⟨1, _⟩ => exact Fin.ext (show (y 1).val = win1_10.index t 1 * 1024 + 1 * (y 1).val by rw [hi.2]; omega)
  · have h0 : (i 0 : ℕ) < 4096 := (i 0).isLt
    exact ⟨⟨(i 0).val / 512, by rw [hN]; omega⟩, flush1_10 _, cover1w10 i _ rfl⟩

/-- Which point's block holds an index. -/
theorem cover1w11 (i : S4096x2048.Idx) (t : Fin cfg1.N) (ht : t.val = (i 0).val / 512) : i ∈ ((View.whole main_v1_2).slice (win1_11.rect t)).set := by
  have h0 : (i 0 : ℕ) < 4096 := (i 0).isLt
  have h1 : (i 1 : ℕ) < 2048 := (i 1).isLt
  have hi := (idxs1 t).2.2.2.2.2.2.2.2.2.2.2.1
  rw [View.set_slice_whole, Rect.mem_set_unit]
  intro a
  match a with
  | ⟨0, _⟩ =>
    show win1_11.index t 0 * 512 ≤ (i 0 : ℕ) ∧ (i 0 : ℕ) < win1_11.index t 0 * 512 + 512
    rw [hi.1]; omega
  | ⟨1, _⟩ =>
    show win1_11.index t 1 * 2048 ≤ (i 1 : ℕ) ∧ (i 1 : ℕ) < win1_11.index t 1 * 2048 + 2048
    rw [hi.2]; omega

/-- What the call leaves of an output. -/
theorem fin1w11 : (dat1 V c).arrAt 11 cfg1.N = arr2 (dU (V c main_arg6) (V c main_v0_1) (V c main_v0_2) (V c main_arg3) (V c main_arg4) (V c main_arg5)) := by
  have hN : cfg1.N = 8 := N_1
  refine (dat1 V c).arrAt_eq_of_cover 11 (arr2 (dU (V c main_arg6) (V c main_v0_1) (V c main_v0_2) (V c main_arg3) (V c main_arg4) (V c main_arg5))) (fun t hf => ?_) (fun i => ?_)
  · have hfl : (dat1 V c).flushed 11 t = (cfg1.win 11).cut (grid1.coords t) ((outsAt1 V c t.val t.isLt).2.2.1) := by
      show (cfg1.win 11).cut (grid1.coords t) ((dat1 V c).after 11 t) = _
      rw [after1_11]
    rw [hfl]
    have hi := (idxs1 t).2.2.2.2.2.2.2.2.2.2.2.1
    have ht : t.val < 8 := lt_of_lt_of_eq t.isLt hN
    funext y
    rw [View.read_apply]
    show ((outsAt1 V c t.val t.isLt).2.2.1) _ = (arr2 (dU (V c main_arg6) (V c main_v0_1) (V c main_v0_2) (V c main_arg3) (V c main_arg4) (V c main_arg5))) _
    have e0 : ((((cfg1.win 11).blk t).view.emb y) 0).val = win1_11.index t 0 * 512 + 1 * (y 0).val := rfl
    have e1 : ((((cfg1.win 11).blk t).view.emb y) 1).val = win1_11.index t 1 * 2048 + 1 * (y 1).val := rfl
    have h0 : (y 0).val < 512 := (y 0).isLt
    have h1 : (y 1).val < 2048 := (y 1).isLt
    have hy : (cfg1.win 11).xinj (grid1.coords t) y = ix2 (n0 := 512) (n1 := 2048) ⟨(y 0).val, h0⟩ ⟨(y 1).val, h1⟩ := by
      funext a
      match a with
      | ⟨0, _⟩ => rfl
      | ⟨1, _⟩ => rfl
    rw [hy]
    refine (outv1w11 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win1_11.index t 0 * 512 + 1 * (y 0).val by rw [hi.1]; omega)
    | ⟨1, _⟩ => exact Fin.ext (show (y 1).val = win1_11.index t 1 * 2048 + 1 * (y 1).val by rw [hi.2]; omega)
  · have h0 : (i 0 : ℕ) < 4096 := (i 0).isLt
    exact ⟨⟨(i 0).val / 512, by rw [hN]; omega⟩, flush1_11 _, cover1w11 i _ rfl⟩

/-- Which point's block holds an index. -/
theorem cover1w12 (i : S4096x1024.Idx) (t : Fin cfg1.N) (ht : t.val = (i 0).val / 512) : i ∈ ((View.whole main_v1_3).slice (win1_12.rect t)).set := by
  have h0 : (i 0 : ℕ) < 4096 := (i 0).isLt
  have h1 : (i 1 : ℕ) < 1024 := (i 1).isLt
  have hi := (idxs1 t).2.2.2.2.2.2.2.2.2.2.2.2.1
  rw [View.set_slice_whole, Rect.mem_set_unit]
  intro a
  match a with
  | ⟨0, _⟩ =>
    show win1_12.index t 0 * 512 ≤ (i 0 : ℕ) ∧ (i 0 : ℕ) < win1_12.index t 0 * 512 + 512
    rw [hi.1]; omega
  | ⟨1, _⟩ =>
    show win1_12.index t 1 * 1024 ≤ (i 1 : ℕ) ∧ (i 1 : ℕ) < win1_12.index t 1 * 1024 + 1024
    rw [hi.2]; omega

/-- What the call leaves of an output. -/
theorem fin1w12 : (dat1 V c).arrAt 12 cfg1.N = arr (mmT (arr (dA (V c main_arg6) (V c main_arg3) (V c main_arg4) (V c main_arg5))) (V c main_arg5) 0) := by
  have hN : cfg1.N = 8 := N_1
  refine (dat1 V c).arrAt_eq_of_cover 12 (arr (mmT (arr (dA (V c main_arg6) (V c main_arg3) (V c main_arg4) (V c main_arg5))) (V c main_arg5) 0)) (fun t hf => ?_) (fun i => ?_)
  · have hfl : (dat1 V c).flushed 12 t = (cfg1.win 12).cut (grid1.coords t) ((outsAt1 V c t.val t.isLt).2.2.2.1) := by
      show (cfg1.win 12).cut (grid1.coords t) ((dat1 V c).after 12 t) = _
      rw [after1_12]
    rw [hfl]
    have hi := (idxs1 t).2.2.2.2.2.2.2.2.2.2.2.2.1
    have ht : t.val < 8 := lt_of_lt_of_eq t.isLt hN
    funext y
    rw [View.read_apply]
    show ((outsAt1 V c t.val t.isLt).2.2.2.1) _ = (arr (mmT (arr (dA (V c main_arg6) (V c main_arg3) (V c main_arg4) (V c main_arg5))) (V c main_arg5) 0)) _
    have e0 : ((((cfg1.win 12).blk t).view.emb y) 0).val = win1_12.index t 0 * 512 + 1 * (y 0).val := rfl
    have e1 : ((((cfg1.win 12).blk t).view.emb y) 1).val = win1_12.index t 1 * 1024 + 1 * (y 1).val := rfl
    have h0 : (y 0).val < 512 := (y 0).isLt
    have h1 : (y 1).val < 1024 := (y 1).isLt
    have hy : (cfg1.win 12).xinj (grid1.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv1w12 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win1_12.index t 0 * 512 + 1 * (y 0).val by rw [hi.1]; omega)
    | ⟨1, _⟩ => exact Fin.ext (show (y 1).val = win1_12.index t 1 * 1024 + 1 * (y 1).val by rw [hi.2]; omega)
  · have h0 : (i 0 : ℕ) < 4096 := (i 0).isLt
    exact ⟨⟨(i 0).val / 512, by rw [hN]; omega⟩, flush1_12 _, cover1w12 i _ rfl⟩

/-- Which point's block holds an index. -/
theorem cover1w13 (i : S4096x1024.Idx) (t : Fin cfg1.N) (ht : t.val = (i 0).val / 512) : i ∈ ((View.whole main_v1_4).slice (win1_13.rect t)).set := by
  have h0 : (i 0 : ℕ) < 4096 := (i 0).isLt
  have h1 : (i 1 : ℕ) < 1024 := (i 1).isLt
  have hi := (idxs1 t).2.2.2.2.2.2.2.2.2.2.2.2.2.1
  rw [View.set_slice_whole, Rect.mem_set_unit]
  intro a
  match a with
  | ⟨0, _⟩ =>
    show win1_13.index t 0 * 512 ≤ (i 0 : ℕ) ∧ (i 0 : ℕ) < win1_13.index t 0 * 512 + 512
    rw [hi.1]; omega
  | ⟨1, _⟩ =>
    show win1_13.index t 1 * 1024 ≤ (i 1 : ℕ) ∧ (i 1 : ℕ) < win1_13.index t 1 * 1024 + 1024
    rw [hi.2]; omega

/-- What the call leaves of an output. -/
theorem fin1w13 : (dat1 V c).arrAt 13 cfg1.N = arr (mmT (arr (dB (V c main_arg6) (V c main_arg3) (V c main_arg4) (V c main_arg5))) (V c main_arg5) 1) := by
  have hN : cfg1.N = 8 := N_1
  refine (dat1 V c).arrAt_eq_of_cover 13 (arr (mmT (arr (dB (V c main_arg6) (V c main_arg3) (V c main_arg4) (V c main_arg5))) (V c main_arg5) 1)) (fun t hf => ?_) (fun i => ?_)
  · have hfl : (dat1 V c).flushed 13 t = (cfg1.win 13).cut (grid1.coords t) ((outsAt1 V c t.val t.isLt).2.2.2.2.1) := by
      show (cfg1.win 13).cut (grid1.coords t) ((dat1 V c).after 13 t) = _
      rw [after1_13]
    rw [hfl]
    have hi := (idxs1 t).2.2.2.2.2.2.2.2.2.2.2.2.2.1
    have ht : t.val < 8 := lt_of_lt_of_eq t.isLt hN
    funext y
    rw [View.read_apply]
    show ((outsAt1 V c t.val t.isLt).2.2.2.2.1) _ = (arr (mmT (arr (dB (V c main_arg6) (V c main_arg3) (V c main_arg4) (V c main_arg5))) (V c main_arg5) 1)) _
    have e0 : ((((cfg1.win 13).blk t).view.emb y) 0).val = win1_13.index t 0 * 512 + 1 * (y 0).val := rfl
    have e1 : ((((cfg1.win 13).blk t).view.emb y) 1).val = win1_13.index t 1 * 1024 + 1 * (y 1).val := rfl
    have h0 : (y 0).val < 512 := (y 0).isLt
    have h1 : (y 1).val < 1024 := (y 1).isLt
    have hy : (cfg1.win 13).xinj (grid1.coords t) y = ix2 (n0 := 512) (n1 := 1024) ⟨(y 0).val, h0⟩ ⟨(y 1).val, h1⟩ := by
      funext a
      match a with
      | ⟨0, _⟩ => rfl
      | ⟨1, _⟩ => rfl
    rw [hy]
    refine (outv1w13 V c t ⟨512 * t.val + (y 0).val, by omega⟩ ⟨(y 0).val, h0⟩ ⟨(y 1).val, h1⟩ rfl).trans ?_
    congr 1
    funext a
    match a with
    | ⟨0, _⟩ => exact Fin.ext (show 512 * t.val + (y 0).val = win1_13.index t 0 * 512 + 1 * (y 0).val by rw [hi.1]; omega)
    | ⟨1, _⟩ => exact Fin.ext (show (y 1).val = win1_13.index t 1 * 1024 + 1 * (y 1).val by rw [hi.2]; omega)
  · have h0 : (i 0 : ℕ) < 4096 := (i 0).isLt
    exact ⟨⟨(i 0).val / 512, by rw [hN]; omega⟩, flush1_13 _, cover1w13 i _ rfl⟩

/-- The share of a point in the eight partial sums. -/
theorem share1 (t : Fin cfg1.N) (r : Fin 8) (j : Fin 1024) :
    (∑ q : Fin 64, k1_pay9 (F := Ideal) (k1_pay4 (F := Ideal) (iblk1 V c 0 t) (iblk1 V c 8 t)) (k1_pay5 (F := Ideal) (iblk1 V c 5 t) (iblk1 V c 3 t)) (iblk1 V c 1 t) (ix2 ⟨q.val * 8 + r.val, by omega⟩ j)
      = ∑ q : Fin 64, row (dU (V c main_arg6) (V c main_v0_1) (V c main_v0_2) (V c main_arg3) (V c main_arg4) (V c main_arg5)) (lo j) (512 * t.val + (q.val * 8 + r.val)))
    ∧ (∑ q : Fin 64, k1_pay10 (F := Ideal) (k1_pay4 (F := Ideal) (iblk1 V c 0 t) (iblk1 V c 8 t)) (k1_pay6 (F := Ideal) (iblk1 V c 5 t) (iblk1 V c 4 t)) (iblk1 V c 2 t) (ix2 ⟨q.val * 8 + r.val, by omega⟩ j)
      = ∑ q : Fin 64, row (dU (V c main_arg6) (V c main_v0_1) (V c main_v0_2) (V c main_arg3) (V c main_arg4) (V c main_arg5)) (hi j) (512 * t.val + (q.val * 8 + r.val))) := by
  have ht : t.val < 8 := lt_of_lt_of_eq t.isLt N_1
  constructor
  · refine Finset.sum_congr rfl fun q _ => ?_
    have hq : 512 * t.val + (q.val * 8 + r.val) < 4096 := by omega
    unfold row
    rw [dif_pos hq]
    exact du1 V c t ⟨_, hq⟩ _ j rfl
  · refine Finset.sum_congr rfl fun q _ => ?_
    have hq : 512 * t.val + (q.val * 8 + r.val) < 4096 := by omega
    unfold row
    rw [dif_pos hq]
    exact dv1 V c t ⟨_, hq⟩ _ j rfl

/-- The eight partial sums after the first point. -/
theorem at1A14 (t : Fin cfg1.N) (h0 : t.val % 8 = 0) (r : Fin 8) (j : Fin 2048) :
    (outsAt1 V c t.val t.isLt).2.2.2.2.2 (ix2 r j) = ∑ q : Fin 64, row (dU (V c main_arg6) (V c main_v0_1) (V c main_v0_2) (V c main_arg3) (V c main_arg4) (V c main_arg5)) j (512 * t.val + (q.val * 8 + r.val)) := by
  rw [outsAt1_A V c t h0]
  rcases lo_or_hi j with ⟨k, rfl⟩ | ⟨k, rfl⟩
  · have e := raw1A14lo c t ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) r k
    dsimp only
    exact e.trans (share1 V c t r k).1
  · have e := raw1A14hi c t ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) r k
    dsimp only
    exact e.trans (share1 V c t r k).2

/-- The eight partial sums after a later point. -/
theorem at1B14 (t : Fin cfg1.N) (h0 : ¬t.val % 8 = 0) (r : Fin 8) (j : Fin 2048) :
    (outsAt1 V c t.val t.isLt).2.2.2.2.2 (ix2 r j)
      = ((outsAt1 V c (t.val - 1) (Nat.lt_of_le_of_lt (Nat.sub_le _ _) t.isLt)).2.2.2.2.2) (ix2 r j) + ∑ q : Fin 64, row (dU (V c main_arg6) (V c main_v0_1) (V c main_v0_2) (V c main_arg3) (V c main_arg4) (V c main_arg5)) j (512 * t.val + (q.val * 8 + r.val)) := by
  rw [outsAt1_B V c t h0]
  rcases lo_or_hi j with ⟨k, rfl⟩ | ⟨k, rfl⟩
  · have e := raw1B14lo c t (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2.2.2.2) r k
    dsimp only
    exact e.trans (second_term (share1 V c t r k).1)
  · have e := raw1B14hi c t (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) ((outsAt1 V c (t.val - 1) (Nat.lt_of_le_of_lt (Nat.sub_le _ _) t.isLt)).2.2.2.2.2) r k
    dsimp only
    exact e.trans (second_term (share1 V c t r k).2)

/-- The eight partial sums after the points up to `n`. -/
theorem at1w14 (n : ℕ) (hn : n < cfg1.N) (r : Fin 8) (j : Fin 2048) :
    (outsAt1 V c n hn).2.2.2.2.2 (ix2 r j) = ∑ t ∈ Finset.range (n + 1), ∑ q : Fin 64, row (dU (V c main_arg6) (V c main_v0_1) (V c main_v0_2) (V c main_arg3) (V c main_arg4) (V c main_arg5)) j (512 * t + (q.val * 8 + r.val)) := by
  have hN : cfg1.N = 8 := N_1
  induction n with
  | zero =>
    refine (at1A14 V c ⟨0, hn⟩ rfl r j).trans ?_
    rw [Finset.sum_range_one]
  | succ n ih =>
    refine (at1B14 V c ⟨n + 1, hn⟩ (by dsimp only; omega) r j).trans ?_
    rw [Finset.sum_range_succ _ (n + 1)]
    congr 1
    exact ih (by omega)

/-- The one block of partial sums holds every index. -/
theorem cover1w14 (i : S8x2048.Idx) (t : Fin cfg1.N) : i ∈ ((View.whole main_v1_5).slice (win1_14.rect t)).set := by
  have h0 : (i 0 : ℕ) < 8 := (i 0).isLt
  have h1 : (i 1 : ℕ) < 2048 := (i 1).isLt
  have hi := (idxs1 t).2.2.2.2.2.2.2.2.2.2.2.2.2.2
  rw [View.set_slice_whole, Rect.mem_set_unit]
  intro a
  match a with
  | ⟨0, _⟩ =>
    show win1_14.index t 0 * 8 ≤ (i 0 : ℕ) ∧ (i 0 : ℕ) < win1_14.index t 0 * 8 + 8
    rw [hi.1]; omega
  | ⟨1, _⟩ =>
    show win1_14.index t 1 * 2048 ≤ (i 1 : ℕ) ∧ (i 1 : ℕ) < win1_14.index t 1 * 2048 + 2048
    rw [hi.2]; omega

/-- The partial sums the call leaves. -/
theorem fin1w14 : (dat1 V c).arrAt 14 cfg1.N = parts (dU (V c main_arg6) (V c main_v0_1) (V c main_v0_2) (V c main_arg3) (V c main_arg4) (V c main_arg5)) := by
  have hN : cfg1.N = 8 := N_1
  refine (dat1 V c).arrAt_eq_of_cover 14 (parts (dU (V c main_arg6) (V c main_v0_1) (V c main_v0_2) (V c main_arg3) (V c main_arg4) (V c main_arg5))) (fun t hf => ?_) (fun i => ?_)
  · have ht : t.val % 8 = 7 := (flush1_14 t).mp hf
    have ht' : t.val < 8 := lt_of_lt_of_eq t.isLt hN
    have hfl : (dat1 V c).flushed 14 t = (cfg1.win 14).cut (grid1.coords t) (outsAt1 V c t.val t.isLt).2.2.2.2.2 := by
      show (cfg1.win 14).cut (grid1.coords t) ((dat1 V c).after 14 t) = _
      rw [after1_14]
    rw [hfl]
    have hi := (idxs1 t).2.2.2.2.2.2.2.2.2.2.2.2.2.2
    funext y
    rw [View.read_apply]
    show (outsAt1 V c t.val t.isLt).2.2.2.2.2 _ = (parts (dU (V c main_arg6) (V c main_v0_1) (V c main_v0_2) (V c main_arg3) (V c main_arg4) (V c main_arg5))) _
    have h0 : (y 0).val < 8 := (y 0).isLt
    have h1 : (y 1).val < 2048 := (y 1).isLt
    have hy : (cfg1.win 14).xinj (grid1.coords t) y = ix2 (n0 := 8) (n1 := 2048) ⟨(y 0).val, h0⟩ ⟨(y 1).val, h1⟩ := by
      funext a
      match a with
      | ⟨0, _⟩ => rfl
      | ⟨1, _⟩ => rfl
    rw [hy]
    refine (at1w14 V c t.val t.isLt ⟨(y 0).val, h0⟩ ⟨(y 1).val, h1⟩).trans ?_
    rw [show t.val + 1 = 8 by omega]
    show (parts (dU (V c main_arg6) (V c main_v0_1) (V c main_v0_2) (V c main_arg3) (V c main_arg4) (V c main_arg5))) (ix2 (n0 := 8) (n1 := 2048) ⟨(y 0).val, h0⟩ ⟨(y 1).val, h1⟩) = _
    congr 1
    funext a
    match a with
    | ⟨0, _⟩ => exact Fin.ext (show (y 0).val = win1_14.index t 0 * 8 + 1 * (y 0).val by rw [hi.1]; omega)
    | ⟨1, _⟩ => exact Fin.ext (show (y 1).val = win1_14.index t 1 * 2048 + 1 * (y 1).val by rw [hi.2]; omega)
  · exact ⟨⟨7, by rw [hN]; omega⟩, (flush1_14 _).mpr rfl, cover1w14 i _⟩

end Cert.Mrg
-- ==== Proof.Mrg.Wts.lean ====
module

public import proofs.«01_k».proof.Proof.Gen.Kernel3Ideal.Frame
public import Idealize.ShloMosaic.Lib.Pipeline.ReadBack
public import Idealize.ShloMosaic.Lib.Pipeline.ValueKit.Tiles
public import proofs.«01_k».proof.Proof.Mrg.Pay

@[expose] public section

noncomputable section

namespace Cert.Mrg

open Cert.Kernel3Ideal Cert.Kernel3Ideal.Gen Idealize.ShloMosaic Idealize.ShloMosaic.TcCoe Idealize.SL.Sem

variable (V : (c : Dev nD) → (b : Ref sig .tc) → Buf (Elt Ideal) ((c : Thread nD τ).loc b)) (c : Dev nD)

/-- The products of a block's columns. -/
def bdot (x y : S512x1024.Idx → EReal) (i j : Fin 1024) : EReal := ∑ n : Fin 512, x (ix2 n i) * y (ix2 n j)

/-- A slab does not hold an index of another one. -/
theorem not_mem (a : ℕ) (b : Fin 3) (i j : Fin 1024) (inb) (h : a ≠ b.val) :
    ix3 b i j ∉ (Rect.unit (s := S3x1024x1024) ![a, 0, 0] S1x1024x1024.size inb).set := by
  intro hm
  have h1 := (Rect.mem_set_unit (s := S3x1024x1024) (off := ![a, 0, 0]) (size := S1x1024x1024.size) (inb := inb)).1 hm 0
  have h2 : a ≤ b.val ∧ b.val < a + 1 := h1
  exact h (by omega)

/-- Stored slabs, read at one of them. -/
theorem slab0 (p2 p1 p0 : S1x1024x1024.Idx → Elt Ideal .f32) (L : List (View.Piece (Elt Ideal) S3x1024x1024 .f32)) (i j : Fin 1024) :
    View.canon (⟨(Rect.unit (s := S3x1024x1024) ![2, 0, 0] S1x1024x1024.size inb_S3x1024x1024_S1x1024x1024_2_0_0), p2⟩ :: ⟨(Rect.unit (s := S3x1024x1024) ![1, 0, 0] S1x1024x1024.size inb_S3x1024x1024_S1x1024x1024_1_0_0), p1⟩ :: ⟨(Rect.unit (s := S3x1024x1024) ![0, 0, 0] S1x1024x1024.size inb_S3x1024x1024_S1x1024x1024_0_0_0), p0⟩ :: L) (ix3 0 i j) = p0 (ix3 0 i j) := by
  refine (View.canon_cons_of_not_mem (⟨(Rect.unit (s := S3x1024x1024) ![2, 0, 0] S1x1024x1024.size inb_S3x1024x1024_S1x1024x1024_2_0_0), p2⟩ : View.Piece (Elt Ideal) S3x1024x1024 .f32) _ (not_mem 2 0 i j inb_S3x1024x1024_S1x1024x1024_2_0_0 (by decide))).trans ?_
  refine (View.canon_cons_of_not_mem (⟨(Rect.unit (s := S3x1024x1024) ![1, 0, 0] S1x1024x1024.size inb_S3x1024x1024_S1x1024x1024_1_0_0), p1⟩ : View.Piece (Elt Ideal) S3x1024x1024 .f32) _ (not_mem 1 0 i j inb_S3x1024x1024_S1x1024x1024_1_0_0 (by decide))).trans ?_
  have e : (Rect.unit (s := S3x1024x1024) ![0, 0, 0] S1x1024x1024.size inb_S3x1024x1024_S1x1024x1024_0_0_0).emb (ix3 0 i j) = ix3 0 i j := by
    funext x
    match x with
    | ⟨0, _⟩ => rfl
    | ⟨1, _⟩ => exact Fin.ext (show 0 + 1 * i.val = i.val by omega)
    | ⟨2, _⟩ => exact Fin.ext (show 0 + 1 * j.val = j.val by omega)
  exact (congrArg _ e.symm).trans (View.canon_cons_emb (Rect.unit (s := S3x1024x1024) ![0, 0, 0] S1x1024x1024.size inb_S3x1024x1024_S1x1024x1024_0_0_0) p0 L (ix3 0 i j))

/-- A slab of the three matrices. -/
theorem ld_slab0 (p : Vec Ideal S3x1024x1024 .f32) (i j : Fin 1024) :
    View.ld (S := S3x1024x1024) (Val := Elt Ideal) (e' := .f32) p (Rect.unit (s := S3x1024x1024) ![0, 0, 0] S1x1024x1024.size inb_S3x1024x1024_S1x1024x1024_0_0_0) (ix3 0 i j) = p (ix3 0 i j) := by
  refine View.ld_unit_apply_of _ _ _ _ _ (ix3 0 i j) ?_
  intro a; fin_cases a
  · rfl
  · exact (Nat.zero_add _).symm
  · exact (Nat.zero_add _).symm

/-- Stored slabs, read at one of them. -/
theorem slab1 (p2 p1 : S1x1024x1024.Idx → Elt Ideal .f32) (L : List (View.Piece (Elt Ideal) S3x1024x1024 .f32)) (i j : Fin 1024) :
    View.canon (⟨(Rect.unit (s := S3x1024x1024) ![2, 0, 0] S1x1024x1024.size inb_S3x1024x1024_S1x1024x1024_2_0_0), p2⟩ :: ⟨(Rect.unit (s := S3x1024x1024) ![1, 0, 0] S1x1024x1024.size inb_S3x1024x1024_S1x1024x1024_1_0_0), p1⟩ :: L) (ix3 1 i j) = p1 (ix3 0 i j) := by
  refine (View.canon_cons_of_not_mem (⟨(Rect.unit (s := S3x1024x1024) ![2, 0, 0] S1x1024x1024.size inb_S3x1024x1024_S1x1024x1024_2_0_0), p2⟩ : View.Piece (Elt Ideal) S3x1024x1024 .f32) _ (not_mem 2 1 i j inb_S3x1024x1024_S1x1024x1024_2_0_0 (by decide))).trans ?_
  have e : (Rect.unit (s := S3x1024x1024) ![1, 0, 0] S1x1024x1024.size inb_S3x1024x1024_S1x1024x1024_1_0_0).emb (ix3 0 i j) = ix3 1 i j := by
    funext x
    match x with
    | ⟨0, _⟩ => rfl
    | ⟨1, _⟩ => exact Fin.ext (show 0 + 1 * i.val = i.val by omega)
    | ⟨2, _⟩ => exact Fin.ext (show 0 + 1 * j.val = j.val by omega)
  exact (congrArg _ e.symm).trans (View.canon_cons_emb (Rect.unit (s := S3x1024x1024) ![1, 0, 0] S1x1024x1024.size inb_S3x1024x1024_S1x1024x1024_1_0_0) p1 L (ix3 0 i j))

/-- A slab of the three matrices. -/
theorem ld_slab1 (p : Vec Ideal S3x1024x1024 .f32) (i j : Fin 1024) :
    View.ld (S := S3x1024x1024) (Val := Elt Ideal) (e' := .f32) p (Rect.unit (s := S3x1024x1024) ![1, 0, 0] S1x1024x1024.size inb_S3x1024x1024_S1x1024x1024_1_0_0) (ix3 0 i j) = p (ix3 1 i j) := by
  refine View.ld_unit_apply_of _ _ _ _ _ (ix3 1 i j) ?_
  intro a; fin_cases a
  · rfl
  · exact (Nat.zero_add _).symm
  · exact (Nat.zero_add _).symm

/-- Stored slabs, read at one of them. -/
theorem slab2 (p2 : S1x1024x1024.Idx → Elt Ideal .f32) (L : List (View.Piece (Elt Ideal) S3x1024x1024 .f32)) (i j : Fin 1024) :
    View.canon (⟨(Rect.unit (s := S3x1024x1024) ![2, 0, 0] S1x1024x1024.size inb_S3x1024x1024_S1x1024x1024_2_0_0), p2⟩ :: L) (ix3 2 i j) = p2 (ix3 0 i j) := by
  have e : (Rect.unit (s := S3x1024x1024) ![2, 0, 0] S1x1024x1024.size inb_S3x1024x1024_S1x1024x1024_2_0_0).emb (ix3 0 i j) = ix3 2 i j := by
    funext x
    match x with
    | ⟨0, _⟩ => rfl
    | ⟨1, _⟩ => exact Fin.ext (show 0 + 1 * i.val = i.val by omega)
    | ⟨2, _⟩ => exact Fin.ext (show 0 + 1 * j.val = j.val by omega)
  exact (congrArg _ e.symm).trans (View.canon_cons_emb (Rect.unit (s := S3x1024x1024) ![2, 0, 0] S1x1024x1024.size inb_S3x1024x1024_S1x1024x1024_2_0_0) p2 L (ix3 0 i j))

/-- A slab of the three matrices. -/
theorem ld_slab2 (p : Vec Ideal S3x1024x1024 .f32) (i j : Fin 1024) :
    View.ld (S := S3x1024x1024) (Val := Elt Ideal) (e' := .f32) p (Rect.unit (s := S3x1024x1024) ![2, 0, 0] S1x1024x1024.size inb_S3x1024x1024_S1x1024x1024_2_0_0) (ix3 0 i j) = p (ix3 2 i j) := by
  refine View.ld_unit_apply_of _ _ _ _ _ (ix3 2 i j) ?_
  intro a; fin_cases a
  · rfl
  · exact (Nat.zero_add _).symm
  · exact (Nat.zero_add _).symm

/-- What a point leaves in a slab. -/
theorem raw2A0 (t : Fin cfg2.N) (h) (x0 x1 x2 x3 x4 : Vec Ideal S512x1024 .bf16) (x5 : Vec Ideal S512x1024 .f32) (i j : Fin 1024) :
    out2_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) h x0 x1 x2 x3 x4 x5 (ix3 0 i j) = bdot x0 x1 i j := by
  unfold out2_A_6
  rw [View.read_writes_junk_eq_canon]
  unfold kernelRun2_A
  dsimp only
  sl_unfold_words
  simp only [View.readAt_eq_ld, (hs2_0 t).read_unread, (hs2_1 t).read_unread, (hs2_2 t).read_unread, (hs2_3 t).read_unread, (hs2_4 t).read_unread, (hs2_5 t).read_unread, (hs2_6 t).read_unread]
  simp only [View.ld_unit_zero (Val := Elt Ideal) (S := S512x1024) (off := ![0,0]) (by decide)]
  refine (slab0 _ _ _ _ i j).trans ?_
  rw [pay2_3]
  unfold bdot
  rw [View.readCov_fill _ _ _ _ _ (by decide)]
  refine (congrArg (· + _) ((ld_slab0 _ i j).trans (pay2_2 _))).trans (zero_add _)

/-- What a point leaves in a slab. -/
theorem raw2B0 (t : Fin cfg2.N) (h) (x0 x1 x2 x3 x4 : Vec Ideal S512x1024 .bf16) (x5 : Vec Ideal S512x1024 .f32) (p : Vec Ideal S3x1024x1024 .f32) (i j : Fin 1024) :
    out2_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) h x0 x1 x2 x3 x4 x5 p (ix3 0 i j) = p (ix3 0 i j) + bdot x0 x1 i j := by
  unfold out2_B_6
  rw [View.read_writes_junk_eq_canon]
  unfold kernelRun2_B
  dsimp only
  sl_unfold_words
  simp only [View.readAt_eq_ld, (hs2_0 t).read_unread, (hs2_1 t).read_unread, (hs2_2 t).read_unread, (hs2_3 t).read_unread, (hs2_4 t).read_unread, (hs2_5 t).read_unread, (hs2_6 t).read_unread]
  simp only [View.ld_unit_zero (Val := Elt Ideal) (S := S512x1024) (off := ![0,0]) (by decide)]
  refine (slab0 _ _ _ _ i j).trans ?_
  rw [pay2_3]
  unfold bdot
  rw [ld_slab0]

/-- What a point leaves in a slab. -/
theorem raw2A1 (t : Fin cfg2.N) (h) (x0 x1 x2 x3 x4 : Vec Ideal S512x1024 .bf16) (x5 : Vec Ideal S512x1024 .f32) (i j : Fin 1024) :
    out2_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) h x0 x1 x2 x3 x4 x5 (ix3 1 i j) = bdot x2 x3 i j := by
  unfold out2_A_6
  rw [View.read_writes_junk_eq_canon]
  unfold kernelRun2_A
  dsimp only
  sl_unfold_words
  simp only [View.readAt_eq_ld, (hs2_0 t).read_unread, (hs2_1 t).read_unread, (hs2_2 t).read_unread, (hs2_3 t).read_unread, (hs2_4 t).read_unread, (hs2_5 t).read_unread, (hs2_6 t).read_unread]
  simp only [View.ld_unit_zero (Val := Elt Ideal) (S := S512x1024) (off := ![0,0]) (by decide)]
  refine (slab1 _ _ _ i j).trans ?_
  rw [pay2_4]
  unfold bdot
  rw [View.readCov_skip _ _ _ _ _ (by decide)]
  rw [View.readCov_fill _ _ _ _ _ (by decide)]
  refine (congrArg (· + _) ((ld_slab1 _ i j).trans (pay2_2 _))).trans (zero_add _)

/-- What a point leaves in a slab. -/
theorem raw2B1 (t : Fin cfg2.N) (h) (x0 x1 x2 x3 x4 : Vec Ideal S512x1024 .bf16) (x5 : Vec Ideal S512x1024 .f32) (p : Vec Ideal S3x1024x1024 .f32) (i j : Fin 1024) :
    out2_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) h x0 x1 x2 x3 x4 x5 p (ix3 1 i j) = p (ix3 1 i j) + bdot x2 x3 i j := by
  unfold out2_B_6
  rw [View.read_writes_junk_eq_canon]
  unfold kernelRun2_B
  dsimp only
  sl_unfold_words
  simp only [View.readAt_eq_ld, (hs2_0 t).read_unread, (hs2_1 t).read_unread, (hs2_2 t).read_unread, (hs2_3 t).read_unread, (hs2_4 t).read_unread, (hs2_5 t).read_unread, (hs2_6 t).read_unread]
  simp only [View.ld_unit_zero (Val := Elt Ideal) (S := S512x1024) (off := ![0,0]) (by decide)]
  refine (slab1 _ _ _ i j).trans ?_
  rw [pay2_4]
  unfold bdot
  rw [ld_slab1]

/-- What a point leaves in a slab. -/
theorem raw2A2 (t : Fin cfg2.N) (h) (x0 x1 x2 x3 x4 : Vec Ideal S512x1024 .bf16) (x5 : Vec Ideal S512x1024 .f32) (i j : Fin 1024) :
    out2_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) h x0 x1 x2 x3 x4 x5 (ix3 2 i j) = bdot x4 x5 i j := by
  unfold out2_A_6
  rw [View.read_writes_junk_eq_canon]
  unfold kernelRun2_A
  dsimp only
  sl_unfold_words
  simp only [View.readAt_eq_ld, (hs2_0 t).read_unread, (hs2_1 t).read_unread, (hs2_2 t).read_unread, (hs2_3 t).read_unread, (hs2_4 t).read_unread, (hs2_5 t).read_unread, (hs2_6 t).read_unread]
  simp only [View.ld_unit_zero (Val := Elt Ideal) (S := S512x1024) (off := ![0,0]) (by decide)]
  refine (slab2 _ _ i j).trans ?_
  rw [pay2_1]
  unfold bdot
  rw [View.readCov_skip _ _ _ _ _ (by decide)]
  rw [View.readCov_skip _ _ _ _ _ (by decide)]
  rw [View.readCov_fill _ _ _ _ _ (by decide)]
  refine (congrArg (· + _) ((ld_slab2 _ i j).trans (pay2_2 _))).trans (zero_add _)

/-- What a point leaves in a slab. -/
theorem raw2B2 (t : Fin cfg2.N) (h) (x0 x1 x2 x3 x4 : Vec Ideal S512x1024 .bf16) (x5 : Vec Ideal S512x1024 .f32) (p : Vec Ideal S3x1024x1024 .f32) (i j : Fin 1024) :
    out2_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) h x0 x1 x2 x3 x4 x5 p (ix3 2 i j) = p (ix3 2 i j) + bdot x4 x5 i j := by
  unfold out2_B_6
  rw [View.read_writes_junk_eq_canon]
  unfold kernelRun2_B
  dsimp only
  sl_unfold_words
  simp only [View.readAt_eq_ld, (hs2_0 t).read_unread, (hs2_1 t).read_unread, (hs2_2 t).read_unread, (hs2_3 t).read_unread, (hs2_4 t).read_unread, (hs2_5 t).read_unread, (hs2_6 t).read_unread]
  simp only [View.ld_unit_zero (Val := Elt Ideal) (S := S512x1024) (off := ![0,0]) (by decide)]
  refine (slab2 _ _ i j).trans ?_
  rw [pay2_1]
  unfold bdot
  rw [ld_slab2]

/-- Where each window's block lies at a grid point. -/
theorem idxs2 : ∀ t : Fin cfg2.N, (win2_0.index t 0 = t.val ∧ win2_0.index t 1 = 0) ∧ (win2_1.index t 0 = t.val ∧ win2_1.index t 1 = 0) ∧ (win2_2.index t 0 = t.val ∧ win2_2.index t 1 = 0) ∧ (win2_3.index t 0 = t.val ∧ win2_3.index t 1 = 0) ∧ (win2_4.index t 0 = t.val ∧ win2_4.index t 1 = 0) ∧ (win2_5.index t 0 = t.val ∧ win2_5.index t 1 = 0) ∧ (win2_6.index t 0 = 0 ∧ win2_6.index t 1 = 0 ∧ win2_6.index t 2 = 0) :=
  (by decide +kernel : ∀ t : Fin grid2.N, (win2_0.index t 0 = t.val ∧ win2_0.index t 1 = 0) ∧ (win2_1.index t 0 = t.val ∧ win2_1.index t 1 = 0) ∧ (win2_2.index t 0 = t.val ∧ win2_2.index t 1 = 0) ∧ (win2_3.index t 0 = t.val ∧ win2_3.index t 1 = 0) ∧ (win2_4.index t 0 = t.val ∧ win2_4.index t 1 = 0) ∧ (win2_5.index t 0 = t.val ∧ win2_5.index t 1 = 0) ∧ (win2_6.index t 0 = 0 ∧ win2_6.index t 1 = 0 ∧ win2_6.index t 2 = 0))

/-- The rows a point reads. -/
theorem blk2w0 (t : Fin cfg2.N) (n : Fin 4096) (r : Fin 512) (j : Fin 1024) (hn : n.val = 512 * t.val + r.val) :
    (iblk2 V c 0 t : Vec Ideal S512x1024 .bf16) (ix2 r j) = (V c main_arg1 : S4096x1024.Idx → EReal) (ix2 n j) := by
  have hi := (idxs2 t).1
  unfold iblk2
  rw [View.read_apply]
  show V c main_arg1 _ = V c main_arg1 _
  congr 1
  funext a
  apply Fin.ext
  match a with
  | ⟨0, _⟩ => show win2_0.index t 0 * 512 + 1 * r.val = n.val; rw [hi.1]; omega
  | ⟨1, _⟩ => show win2_0.index t 1 * 1024 + 1 * j.val = j.val; rw [hi.2]; omega

/-- The rows a point reads. -/
theorem blk2w1 (t : Fin cfg2.N) (n : Fin 4096) (r : Fin 512) (j : Fin 1024) (hn : n.val = 512 * t.val + r.val) :
    (iblk2 V c 1 t : Vec Ideal S512x1024 .bf16) (ix2 r j) = (V c main_v1_0 : S4096x1024.Idx → EReal) (ix2 n j) := by
  have hi := (idxs2 t).2.1
  unfold iblk2
  rw [View.read_apply]
  show V c main_v1_0 _ = V c main_v1_0 _
  congr 1
  funext a
  apply Fin.ext
  match a with
  | ⟨0, _⟩ => show win2_1.index t 0 * 512 + 1 * r.val = n.val; rw [hi.1]; omega
  | ⟨1, _⟩ => show win2_1.index t 1 * 1024 + 1 * j.val = j.val; rw [hi.2]; omega

/-- The rows a point reads. -/
theorem blk2w2 (t : Fin cfg2.N) (n : Fin 4096) (r : Fin 512) (j : Fin 1024) (hn : n.val = 512 * t.val + r.val) :
    (iblk2 V c 2 t : Vec Ideal S512x1024 .bf16) (ix2 r j) = (V c main_arg2 : S4096x1024.Idx → EReal) (ix2 n j) := by
  have hi := (idxs2 t).2.2.1
  unfold iblk2
  rw [View.read_apply]
  show V c main_arg2 _ = V c main_arg2 _
  congr 1
  funext a
  apply Fin.ext
  match a with
  | ⟨0, _⟩ => show win2_2.index t 0 * 512 + 1 * r.val = n.val; rw [hi.1]; omega
  | ⟨1, _⟩ => show win2_2.index t 1 * 1024 + 1 * j.val = j.val; rw [hi.2]; omega

/-- The rows a point reads. -/
theorem blk2w3 (t : Fin cfg2.N) (n : Fin 4096) (r : Fin 512) (j : Fin 1024) (hn : n.val = 512 * t.val + r.val) :
    (iblk2 V c 3 t : Vec Ideal S512x1024 .bf16) (ix2 r j) = (V c main_v1_1 : S4096x1024.Idx → EReal) (ix2 n j) := by
  have hi := (idxs2 t).2.2.2.1
  unfold iblk2
  rw [View.read_apply]
  show V c main_v1_1 _ = V c main_v1_1 _
  congr 1
  funext a
  apply Fin.ext
  match a with
  | ⟨0, _⟩ => show win2_3.index t 0 * 512 + 1 * r.val = n.val; rw [hi.1]; omega
  | ⟨1, _⟩ => show win2_3.index t 1 * 1024 + 1 * j.val = j.val; rw [hi.2]; omega

/-- The rows a point reads. -/
theorem blk2w4 (t : Fin cfg2.N) (n : Fin 4096) (r : Fin 512) (j : Fin 1024) (hn : n.val = 512 * t.val + r.val) :
    (iblk2 V c 4 t : Vec Ideal S512x1024 .bf16) (ix2 r j) = (V c main_v0_3 : S4096x1024.Idx → EReal) (ix2 n j) := by
  have hi := (idxs2 t).2.2.2.2.1
  unfold iblk2
  rw [View.read_apply]
  show V c main_v0_3 _ = V c main_v0_3 _
  congr 1
  funext a
  apply Fin.ext
  match a with
  | ⟨0, _⟩ => show win2_4.index t 0 * 512 + 1 * r.val = n.val; rw [hi.1]; omega
  | ⟨1, _⟩ => show win2_4.index t 1 * 1024 + 1 * j.val = j.val; rw [hi.2]; omega

/-- The rows a point reads. -/
theorem blk2w5 (t : Fin cfg2.N) (n : Fin 4096) (r : Fin 512) (j : Fin 1024) (hn : n.val = 512 * t.val + r.val) :
    (iblk2 V c 5 t : Vec Ideal S512x1024 .f32) (ix2 r j) = (V c main_arg6 : S4096x1024.Idx → EReal) (ix2 n j) := by
  have hi := (idxs2 t).2.2.2.2.2.1
  unfold iblk2
  rw [View.read_apply]
  show V c main_arg6 _ = V c main_arg6 _
  congr 1
  funext a
  apply Fin.ext
  match a with
  | ⟨0, _⟩ => show win2_5.index t 0 * 512 + 1 * r.val = n.val; rw [hi.1]; omega
  | ⟨1, _⟩ => show win2_5.index t 1 * 1024 + 1 * j.val = j.val; rw [hi.2]; omega

/-- A point's share of a weight gradient. -/
theorem share2w0 (t : Fin cfg2.N) (i j : Fin 1024) :
    bdot (iblk2 V c 0 t) (iblk2 V c 1 t) i j
      = ∑ n : Fin 512, part (V c main_arg1) (V c main_v1_0) i j (512 * t.val + n.val) := by
  have ht : t.val < 8 := lt_of_lt_of_eq t.isLt N_2
  unfold bdot
  refine Finset.sum_congr rfl fun n _ => ?_
  have hq : 512 * t.val + n.val < 4096 := by omega
  unfold part
  rw [dif_pos hq, blk2w0 V c t ⟨_, hq⟩ n i rfl, blk2w1 V c t ⟨_, hq⟩ n j rfl]

/-- A slab after the first point. -/
theorem at2A0 (t : Fin cfg2.N) (h0 : t.val % 8 = 0) (i j : Fin 1024) :
    outsAt2 V c t.val t.isLt (ix3 0 i j) = ∑ n : Fin 512, part (V c main_arg1) (V c main_v1_0) i j (512 * t.val + n.val) := by
  rw [outsAt2_A V c t h0]
  have e := raw2A0 c t ((hcond2_0 t).mpr h0) (iblk2 V c 0 t) (iblk2 V c 1 t) (iblk2 V c 2 t) (iblk2 V c 3 t) (iblk2 V c 4 t) (iblk2 V c 5 t) i j
  exact e.trans (share2w0 V c t i j)

/-- A slab after a later point. -/
theorem at2B0 (t : Fin cfg2.N) (h0 : ¬t.val % 8 = 0) (i j : Fin 1024) :
    outsAt2 V c t.val t.isLt (ix3 0 i j) = (outsAt2 V c (t.val - 1) (Nat.lt_of_le_of_lt (Nat.sub_le _ _) t.isLt)) (ix3 0 i j) + ∑ n : Fin 512, part (V c main_arg1) (V c main_v1_0) i j (512 * t.val + n.val) := by
  rw [outsAt2_B V c t h0]
  have e := raw2B0 c t (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)) i j
  exact e.trans (second_term (share2w0 V c t i j))

/-- A slab after the points up to `n`. -/
theorem at2w0 (n : ℕ) (hn : n < cfg2.N) (i j : Fin 1024) :
    outsAt2 V c n hn (ix3 0 i j) = ∑ t ∈ Finset.range (n + 1), ∑ s : Fin 512, part (V c main_arg1) (V c main_v1_0) i j (512 * t + s.val) := by
  have hN : cfg2.N = 8 := N_2
  induction n with
  | zero =>
    refine (at2A0 V c ⟨0, hn⟩ rfl i j).trans ?_
    rw [Finset.sum_range_one]
  | succ n ih =>
    refine (at2B0 V c ⟨n + 1, hn⟩ (by dsimp only; omega) i j).trans ?_
    rw [Finset.sum_range_succ _ (n + 1)]
    congr 1
    exact ih (by omega)

/-- A point's share of a weight gradient. -/
theorem share2w1 (t : Fin cfg2.N) (i j : Fin 1024) :
    bdot (iblk2 V c 2 t) (iblk2 V c 3 t) i j
      = ∑ n : Fin 512, part (V c main_arg2) (V c main_v1_1) i j (512 * t.val + n.val) := by
  have ht : t.val < 8 := lt_of_lt_of_eq t.isLt N_2
  unfold bdot
  refine Finset.sum_congr rfl fun n _ => ?_
  have hq : 512 * t.val + n.val < 4096 := by omega
  unfold part
  rw [dif_pos hq, blk2w2 V c t ⟨_, hq⟩ n i rfl, blk2w3 V c t ⟨_, hq⟩ n j rfl]

/-- A slab after the first point. -/
theorem at2A1 (t : Fin cfg2.N) (h0 : t.val % 8 = 0) (i j : Fin 1024) :
    outsAt2 V c t.val t.isLt (ix3 1 i j) = ∑ n : Fin 512, part (V c main_arg2) (V c main_v1_1) i j (512 * t.val + n.val) := by
  rw [outsAt2_A V c t h0]
  have e := raw2A1 c t ((hcond2_0 t).mpr h0) (iblk2 V c 0 t) (iblk2 V c 1 t) (iblk2 V c 2 t) (iblk2 V c 3 t) (iblk2 V c 4 t) (iblk2 V c 5 t) i j
  exact e.trans (share2w1 V c t i j)

/-- A slab after a later point. -/
theorem at2B1 (t : Fin cfg2.N) (h0 : ¬t.val % 8 = 0) (i j : Fin 1024) :
    outsAt2 V c t.val t.isLt (ix3 1 i j) = (outsAt2 V c (t.val - 1) (Nat.lt_of_le_of_lt (Nat.sub_le _ _) t.isLt)) (ix3 1 i j) + ∑ n : Fin 512, part (V c main_arg2) (V c main_v1_1) i j (512 * t.val + n.val) := by
  rw [outsAt2_B V c t h0]
  have e := raw2B1 c t (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)) i j
  exact e.trans (second_term (share2w1 V c t i j))

/-- A slab after the points up to `n`. -/
theorem at2w1 (n : ℕ) (hn : n < cfg2.N) (i j : Fin 1024) :
    outsAt2 V c n hn (ix3 1 i j) = ∑ t ∈ Finset.range (n + 1), ∑ s : Fin 512, part (V c main_arg2) (V c main_v1_1) i j (512 * t + s.val) := by
  have hN : cfg2.N = 8 := N_2
  induction n with
  | zero =>
    refine (at2A1 V c ⟨0, hn⟩ rfl i j).trans ?_
    rw [Finset.sum_range_one]
  | succ n ih =>
    refine (at2B1 V c ⟨n + 1, hn⟩ (by dsimp only; omega) i j).trans ?_
    rw [Finset.sum_range_succ _ (n + 1)]
    congr 1
    exact ih (by omega)

/-- A point's share of a weight gradient. -/
theorem share2w2 (t : Fin cfg2.N) (i j : Fin 1024) :
    bdot (iblk2 V c 4 t) (iblk2 V c 5 t) i j
      = ∑ n : Fin 512, part (V c main_v0_3) (V c main_arg6) i j (512 * t.val + n.val) := by
  have ht : t.val < 8 := lt_of_lt_of_eq t.isLt N_2
  unfold bdot
  refine Finset.sum_congr rfl fun n _ => ?_
  have hq : 512 * t.val + n.val < 4096 := by omega
  unfold part
  rw [dif_pos hq, blk2w4 V c t ⟨_, hq⟩ n i rfl, blk2w5 V c t ⟨_, hq⟩ n j rfl]

/-- A slab after the first point. -/
theorem at2A2 (t : Fin cfg2.N) (h0 : t.val % 8 = 0) (i j : Fin 1024) :
    outsAt2 V c t.val t.isLt (ix3 2 i j) = ∑ n : Fin 512, part (V c main_v0_3) (V c main_arg6) i j (512 * t.val + n.val) := by
  rw [outsAt2_A V c t h0]
  have e := raw2A2 c t ((hcond2_0 t).mpr h0) (iblk2 V c 0 t) (iblk2 V c 1 t) (iblk2 V c 2 t) (iblk2 V c 3 t) (iblk2 V c 4 t) (iblk2 V c 5 t) i j
  exact e.trans (share2w2 V c t i j)

/-- A slab after a later point. -/
theorem at2B2 (t : Fin cfg2.N) (h0 : ¬t.val % 8 = 0) (i j : Fin 1024) :
    outsAt2 V c t.val t.isLt (ix3 2 i j) = (outsAt2 V c (t.val - 1) (Nat.lt_of_le_of_lt (Nat.sub_le _ _) t.isLt)) (ix3 2 i j) + ∑ n : Fin 512, part (V c main_v0_3) (V c main_arg6) i j (512 * t.val + n.val) := by
  rw [outsAt2_B V c t h0]
  have e := raw2B2 c t (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)) i j
  exact e.trans (second_term (share2w2 V c t i j))

/-- A slab after the points up to `n`. -/
theorem at2w2 (n : ℕ) (hn : n < cfg2.N) (i j : Fin 1024) :
    outsAt2 V c n hn (ix3 2 i j) = ∑ t ∈ Finset.range (n + 1), ∑ s : Fin 512, part (V c main_v0_3) (V c main_arg6) i j (512 * t + s.val) := by
  have hN : cfg2.N = 8 := N_2
  induction n with
  | zero =>
    refine (at2A2 V c ⟨0, hn⟩ rfl i j).trans ?_
    rw [Finset.sum_range_one]
  | succ n ih =>
    refine (at2B2 V c ⟨n + 1, hn⟩ (by dsimp only; omega) i j).trans ?_
    rw [Finset.sum_range_succ _ (n + 1)]
    congr 1
    exact ih (by omega)

/-- The one block of weight gradients holds every index. -/
theorem cover2w6 (i : S3x1024x1024.Idx) (t : Fin cfg2.N) : i ∈ ((View.whole main_v2).slice (win2_6.rect t)).set := by
  have h0 : (i 0 : ℕ) < 3 := (i 0).isLt
  have h1 : (i 1 : ℕ) < 1024 := (i 1).isLt
  have h2 : (i 2 : ℕ) < 1024 := (i 2).isLt
  have hi := (idxs2 t).2.2.2.2.2.2
  rw [View.set_slice_whole, Rect.mem_set_unit]
  intro a
  match a with
  | ⟨0, _⟩ =>
    show win2_6.index t 0 * 3 ≤ (i 0 : ℕ) ∧ (i 0 : ℕ) < win2_6.index t 0 * 3 + 3
    rw [hi.1]; omega
  | ⟨1, _⟩ =>
    show win2_6.index t 1 * 1024 ≤ (i 1 : ℕ) ∧ (i 1 : ℕ) < win2_6.index t 1 * 1024 + 1024
    rw [hi.2.1]; omega
  | ⟨2, _⟩ =>
    show win2_6.index t 2 * 1024 ≤ (i 2 : ℕ) ∧ (i 2 : ℕ) < win2_6.index t 2 * 1024 + 1024
    rw [hi.2.2]; omega

/-- The weight gradients after the last point. -/
theorem out2w6 (t : Fin cfg2.N) (ht : t.val = 7) (k : Fin 3) (i j : Fin 1024) :
    outsAt2 V c t.val t.isLt (ix3 k i j) = (wgr (V c main_arg1) (V c main_v1_0) (V c main_arg2) (V c main_v1_1) (V c main_v0_3) (V c main_arg6)) (ix3 k i j) := by
  match k with
  | ⟨0, _⟩ => refine (at2w0 V c t.val t.isLt i j).trans ?_; rw [show t.val + 1 = 8 by omega]; exact wsum_eq _ _ i j
  | ⟨1, _⟩ => refine (at2w1 V c t.val t.isLt i j).trans ?_; rw [show t.val + 1 = 8 by omega]; exact wsum_eq _ _ i j
  | ⟨2, _⟩ => refine (at2w2 V c t.val t.isLt i j).trans ?_; rw [show t.val + 1 = 8 by omega]; exact wsum_eq _ _ i j

/-- The weight gradients the call leaves. -/
theorem fin2w6 : (dat2 V c).arrAt 6 cfg2.N = wgr (V c main_arg1) (V c main_v1_0) (V c main_arg2) (V c main_v1_1) (V c main_v0_3) (V c main_arg6) := by
  have hN : cfg2.N = 8 := N_2
  refine (dat2 V c).arrAt_eq_of_cover 6 (wgr (V c main_arg1) (V c main_v1_0) (V c main_arg2) (V c main_v1_1) (V c main_v0_3) (V c main_arg6)) (fun t hf => ?_) (fun i => ?_)
  · have ht : t.val % 8 = 7 := (flush2_6 t).mp hf
    have ht' : t.val < 8 := lt_of_lt_of_eq t.isLt hN
    have hfl : (dat2 V c).flushed 6 t = (cfg2.win 6).cut (grid2.coords t) (outsAt2 V c t.val t.isLt) := by
      show (cfg2.win 6).cut (grid2.coords t) ((dat2 V c).after 6 t) = _
      rw [after2_6]
    rw [hfl]
    have hi := (idxs2 t).2.2.2.2.2.2
    funext y
    rw [View.read_apply]
    show (outsAt2 V c t.val t.isLt) _ = (wgr (V c main_arg1) (V c main_v1_0) (V c main_arg2) (V c main_v1_1) (V c main_v0_3) (V c main_arg6)) _
    have h0 : (y 0).val < 3 := (y 0).isLt
    have h1 : (y 1).val < 1024 := (y 1).isLt
    have h2 : (y 2).val < 1024 := (y 2).isLt
    have hy : (cfg2.win 6).xinj (grid2.coords t) y = ix3 (n0 := 3) (n1 := 1024) (n2 := 1024) ⟨(y 0).val, h0⟩ ⟨(y 1).val, h1⟩ ⟨(y 2).val, h2⟩ := by
      funext a
      match a with
      | ⟨0, _⟩ => rfl
      | ⟨1, _⟩ => rfl
      | ⟨2, _⟩ => rfl
    rw [hy]
    refine (out2w6 V c t (by omega) ⟨(y 0).val, h0⟩ ⟨(y 1).val, h1⟩ ⟨(y 2).val, h2⟩).trans ?_
    congr 1
    funext a
    match a with
    | ⟨0, _⟩ => exact Fin.ext (show (y 0).val = win2_6.index t 0 * 3 + 1 * (y 0).val by rw [hi.1]; omega)
    | ⟨1, _⟩ => exact Fin.ext (show (y 1).val = win2_6.index t 1 * 1024 + 1 * (y 1).val by rw [hi.2.1]; omega)
    | ⟨2, _⟩ => exact Fin.ext (show (y 2).val = win2_6.index t 2 * 1024 + 1 * (y 2).val by rw [hi.2.2]; omega)
  · exact ⟨⟨7, by rw [hN]; omega⟩, (flush2_6 _).mpr rfl, cover2w6 i _⟩

end Cert.Mrg
-- ==== Proof.Mrg.Run.lean ====
module

public import proofs.«01_k».proof.Proof.Gen.Kernel3Ideal.Frame
public import Idealize.ShloMosaic.Lib.Pipeline.RegionsLoop
public import Idealize.ShloMosaic.Lib.Tactic
public import proofs.«01_k».proof.Proof.Mrg.Fwd
public import proofs.«01_k».proof.Proof.Mrg.Bwd
public import proofs.«01_k».proof.Proof.Mrg.Wts

@[expose] public section

noncomputable section

namespace Cert.Mrg

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The run ends with every array at what the three calls and the sum after them leave it. -/
theorem run : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

variable (c : Dev nD)

/-- The residual stream. -/
abbrev a0 : S4096x1024.Idx → EReal := m ((c : Thread nD τ).loc main_arg0)
/-- The convolution branch. -/
abbrev a1 : S4096x1024.Idx → EReal := m ((c : Thread nD τ).loc main_arg1)
/-- The attention branch. -/
abbrev a2 : S4096x1024.Idx → EReal := m ((c : Thread nD τ).loc main_arg2)
/-- The gates' input. -/
abbrev a3 : S4096x2048.Idx → EReal := m ((c : Thread nD τ).loc main_arg3)
/-- The gates' offset. -/
abbrev a4 : S1x2048.Idx → EReal := m ((c : Thread nD τ).loc main_arg4)
/-- The three weight matrices. -/
abbrev a5 : S3x1024x1024.Idx → EReal := m ((c : Thread nD τ).loc main_arg5)
/-- The incoming gradient. -/
abbrev a6 : S4096x1024.Idx → EReal := m ((c : Thread nD τ).loc main_arg6)

/-- The second call finds the first branch's product. -/
theorem v1y : (V1 m ρ c main_v0_1 : S4096x1024.Idx → EReal) = arr (mm (a1 m c) (a5 m c) 0) := (W1_arr m ρ c 10).trans (fin0w10 (V0 m ρ) c)
/-- The second call finds the second branch's product. -/
theorem v1z : (V1 m ρ c main_v0_2 : S4096x1024.Idx → EReal) = arr (mm (a2 m c) (a5 m c) 1) := (W1_arr m ρ c 11).trans (fin0w11 (V0 m ρ) c)
/-- The second call finds an argument as it was. -/
theorem v1a3 : (V1 m ρ c main_arg3 : S4096x2048.Idx → EReal) = a3 m c := W1_args m ρ c main_arg3 (by decide)
/-- The second call finds an argument as it was. -/
theorem v1a4 : (V1 m ρ c main_arg4 : S1x2048.Idx → EReal) = a4 m c := W1_args m ρ c main_arg4 (by decide)
/-- The second call finds an argument as it was. -/
theorem v1a5 : (V1 m ρ c main_arg5 : S3x1024x1024.Idx → EReal) = a5 m c := W1_args m ρ c main_arg5 (by decide)
/-- The second call finds an argument as it was. -/
theorem v1a6 : (V1 m ρ c main_arg6 : S4096x1024.Idx → EReal) = a6 m c := W1_args m ρ c main_arg6 (by decide)
/-- The third call finds an argument as it was. -/
theorem v2a1 : (V2 m ρ c main_arg1 : S4096x1024.Idx → EReal) = a1 m c := W2_args m ρ c main_arg1 (by decide)
/-- The third call finds an argument as it was. -/
theorem v2a2 : (V2 m ρ c main_arg2 : S4096x1024.Idx → EReal) = a2 m c := W2_args m ρ c main_arg2 (by decide)
/-- The third call finds an argument as it was. -/
theorem v2a6 : (V2 m ρ c main_arg6 : S4096x1024.Idx → EReal) = a6 m c := W2_args m ρ c main_arg6 (by decide)
/-- The third call finds the first branch's gradient. -/
theorem v2d : (V2 m ρ c main_v1_0 : S4096x1024.Idx → EReal) = arr (dA (a6 m c) (a3 m c) (a4 m c) (a5 m c)) := by
  refine ((W2_arr m ρ c 9).trans (fin1w9 (V1 m ρ) c)).trans ?_
  rw [v1a6, v1a3, v1a4, v1a5]
/-- The third call finds the second branch's gradient. -/
theorem v2e : (V2 m ρ c main_v1_1 : S4096x1024.Idx → EReal) = arr (dB (a6 m c) (a3 m c) (a4 m c) (a5 m c)) := by
  refine ((W2_arr m ρ c 10).trans (fin1w10 (V1 m ρ) c)).trans ?_
  rw [v1a6, v1a3, v1a4, v1a5]
/-- The third call finds the merged rows. -/
theorem v2m : (V2 m ρ c main_v0_3 : S4096x1024.Idx → EReal) = arr (mrg (a1 m c) (a2 m c) (a3 m c) (a4 m c) (a5 m c)) :=
  (W2_of m ρ c main_v0_3 (by decide)).trans ((W1_arr m ρ c 12).trans (fin0w12 (V0 m ρ) c))

/-- The residual stream after the block. -/
theorem resX : (W4 m ρ c (Proc.devRef .tc main_v0_0) : S4096x1024.Idx → EReal) = arr (nxt (a0 m c) (a1 m c) (a2 m c) (a3 m c) (a4 m c) (a5 m c)) :=
  (W4_of m ρ c main_v0_0 (by decide)).trans ((W3_of m ρ c main_v0_0 (by decide)).trans
    ((W2_of m ρ c main_v0_0 (by decide)).trans ((W1_arr m ρ c 9).trans (fin0w9 (V0 m ρ) c))))

/-- The gradient at the gates' input. -/
theorem resU : (W4 m ρ c (Proc.devRef .tc main_v1_2) : S4096x2048.Idx → EReal) = arr2 (dU (a6 m c) (arr (mm (a1 m c) (a5 m c) 0)) (arr (mm (a2 m c) (a5 m c) 1)) (a3 m c) (a4 m c) (a5 m c)) := by
  refine (W4_of m ρ c main_v1_2 (by decide)).trans ((W3_of m ρ c main_v1_2 (by decide)).trans
    (((W2_arr m ρ c 11).trans (fin1w11 (V1 m ρ) c)).trans ?_))
  rw [v1a6, v1y, v1z, v1a3, v1a4, v1a5]

/-- The gradient at the convolution branch. -/
theorem resP : (W4 m ρ c (Proc.devRef .tc main_v1_3) : S4096x1024.Idx → EReal) = arr (mmT (arr (dA (a6 m c) (a3 m c) (a4 m c) (a5 m c))) (a5 m c) 0) := by
  refine (W4_of m ρ c main_v1_3 (by decide)).trans ((W3_of m ρ c main_v1_3 (by decide)).trans
    (((W2_arr m ρ c 12).trans (fin1w12 (V1 m ρ) c)).trans ?_))
  rw [v1a6, v1a3, v1a4, v1a5]

/-- The gradient at the attention branch. -/
theorem resQ : (W4 m ρ c (Proc.devRef .tc main_v1_4) : S4096x1024.Idx → EReal) = arr (mmT (arr (dB (a6 m c) (a3 m c) (a4 m c) (a5 m c))) (a5 m c) 1) := by
  refine (W4_of m ρ c main_v1_4 (by decide)).trans ((W3_of m ρ c main_v1_4 (by decide)).trans
    (((W2_arr m ρ c 13).trans (fin1w13 (V1 m ρ) c)).trans ?_))
  rw [v1a6, v1a3, v1a4, v1a5]

/-- The gradients of the three weight matrices. -/
theorem resG : (W4 m ρ c (Proc.devRef .tc main_v2) : S3x1024x1024.Idx → EReal)
    = wgr (a1 m c) (arr (dA (a6 m c) (a3 m c) (a4 m c) (a5 m c))) (a2 m c) (arr (dB (a6 m c) (a3 m c) (a4 m c) (a5 m c))) (arr (mrg (a1 m c) (a2 m c) (a3 m c) (a4 m c) (a5 m c))) (a6 m c) := by
  refine (W4_of m ρ c main_v2 (by decide)).trans (((W3_arr m ρ c 6).trans (fin2w6 (V2 m ρ) c)).trans ?_)
  rw [v2a1, v2d, v2a2, v2e, v2m, v2a6]

/-- The gradient of the gates' offset: a column's sum over all rows. -/
def colsum (f : Fin 4096 → Fin 2048 → EReal) : S2048.Idx → EReal := fun j => ∑ n : Fin 4096, f n (j 0)

/-- Eight rows, added up. -/
theorem reduce8 (x : FVec Ideal S8x2048 .f32) (j : Fin 2048) :
    Host.reduceAdd x (constant S_ .f32 0x00000000#32) reducesTo_S8x2048_S2048_d0 h_S_ (ix1 j) = ∑ k : Fin 8, x (ix2 k j) := by
  pointwise

/-- The eight rows of partial sums add up to a column's sum. -/
theorem total (x : FVec Ideal S8x2048 .f32) (f : Fin 4096 → Fin 2048 → EReal) (h : x = parts f) (j : Fin 2048) :
    Host.reduceAdd x (constant S_ .f32 0x00000000#32) reducesTo_S8x2048_S2048_d0 h_S_ (ix1 j) = ∑ n : Fin 4096, f n j := by
  rw [h]
  exact (reduce8 _ j).trans (parts_eq f j)

/-- The partial sums the second call leaves. -/
theorem v3b : (W3 m ρ c (Proc.devRef .tc main_v1_5) : S8x2048.Idx → EReal) = parts (dU (a6 m c) (arr (mm (a1 m c) (a5 m c) 0)) (arr (mm (a2 m c) (a5 m c) 1)) (a3 m c) (a4 m c) (a5 m c)) := by
  refine (W3_of m ρ c main_v1_5 (by decide)).trans (((W2_arr m ρ c 14).trans (fin1w14 (V1 m ρ) c)).trans ?_)
  rw [v1a6, v1y, v1z, v1a3, v1a4, v1a5]

/-- The sum after the calls, from any contents. -/
theorem tail (V : Valuation τ sig (Elt Ideal)) : @Eq (FVec Ideal S2048 .f32)
    (StableHlo.after hostOps3 V (Proc.devRef .tc main_v3))
    (Host.reduceAdd (F := Ideal) (φ := .f32) (V (Proc.devRef .tc main_v1_5)) (constant S_ .f32 0x00000000#32) reducesTo_S8x2048_S2048_d0 h_S_) := by
  unfold hostOps3
  after_results

/-- The gradient of the gates' offset. -/
theorem resB : (W4 m ρ c (Proc.devRef .tc main_v3) : S2048.Idx → EReal) = colsum (dU (a6 m c) (arr (mm (a1 m c) (a5 m c) 0)) (arr (mm (a2 m c) (a5 m c) 1)) (a3 m c) (a4 m c) (a5 m c)) := by
  refine (tail (W3 m ρ c)).trans ?_
  funext j
  obtain ⟨k, rfl⟩ : ∃ k, j = ix1 k := ⟨j 0, by funext k; match k with | ⟨0, _⟩ => rfl⟩
  exact total _ _ (v3b m ρ c) k

end Cert.Mrg
-- ==== Proof.Mrg.Ref.lean ====
module

public import proofs.«01_k».proof.Proof.Gen.Reference3Ideal.Read
public import proofs.«01_k».proof.Proof.Mrg.Spec
public import Idealize.ShloMosaic.Lib.Pointwise

@[expose] public section

noncomputable section

namespace Cert.Mrg

open Cert.Reference3Ideal Cert.Reference3Ideal.Gen Cert.Reference3Ideal.Read Idealize.ShloMosaic Idealize.ShloMosaic.TcCoe

variable (x p q : S4096x1024.Idx → EReal) (u : S4096x2048.Idx → EReal) (b : S1x2048.Idx → EReal) (w : S3x1024x1024.Idx → EReal) (d : S4096x1024.Idx → EReal)

/-- The first weight matrix. -/
theorem r6 (i j : Fin 1024) : val_main_v6 (F := Ideal) w (ix2 i j) = w (ix3 0 i j) := by
  unfold val_main_v6 val_main_v5 val_main_v0
  pointwise

/-- The second weight matrix. -/
theorem r8 (i j : Fin 1024) : val_main_v8 (F := Ideal) w (ix2 i j) = w (ix3 1 i j) := by
  unfold val_main_v8 val_main_v7 val_main_v0
  pointwise

/-- The third weight matrix. -/
theorem r10 (i j : Fin 1024) : val_main_v10 (F := Ideal) w (ix2 i j) = w (ix3 2 i j) := by
  unfold val_main_v10 val_main_v9 val_main_v0
  pointwise

/-- A product of rows with a matrix. -/
theorem dotN (a : FVec Ideal S4096x1024 .f32) (k : FVec Ideal S1024x1024 .f32) (n : Fin 4096) (j : Fin 1024) :
    Host.dotGeneral dot_S4096x1024_S1024x1024_S4096x1024_1_0_0_1_n_n none a k (ix2 n j) = ∑ i : Fin 1024, a (ix2 n i) * k (ix2 i j) := by
  pointwise

/-- A product of rows with a transposed matrix. -/
theorem dotT (a : FVec Ideal S4096x1024 .f32) (k : FVec Ideal S1024x1024 .f32) (n : Fin 4096) (i : Fin 1024) :
    Host.dotGeneral dot_S4096x1024_S1024x1024_S4096x1024_1_1_0_0_n_n none a k (ix2 n i) = ∑ j : Fin 1024, a (ix2 n j) * k (ix2 i j) := by
  pointwise

/-- A product over the rows, transposed. -/
theorem dotR (a k : FVec Ideal S4096x1024 .f32) (i j : Fin 1024) :
    transpose S1024x1024 [1, 0] (Host.dotGeneral dot_S4096x1024_S4096x1024_S1024x1024_0_0_1_1_n_n none a k) transposes_S1024x1024_S1024x1024_1_0 (ix2 i j)
      = ∑ n : Fin 4096, a (ix2 n j) * k (ix2 n i) := by
  pointwise

/-- The first branch's product. -/
theorem r11 (n : Fin 4096) (j : Fin 1024) : val_main_v11 (F := Ideal) p w (ix2 n j) = mm p w 0 n j := by
  unfold val_main_v11 val_main_v1
  refine (dotN _ _ n j).trans ?_
  unfold mm
  refine Finset.sum_congr rfl fun i _ => ?_
  rw [r6]
  rfl

/-- The second branch's product. -/
theorem r12 (n : Fin 4096) (j : Fin 1024) : val_main_v12 (F := Ideal) q w (ix2 n j) = mm q w 1 n j := by
  unfold val_main_v12 val_main_v2
  refine (dotN _ _ n j).trans ?_
  unfold mm
  refine Finset.sum_congr rfl fun i _ => ?_
  rw [r8]
  rfl

/-- The gates. -/
theorem r21 (n : Fin 4096) (j : Fin 2048) : val_main_v21 (F := Ideal) u b (ix2 n j) = sig1 (u (ix2 n j) + b (ix2 0 j)) := by
  unfold val_main_v21 val_main_v20 val_main_v19 val_main_v18 val_main_v17 val_main_v16 val_main_v15 val_main_v14 val_main_v13 val_main_v4 val_main_v3
    val_main_cst val_main_cst_0 sig1
  pointwise
  rw [zero_sub]

/-- The first half of the gates. -/
theorem r25 (n : Fin 4096) (j : Fin 1024) : val_main_v25 (F := Ideal) u b (ix2 n j) = gA u b n j := by
  unfold val_main_v25
  have e := r21 u b n (lo j)
  generalize val_main_v21 (F := Ideal) u b = v at e ⊢
  refine Eq.trans ?_ e
  pointwise
  rfl

/-- The second half of the gates. -/
theorem r26 (n : Fin 4096) (j : Fin 1024) : val_main_v26 (F := Ideal) u b (ix2 n j) = gB u b n j := by
  unfold val_main_v26
  have e := r21 u b n (hi j)
  generalize val_main_v21 (F := Ideal) u b = v at e ⊢
  refine Eq.trans ?_ e
  pointwise
  exact congrArg (fun t => v (ix2 n t)) (Fin.ext (Nat.add_comm 1024 j.val))

/-- The merged rows. -/
theorem r29 (n : Fin 4096) (j : Fin 1024) : val_main_v29 (F := Ideal) p q u b w (ix2 n j) = mrg p q u b w n j := by
  unfold mrg
  rw [← r25, ← r26, ← r11, ← r12]
  rfl

/-- The residual stream after the block. -/
theorem refX : val_main_v31 (F := Ideal) x p q u b w = arr (nxt x p q u b w) := by
  funext y
  obtain ⟨n, j, rfl⟩ : ∃ n j, y = ix2 n j := ⟨y 0, y 1, by funext k; match k with | ⟨0, _⟩ => rfl | ⟨1, _⟩ => rfl⟩
  unfold val_main_v31 val_main_v30
  show x (ix2 n j) + _ = x (ix2 n j) + _
  refine second_term ((dotN _ _ n j).trans ?_)
  unfold mm
  refine Finset.sum_congr rfl fun i _ => ?_
  rw [r10, r29]
  rfl

/-- The incoming gradient, seen through the third matrix. -/
theorem r35 (n : Fin 4096) (i : Fin 1024) : val_main_v35 (F := Ideal) w d (ix2 n i) = mmT d w 2 n i := by
  unfold val_main_v35 val_main_v32
  refine (dotT _ _ n i).trans ?_
  unfold mmT
  refine Finset.sum_congr rfl fun j _ => ?_
  rw [r10]
  refine congrArg (· * w (ix3 2 i j)) ?_
  pointwise

/-- The first branch's gradient. -/
theorem r38 (n : Fin 4096) (j : Fin 1024) : val_main_v38 (F := Ideal) u b w d (ix2 n j) = dA d u b w n j := by
  unfold dA
  rw [← r25, ← r35]
  rfl

/-- The second branch's gradient. -/
theorem r36 (n : Fin 4096) (j : Fin 1024) : val_main_v36 (F := Ideal) u b w d (ix2 n j) = dB d u b w n j := by
  unfold dB
  rw [← r26, ← r35]
  rfl

/-- The gradient at the convolution branch. -/
theorem refP : val_main_v52 (F := Ideal) u b w d = arr (mmT (arr (dA d u b w)) w 0) := by
  funext y
  obtain ⟨n, j, rfl⟩ : ∃ n j, y = ix2 n j := ⟨y 0, y 1, by funext k; match k with | ⟨0, _⟩ => rfl | ⟨1, _⟩ => rfl⟩
  unfold val_main_v52 val_main_v50
  refine (dotT _ _ n j).trans ?_
  unfold arr mmT
  refine Finset.sum_congr rfl fun i _ => ?_
  rw [r6, r38]
  rfl

/-- The gradient at the attention branch. -/
theorem refQ : val_main_v53 (F := Ideal) u b w d = arr (mmT (arr (dB d u b w)) w 1) := by
  funext y
  obtain ⟨n, j, rfl⟩ : ∃ n j, y = ix2 n j := ⟨y 0, y 1, by funext k; match k with | ⟨0, _⟩ => rfl | ⟨1, _⟩ => rfl⟩
  unfold val_main_v53 val_main_v47
  refine (dotT _ _ n j).trans ?_
  unfold arr mmT
  refine Finset.sum_congr rfl fun i _ => ?_
  rw [r8, r36]
  rfl

/-- A gate times its complement. -/
theorem r24 (n : Fin 4096) (j : Fin 2048) :
    val_main_v24 (F := Ideal) u b (ix2 n j) = sig1 (u (ix2 n j) + b (ix2 0 j)) * (1 - sig1 (u (ix2 n j) + b (ix2 0 j))) := by
  rw [← r21]
  unfold val_main_v24 val_main_v23 val_main_v22 val_main_cst_1
  generalize val_main_v21 (F := Ideal) u b = v
  pointwise

/-- Two arrays side by side, in the first half. -/
theorem cat_lo (a k : FVec Ideal S4096x1024 .f32) (n : Fin 4096) (j : Fin 1024) :
    concatenate S4096x2048 1 [⟨S4096x1024, a⟩, ⟨S4096x1024, k⟩] concatenates_S4096x1024_S4096x1024_S4096x2048_d1 (ix2 n (lo j)) = a (ix2 n j) := by
  pointwise
  exact dif_pos j.isLt

/-- Two arrays side by side, in the second half. -/
theorem cat_hi (a k : FVec Ideal S4096x1024 .f32) (n : Fin 4096) (j : Fin 1024) :
    concatenate S4096x2048 1 [⟨S4096x1024, a⟩, ⟨S4096x1024, k⟩] concatenates_S4096x1024_S4096x1024_S4096x2048_d1 (ix2 n (hi j)) = k (ix2 n j) := by
  have h : ¬ (hi j).val < 1024 := by show ¬ j.val + 1024 < 1024; omega
  pointwise
  refine (dif_neg h).trans ?_
  exact congrArg (fun t => k (ix2 n t)) (Fin.ext (show j.val + 1024 - 1024 = j.val by omega))

/-- The gradient at the gates' input. -/
theorem r41 (n : Fin 4096) (j : Fin 2048) :
    val_main_v41 (F := Ideal) p q u b w d (ix2 n j) = dU d (arr (mm p w 0)) (arr (mm q w 1)) u b w n j := by
  obtain ⟨k, rfl⟩ | ⟨k, rfl⟩ := lo_or_hi j
  · refine Eq.trans ?_ (dU_lo d _ _ u b w n k).symm
    show val_main_v40 (F := Ideal) p q w d (ix2 n (lo k)) * val_main_v24 (F := Ideal) u b (ix2 n (lo k)) = _
    rw [r24]
    unfold val_main_v40
    rw [cat_lo]
    show val_main_v35 (F := Ideal) w d (ix2 n k) * val_main_v11 (F := Ideal) p w (ix2 n k) * _ = _
    rw [r35, r11, mul_comm (mmT d w 2 n k)]
    rfl
  · refine Eq.trans ?_ (dU_hi d _ _ u b w n k).symm
    show val_main_v40 (F := Ideal) p q w d (ix2 n (hi k)) * val_main_v24 (F := Ideal) u b (ix2 n (hi k)) = _
    rw [r24]
    unfold val_main_v40
    rw [cat_hi]
    show val_main_v35 (F := Ideal) w d (ix2 n k) * val_main_v12 (F := Ideal) q w (ix2 n k) * _ = _
    rw [r35, r12, mul_comm (mmT d w 2 n k)]
    rfl

/-- The gradient at the gates' input, as an array. -/
theorem refU : val_main_v51 (F := Ideal) p q u b w d = arr2 (dU d (arr (mm p w 0)) (arr (mm q w 1)) u b w) := by
  funext y
  obtain ⟨n, j, rfl⟩ : ∃ n j, y = ix2 n j := ⟨y 0, y 1, by funext k; match k with | ⟨0, _⟩ => rfl | ⟨1, _⟩ => rfl⟩
  exact r41 p q u b w d n j

/-- A column's sum over all rows, as the reference writes it. -/
theorem sumcol (v : FVec Ideal S4096x2048 .f32) (j : Fin 2048) :
    Host.reduceAdd (shapeCast S1x2048 (Host.reduceAdd v (constant S_ .f32 0x00000000#32) reducesTo_S4096x2048_S2048_d0 h_S_) shapeCasts_S2048_S1x2048)
      (constant S_ .f32 0x00000000#32) reducesTo_S1x2048_S2048_d0 h_S_ (ix1 j) = ∑ n : Fin 4096, v (ix2 n j) := by
  pointwise
  exact Fin.sum_univ_one _

/-- The gradient of the gates' offset. -/
theorem refB (j : Fin 2048) :
    val_main_v44 (F := Ideal) p q u b w d (ix1 j) = ∑ n : Fin 4096, dU d (arr (mm p w 0)) (arr (mm q w 1)) u b w n j := by
  unfold val_main_v44 val_main_v43 val_main_v42 val_main_cst_2 val_main_cst_3
  refine (sumcol _ j).trans ?_
  exact Finset.sum_congr rfl fun n _ => r41 p q u b w d n j

/-- Three matrices, one above the other. -/
theorem stack (a e k : FVec Ideal S1024x1024 .f32) (t : Fin 3) (i j : Fin 1024) :
    concatenate S3x1024x1024 0 [⟨S1x1024x1024, broadcastInDim S1x1024x1024 ![1, 2] bcast_S1024x1024_S1x1024x1024_1_2 a⟩,
      ⟨S1x1024x1024, broadcastInDim S1x1024x1024 ![1, 2] bcast_S1024x1024_S1x1024x1024_1_2 e⟩,
      ⟨S1x1024x1024, broadcastInDim S1x1024x1024 ![1, 2] bcast_S1024x1024_S1x1024x1024_1_2 k⟩]
      concatenates_S1x1024x1024_S1x1024x1024_S1x1024x1024_S3x1024x1024_d0 (ix3 t i j)
      = if t.val = 0 then a (ix2 i j) else if t.val = 1 then e (ix2 i j) else k (ix2 i j) := by
  match t with
  | ⟨0, _⟩ => pointwise
  | ⟨1, _⟩ => pointwise
  | ⟨2, _⟩ => pointwise

/-- A weight gradient. -/
theorem grad1 (a k : FVec Ideal S4096x1024 .f32) (l r : S4096x1024.Idx → EReal) (hl : ∀ n i, k (ix2 n i) = l (ix2 n i)) (hr : ∀ n j, a (ix2 n j) = r (ix2 n j)) (i j : Fin 1024) :
    transpose S1024x1024 [1, 0] (Host.dotGeneral dot_S4096x1024_S4096x1024_S1024x1024_0_0_1_1_n_n none a k) transposes_S1024x1024_S1024x1024_1_0 (ix2 i j)
      = wsum l r i j := by
  refine (dotR a k i j).trans ?_
  exact Finset.sum_congr rfl fun n _ => by rw [hl, hr, mul_comm]

/-- The gradients of the three weight matrices. -/
theorem refG : val_main_v57 (F := Ideal) p q u b w d
    = wgr p (arr (dA d u b w)) q (arr (dB d u b w)) (arr (mrg p q u b w)) d := by
  funext y
  obtain ⟨t, i, j, rfl⟩ : ∃ t i j, y = ix3 t i j := ⟨y 0, y 1, y 2, by funext k; match k with | ⟨0, _⟩ => rfl | ⟨1, _⟩ => rfl | ⟨2, _⟩ => rfl⟩
  unfold val_main_v57 val_main_v54 val_main_v55 val_main_v56
  refine (stack _ _ _ t i j).trans ?_
  have e0 : val_main_v49 (F := Ideal) p u b w d (ix2 i j) = wsum p (arr (dA d u b w)) i j := by
    unfold val_main_v49 val_main_v48
    exact grad1 _ _ _ _ (fun n i => rfl) (fun n j => r38 u b w d n j) i j
  have e1 : val_main_v46 (F := Ideal) q u b w d (ix2 i j) = wsum q (arr (dB d u b w)) i j := by
    unfold val_main_v46 val_main_v45
    exact grad1 _ _ _ _ (fun n i => rfl) (fun n j => r36 u b w d n j) i j
  have e2 : val_main_v34 (F := Ideal) p q u b w d (ix2 i j) = wsum (arr (mrg p q u b w)) d i j := by
    unfold val_main_v34 val_main_v33
    refine grad1 _ _ _ _ (fun n i => r29 p q u b w n i) (fun n j => ?_) i j
    unfold val_main_v32
    pointwise
  rw [e0, e1, e2]
  rfl

end Cert.Mrg
-- ==== Proof.Mrg.Claim.lean ====
module

public import proofs.«01_k».proof.Proof.Gen.Reference3Ideal.Run
public import proofs.«01_k».proof.Proof.Gen.Reference3Ideal.Read
public import proofs.«01_k».proof.Defs
public import proofs.«01_k».proof.Proof.Mrg.Run
public import proofs.«01_k».proof.Proof.Mrg.Ref
public import Idealize.ShloMosaic.Lib.Claim

@[expose] public section

noncomputable section

namespace Cert.Mrg

open Cert.Kernel3Ideal Cert.Kernel3Ideal.Gen Idealize.ShloMosaic Idealize.ShloMosaic.TcCoe Idealize.SL.Sem

/-- The reference's run: it ends, its arguments stay, and it has no semaphore that could be left raised. -/
theorem frame_ref (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r =>
      (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0 :=
  (θ_run Cert.Reference3Ideal.defs _ _).mono
    (fun r h => ⟨fun c => (h c).2.2.2.2.2.2, sem_eq_zero_of_no_sems (by decide) r.2⟩)
    (Cert.Reference3Ideal.Value.run m g)

/-- The reference's sum over all rows, as an array. -/
theorem refB' (p q : S4096x1024.Idx → EReal) (u : S4096x2048.Idx → EReal) (b : S1x2048.Idx → EReal) (w : S3x1024x1024.Idx → EReal) (d : S4096x1024.Idx → EReal) :
    Cert.Reference3Ideal.Read.val_main_v44 (F := Ideal) p q u b w d = colsum (dU d (arr (mm p w 0)) (arr (mm q w 1)) u b w) := by
  funext j
  obtain ⟨k, rfl⟩ : ∃ k, j = ix1 k := ⟨j 0, by funext k; match k with | ⟨0, _⟩ => rfl⟩
  exact refB p q u b w d k

/-- The three calls and the plain lines with their gradients end with equal results. -/
theorem algebraic : algebraic_Kernel3Ideal_Reference3Ideal := by
  intro m g m' g' hpre hargs
  refine ⟨fun c => arr (nxt (a0 m c) (a1 m c) (a2 m c) (a3 m c) (a4 m c) (a5 m c)), fun c => arr2 (dU (a6 m c) (arr (mm (a1 m c) (a5 m c) 0)) (arr (mm (a2 m c) (a5 m c) 1)) (a3 m c) (a4 m c) (a5 m c)), fun c => arr (mmT (arr (dA (a6 m c) (a3 m c) (a4 m c) (a5 m c))) (a5 m c) 0), fun c => arr (mmT (arr (dB (a6 m c) (a3 m c) (a4 m c) (a5 m c))) (a5 m c) 1), fun c => wgr (a1 m c) (arr (dA (a6 m c) (a3 m c) (a4 m c) (a5 m c))) (a2 m c) (arr (dB (a6 m c) (a3 m c) (a4 m c) (a5 m c))) (arr (mrg (a1 m c) (a2 m c) (a3 m c) (a4 m c) (a5 m c))) (a6 m c), fun c => colsum (dU (a6 m c) (arr (mm (a1 m c) (a5 m c) 0)) (arr (mm (a2 m c) (a5 m c) 1)) (a3 m c) (a4 m c) (a5 m c)), ?_, ?_⟩
  · refine (θ_run _ _ _).mono (fun r h c => ?_) (run m g)
    exact ⟨(h c _ (mem_uc main_v0_0 (by decide))).trans (resX m g c),
      (h c _ (mem_uc main_v1_2 (by decide))).trans (resU m g c),
      (h c _ (mem_uc main_v1_3 (by decide))).trans (resP m g c),
      (h c _ (mem_uc main_v1_4 (by decide))).trans (resQ m g c),
      (h c _ (mem_uc main_v2 (by decide))).trans (resG m g c),
      (h c _ (mem_uc main_v3 (by decide))).trans (resB m g c),
      (h c _ (mem_uc main_arg0 (by decide))).trans (W4_main_arg0 m g c),
      (h c _ (mem_uc main_arg1 (by decide))).trans (W4_main_arg1 m g c),
      (h c _ (mem_uc main_arg2 (by decide))).trans (W4_main_arg2 m g c),
      (h c _ (mem_uc main_arg3 (by decide))).trans (W4_main_arg3 m g c),
      (h c _ (mem_uc main_arg4 (by decide))).trans (W4_main_arg4 m g c),
      (h c _ (mem_uc main_arg5 (by decide))).trans (W4_main_arg5 m g c),
      (h c _ (mem_uc main_arg6 (by decide))).trans (W4_main_arg6 m g c)⟩
  · refine (θ_run _ _ _).mono (fun r h c => ?_) (Cert.Reference3Ideal.Value.run m' g')
    obtain ⟨e0, e1, e2, e3, e4, e5, e6⟩ := h c
    obtain ⟨h0, h1, h2, h3, h4, h5, h6⟩ := hargs c
    refine ⟨e0.trans ((Cert.Reference3Ideal.Read.val_main_v31_eq _ _ _ _ _ _).trans ?_), e1.trans ((Cert.Reference3Ideal.Read.val_main_v51_eq _ _ _ _ _ _).trans ?_),
      e2.trans ((Cert.Reference3Ideal.Read.val_main_v52_eq _ _ _ _).trans ?_), e3.trans ((Cert.Reference3Ideal.Read.val_main_v53_eq _ _ _ _).trans ?_),
      e4.trans ((Cert.Reference3Ideal.Read.val_main_v57_eq m' c).trans ?_), e5.trans ((Cert.Reference3Ideal.Read.val_main_v44_eq _ _ _ _ _ _).trans ?_), e6⟩
    · rw [h0, h1, h2, h3, h4, h5]
      exact refX (a0 m c) (a1 m c) (a2 m c) (a3 m c) (a4 m c) (a5 m c)
    · rw [h1, h2, h3, h4, h5, h6]
      exact refU (a1 m c) (a2 m c) (a3 m c) (a4 m c) (a5 m c) (a6 m c)
    · rw [h3, h4, h5, h6]
      exact refP (a3 m c) (a4 m c) (a5 m c) (a6 m c)
    · rw [h3, h4, h5, h6]
      exact refQ (a3 m c) (a4 m c) (a5 m c) (a6 m c)
    · rw [h1, h2, h3, h4, h5, h6]
      exact refG (a1 m c) (a2 m c) (a3 m c) (a4 m c) (a5 m c) (a6 m c)
    · rw [h1, h2, h3, h4, h5, h6]
      exact refB' (a1 m c) (a2 m c) (a3 m c) (a4 m c) (a5 m c) (a6 m c)

end Cert.Mrg
-- ==== Proof.Inp.Body.lean ====
module

public import proofs.«01_k».proof.Proof.Gen.Kernel5Ideal.Frame
public import proofs.«01_k».proof.Proof.Gen.Kernel5Ideal.Skeleton
public import Idealize.ShloMosaic.Lib.Pipeline.ReadBack
public import Idealize.ShloMosaic.Lib.VecWindow

@[expose] public section

set_option maxRecDepth 16384

noncomputable section

namespace Cert.Inp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the first group of columns: the product of its two blocks goes to that group's buffer, the other three stay as they are. -/
theorem runA (c : Dev nD) (i : grid0.Coords) (a2 : Memref sig .tc .vmem S2048x1024 .bf16) (h2 : a2.IsWhole) (a3 : Memref sig .tc .vmem S1024x512 .bf16) (h3 : a3.IsWhole) (a4 : Memref sig .tc .vmem S2048x512 .bf16) (h4 : a4.IsWhole) (a5 : Memref sig .tc .vmem S2048x512 .bf16) (h5 : a5.IsWhole) (a6 : Memref sig .tc .vmem S2048x512 .bf16) (h6 : a6.IsWhole) (a7 : Memref sig .tc .vmem S2048x512 .bf16) (h7 : a7.IsWhole)
    (e0 : k0_cond1 i = 1#1) (e1 : ¬k0_cond2 i = 1#1) (e2 : ¬k0_cond3 i = 1#1) (e3 : ¬k0_cond4 i = 1#1) (x : Vec F S2048x1024 .bf16) (w : Vec F S1024x512 .bf16) (d1 d2 d3 : Vec F S2048x512 .bf16) (E : Set ℕ) (K : PUnit → sProp 𝕄) :
    iprop(owns (c : Thread nD τ) a2 fullShare x ∗ owns (c : Thread nD τ) a3 fullShare w ∗ (∃ d, owns (c : Thread nD τ) a4 fullShare d) ∗ owns (c : Thread nD τ) a5 fullShare d1 ∗ owns (c : Thread nD τ) a6 fullShare d2 ∗ owns (c : Thread nD τ) a7 fullShare d3
        ∗ (iprop(owns (c : Thread nD τ) a2 fullShare x ∗ owns (c : Thread nD τ) a3 fullShare w ∗ owns (c : Thread nD τ) a4 fullShare (k0_pay1 x w) ∗ owns (c : Thread nD τ) a5 fullShare d1 ∗ owns (c : Thread nD τ) a6 fullShare d2 ∗ owns (c : Thread nD τ) a7 fullShare d3) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  iintro ⟨HX, HW, ⟨%z, H0⟩, H1, H2, H3, Hk⟩
  unfold owns
  icases HX with ⟨%f, %hf, HX⟩
  icases HW with ⟨%g, %hg, HW⟩
  icases H0 with ⟨%u, %hu, H0⟩
  obtain rfl := h2.eq_unread hf; obtain rfl := h3.eq_unread hg
  sl_exec (disch := first | sl_exact e0 | sl_exact e1 | sl_exact e2 | sl_exact e3)
  sl_step
  iapply Hk
  isplitl [HX]
  · iexists _; isplitr; · ipureintro; exact h2.read_unread _
    iexact HX
  isplitl [HW]
  · iexists _; isplitr; · ipureintro; exact h3.read_unread _
    iexact HW
  isplitl [H0]
  · iexists _; isplitr; swap; · iexact H0
    ipureintro; rw [View.read_writes_full]; exact congrArg₂ k0_pay1 ((View.readAt_full (s := S2048x1024) _ _ _).trans (h2.read_unread _)) ((View.readAt_full (s := S1024x512) _ _ _).trans (h3.read_unread _))
  isplitl [H1]
  · iexact H1
  isplitl [H2]
  · iexact H2
  iexact H3

set_option maxHeartbeats 1000000 in
/-- The body at a point of the second group of columns: the product of its two blocks goes to that group's buffer, the other three stay as they are. -/
theorem runB (c : Dev nD) (i : grid0.Coords) (a2 : Memref sig .tc .vmem S2048x1024 .bf16) (h2 : a2.IsWhole) (a3 : Memref sig .tc .vmem S1024x512 .bf16) (h3 : a3.IsWhole) (a4 : Memref sig .tc .vmem S2048x512 .bf16) (h4 : a4.IsWhole) (a5 : Memref sig .tc .vmem S2048x512 .bf16) (h5 : a5.IsWhole) (a6 : Memref sig .tc .vmem S2048x512 .bf16) (h6 : a6.IsWhole) (a7 : Memref sig .tc .vmem S2048x512 .bf16) (h7 : a7.IsWhole)
    (e0 : ¬k0_cond1 i = 1#1) (e1 : k0_cond2 i = 1#1) (e2 : ¬k0_cond3 i = 1#1) (e3 : ¬k0_cond4 i = 1#1) (x : Vec F S2048x1024 .bf16) (w : Vec F S1024x512 .bf16) (d0 d2 d3 : Vec F S2048x512 .bf16) (E : Set ℕ) (K : PUnit → sProp 𝕄) :
    iprop(owns (c : Thread nD τ) a2 fullShare x ∗ owns (c : Thread nD τ) a3 fullShare w ∗ owns (c : Thread nD τ) a4 fullShare d0 ∗ (∃ d, owns (c : Thread nD τ) a5 fullShare d) ∗ owns (c : Thread nD τ) a6 fullShare d2 ∗ owns (c : Thread nD τ) a7 fullShare d3
        ∗ (iprop(owns (c : Thread nD τ) a2 fullShare x ∗ owns (c : Thread nD τ) a3 fullShare w ∗ owns (c : Thread nD τ) a4 fullShare d0 ∗ owns (c : Thread nD τ) a5 fullShare (k0_pay2 x w) ∗ owns (c : Thread nD τ) a6 fullShare d2 ∗ owns (c : Thread nD τ) a7 fullShare d3) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  iintro ⟨HX, HW, H0, ⟨%z, H1⟩, H2, H3, Hk⟩
  unfold owns
  icases HX with ⟨%f, %hf, HX⟩
  icases HW with ⟨%g, %hg, HW⟩
  icases H1 with ⟨%u, %hu, H1⟩
  obtain rfl := h2.eq_unread hf; obtain rfl := h3.eq_unread hg
  sl_exec (disch := first | sl_exact e0 | sl_exact e1 | sl_exact e2 | sl_exact e3)
  sl_step
  iapply Hk
  isplitl [HX]
  · iexists _; isplitr; · ipureintro; exact h2.read_unread _
    iexact HX
  isplitl [HW]
  · iexists _; isplitr; · ipureintro; exact h3.read_unread _
    iexact HW
  isplitl [H0]
  · iexact H0
  isplitl [H1]
  · iexists _; isplitr; swap; · iexact H1
    ipureintro; rw [View.read_writes_full]; exact congrArg₂ k0_pay2 ((View.readAt_full (s := S2048x1024) _ _ _).trans (h2.read_unread _)) ((View.readAt_full (s := S1024x512) _ _ _).trans (h3.read_unread _))
  isplitl [H2]
  · iexact H2
  iexact H3

set_option maxHeartbeats 1000000 in
/-- The body at a point of the third group of columns: the product of its two blocks goes to that group's buffer, the other three stay as they are. -/
theorem runC (c : Dev nD) (i : grid0.Coords) (a2 : Memref sig .tc .vmem S2048x1024 .bf16) (h2 : a2.IsWhole) (a3 : Memref sig .tc .vmem S1024x512 .bf16) (h3 : a3.IsWhole) (a4 : Memref sig .tc .vmem S2048x512 .bf16) (h4 : a4.IsWhole) (a5 : Memref sig .tc .vmem S2048x512 .bf16) (h5 : a5.IsWhole) (a6 : Memref sig .tc .vmem S2048x512 .bf16) (h6 : a6.IsWhole) (a7 : Memref sig .tc .vmem S2048x512 .bf16) (h7 : a7.IsWhole)
    (e0 : ¬k0_cond1 i = 1#1) (e1 : ¬k0_cond2 i = 1#1) (e2 : k0_cond3 i = 1#1) (e3 : ¬k0_cond4 i = 1#1) (x : Vec F S2048x1024 .bf16) (w : Vec F S1024x512 .bf16) (d0 d1 d3 : Vec F S2048x512 .bf16) (E : Set ℕ) (K : PUnit → sProp 𝕄) :
    iprop(owns (c : Thread nD τ) a2 fullShare x ∗ owns (c : Thread nD τ) a3 fullShare w ∗ owns (c : Thread nD τ) a4 fullShare d0 ∗ owns (c : Thread nD τ) a5 fullShare d1 ∗ (∃ d, owns (c : Thread nD τ) a6 fullShare d) ∗ owns (c : Thread nD τ) a7 fullShare d3
        ∗ (iprop(owns (c : Thread nD τ) a2 fullShare x ∗ owns (c : Thread nD τ) a3 fullShare w ∗ owns (c : Thread nD τ) a4 fullShare d0 ∗ owns (c : Thread nD τ) a5 fullShare d1 ∗ owns (c : Thread nD τ) a6 fullShare (k0_pay3 x w) ∗ owns (c : Thread nD τ) a7 fullShare d3) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  iintro ⟨HX, HW, H0, H1, ⟨%z, H2⟩, H3, Hk⟩
  unfold owns
  icases HX with ⟨%f, %hf, HX⟩
  icases HW with ⟨%g, %hg, HW⟩
  icases H2 with ⟨%u, %hu, H2⟩
  obtain rfl := h2.eq_unread hf; obtain rfl := h3.eq_unread hg
  sl_exec (disch := first | sl_exact e0 | sl_exact e1 | sl_exact e2 | sl_exact e3)
  sl_step
  iapply Hk
  isplitl [HX]
  · iexists _; isplitr; · ipureintro; exact h2.read_unread _
    iexact HX
  isplitl [HW]
  · iexists _; isplitr; · ipureintro; exact h3.read_unread _
    iexact HW
  isplitl [H0]
  · iexact H0
  isplitl [H1]
  · iexact H1
  isplitl [H2]
  · iexists _; isplitr; swap; · iexact H2
    ipureintro; rw [View.read_writes_full]; exact congrArg₂ k0_pay3 ((View.readAt_full (s := S2048x1024) _ _ _).trans (h2.read_unread _)) ((View.readAt_full (s := S1024x512) _ _ _).trans (h3.read_unread _))
  iexact H3

set_option maxHeartbeats 1000000 in
/-- The body at a point of the fourth group of columns: the product of its two blocks goes to that group's buffer, the other three stay as they are. -/
theorem runD (c : Dev nD) (i : grid0.Coords) (a2 : Memref sig .tc .vmem S2048x1024 .bf16) (h2 : a2.IsWhole) (a3 : Memref sig .tc .vmem S1024x512 .bf16) (h3 : a3.IsWhole) (a4 : Memref sig .tc .vmem S2048x512 .bf16) (h4 : a4.IsWhole) (a5 : Memref sig .tc .vmem S2048x512 .bf16) (h5 : a5.IsWhole) (a6 : Memref sig .tc .vmem S2048x512 .bf16) (h6 : a6.IsWhole) (a7 : Memref sig .tc .vmem S2048x512 .bf16) (h7 : a7.IsWhole)
    (e0 : ¬k0_cond1 i = 1#1) (e1 : ¬k0_cond2 i = 1#1) (e2 : ¬k0_cond3 i = 1#1) (e3 : k0_cond4 i = 1#1) (x : Vec F S2048x1024 .bf16) (w : Vec F S1024x512 .bf16) (d0 d1 d2 : Vec F S2048x512 .bf16) (E : Set ℕ) (K : PUnit → sProp 𝕄) :
    iprop(owns (c : Thread nD τ) a2 fullShare x ∗ owns (c : Thread nD τ) a3 fullShare w ∗ owns (c : Thread nD τ) a4 fullShare d0 ∗ owns (c : Thread nD τ) a5 fullShare d1 ∗ owns (c : Thread nD τ) a6 fullShare d2 ∗ (∃ d, owns (c : Thread nD τ) a7 fullShare d)
        ∗ (iprop(owns (c : Thread nD τ) a2 fullShare x ∗ owns (c : Thread nD τ) a3 fullShare w ∗ owns (c : Thread nD τ) a4 fullShare d0 ∗ owns (c : Thread nD τ) a5 fullShare d1 ∗ owns (c : Thread nD τ) a6 fullShare d2 ∗ owns (c : Thread nD τ) a7 fullShare (k0_pay4 x w)) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  iintro ⟨HX, HW, H0, H1, H2, ⟨%z, H3⟩, Hk⟩
  unfold owns
  icases HX with ⟨%f, %hf, HX⟩
  icases HW with ⟨%g, %hg, HW⟩
  icases H3 with ⟨%u, %hu, H3⟩
  obtain rfl := h2.eq_unread hf; obtain rfl := h3.eq_unread hg
  sl_exec (disch := first | sl_exact e0 | sl_exact e1 | sl_exact e2 | sl_exact e3)
  sl_step
  iapply Hk
  isplitl [HX]
  · iexists _; isplitr; · ipureintro; exact h2.read_unread _
    iexact HX
  isplitl [HW]
  · iexists _; isplitr; · ipureintro; exact h3.read_unread _
    iexact HW
  isplitl [H0]
  · iexact H0
  isplitl [H1]
  · iexact H1
  isplitl [H2]
  · iexact H2
  iexists _; isplitr; swap; · iexact H3
  ipureintro; rw [View.read_writes_full]; exact congrArg₂ k0_pay4 ((View.readAt_full (s := S2048x1024) _ _ _).trans (h2.read_unread _)) ((View.readAt_full (s := S1024x512) _ _ _).trans (h3.read_unread _))

end Cert.Inp
-- ==== Proof.Inp.Run.lean ====
module

public import proofs.«01_k».proof.Proof.Inp.Body
public import Idealize.ShloMosaic.Lib.Claim

@[expose] public section

set_option maxRecDepth 16384

noncomputable section

namespace Cert.Inp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The last point of a point's row of blocks, not after it, whose column block is at most `b`. -/
def last (b : ℕ) (t : Fin cfg0.N) : Fin cfg0.N :=
  ⟨17 * (t.val / 17) + min (t.val % 17) b, by
    have h : t.val < 34 := lt_of_lt_of_eq t.isLt (show cfg0.N = 34 from N_0)
    exact lt_of_lt_of_eq (show 17 * (t.val / 17) + min (t.val % 17) b < 34 by omega) (show 34 = cfg0.N from N_0.symm)⟩

/-- A point of a group that ends at `b` is its own last point. -/
theorem last_self (b : ℕ) (t : Fin cfg0.N) (h : t.val % 17 ≤ b) : last b t = t :=
  Fin.ext (show 17 * (t.val / 17) + min (t.val % 17) b = t.val by omega)

/-- After the group, the last point of it stays the same. -/
theorem last_step (b : ℕ) (t : Fin cfg0.N) (n : ℕ) (hn : n < cfg0.N) (e : t.val = n + 1) (h : b < t.val % 17) : last b t = last b ⟨n, hn⟩ :=
  Fin.ext (show 17 * (t.val / 17) + min (t.val % 17) b = 17 * (n / 17) + min (n % 17) b by omega)

/-- When the body works on the first group of columns. -/
theorem cond1 : ∀ t : Fin cfg0.N, k0_cond1 (grid0.coords t) = 1#1 ↔ t.val % 17 ≤ 7 :=
  (by decide +kernel : ∀ t : Fin grid0.N, k0_cond1 (grid0.coords t) = 1#1 ↔ t.val % 17 ≤ 7)
/-- When the body works on the second group of columns. -/
theorem cond2 : ∀ t : Fin cfg0.N, k0_cond2 (grid0.coords t) = 1#1 ↔ 8 ≤ t.val % 17 ∧ t.val % 17 ≤ 10 :=
  (by decide +kernel : ∀ t : Fin grid0.N, k0_cond2 (grid0.coords t) = 1#1 ↔ 8 ≤ t.val % 17 ∧ t.val % 17 ≤ 10)
/-- When the body works on the third group of columns. -/
theorem cond3 : ∀ t : Fin cfg0.N, k0_cond3 (grid0.coords t) = 1#1 ↔ 11 ≤ t.val % 17 ∧ t.val % 17 ≤ 12 :=
  (by decide +kernel : ∀ t : Fin grid0.N, k0_cond3 (grid0.coords t) = 1#1 ↔ 11 ≤ t.val % 17 ∧ t.val % 17 ≤ 12)
/-- When the body works on the fourth group of columns. -/
theorem cond4 : ∀ t : Fin cfg0.N, k0_cond4 (grid0.coords t) = 1#1 ↔ 13 ≤ t.val % 17 :=
  (by decide +kernel : ∀ t : Fin grid0.N, k0_cond4 (grid0.coords t) = 1#1 ↔ 13 ≤ t.val % 17)

/-- When the first group's block is written back. -/
theorem flush2 : ∀ t : Fin cfg0.N, (cfg0.win 2).flush t = true ↔ t.val % 17 < 7 ∨ t.val % 17 = 16 :=
  (by decide +kernel : ∀ t : Fin grid0.N, win0_2.flush t = true ↔ t.val % 17 < 7 ∨ t.val % 17 = 16)
/-- When the body leaves the first group's block alone. -/
theorem idle2 : ∀ t : Fin cfg0.N, cfg0.idle 2 (cfg0.grid.coords t) = false ↔ t.val % 17 ≤ 7 :=
  (by decide +kernel : ∀ t : Fin grid0.N, idle0 2 (grid0.coords t) = false ↔ t.val % 17 ≤ 7)
/-- When the second group's block is written back. -/
theorem flush3 : ∀ t : Fin cfg0.N, (cfg0.win 3).flush t = true ↔ (8 ≤ t.val % 17 ∧ t.val % 17 < 10) ∨ t.val % 17 = 16 :=
  (by decide +kernel : ∀ t : Fin grid0.N, win0_3.flush t = true ↔ (8 ≤ t.val % 17 ∧ t.val % 17 < 10) ∨ t.val % 17 = 16)
/-- When the body leaves the second group's block alone. -/
theorem idle3 : ∀ t : Fin cfg0.N, cfg0.idle 3 (cfg0.grid.coords t) = false ↔ 8 ≤ t.val % 17 ∧ t.val % 17 ≤ 10 :=
  (by decide +kernel : ∀ t : Fin grid0.N, idle0 3 (grid0.coords t) = false ↔ 8 ≤ t.val % 17 ∧ t.val % 17 ≤ 10)
/-- When the third group's block is written back. -/
theorem flush4 : ∀ t : Fin cfg0.N, (cfg0.win 4).flush t = true ↔ t.val % 17 = 11 ∨ t.val % 17 = 16 :=
  (by decide +kernel : ∀ t : Fin grid0.N, win0_4.flush t = true ↔ t.val % 17 = 11 ∨ t.val % 17 = 16)
/-- When the body leaves the third group's block alone. -/
theorem idle4 : ∀ t : Fin cfg0.N, cfg0.idle 4 (cfg0.grid.coords t) = false ↔ 11 ≤ t.val % 17 ∧ t.val % 17 ≤ 12 :=
  (by decide +kernel : ∀ t : Fin grid0.N, idle0 4 (grid0.coords t) = false ↔ 11 ≤ t.val % 17 ∧ t.val % 17 ≤ 12)
/-- When the fourth group's block is written back. -/
theorem flush5 : ∀ t : Fin cfg0.N, (cfg0.win 5).flush t = true ↔ 13 ≤ t.val % 17 :=
  (by decide +kernel : ∀ t : Fin grid0.N, win0_5.flush t = true ↔ 13 ≤ t.val % 17)
/-- When the body leaves the fourth group's block alone. -/
theorem idle5 : ∀ t : Fin cfg0.N, cfg0.idle 5 (cfg0.grid.coords t) = false ↔ 13 ≤ t.val % 17 :=
  (by decide +kernel : ∀ t : Fin grid0.N, idle0 5 (grid0.coords t) = false ↔ 13 ≤ t.val % 17)

/-! ## What the body leaves -/

/-- The first group's product at a point. -/
def prod2 (c : Dev nD) (t : Fin cfg0.N) : Vec F S2048x512 .bf16 := k0_pay1 (iblk m c 0 t) (iblk m c 1 t)
/-- The second group's product at a point. -/
def prod3 (c : Dev nD) (t : Fin cfg0.N) : Vec F S2048x512 .bf16 := k0_pay2 (iblk m c 0 t) (iblk m c 1 t)
/-- The third group's product at a point. -/
def prod4 (c : Dev nD) (t : Fin cfg0.N) : Vec F S2048x512 .bf16 := k0_pay3 (iblk m c 0 t) (iblk m c 1 t)
/-- The fourth group's product at a point. -/
def prod5 (c : Dev nD) (t : Fin cfg0.N) : Vec F S2048x512 .bf16 := k0_pay4 (iblk m c 0 t) (iblk m c 1 t)

/-- What each buffer holds after a point's body: an input its block, an output the product of the last point that stored one. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod2 m c (last 7 t)
    | ⟨3, _⟩ => prod3 m c (last 10 t)
    | ⟨4, _⟩ => prod4 m c (last 12 t)
    | ⟨5, _⟩ => prod5 m c (last 16 t)
  Φ _ := Pipeline.ΦA spec0 c
  q _ := fullShare
  owed _ := 0

/-- The arrays are as the call finds them. -/
theorem arrays (c : Dev nD) (w : Fin cfg0.W) : (dats m 0 c).A w = V m c (Pipeline.arrRef spec0 w) := by
  dsimp only [dats]

/-- The rows' buffer keeps its block. -/
theorem after0 (c : Dev nD) (t : Fin cfg0.N) : (dats m 0 c).after 0 t = iblk m c 0 t := by dsimp only [dats]
/-- The weights' buffer keeps its block. -/
theorem after1 (c : Dev nD) (t : Fin cfg0.N) : (dats m 0 c).after 1 t = iblk m c 1 t := by dsimp only [dats]
/-- The first group's buffer holds the product of the group's last point. -/
theorem after2 (c : Dev nD) (t : Fin cfg0.N) : (dats m 0 c).after 2 t = prod2 m c (last 7 t) := by dsimp only [dats]
/-- The second group's buffer holds the product of the group's last point. -/
theorem after3 (c : Dev nD) (t : Fin cfg0.N) : (dats m 0 c).after 3 t = prod3 m c (last 10 t) := by dsimp only [dats]
/-- The third group's buffer holds the product of the group's last point. -/
theorem after4 (c : Dev nD) (t : Fin cfg0.N) : (dats m 0 c).after 4 t = prod4 m c (last 12 t) := by dsimp only [dats]
/-- The fourth group's buffer holds the product of the group's last point. -/
theorem after5 (c : Dev nD) (t : Fin cfg0.N) : (dats m 0 c).after 5 t = prod5 m c (last 16 t) := by dsimp only [dats]

/-- The rows' buffer holds the point's rows when the body starts. -/
theorem before0 (c : Dev nD) (t : Fin cfg0.N) (d) : (dats m 0 c).before 0 t d = iblk m c 0 t :=
  before0_0_of m (dats m 0 c) (arrays m c 0) (after0 m c) t d
/-- The weights' buffer holds the point's columns when the body starts. -/
theorem before1 (c : Dev nD) (t : Fin cfg0.N) (d) : (dats m 0 c).before 1 t d = iblk m c 1 t :=
  before0_1_of m (dats m 0 c) (arrays m c 1) (after1 m c) t d

/-- A buffer stored at the last point `b` of its group still holds that at every later point of the row of blocks. -/
theorem stays {c : Dev nD} (dat : Dat τ (Elt F) Unit ℕ (UR sig nD τ) ℕ cfg0 c) (w : Fin cfg0.W) (b : ℕ)
    (hf : ∀ t, (cfg0.win w).fetch t = false) (hfl : ∀ t : Fin cfg0.N, b ≤ t.val % 17 → t.val % 17 < 16 → (cfg0.win w).flush t = false)
    (hl : ∀ t : Fin cfg0.N, t.val % 17 = b → cfg0.idle w (cfg0.grid.coords t) = false)
    (hi : ∀ t : Fin cfg0.N, b < t.val % 17 → cfg0.idle w (cfg0.grid.coords t) = true)
    (hk : ∀ t d, dat.kept w t d = dat.after w t)
    (hs : ∀ (t : Fin cfg0.N) (n : ℕ) (hn : n < cfg0.N), t.val = n + 1 → b < t.val % 17 → dat.after w t = dat.after w ⟨n, hn⟩) :
    ∀ (n : ℕ) (hn : n < cfg0.N), b < n % 17 → ∀ d, dat.before w ⟨n, hn⟩ d = dat.after w ⟨n, hn⟩
  | 0, _, h, _ => absurd h (Nat.not_lt_zero _)
  | n + 1, hn, h, d => by
    have hn' : n < cfg0.N := Nat.lt_of_succ_lt hn
    rw [dat.before_of_pos w ⟨n + 1, hn⟩ (Nat.succ_ne_zero n) (hf _) d]
    have e : (⟨n + 1 - 1, Nat.lt_of_le_of_lt (Nat.sub_le _ _) hn⟩ : Fin cfg0.N) = ⟨n, hn'⟩ := rfl
    rw [e, hfl ⟨n, hn'⟩ (show b ≤ n % 17 by omega) (show n % 17 < 16 by omega), if_neg Bool.false_ne_true, hs ⟨n + 1, hn⟩ n hn' rfl h]
    unfold Dat.left
    by_cases hb : n % 17 = b
    · rw [hl ⟨n, hn'⟩ hb]
      exact hk _ _
    · rw [hi ⟨n, hn'⟩ (show b < n % 17 by omega)]
      exact stays dat w b hf hfl hl hi hk hs n hn' (by omega) d

/-- The first group's buffer at the points after the group. -/
theorem before2 (c : Dev nD) (t : Fin cfg0.N) (h : 7 < t.val % 17) (d) : (dats m 0 c).before 2 t d = (dats m 0 c).after 2 t :=
  stays (dats m 0 c) 2 7 (fun _ => rfl)
    (fun t h1 h2 => Bool.eq_false_iff.mpr fun h => by rcases (flush2 t).mp h with h | h <;> omega)
    (fun t h => (idle2 t).mpr (by omega))
    (fun t h => by
      rcases hb : cfg0.idle 2 (cfg0.grid.coords t) with _ | _
      · have := (idle2 t).mp hb; omega
      · rfl)
    (fun _ _ => rfl)
    (fun t n hn e h => by rw [after2, after2, last_step 7 t n hn e h]) t.val t.isLt h d

/-- The second group's buffer at the points after the group. -/
theorem before3 (c : Dev nD) (t : Fin cfg0.N) (h : 10 < t.val % 17) (d) : (dats m 0 c).before 3 t d = (dats m 0 c).after 3 t :=
  stays (dats m 0 c) 3 10 (fun _ => rfl)
    (fun t h1 h2 => Bool.eq_false_iff.mpr fun h => by rcases (flush3 t).mp h with h | h <;> omega)
    (fun t h => (idle3 t).mpr (by omega))
    (fun t h => by
      rcases hb : cfg0.idle 3 (cfg0.grid.coords t) with _ | _
      · have := (idle3 t).mp hb; omega
      · rfl)
    (fun _ _ => rfl)
    (fun t n hn e h => by rw [after3, after3, last_step 10 t n hn e h]) t.val t.isLt h d

/-- The third group's buffer at the points after the group. -/
theorem before4 (c : Dev nD) (t : Fin cfg0.N) (h : 12 < t.val % 17) (d) : (dats m 0 c).before 4 t d = (dats m 0 c).after 4 t :=
  stays (dats m 0 c) 4 12 (fun _ => rfl)
    (fun t h1 h2 => Bool.eq_false_iff.mpr fun h => by rcases (flush4 t).mp h with h | h <;> omega)
    (fun t h => (idle4 t).mpr (by omega))
    (fun t h => by
      rcases hb : cfg0.idle 4 (cfg0.grid.coords t) with _ | _
      · have := (idle4 t).mp hb; omega
      · rfl)
    (fun _ _ => rfl)
    (fun t n hn e h => by rw [after4, after4, last_step 12 t n hn e h]) t.val t.isLt h d

/-- A buffer the body works on is to be left as `after` says. -/
theorem lives {c : Dev nD} (dat : Dat τ (Elt F) Unit ℕ (UR sig nD τ) ℕ cfg0 c) (w : Fin cfg0.W) (t : Fin cfg0.N)
    (h : cfg0.idle w (cfg0.grid.coords t) = false) :
    dat.leavesExact w t = owns (c : Thread nD τ) ((cfg0.win w).stage (cfg0.slots t w)) fullShare (dat.after w t) := by
  unfold Dat.leavesExact
  rw [h]

/-- A buffer the body leaves alone may be handed back as it was found, if what was found is right wherever it is written back. -/
theorem back {c : Dev nD} (dat : Dat τ (Elt F) Unit ℕ (UR sig nD τ) ℕ cfg0 c) (w : Fin cfg0.W) (t : Fin cfg0.N)
    (hi : cfg0.idle w (cfg0.grid.coords t) = true) (h : (cfg0.win w).flush t = true → ∀ d, dat.before w t d = dat.after w t) (d) :
    owns (c : Thread nD τ) ((cfg0.win w).stage (cfg0.slots t w)) fullShare (dat.before w t d) ⊢ (dat.leavesExact w t : sProp 𝕄) := by
  unfold Dat.leavesExact
  rw [hi]
  rcases hf : (cfg0.win w).flush t with _ | _
  · dsimp only
    iintro H
    iexists d
    iexact H
  · dsimp only
    rw [h hf d]

/-- The first group's buffer is handed back as found at a point of another group. -/
theorem back2 (c : Dev nD) (t : Fin cfg0.N) (h : t.val % 17 < 0 ∨ 7 < t.val % 17) (d) :
    owns (c : Thread nD τ) ((cfg0.win 2).stage (cfg0.slots t 2)) fullShare ((dats m 0 c).before 2 t d) ⊢ ((dats m 0 c).leavesExact 2 t : sProp 𝕄) :=
  back (dats m 0 c) 2 t
    (by
      rcases hb : cfg0.idle 2 (cfg0.grid.coords t) with _ | _
      · have := (idle2 t).mp hb; omega
      · rfl)
    (fun hf d => before2 m c t (by rcases (flush2 t).mp hf with h | h <;> omega) d) d

/-- The second group's buffer is handed back as found at a point of another group. -/
theorem back3 (c : Dev nD) (t : Fin cfg0.N) (h : t.val % 17 < 8 ∨ 10 < t.val % 17) (d) :
    owns (c : Thread nD τ) ((cfg0.win 3).stage (cfg0.slots t 3)) fullShare ((dats m 0 c).before 3 t d) ⊢ ((dats m 0 c).leavesExact 3 t : sProp 𝕄) :=
  back (dats m 0 c) 3 t
    (by
      rcases hb : cfg0.idle 3 (cfg0.grid.coords t) with _ | _
      · have := (idle3 t).mp hb; omega
      · rfl)
    (fun hf d => before3 m c t (by rcases (flush3 t).mp hf with h | h <;> omega) d) d

/-- The third group's buffer is handed back as found at a point of another group. -/
theorem back4 (c : Dev nD) (t : Fin cfg0.N) (h : t.val % 17 < 11 ∨ 12 < t.val % 17) (d) :
    owns (c : Thread nD τ) ((cfg0.win 4).stage (cfg0.slots t 4)) fullShare ((dats m 0 c).before 4 t d) ⊢ ((dats m 0 c).leavesExact 4 t : sProp 𝕄) :=
  back (dats m 0 c) 4 t
    (by
      rcases hb : cfg0.idle 4 (cfg0.grid.coords t) with _ | _
      · have := (idle4 t).mp hb; omega
      · rfl)
    (fun hf d => before4 m c t (by rcases (flush4 t).mp hf with h | h <;> omega) d) d

/-- The fourth group's buffer is handed back as found at a point of another group. -/
theorem back5 (c : Dev nD) (t : Fin cfg0.N) (h : t.val % 17 < 13) (d) :
    owns (c : Thread nD τ) ((cfg0.win 5).stage (cfg0.slots t 5)) fullShare ((dats m 0 c).before 5 t d) ⊢ ((dats m 0 c).leavesExact 5 t : sProp 𝕄) :=
  back (dats m 0 c) 5 t
    (by
      rcases hb : cfg0.idle 5 (cfg0.grid.coords t) with _ | _
      · have := (idle5 t).mp hb; omega
      · rfl)
    (fun hf d => by have := (flush5 t).mp hf; omega) d

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it must leave. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at a point of the first group. -/
theorem bodyA (c : Dev nD) (t : Fin cfg0.N) (h : t.val % 17 ≤ 7) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    lives (dats m 0 c) 0 t rfl, lives (dats m 0 c) 1 t rfl, lives (dats m 0 c) 2 t ((idle2 t).mpr h), after0, after1, after2,
    last_self 7 t (by omega)]
  unfold prod2
  iintro ⟨HΦ, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ ((cond1 t).mpr h) (fun e => by have := (cond2 t).mp e; omega) (fun e => by have := (cond3 t).mp e; omega) (fun e => by have := (cond4 t).mp e; omega) (iblk m c 0 t) (iblk m c 1 t) _ _ _ Set.univ _)
  isplitl [H0]; · iexact H0
  isplitl [H1]; · iexact H1
  isplitl [H2]; · iexists _; iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iapply (back3 m c t (by omega) d3) $$ H3
  isplitl [H4]; · iapply (back4 m c t (by omega) d4) $$ H4
  iapply (back5 m c t (by omega) d5) $$ H5

set_option maxHeartbeats 1600000 in
/-- The body at a point of the second group. -/
theorem bodyB (c : Dev nD) (t : Fin cfg0.N) (h : 8 ≤ t.val % 17 ∧ t.val % 17 ≤ 10) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    lives (dats m 0 c) 0 t rfl, lives (dats m 0 c) 1 t rfl, lives (dats m 0 c) 3 t ((idle3 t).mpr h), after0, after1, after3,
    last_self 10 t (by omega)]
  unfold prod3
  iintro ⟨HΦ, Ho, ⟨%d0, H0⟩, ⟨%d1, H1⟩, ⟨%d2, H2⟩, ⟨%d3, H3⟩, ⟨%d4, H4⟩, ⟨%d5, H5⟩⟩
  iapply (runB c (grid0.coords t) _ _ _ _ _ _ _ _ _ _ _ _ (fun e => by have := (cond1 t).mp e; omega) ((cond2 t).mpr h) (fun e => by have := (cond3 t).mp e; omega) (fun e => by have := (cond4 t).mp e; omega) (iblk m c 0 t) (iblk m c 1 t) _ _ _ Set.univ _)
  isplitl [H0]; · iexact H0
  isplitl [H1]; · iexact H1
  isplitl [H2]; · iexact H2
  isplitl [H3]; · iexists _; iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iapply (back2 m c t (by omega) d2) $$ H2
  isplitl [H3]; · iexact H3
  isplitl [H4]; · iapply (back4 m c t (by omega) d4) $$ H4
  iapply (back5 m c t (by omega) d5) $$ H5

set_option maxHeartbeats 1600000 in
/-- The body at a point of the third group. -/
theorem bodyC (c : Dev nD) (t : Fin cfg0.N) (h : 11 ≤ t.val % 17 ∧ t.val % 17 ≤ 12) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    lives (dats m 0 c) 0 t rfl, lives (dats m 0 c) 1 t rfl, lives (dats m 0 c) 4 t ((idle4 t).mpr h), after0, after1, after4,
    last_self 12 t (by omega)]
  unfold prod4
  iintro ⟨HΦ, Ho, ⟨%d0, H0⟩, ⟨%d1, H1⟩, ⟨%d2, H2⟩, ⟨%d3, H3⟩, ⟨%d4, H4⟩, ⟨%d5, H5⟩⟩
  iapply (runC c (grid0.coords t) _ _ _ _ _ _ _ _ _ _ _ _ (fun e => by have := (cond1 t).mp e; omega) (fun e => by have := (cond2 t).mp e; omega) ((cond3 t).mpr h) (fun e => by have := (cond4 t).mp e; omega) (iblk m c 0 t) (iblk m c 1 t) _ _ _ Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iapply (back2 m c t (by omega) d2) $$ H2
  isplitl [H3]; · iapply (back3 m c t (by omega) d3) $$ H3
  isplitl [H4]; · iexact H4
  iapply (back5 m c t (by omega) d5) $$ H5

set_option maxHeartbeats 1600000 in
/-- The body at a point of the fourth group. -/
theorem bodyD (c : Dev nD) (t : Fin cfg0.N) (h : 13 ≤ t.val % 17) :
    bodyPre m c t ⊢ wp frame (wpE (defs₀ (F := F)) Variants.none c none) Set.univ (bodyAt0 t) (fun _ => bodyPost m c t) := by
  have hN : t.val < 34 := lt_of_lt_of_eq t.isLt (show cfg0.N = 34 from N_0)
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    lives (dats m 0 c) 0 t rfl, lives (dats m 0 c) 1 t rfl, lives (dats m 0 c) 5 t ((idle5 t).mpr h), after0, after1, after5,
    last_self 16 t (by omega)]
  unfold prod5
  iintro ⟨HΦ, Ho, ⟨%d0, H0⟩, ⟨%d1, H1⟩, ⟨%d2, H2⟩, ⟨%d3, H3⟩, ⟨%d4, H4⟩, ⟨%d5, H5⟩⟩
  iapply (runD c (grid0.coords t) _ _ _ _ _ _ _ _ _ _ _ _ (fun e => by have := (cond1 t).mp e; omega) (fun e => by have := (cond2 t).mp e; omega) (fun e => by have := (cond3 t).mp e; omega) ((cond4 t).mpr h) (iblk m c 0 t) (iblk m c 1 t) _ _ _ Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iapply (back2 m c t (by omega) d2) $$ H2
  isplitl [H3]; · iapply (back3 m c t (by omega) d3) $$ H3
  isplitl [H4]; · iapply (back4 m c t (by omega) d4) $$ H4
  iexact H5

/-- The body at any point. -/
theorem body (c : Dev nD) (t : Fin cfg0.N) :
    bodyPre m c t ⊢ wp frame (wpE (defs₀ (F := F)) Variants.none c none) Set.univ (bodyAt0 t) (fun _ => bodyPost m c t) := by
  by_cases h1 : t.val % 17 ≤ 7
  · exact bodyA m c t h1
  · by_cases h2 : t.val % 17 ≤ 10
    · exact bodyB m c t ⟨by omega, h2⟩
    · by_cases h3 : t.val % 17 ≤ 12
      · exact bodyC m c t ⟨by omega, h3⟩
      · exact bodyD m c t (by omega)

/-- The body as the pipeline calls it is the body at that point. -/
theorem row (t : Fin cfg0.N) : defs₀ (F := F) .tc cfg0.body (cfg0.bodyArgs t (cfg0.slots t)) = bodyAt0 t := by
  unfold defs₀; rw [Defs.onTc_tc]

/-- The body keeps what the pipeline asks of it. -/
theorem obligation (c : Dev nD) : BodyObligation (dats (F := F) m 0 c) (defs₀ (F := F)) Variants.none () Set.univ := fun t => by
  rw [bigSep_W0, bigSep_W0, row]
  exact triple_restated (body m c t) rfl .rfl fun _ => .rfl

/-! ## The run -/

set_option backward.isDefEq.respectTransparency.types false in
/-- The call ends, its arrays at what the points left in them, and every semaphore at zero. -/
theorem run_all : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- The call's arguments stay, and every semaphore ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arrays m) ((θ_run defs _ _).mono (fun _ h => h.1) (run_all m ρ)))
    ((θ_run defs _ _).mono (fun _ h => h.2) (run_all m ρ))

end Cert.Inp
-- ==== Proof.Inp.Value.lean ====
module

public import proofs.«01_k».proof.Proof.Inp.Run
public import Idealize.ShloMosaic.Lib.Pipeline.ValueKit.Tiles
public import Idealize.ShloMosaic.Lib.Pointwise

@[expose] public section

noncomputable section

namespace Cert.Inp

open Cert.Kernel5Ideal Cert.Kernel5Ideal.Gen Idealize.ShloMosaic Idealize.ShloMosaic.TcCoe Idealize.SL.Sem

/-- The product of the rows with one column of the weights. -/
def mm (h : S4096x1024.Idx → EReal) (w : S1024x8704.Idx → EReal) (n : Fin 4096) (j : Fin 8704) : EReal := ∑ k : Fin 1024, h (ix2 n k) * w (ix2 k j)

/-- The first group of the product's columns. -/
def grp2 (h : S4096x1024.Idx → EReal) (w : S1024x8704.Idx → EReal) : S4096x4096.Idx → EReal :=
  fun y => mm h w (y 0) ⟨0 + (y 1).val, by have h1 : (y 1).val < 4096 := (y 1).isLt; omega⟩
/-- The second group of the product's columns. -/
def grp3 (h : S4096x1024.Idx → EReal) (w : S1024x8704.Idx → EReal) : S4096x1536.Idx → EReal :=
  fun y => mm h w (y 0) ⟨4096 + (y 1).val, by have h1 : (y 1).val < 1536 := (y 1).isLt; omega⟩
/-- The third group of the product's columns. -/
def grp4 (h : S4096x1024.Idx → EReal) (w : S1024x8704.Idx → EReal) : S4096x1024.Idx → EReal :=
  fun y => mm h w (y 0) ⟨5632 + (y 1).val, by have h1 : (y 1).val < 1024 := (y 1).isLt; omega⟩
/-- The fourth group of the product's columns. -/
def grp5 (h : S4096x1024.Idx → EReal) (w : S1024x8704.Idx → EReal) : S4096x2048.Idx → EReal :=
  fun y => mm h w (y 0) ⟨6656 + (y 1).val, by have h1 : (y 1).val < 2048 := (y 1).isLt; omega⟩

/-- The product a point of the first group computes. -/
theorem pay2 (x : Vec Ideal S2048x1024 .bf16) (w : Vec Ideal S1024x512 .bf16) (n : Fin 2048) (j : Fin 512) :
    k0_pay1 (F := Ideal) x w (ix2 n j) = ∑ k : Fin 1024, x (ix2 n k) * w (ix2 k j) := by
  unfold k0_pay1
  pointwise

/-- The product a point of the second group computes. -/
theorem pay3 (x : Vec Ideal S2048x1024 .bf16) (w : Vec Ideal S1024x512 .bf16) (n : Fin 2048) (j : Fin 512) :
    k0_pay2 (F := Ideal) x w (ix2 n j) = ∑ k : Fin 1024, x (ix2 n k) * w (ix2 k j) := by
  unfold k0_pay2
  pointwise

/-- The product a point of the third group computes. -/
theorem pay4 (x : Vec Ideal S2048x1024 .bf16) (w : Vec Ideal S1024x512 .bf16) (n : Fin 2048) (j : Fin 512) :
    k0_pay3 (F := Ideal) x w (ix2 n j) = ∑ k : Fin 1024, x (ix2 n k) * w (ix2 k j) := by
  unfold k0_pay3
  pointwise

/-- The product a point of the fourth group computes. -/
theorem pay5 (x : Vec Ideal S2048x1024 .bf16) (w : Vec Ideal S1024x512 .bf16) (n : Fin 2048) (j : Fin 512) :
    k0_pay4 (F := Ideal) x w (ix2 n j) = ∑ k : Fin 1024, x (ix2 n k) * w (ix2 k j) := by
  unfold k0_pay4
  pointwise

variable (m : (ℓ : Loc nD τ sig) → Buf (Elt Ideal) ℓ) (g : Dev nD → PrngReg) (c : Dev nD)

/-- Where each window's block lies at a grid point. -/
theorem idxs : ∀ t : Fin cfg0.N, (win0_0.index t 0 = t.val / 17 ∧ win0_0.index t 1 = 0)
    ∧ (win0_1.index t 0 = 0 ∧ win0_1.index t 1 = t.val % 17)
    ∧ (win0_2.index t 0 = t.val / 17 ∧ win0_2.index t 1 = min (t.val % 17) 7 - 0)
    ∧ (win0_3.index t 0 = t.val / 17 ∧ win0_3.index t 1 = min (t.val % 17) 10 - 8)
    ∧ (win0_4.index t 0 = t.val / 17 ∧ win0_4.index t 1 = min (t.val % 17) 12 - 11)
    ∧ (win0_5.index t 0 = t.val / 17 ∧ win0_5.index t 1 = min (t.val % 17) 16 - 13) :=
  (by decide +kernel : ∀ t : Fin grid0.N, (win0_0.index t 0 = t.val / 17 ∧ win0_0.index t 1 = 0)
    ∧ (win0_1.index t 0 = 0 ∧ win0_1.index t 1 = t.val % 17)
    ∧ (win0_2.index t 0 = t.val / 17 ∧ win0_2.index t 1 = min (t.val % 17) 7 - 0)
    ∧ (win0_3.index t 0 = t.val / 17 ∧ win0_3.index t 1 = min (t.val % 17) 10 - 8)
    ∧ (win0_4.index t 0 = t.val / 17 ∧ win0_4.index t 1 = min (t.val % 17) 12 - 11)
    ∧ (win0_5.index t 0 = t.val / 17 ∧ win0_5.index t 1 = min (t.val % 17) 16 - 13))

/-- The rows, as the call finds them. -/
abbrev inH : S4096x1024.Idx → EReal := m ((c : Thread nD τ).loc main_arg0)
/-- The weights, as the call finds them. -/
abbrev inW : S1024x8704.Idx → EReal := m ((c : Thread nD τ).loc main_arg1)

/-- The rows a grid point reads. -/
theorem blkH (t : Fin cfg0.N) (n : Fin 2048) (k : Fin 1024) (n' : Fin 4096) (hn : n'.val = 2048 * (t.val / 17) + n.val) :
    (iblk m c 0 t : Vec Ideal S2048x1024 .bf16) (ix2 n k) = inH m c (ix2 n' k) := by
  have hi := (idxs t).1
  unfold iblk
  rw [View.read_apply]
  show V m c main_arg0 _ = V m c main_arg0 _
  congr 1
  funext a
  apply Fin.ext
  match a with
  | ⟨0, _⟩ => show win0_0.index t 0 * 2048 + 1 * n.val = n'.val; rw [hi.1]; omega
  | ⟨1, _⟩ => show win0_0.index t 1 * 1024 + 1 * k.val = k.val; rw [hi.2]; omega

/-- The columns of the weights a grid point reads. -/
theorem blkW (t : Fin cfg0.N) (k : Fin 1024) (j : Fin 512) (j' : Fin 8704) (hj : j'.val = 512 * (t.val % 17) + j.val) :
    (iblk m c 1 t : Vec Ideal S1024x512 .bf16) (ix2 k j) = inW m c (ix2 k j') := by
  have hi := (idxs t).2.1
  unfold iblk
  rw [View.read_apply]
  show V m c main_arg1 _ = V m c main_arg1 _
  congr 1
  funext a
  apply Fin.ext
  match a with
  | ⟨0, _⟩ => show win0_1.index t 0 * 1024 + 1 * k.val = k.val; rw [hi.1]; omega
  | ⟨1, _⟩ => show win0_1.index t 1 * 512 + 1 * j.val = j'.val; rw [hi.2]; omega

/-- A point's product of the first group. -/
theorem at2 (t : Fin cfg0.N) (n : Fin 2048) (j : Fin 512) (n' : Fin 4096) (j' : Fin 8704) (hn : n'.val = 2048 * (t.val / 17) + n.val) (hj : j'.val = 512 * (t.val % 17) + j.val) :
    prod2 (F := Ideal) m c t (ix2 n j) = mm (inH m c) (inW m c) n' j' := by
  unfold prod2
  rw [pay2]
  unfold mm
  simp only [blkH m c t n _ n' hn, blkW m c t _ j j' hj]

/-- Which point's block of the first group holds an index. -/
theorem cover2 (i : S4096x4096.Idx) (t : Fin cfg0.N) (h0 : t.val / 17 = (i 0).val / 2048) (h1 : min (t.val % 17) 7 - 0 = (i 1).val / 512) :
    i ∈ ((View.whole main_v0_0).slice (win0_2.rect t)).set := by
  have hi := (idxs t).2.2.1
  rw [View.set_slice_whole, Rect.mem_set_unit]
  intro a
  match a with
  | ⟨0, _⟩ =>
    show win0_2.index t 0 * 2048 ≤ (i 0 : ℕ) ∧ (i 0 : ℕ) < win0_2.index t 0 * 2048 + 2048
    rw [hi.1]; omega
  | ⟨1, _⟩ =>
    show win0_2.index t 1 * 512 ≤ (i 1 : ℕ) ∧ (i 1 : ℕ) < win0_2.index t 1 * 512 + 512
    rw [hi.2]; omega

/-- The call leaves the first group of the product's columns. -/
theorem final2 : (dats m 0 c).arrAt 2 cfg0.N = grp2 (inH m c) (inW m c) := by
  have hN : cfg0.N = 34 := N_0
  refine (dats m 0 c).arrAt_eq_of_cover 2 (grp2 (inH m c) (inW m c)) (fun t hf => ?_) (fun i => ?_)
  · have hfl : (dats m 0 c).flushed 2 t = (cfg0.win 2).cut (grid0.coords t) (prod2 m c (last 7 t)) := by
      show (cfg0.win 2).cut (grid0.coords t) ((dats m 0 c).after 2 t) = _
      rw [after2]
    rw [hfl]
    have hi := (idxs t).2.2.1
    have hw := (flush2 t).mp hf
    have ht : t.val < 34 := lt_of_lt_of_eq t.isLt hN
    have hl : (last 7 t).val = 17 * (t.val / 17) + min (t.val % 17) 7 := rfl
    funext y
    rw [View.read_apply]
    show prod2 m c (last 7 t) _ = grp2 (inH m c) (inW m c) _
    have e0 : ((((cfg0.win 2).blk t).view.emb y) 0).val = win0_2.index t 0 * 2048 + 1 * (y 0).val := rfl
    have e1 : ((((cfg0.win 2).blk t).view.emb y) 1).val = win0_2.index t 1 * 512 + 1 * (y 1).val := rfl
    have h0 : (y 0).val < 2048 := (y 0).isLt
    have h1 : (y 1).val < 512 := (y 1).isLt
    have hy : (cfg0.win 2).xinj (grid0.coords t) y = ix2 (n0 := 2048) (n1 := 512) ⟨(y 0).val, h0⟩ ⟨(y 1).val, h1⟩ := by
      funext a
      match a with
      | ⟨0, _⟩ => rfl
      | ⟨1, _⟩ => rfl
    rw [hy]
    unfold grp2
    refine at2 m c (last 7 t) ⟨(y 0).val, h0⟩ ⟨(y 1).val, h1⟩ _ _ ?_ ?_
    · refine e0.trans ?_
      show win0_2.index t 0 * 2048 + 1 * (y 0).val = 2048 * ((last 7 t).val / 17) + (y 0).val
      rw [hi.1, hl]; omega
    · show 0 + ((((cfg0.win 2).blk t).view.emb y) 1).val = 512 * ((last 7 t).val % 17) + (y 1).val
      rw [e1, hi.2, hl]; omega
  · have h0 : (i 0 : ℕ) < 4096 := (i 0).isLt
    have h1 : (i 1 : ℕ) < 4096 := (i 1).isLt
    by_cases hk : (i 1).val / 512 < 7
    · refine ⟨⟨17 * ((i 0).val / 2048) + (0 + (i 1).val / 512), by rw [hN]; omega⟩, (flush2 _).mpr ?_, cover2 i _ ?_ ?_⟩ <;> dsimp only <;> omega
    · refine ⟨⟨17 * ((i 0).val / 2048) + 16, by rw [hN]; omega⟩, (flush2 _).mpr ?_, cover2 i _ ?_ ?_⟩ <;> dsimp only <;> omega

/-- A point's product of the second group. -/
theorem at3 (t : Fin cfg0.N) (n : Fin 2048) (j : Fin 512) (n' : Fin 4096) (j' : Fin 8704) (hn : n'.val = 2048 * (t.val / 17) + n.val) (hj : j'.val = 512 * (t.val % 17) + j.val) :
    prod3 (F := Ideal) m c t (ix2 n j) = mm (inH m c) (inW m c) n' j' := by
  unfold prod3
  rw [pay3]
  unfold mm
  simp only [blkH m c t n _ n' hn, blkW m c t _ j j' hj]

/-- Which point's block of the second group holds an index. -/
theorem cover3 (i : S4096x1536.Idx) (t : Fin cfg0.N) (h0 : t.val / 17 = (i 0).val / 2048) (h1 : min (t.val % 17) 10 - 8 = (i 1).val / 512) :
    i ∈ ((View.whole main_v0_1).slice (win0_3.rect t)).set := by
  have hi := (idxs t).2.2.2.1
  rw [View.set_slice_whole, Rect.mem_set_unit]
  intro a
  match a with
  | ⟨0, _⟩ =>
    show win0_3.index t 0 * 2048 ≤ (i 0 : ℕ) ∧ (i 0 : ℕ) < win0_3.index t 0 * 2048 + 2048
    rw [hi.1]; omega
  | ⟨1, _⟩ =>
    show win0_3.index t 1 * 512 ≤ (i 1 : ℕ) ∧ (i 1 : ℕ) < win0_3.index t 1 * 512 + 512
    rw [hi.2]; omega

/-- The call leaves the second group of the product's columns. -/
theorem final3 : (dats m 0 c).arrAt 3 cfg0.N = grp3 (inH m c) (inW m c) := by
  have hN : cfg0.N = 34 := N_0
  refine (dats m 0 c).arrAt_eq_of_cover 3 (grp3 (inH m c) (inW m c)) (fun t hf => ?_) (fun i => ?_)
  · have hfl : (dats m 0 c).flushed 3 t = (cfg0.win 3).cut (grid0.coords t) (prod3 m c (last 10 t)) := by
      show (cfg0.win 3).cut (grid0.coords t) ((dats m 0 c).after 3 t) = _
      rw [after3]
    rw [hfl]
    have hi := (idxs t).2.2.2.1
    have hw := (flush3 t).mp hf
    have ht : t.val < 34 := lt_of_lt_of_eq t.isLt hN
    have hl : (last 10 t).val = 17 * (t.val / 17) + min (t.val % 17) 10 := rfl
    funext y
    rw [View.read_apply]
    show prod3 m c (last 10 t) _ = grp3 (inH m c) (inW m c) _
    have e0 : ((((cfg0.win 3).blk t).view.emb y) 0).val = win0_3.index t 0 * 2048 + 1 * (y 0).val := rfl
    have e1 : ((((cfg0.win 3).blk t).view.emb y) 1).val = win0_3.index t 1 * 512 + 1 * (y 1).val := rfl
    have h0 : (y 0).val < 2048 := (y 0).isLt
    have h1 : (y 1).val < 512 := (y 1).isLt
    have hy : (cfg0.win 3).xinj (grid0.coords t) y = ix2 (n0 := 2048) (n1 := 512) ⟨(y 0).val, h0⟩ ⟨(y 1).val, h1⟩ := by
      funext a
      match a with
      | ⟨0, _⟩ => rfl
      | ⟨1, _⟩ => rfl
    rw [hy]
    unfold grp3
    refine at3 m c (last 10 t) ⟨(y 0).val, h0⟩ ⟨(y 1).val, h1⟩ _ _ ?_ ?_
    · refine e0.trans ?_
      show win0_3.index t 0 * 2048 + 1 * (y 0).val = 2048 * ((last 10 t).val / 17) + (y 0).val
      rw [hi.1, hl]; omega
    · show 4096 + ((((cfg0.win 3).blk t).view.emb y) 1).val = 512 * ((last 10 t).val % 17) + (y 1).val
      rw [e1, hi.2, hl]; omega
  · have h0 : (i 0 : ℕ) < 4096 := (i 0).isLt
    have h1 : (i 1 : ℕ) < 1536 := (i 1).isLt
    by_cases hk : (i 1).val / 512 < 2
    · refine ⟨⟨17 * ((i 0).val / 2048) + (8 + (i 1).val / 512), by rw [hN]; omega⟩, (flush3 _).mpr ?_, cover3 i _ ?_ ?_⟩ <;> dsimp only <;> omega
    · refine ⟨⟨17 * ((i 0).val / 2048) + 16, by rw [hN]; omega⟩, (flush3 _).mpr ?_, cover3 i _ ?_ ?_⟩ <;> dsimp only <;> omega

/-- A point's product of the third group. -/
theorem at4 (t : Fin cfg0.N) (n : Fin 2048) (j : Fin 512) (n' : Fin 4096) (j' : Fin 8704) (hn : n'.val = 2048 * (t.val / 17) + n.val) (hj : j'.val = 512 * (t.val % 17) + j.val) :
    prod4 (F := Ideal) m c t (ix2 n j) = mm (inH m c) (inW m c) n' j' := by
  unfold prod4
  rw [pay4]
  unfold mm
  simp only [blkH m c t n _ n' hn, blkW m c t _ j j' hj]

/-- Which point's block of the third group holds an index. -/
theorem cover4 (i : S4096x1024.Idx) (t : Fin cfg0.N) (h0 : t.val / 17 = (i 0).val / 2048) (h1 : min (t.val % 17) 12 - 11 = (i 1).val / 512) :
    i ∈ ((View.whole main_v0_2).slice (win0_4.rect t)).set := by
  have hi := (idxs t).2.2.2.2.1
  rw [View.set_slice_whole, Rect.mem_set_unit]
  intro a
  match a with
  | ⟨0, _⟩ =>
    show win0_4.index t 0 * 2048 ≤ (i 0 : ℕ) ∧ (i 0 : ℕ) < win0_4.index t 0 * 2048 + 2048
    rw [hi.1]; omega
  | ⟨1, _⟩ =>
    show win0_4.index t 1 * 512 ≤ (i 1 : ℕ) ∧ (i 1 : ℕ) < win0_4.index t 1 * 512 + 512
    rw [hi.2]; omega

/-- The call leaves the third group of the product's columns. -/
theorem final4 : (dats m 0 c).arrAt 4 cfg0.N = grp4 (inH m c) (inW m c) := by
  have hN : cfg0.N = 34 := N_0
  refine (dats m 0 c).arrAt_eq_of_cover 4 (grp4 (inH m c) (inW m c)) (fun t hf => ?_) (fun i => ?_)
  · have hfl : (dats m 0 c).flushed 4 t = (cfg0.win 4).cut (grid0.coords t) (prod4 m c (last 12 t)) := by
      show (cfg0.win 4).cut (grid0.coords t) ((dats m 0 c).after 4 t) = _
      rw [after4]
    rw [hfl]
    have hi := (idxs t).2.2.2.2.1
    have hw := (flush4 t).mp hf
    have ht : t.val < 34 := lt_of_lt_of_eq t.isLt hN
    have hl : (last 12 t).val = 17 * (t.val / 17) + min (t.val % 17) 12 := rfl
    funext y
    rw [View.read_apply]
    show prod4 m c (last 12 t) _ = grp4 (inH m c) (inW m c) _
    have e0 : ((((cfg0.win 4).blk t).view.emb y) 0).val = win0_4.index t 0 * 2048 + 1 * (y 0).val := rfl
    have e1 : ((((cfg0.win 4).blk t).view.emb y) 1).val = win0_4.index t 1 * 512 + 1 * (y 1).val := rfl
    have h0 : (y 0).val < 2048 := (y 0).isLt
    have h1 : (y 1).val < 512 := (y 1).isLt
    have hy : (cfg0.win 4).xinj (grid0.coords t) y = ix2 (n0 := 2048) (n1 := 512) ⟨(y 0).val, h0⟩ ⟨(y 1).val, h1⟩ := by
      funext a
      match a with
      | ⟨0, _⟩ => rfl
      | ⟨1, _⟩ => rfl
    rw [hy]
    unfold grp4
    refine at4 m c (last 12 t) ⟨(y 0).val, h0⟩ ⟨(y 1).val, h1⟩ _ _ ?_ ?_
    · refine e0.trans ?_
      show win0_4.index t 0 * 2048 + 1 * (y 0).val = 2048 * ((last 12 t).val / 17) + (y 0).val
      rw [hi.1, hl]; omega
    · show 5632 + ((((cfg0.win 4).blk t).view.emb y) 1).val = 512 * ((last 12 t).val % 17) + (y 1).val
      rw [e1, hi.2, hl]; omega
  · have h0 : (i 0 : ℕ) < 4096 := (i 0).isLt
    have h1 : (i 1 : ℕ) < 1024 := (i 1).isLt
    by_cases hk : (i 1).val / 512 < 1
    · refine ⟨⟨17 * ((i 0).val / 2048) + (11 + (i 1).val / 512), by rw [hN]; omega⟩, (flush4 _).mpr ?_, cover4 i _ ?_ ?_⟩ <;> dsimp only <;> omega
    · refine ⟨⟨17 * ((i 0).val / 2048) + 16, by rw [hN]; omega⟩, (flush4 _).mpr ?_, cover4 i _ ?_ ?_⟩ <;> dsimp only <;> omega

/-- A point's product of the fourth group. -/
theorem at5 (t : Fin cfg0.N) (n : Fin 2048) (j : Fin 512) (n' : Fin 4096) (j' : Fin 8704) (hn : n'.val = 2048 * (t.val / 17) + n.val) (hj : j'.val = 512 * (t.val % 17) + j.val) :
    prod5 (F := Ideal) m c t (ix2 n j) = mm (inH m c) (inW m c) n' j' := by
  unfold prod5
  rw [pay5]
  unfold mm
  simp only [blkH m c t n _ n' hn, blkW m c t _ j j' hj]

/-- Which point's block of the fourth group holds an index. -/
theorem cover5 (i : S4096x2048.Idx) (t : Fin cfg0.N) (h0 : t.val / 17 = (i 0).val / 2048) (h1 : min (t.val % 17) 16 - 13 = (i 1).val / 512) :
    i ∈ ((View.whole main_v0_3).slice (win0_5.rect t)).set := by
  have hi := (idxs t).2.2.2.2.2
  rw [View.set_slice_whole, Rect.mem_set_unit]
  intro a
  match a with
  | ⟨0, _⟩ =>
    show win0_5.index t 0 * 2048 ≤ (i 0 : ℕ) ∧ (i 0 : ℕ) < win0_5.index t 0 * 2048 + 2048
    rw [hi.1]; omega
  | ⟨1, _⟩ =>
    show win0_5.index t 1 * 512 ≤ (i 1 : ℕ) ∧ (i 1 : ℕ) < win0_5.index t 1 * 512 + 512
    rw [hi.2]; omega

/-- The call leaves the fourth group of the product's columns. -/
theorem final5 : (dats m 0 c).arrAt 5 cfg0.N = grp5 (inH m c) (inW m c) := by
  have hN : cfg0.N = 34 := N_0
  refine (dats m 0 c).arrAt_eq_of_cover 5 (grp5 (inH m c) (inW m c)) (fun t hf => ?_) (fun i => ?_)
  · have hfl : (dats m 0 c).flushed 5 t = (cfg0.win 5).cut (grid0.coords t) (prod5 m c (last 16 t)) := by
      show (cfg0.win 5).cut (grid0.coords t) ((dats m 0 c).after 5 t) = _
      rw [after5]
    rw [hfl]
    have hi := (idxs t).2.2.2.2.2
    have hw := (flush5 t).mp hf
    have ht : t.val < 34 := lt_of_lt_of_eq t.isLt hN
    have hl : (last 16 t).val = 17 * (t.val / 17) + min (t.val % 17) 16 := rfl
    funext y
    rw [View.read_apply]
    show prod5 m c (last 16 t) _ = grp5 (inH m c) (inW m c) _
    have e0 : ((((cfg0.win 5).blk t).view.emb y) 0).val = win0_5.index t 0 * 2048 + 1 * (y 0).val := rfl
    have e1 : ((((cfg0.win 5).blk t).view.emb y) 1).val = win0_5.index t 1 * 512 + 1 * (y 1).val := rfl
    have h0 : (y 0).val < 2048 := (y 0).isLt
    have h1 : (y 1).val < 512 := (y 1).isLt
    have hy : (cfg0.win 5).xinj (grid0.coords t) y = ix2 (n0 := 2048) (n1 := 512) ⟨(y 0).val, h0⟩ ⟨(y 1).val, h1⟩ := by
      funext a
      match a with
      | ⟨0, _⟩ => rfl
      | ⟨1, _⟩ => rfl
    rw [hy]
    unfold grp5
    refine at5 m c (last 16 t) ⟨(y 0).val, h0⟩ ⟨(y 1).val, h1⟩ _ _ ?_ ?_
    · refine e0.trans ?_
      show win0_5.index t 0 * 2048 + 1 * (y 0).val = 2048 * ((last 16 t).val / 17) + (y 0).val
      rw [hi.1, hl]; omega
    · show 6656 + ((((cfg0.win 5).blk t).view.emb y) 1).val = 512 * ((last 16 t).val % 17) + (y 1).val
      rw [e1, hi.2, hl]; omega
  · have h0 : (i 0 : ℕ) < 4096 := (i 0).isLt
    have h1 : (i 1 : ℕ) < 2048 := (i 1).isLt
    refine ⟨⟨17 * ((i 0).val / 2048) + (13 + (i 1).val / 512), by rw [hN]; omega⟩, (flush5 _).mpr ?_, cover5 i _ ?_ ?_⟩ <;> dsimp only <;> omega

end Cert.Inp
-- ==== Proof.Inp.Claim.lean ====
module

public import proofs.«01_k».proof.Proof.Gen.Kernel5
public import proofs.«01_k».proof.Proof.Gen.Reference5Ideal.Run
public import proofs.«01_k».proof.Proof.Gen.Reference5Ideal.Read
public import proofs.«01_k».proof.Defs
public import proofs.«01_k».proof.Proof.Inp.Value
public import Idealize.ShloMosaic.Lib.Claim

@[expose] public section

noncomputable section

namespace Cert.Inp

open Cert.Kernel5Ideal Cert.Kernel5Ideal.Gen Cert.Reference5Ideal.Read Idealize.ShloMosaic Idealize.ShloMosaic.TcCoe Idealize.SL.Sem

/-- The reference's product. -/
theorem whole (h : S4096x1024.Idx → EReal) (w : S1024x8704.Idx → EReal) (n : Fin 4096) (j : Fin 8704) :
    val_main_v3 (F := Ideal) h w (ix2 n j) = mm h w n j := by
  unfold val_main_v3 val_main_v2 val_main_v1 val_main_v0 mm
  pointwise

/-- The reference's first group of columns. -/
theorem ref2 (h : S4096x1024.Idx → EReal) (w : S1024x8704.Idx → EReal) : val_main_v4 (F := Ideal) h w = grp2 h w := by
  funext y
  rw [val_main_v4_apply]
  have h1 : (y 1).val < 4096 := (y 1).isLt
  refine Eq.trans (congrArg (val_main_v3 (F := Ideal) h w) ?_) (whole h w (y 0) ⟨0 + (y 1).val, by omega⟩)
  funext a
  apply Fin.ext
  match a with
  | ⟨0, _⟩ => rfl
  | ⟨1, _⟩ => exact (Nat.zero_add _).symm

/-- The reference's second group of columns. -/
theorem ref3 (h : S4096x1024.Idx → EReal) (w : S1024x8704.Idx → EReal) : val_main_v5 (F := Ideal) h w = grp3 h w := by
  funext y
  rw [val_main_v5_apply]
  have h1 : (y 1).val < 1536 := (y 1).isLt
  refine Eq.trans (congrArg (val_main_v3 (F := Ideal) h w) ?_) (whole h w (y 0) ⟨4096 + (y 1).val, by omega⟩)
  funext a
  apply Fin.ext
  match a with
  | ⟨0, _⟩ => rfl
  | ⟨1, _⟩ => rfl

/-- The reference's third group of columns. -/
theorem ref4 (h : S4096x1024.Idx → EReal) (w : S1024x8704.Idx → EReal) : val_main_v6 (F := Ideal) h w = grp4 h w := by
  funext y
  rw [val_main_v6_apply]
  have h1 : (y 1).val < 1024 := (y 1).isLt
  refine Eq.trans (congrArg (val_main_v3 (F := Ideal) h w) ?_) (whole h w (y 0) ⟨5632 + (y 1).val, by omega⟩)
  funext a
  apply Fin.ext
  match a with
  | ⟨0, _⟩ => rfl
  | ⟨1, _⟩ => rfl

/-- The reference's fourth group of columns. -/
theorem ref5 (h : S4096x1024.Idx → EReal) (w : S1024x8704.Idx → EReal) : val_main_v7 (F := Ideal) h w = grp5 h w := by
  funext y
  rw [val_main_v7_apply]
  have h1 : (y 1).val < 2048 := (y 1).isLt
  refine Eq.trans (congrArg (val_main_v3 (F := Ideal) h w) ?_) (whole h w (y 0) ⟨6656 + (y 1).val, by omega⟩)
  funext a
  apply Fin.ext
  match a with
  | ⟨0, _⟩ => rfl
  | ⟨1, _⟩ => rfl

/-- The reference's run: it ends, its arguments stay, and it has no semaphore that could be left raised. -/
theorem frame_ref (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ fun r =>
      (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0 :=
  (θ_run Cert.Reference5Ideal.defs _ _).mono
    (fun r h => ⟨fun c => (h c).2.2.2.2, sem_eq_zero_of_no_sems (by decide) r.2⟩)
    (Cert.Reference5Ideal.Value.run m g)

/-- The program and its idealisation have the same body. -/
theorem same_body {F : FTy → Type} [FloatOps F] : Cert.Kernel5.defs₀ (F := F) = Cert.Kernel5Ideal.defs₀ (F := F) := by
  unfold Cert.Kernel5.defs₀ Cert.Kernel5Ideal.defs₀
  refine congrArg Defs.onTc ?_
  funext l x
  match l, x with
  | ⟨0, _⟩, (t, s) => rfl

/-- The program and its idealisation have the same functions. -/
theorem same_defs {F : FTy → Type} [FloatOps F] : Cert.Kernel5.defs (F := F) = Cert.Kernel5Ideal.defs (F := F) := by
  unfold Cert.Kernel5.defs Cert.Kernel5Ideal.defs
  rw [same_body]
  rfl

/-- The frame of the program before its idealisation: the same run, over bit patterns. -/
theorem frame_bits : Cert.quiescent_Kernel5 := fun m g _ => by
  rw [same_defs]
  exact frame_any (F := Bits) m g

/-- The call and the plain lines end with equal results. -/
theorem algebraic : algebraic_Kernel5Ideal_Reference5Ideal := by
  intro m g m' g' hpre hargs
  refine ⟨fun c => grp2 (inH m c) (inW m c), fun c => grp3 (inH m c) (inW m c), fun c => grp4 (inH m c) (inW m c), fun c => grp5 (inH m c) (inW m c), ?_, ?_⟩
  · refine (θ_run _ _ _).mono (fun r h c => ?_) (θ_run_and (frame_any m g) (run_all m g))
    exact ⟨((h.2.1 c).1 2).trans (final2 m c), ((h.2.1 c).1 3).trans (final3 m c), ((h.2.1 c).1 4).trans (final4 m c),
      ((h.2.1 c).1 5).trans (final5 m c), (h.1.1 c).1, (h.1.1 c).2⟩
  · refine (θ_run _ _ _).mono (fun r h c => ?_) (Cert.Reference5Ideal.Value.run m' g')
    obtain ⟨e0, e1, e2, e3, e4⟩ := h c
    obtain ⟨a0, a1⟩ := hargs c
    refine ⟨e0.trans ((val_main_v4_eq _ _).trans ?_), e1.trans ((val_main_v5_eq _ _).trans ?_), e2.trans ((val_main_v6_eq _ _).trans ?_),
      e3.trans ((val_main_v7_eq _ _).trans ?_), e4⟩
    · rw [a0, a1]; exact ref2 (inH m c) (inW m c)
    · rw [a0, a1]; exact ref3 (inH m c) (inW m c)
    · rw [a0, a1]; exact ref4 (inH m c) (inW m c)
    · rw [a0, a1]; exact ref5 (inH m c) (inW m c)

end Cert.Inp
-- ==== Proof.Cvf.Pay.lean ====
module

public import proofs.«01_k».proof.Proof.Gen.Kernel6Ideal.Frame
public import proofs.«01_k».proof.Proof.Conv.Arr

@[expose] public section

noncomputable section

namespace Cert.Cvf

open Cert.Kernel6Ideal Cert.Kernel6Ideal.Gen Idealize.ShloMosaic Idealize.ShloMosaic.TcCoe Idealize.SL.Sem
open Cert.Conv (Rows cv s1 s2 conv sg sel_eq sel_gt rowsU taps)

/-- The gated convolution: the input gate, the convolved rows and SiLU of the last gate. -/
def gated (U : ℕ → Rows) (w : Fin 3 → Fin 1024 → EReal) (n : ℕ) (l : Fin 1024) : EReal :=
  U 1 n l * conv U w n l * (U 3 n l * sg U n l)

/-- The blocks a grid point `t` works on, as rows of the whole arrays. -/
structure Blk (U : ℕ → Rows) (w : Fin 3 → Fin 1024 → EReal) (t : ℕ)
    (x0 x1 x2 x3 : Vec Ideal S512x1024 .bf16) (x4 x5 : Vec Ideal S16x1024 .bf16)
    (x6 : Vec Ideal S3x1024 .f32) : Prop where
  lt : t < 8
  h0 : ∀ (r : Fin 512) (l : Fin 1024), x0 (ix2 r l) = U 0 (512 * t + r.val) l
  h1 : ∀ (r : Fin 512) (l : Fin 1024), x1 (ix2 r l) = U 1 (512 * t + r.val) l
  h2 : ∀ (r : Fin 512) (l : Fin 1024), x2 (ix2 r l) = U 2 (512 * t + r.val) l
  h3 : ∀ (r : Fin 512) (l : Fin 1024), x3 (ix2 r l) = U 3 (512 * t + r.val) l
  h4 : 0 < t → ∀ (r : Fin 16) (l : Fin 1024), x4 (ix2 r l) = U 0 (512 * t - 16 + r.val) l
  h5 : 0 < t → ∀ (r : Fin 16) (l : Fin 1024), x5 (ix2 r l) = U 2 (512 * t - 16 + r.val) l
  h6 : ∀ (k : Fin 3) (l : Fin 1024), x6 (ix2 k l) = w k l

variable {U : ℕ → Rows} {w : Fin 3 → Fin 1024 → EReal} {t : ℕ}
    {x0 x1 x2 x3 : Vec Ideal S512x1024 .bf16} {x4 x5 : Vec Ideal S16x1024 .bf16}
    {x6 : Vec Ideal S3x1024 .f32} (B : Blk U w t x0 x1 x2 x3 x4 x5 x6)

include B

/-- The gated value. -/
theorem pay2 (r : Fin 512) (l : Fin 1024) : k0_pay2 x2 x0 (ix2 r l) = cv U (512 * t + r.val) l := by
  unfold k0_pay2
  pointwise
  rw [B.h0, B.h2, cv]

/-- One row of the past, the first row of a block from the rows before it. -/
theorem pay4 (i : grid0.Coords) (hi : (i 0).val = t) (r : Fin 512) (l : Fin 1024) :
    k0_pay4 i x2 x0 x5 x4 (ix2 r l) = s1 U (512 * t + r.val) l := by
  have hr := r.isLt; have ht := B.lt
  unfold k0_pay4 k0_pay3 k0_pay2
  pointwise
  rw [hi, sel_eq _ _ (by omega) (by omega), sel_gt _ _ (by omega) (by omega), s1]
  by_cases h : r.val = 0
  · rw [if_pos h]
    by_cases h' : 0 < t
    · rw [if_pos h', if_neg (by omega), B.h4 h', B.h5 h', cv]
      congr 2 <;> simp <;> omega
    · rw [if_neg h', if_pos (by omega)]
  · rw [if_neg h, if_neg (by omega), B.h0, B.h2, cv]
    dsimp only
    rw [show 512 * t + (r.val + 512 - 1) % 512 = 512 * t + r.val - 1 by omega]

/-- Two rows of the past, the first two rows of a block from the rows before it. -/
theorem pay5 (i : grid0.Coords) (hi : (i 0).val = t) (r : Fin 512) (l : Fin 1024) :
    k0_pay5 i x2 x0 x5 x4 (ix2 r l) = s2 U (512 * t + r.val) l := by
  have hr := r.isLt; have ht := B.lt
  unfold k0_pay5 k0_pay3 k0_pay2
  pointwise
  rw [hi, sel_eq _ _ (by omega) (by omega), sel_eq _ _ (by omega) (by omega), sel_gt _ _ (by omega) (by omega),
    sel_gt _ _ (by omega) (by omega), s2]
  by_cases h : r.val = 0
  · rw [if_pos h]
    by_cases h' : 0 < t
    · rw [if_pos h', if_neg (by omega), B.h4 h', B.h5 h', cv]
      congr 2 <;> simp <;> omega
    · rw [if_neg h', if_pos (by omega)]
  · rw [if_neg h]
    by_cases h1 : r.val = 1
    · rw [if_pos h1]
      by_cases h' : 0 < t
      · rw [if_pos h', if_neg (by omega), B.h4 h', B.h5 h', cv]
        congr 2 <;> simp <;> omega
      · rw [if_neg h', if_pos (by omega)]
    · rw [if_neg h1, if_neg (by omega), B.h0, B.h2, cv]
      dsimp only
      rw [show 512 * t + (r.val + 512 - 2) % 512 = 512 * t + r.val - 2 by omega]

/-- What a grid point stores. -/
theorem out7 (i : grid0.Coords) (hi : (i 0).val = t) (r : Fin 512) (l : Fin 1024) :
    out0_7 (F := Ideal) i x0 x1 x2 x3 x4 x5 x6 (ix2 r l) = gated U w (512 * t + r.val) l := by
  unfold out0_7 r0_0 r0_1 r0_2 r0_3 r0_4
  rw [View.canon_unit_zero (S := S512x1024) (off := ![0,0]) (by decide)]
  simp only [View.ld_unit_zero (Val := Elt Ideal) (S := S512x1024) (off := ![0,0]) (by decide),
    View.ld_unit_zero (Val := Elt Ideal) (S := S16x1024) (off := ![0,0]) (by decide)]
  unfold k0_pay1 k0_pay6
  pointwise
  rw [pay5 B i hi, pay4 B i hi, pay2 B, B.h1, B.h3, gated, conv, sg, ← B.h6, ← B.h6, ← B.h6]

end Cert.Cvf
-- ==== Proof.Cvf.Arr.lean ====
module

public import proofs.«01_k».proof.Proof.Gen.Kernel6Ideal.Value
public import proofs.«01_k».proof.Proof.Cvf.Pay

@[expose] public section

noncomputable section

namespace Cert.Cvf

open Cert.Kernel6Ideal Cert.Kernel6Ideal.Gen Idealize.ShloMosaic Idealize.ShloMosaic.TcCoe Idealize.SL.Sem
open Cert.Conv (Rows rowsU taps)

variable (m : (ℓ : Loc nD τ sig) → Buf (Elt Ideal) ℓ) (c : Dev nD)

/-- The projection's four column groups. -/
abbrev arrU : S4096x4096.Idx → EReal := m ((c : Thread nD τ).loc main_arg0)
/-- The three taps. -/
abbrev arrW : S3x1024.Idx → EReal := m ((c : Thread nD τ).loc main_arg1)

/-- Where each window's block lies at a grid point. -/
theorem idxs : ∀ t : Fin cfg0.N, (grid0.coords t 0).val = t.val
    ∧ (win0_0.index t 0 = t.val ∧ win0_0.index t 1 = 0)
    ∧ (win0_1.index t 0 = t.val ∧ win0_1.index t 1 = 1)
    ∧ (win0_2.index t 0 = t.val ∧ win0_2.index t 1 = 2)
    ∧ (win0_3.index t 0 = t.val ∧ win0_3.index t 1 = 3)
    ∧ (win0_4.index t 0 = 32 * t.val - 1 ∧ win0_4.index t 1 = 0)
    ∧ (win0_5.index t 0 = 32 * t.val - 1 ∧ win0_5.index t 1 = 2)
    ∧ (win0_6.index t 0 = 0 ∧ win0_6.index t 1 = 0)
    ∧ (win0_7.index t 0 = t.val ∧ win0_7.index t 1 = 0) :=
  (by decide +kernel : ∀ t : Fin grid0.N, (grid0.coords t 0).val = t.val
    ∧ (win0_0.index t 0 = t.val ∧ win0_0.index t 1 = 0)
    ∧ (win0_1.index t 0 = t.val ∧ win0_1.index t 1 = 1)
    ∧ (win0_2.index t 0 = t.val ∧ win0_2.index t 1 = 2)
    ∧ (win0_3.index t 0 = t.val ∧ win0_3.index t 1 = 3)
    ∧ (win0_4.index t 0 = 32 * t.val - 1 ∧ win0_4.index t 1 = 0)
    ∧ (win0_5.index t 0 = 32 * t.val - 1 ∧ win0_5.index t 1 = 2)
    ∧ (win0_6.index t 0 = 0 ∧ win0_6.index t 1 = 0)
    ∧ (win0_7.index t 0 = t.val ∧ win0_7.index t 1 = 0))

/-- The rows of a tile that a point reads. -/
theorem iblk0 (t : Fin cfg0.N) (r : Fin 512) (l : Fin 1024) :
    (iblk m c 0 t : Vec Ideal S512x1024 .bf16) (ix2 r l) = rowsU (arrU m c) 0 (512 * t.val + r.val) l := by
  have ht : t.val < 8 := lt_of_lt_of_eq t.isLt (show cfg0.N = 8 from N_0)
  have hi := (idxs t).2.1
  unfold rowsU
  rw [dif_pos (by omega)]
  unfold iblk
  rw [View.read_apply]
  show V m c main_arg0 _ = arrU m c _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 1024 + 1 * l.val = 1024 * 0 + l.val; rw [hi.2]; omega

/-- The rows of a tile that a point reads. -/
theorem iblk1 (t : Fin cfg0.N) (r : Fin 512) (l : Fin 1024) :
    (iblk m c 1 t : Vec Ideal S512x1024 .bf16) (ix2 r l) = rowsU (arrU m c) 1 (512 * t.val + r.val) l := by
  have ht : t.val < 8 := lt_of_lt_of_eq t.isLt (show cfg0.N = 8 from N_0)
  have hi := (idxs t).2.2.1
  unfold rowsU
  rw [dif_pos (by omega)]
  unfold iblk
  rw [View.read_apply]
  show V m c main_arg0 _ = arrU m c _
  rw [V_main_arg0]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * l.val = 1024 * 1 + l.val; rw [hi.2]; omega

/-- The rows of a tile that a point reads. -/
theorem iblk2 (t : Fin cfg0.N) (r : Fin 512) (l : Fin 1024) :
    (iblk m c 2 t : Vec Ideal S512x1024 .bf16) (ix2 r l) = rowsU (arrU m c) 2 (512 * t.val + r.val) l := by
  have ht : t.val < 8 := lt_of_lt_of_eq t.isLt (show cfg0.N = 8 from N_0)
  have hi := (idxs t).2.2.2.1
  unfold rowsU
  rw [dif_pos (by omega)]
  unfold iblk
  rw [View.read_apply]
  show V m c main_arg0 _ = arrU m c _
  rw [V_main_arg0]
  congr 1
  funext a
  apply Fin.ext
  match a with
  | ⟨0, _⟩ => show win0_2.index t 0 * 512 + 1 * r.val = 512 * t.val + r.val; rw [hi.1]; omega
  | ⟨1, _⟩ => show win0_2.index t 1 * 1024 + 1 * l.val = 1024 * 2 + l.val; rw [hi.2]; omega

/-- The rows of a tile that a point reads. -/
theorem iblk3 (t : Fin cfg0.N) (r : Fin 512) (l : Fin 1024) :
    (iblk m c 3 t : Vec Ideal S512x1024 .bf16) (ix2 r l) = rowsU (arrU m c) 3 (512 * t.val + r.val) l := by
  have ht : t.val < 8 := lt_of_lt_of_eq t.isLt (show cfg0.N = 8 from N_0)
  have hi := (idxs t).2.2.2.2.1
  unfold rowsU
  rw [dif_pos (by omega)]
  unfold iblk
  rw [View.read_apply]
  show V m c main_arg0 _ = arrU m c _
  rw [V_main_arg0]
  congr 1
  funext a
  apply Fin.ext
  match a with
  | ⟨0, _⟩ => show win0_3.index t 0 * 512 + 1 * r.val = 512 * t.val + r.val; rw [hi.1]; omega
  | ⟨1, _⟩ => show win0_3.index t 1 * 1024 + 1 * l.val = 1024 * 3 + l.val; rw [hi.2]; omega

/-- The last rows of the tile before, as a point reads them. -/
theorem iblk4 (t : Fin cfg0.N) (h : 0 < t.val) (r : Fin 16) (l : Fin 1024) :
    (iblk m c 4 t : Vec Ideal S16x1024 .bf16) (ix2 r l) = rowsU (arrU m c) 0 (512 * t.val - 16 + r.val) l := by
  have ht : t.val < 8 := lt_of_lt_of_eq t.isLt (show cfg0.N = 8 from N_0)
  have hi := (idxs t).2.2.2.2.2.1
  unfold rowsU
  rw [dif_pos (by omega)]
  unfold iblk
  rw [View.read_apply]
  show V m c main_arg0 _ = arrU m c _
  rw [V_main_arg0]
  congr 1
  funext a
  apply Fin.ext
  match a with
  | ⟨0, _⟩ => show win0_4.index t 0 * 16 + 1 * r.val = 512 * t.val - 16 + r.val; rw [hi.1]; omega
  | ⟨1, _⟩ => show win0_4.index t 1 * 1024 + 1 * l.val = 1024 * 0 + l.val; rw [hi.2]; omega

/-- The last rows of the tile before, as a point reads them. -/
theorem iblk5 (t : Fin cfg0.N) (h : 0 < t.val) (r : Fin 16) (l : Fin 1024) :
    (iblk m c 5 t : Vec Ideal S16x1024 .bf16) (ix2 r l) = rowsU (arrU m c) 2 (512 * t.val - 16 + r.val) l := by
  have ht : t.val < 8 := lt_of_lt_of_eq t.isLt (show cfg0.N = 8 from N_0)
  have hi := (idxs t).2.2.2.2.2.2.1
  unfold rowsU
  rw [dif_pos (by omega)]
  unfold iblk
  rw [View.read_apply]
  show V m c main_arg0 _ = arrU m c _
  rw [V_main_arg0]
  congr 1
  funext a
  apply Fin.ext
  match a with
  | ⟨0, _⟩ => show win0_5.index t 0 * 16 + 1 * r.val = 512 * t.val - 16 + r.val; rw [hi.1]; omega
  | ⟨1, _⟩ => show win0_5.index t 1 * 1024 + 1 * l.val = 1024 * 2 + l.val; rw [hi.2]; omega

/-- The taps a point reads. -/
theorem iblk6 (t : Fin cfg0.N) (k : Fin 3) (l : Fin 1024) :
    (iblk m c 6 t : Vec Ideal S3x1024 .f32) (ix2 k l) = taps (arrW m c) k l := by
  have hi := (idxs t).2.2.2.2.2.2.2.1
  unfold taps iblk
  rw [View.read_apply]
  show V m c main_arg1 _ = arrW m c _
  rw [V_main_arg1]
  congr 1
  funext a
  apply Fin.ext
  match a with
  | ⟨0, _⟩ => show win0_6.index t 0 * 3 + 1 * k.val = k.val; rw [hi.1]; omega
  | ⟨1, _⟩ => show win0_6.index t 1 * 1024 + 1 * l.val = l.val; rw [hi.2]; omega

/-- The blocks of a grid point are rows of the argument arrays. -/
theorem blk (t : Fin cfg0.N) : Blk (rowsU (arrU m c)) (taps (arrW m c)) t.val
    (iblk m c 0 t) (iblk m c 1 t) (iblk m c 2 t) (iblk m c 3 t) (iblk m c 4 t) (iblk m c 5 t) (iblk m c 6 t) where
  lt := lt_of_lt_of_eq t.isLt (show cfg0.N = 8 from N_0)
  h0 := iblk0 m c t
  h1 := iblk1 m c t
  h2 := iblk2 m c t
  h3 := iblk3 m c t
  h4 := iblk4 m c t
  h5 := iblk5 m c t
  h6 := iblk6 m c t

/-- The gated convolution of an array of column groups with taps, as one array. -/
def gatedArr (u : S4096x4096.Idx → EReal) (w : S3x1024.Idx → EReal) : S4096x1024.Idx → EReal :=
  fun y => gated (rowsU u) (taps w) (y 0).val (y 1)

/-- Which point's block of the output holds an index. -/
theorem cover7 (i : S4096x1024.Idx) (t : Fin cfg0.N) (ht : t.val = (i 0).val / 512) : i ∈ ((View.whole main_v0).slice (win0_7.rect t)).set := by
  have h0 : (i 0 : ℕ) < 4096 := (i 0).isLt
  have h1 : (i 1 : ℕ) < 1024 := (i 1).isLt
  have hi := (idxs t).2.2.2.2.2.2.2.2
  rw [View.set_slice_whole, Rect.mem_set_unit]
  intro a
  match a with
  | ⟨0, _⟩ =>
    show win0_7.index t 0 * 512 ≤ (i 0 : ℕ) ∧ (i 0 : ℕ) < win0_7.index t 0 * 512 + 512
    rw [hi.1]; omega
  | ⟨1, _⟩ =>
    show win0_7.index t 1 * 1024 ≤ (i 1 : ℕ) ∧ (i 1 : ℕ) < win0_7.index t 1 * 1024 + 1024
    rw [hi.2]; omega

/-- The output array after the run. -/
theorem final7 : (dats m 0 c).arrAt 7 cfg0.N = gatedArr (arrU m c) (arrW m c) := by
  have hN : cfg0.N = 8 := N_0
  refine (dats m 0 c).arrAt_eq_of_cover 7 (gatedArr (arrU m c) (arrW m c)) (fun t hf => ?_) (fun i => ?_)
  · rw [Cert.Kernel6Ideal.Value.flushed7]
    have hi := (idxs t).2.2.2.2.2.2.2.2
    funext y
    rw [View.read_apply]
    show out0_7 (F := Ideal) (grid0.coords t) _ _ _ _ _ _ _ _ = gatedArr _ _ _
    have e0 : ((((cfg0.win 7).blk t).view.emb y) 0).val = win0_7.index t 0 * 512 + 1 * (y 0).val := rfl
    have e1 : ((((cfg0.win 7).blk t).view.emb y) 1).val = win0_7.index t 1 * 1024 + 1 * (y 1).val := rfl
    have h0 : (y 0).val < 512 := (y 0).isLt
    have h1 : (y 1).val < 1024 := (y 1).isLt
    have hy : (cfg0.win 7).xinj (grid0.coords t) y = ix2 (n0 := 512) (n1 := 1024) ⟨(y 0).val, h0⟩ ⟨(y 1).val, h1⟩ := by
      funext a
      match a with
      | ⟨0, _⟩ => rfl
      | ⟨1, _⟩ => rfl
    rw [hy, out7 (blk m c t) (grid0.coords t) (idxs t).1]
    unfold gatedArr
    congr 1
    · rw [e0, hi.1]; dsimp only; omega
    · exact Fin.ext (by rw [e1, hi.2]; dsimp only; omega)
  · have h0 : (i 0 : ℕ) < 4096 := (i 0).isLt
    exact ⟨⟨(i 0).val / 512, by rw [hN]; omega⟩, flush0_7 _, cover7 i _ rfl⟩

end Cert.Cvf
-- ==== Proof.Cvf.Claim.lean ====
module

public import proofs.«01_k».proof.Proof.Gen.Reference6Ideal.Run
public import proofs.«01_k».proof.Proof.Gen.Reference6Ideal.Read
public import proofs.«01_k».proof.Defs
public import proofs.«01_k».proof.Proof.Cvf.Arr
public import proofs.«01_k».proof.Proof.Conv.Claim
public import Idealize.ShloMosaic.Lib.Claim

@[expose] public section

noncomputable section

namespace Cert.Cvf

open Cert.Kernel6Ideal Cert.Kernel6Ideal.Gen Idealize.ShloMosaic Idealize.ShloMosaic.TcCoe Idealize.SL.Sem
open Cert.Reference6Ideal.Read
open Cert.Conv (Rows cv s1 s2 conv sg rowsU taps)

section
variable (u : S4096x4096.Idx → EReal) (w : S3x1024.Idx → EReal)

/-- An entry of a column group is the entry of its rows. -/
theorem group (k : ℕ) (r : Fin 4096) (l : Fin 1024) (j : Fin 4096) (h : j.val = 1024 * k + l.val) :
    u (ix2 r j) = rowsU u k r.val l := by
  have hj : 1024 * k + l.val < 4096 := h ▸ j.isLt
  unfold rowsU; rw [dif_pos ⟨r.isLt, hj⟩]
  exact congrArg (fun j => u (ix2 r j)) (Fin.ext h)

/-- The projection's first column group. -/
theorem r1 (r : Fin 4096) (l : Fin 1024) : val_main_v1 (F := Ideal) u (ix2 r l) = rowsU u 0 r.val l := by
  unfold val_main_v1 val_main_v0
  pointwise
  exact group u 0 r l _ (by simp)

/-- The projection's second column group. -/
theorem r2 (r : Fin 4096) (l : Fin 1024) : val_main_v2 (F := Ideal) u (ix2 r l) = rowsU u 1 r.val l := by
  unfold val_main_v2 val_main_v0
  pointwise
  exact group u 1 r l _ (by simp)

/-- The projection's third column group. -/
theorem r3 (r : Fin 4096) (l : Fin 1024) : val_main_v3 (F := Ideal) u (ix2 r l) = rowsU u 2 r.val l := by
  unfold val_main_v3 val_main_v0
  pointwise
  exact group u 2 r l _ (by simp)

/-- The projection's fourth column group. -/
theorem r4 (r : Fin 4096) (l : Fin 1024) : val_main_v4 (F := Ideal) u (ix2 r l) = rowsU u 3 r.val l := by
  unfold val_main_v4 val_main_v0
  pointwise
  exact group u 3 r l _ (by simp)

/-- The product that is convolved. -/
theorem r5 (r : Fin 4096) (l : Fin 1024) : val_main_v5 (F := Ideal) u (ix2 r l) = cv (rowsU u) r.val l := by
  unfold val_main_v5
  pointwise
  rw [r3, r1, cv]

/-- The product, two rows earlier. -/
theorem r8 (r : Fin 4096) (l : Fin 1024) : val_main_v8 (F := Ideal) u (ix2 r l) = s2 (rowsU u) r.val l := by
  unfold val_main_v8 val_main_v7 val_main_v6 val_main_cst
  pointwise
  simp only [r5]
  unfold s2
  split <;> rfl

/-- The product, one row earlier. -/
theorem r14 (r : Fin 4096) (l : Fin 1024) : val_main_v14 (F := Ideal) u (ix2 r l) = s1 (rowsU u) r.val l := by
  unfold val_main_v14 val_main_v7 val_main_v6 val_main_cst
  pointwise
  simp only [r5]
  unfold s1
  by_cases h : r.val = 0
  · rw [if_pos h, dif_pos (by omega)]
  · rw [if_neg h, dif_neg (by omega)]
    congr 1; omega

/-- The product, in place. -/
theorem r21 (r : Fin 4096) (l : Fin 1024) : val_main_v21 (F := Ideal) u (ix2 r l) = cv (rowsU u) r.val l := by
  unfold val_main_v21 val_main_v7 val_main_v6 val_main_cst
  pointwise
  simp only [r5]

/-- The convolved rows. -/
theorem r27 (r : Fin 4096) (l : Fin 1024) : val_main_v27 (F := Ideal) u w (ix2 r l) = conv (rowsU u) (taps w) r.val l := by
  unfold val_main_v27 val_main_v20 val_main_v13 val_main_v19 val_main_v26 val_main_v12 val_main_v11 val_main_v10 val_main_v9
    val_main_v18 val_main_v17 val_main_v16 val_main_v15 val_main_v25 val_main_v24 val_main_v23 val_main_v22
  pointwise
  rw [r8, r14, r21, conv]
  unfold taps
  simp only [mul_comm]

/-- The reference's result is the gated convolution the kernel computes. -/
theorem ref : val_main_v31 (F := Ideal) u w = gatedArr u w := by
  funext y
  obtain ⟨r, l, rfl⟩ : ∃ r l, y = ix2 r l := ⟨y 0, y 1, by funext a; match a with | ⟨0, _⟩ => rfl | ⟨1, _⟩ => rfl⟩
  unfold val_main_v31 val_main_v30 val_main_v29 val_main_v28 val_main_call0_v5 val_main_call0_v4 val_main_call0_v3 val_main_call0_v2
    val_main_call0_v1 val_main_call0_v0 val_main_call0_cst val_main_call0_cst_0
  pointwise
  rw [r2, r27, r4]
  unfold gatedArr gated sg
  rw [zero_sub]
  rfl
end

/-- The reference's run: it ends, its arguments stay, and it has no semaphore that could be left raised. -/
theorem frame_ref (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ fun r =>
      (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0 :=
  (θ_run Cert.Reference6Ideal.defs _ _).mono
    (fun r h => ⟨fun c => (h c).2, sem_eq_zero_of_no_sems (by decide) r.2⟩)
    (Cert.Reference6Ideal.Value.run m g)

/-- The convolution's forward call and the plain lines end with equal results. -/
theorem algebraic : algebraic_Kernel6Ideal_Reference6Ideal := by
  intro m g m' g' hpre hargs
  refine ⟨fun c => gatedArr (arrU m c) (arrW m c), ?_, ?_⟩
  · refine (θ_run _ _ _).mono (fun r h c => ?_) (Cert.Kernel6Ideal.Value.run_blocks m g)
    obtain ⟨e0, e1⟩ := h c
    exact ⟨e0.trans (final7 m c), e1⟩
  · refine (θ_run _ _ _).mono (fun r h c => ?_) (Cert.Reference6Ideal.Value.run m' g')
    obtain ⟨e0, e1⟩ := h c
    obtain ⟨a0, a1⟩ := hargs c
    refine ⟨e0.trans ((val_main_v31_eq _ _).trans ?_), e1⟩
    rw [a0, a1]
    exact ref (arrU m c) (arrW m c)

end Cert.Cvf
-- ==== Proof.Nrf.Claim.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import proofs.«01_k».proof.Proof.Wgr.Rows
public import Idealize.ShloMosaic.Lib.Claim

@[expose] public section

noncomputable section

namespace Cert.Nrf

open Cert.Kernel7Ideal Cert.Kernel7Ideal.Gen Idealize.ShloMosaic Idealize.ShloMosaic.TcCoe Idealize.SL.Sem
open Cert.Reference7Ideal.Read
open Cert.Norm (count small)
open Cert.Wgr (nrm)

/-- The payload of a block is the block's rows, normalised and scaled. -/
theorem pay1 (v0 : Vec Ideal S1024x1024 .f32) (v1 : Vec Ideal S1x1024 .f32) (r l : Fin 1024) :
    k0_pay1 (F := Ideal) v0 v1 (ix2 r l)
      = v0 (ix2 r l) * Ideal.rsqrt (Ideal.div (∑ k : Fin 1024, v0 (ix2 r k) * v0 (ix2 r k)) count + small) * v1 (ix2 0 l) := by
  unfold k0_pay1
  pointwise

/-- The rows are stored as they are. -/
theorem pay2 (v0 : Vec Ideal S1024x1024 .f32) (v1 : Vec Ideal S1x1024 .f32) (r l : Fin 1024) :
    k0_pay2 (F := Ideal) v0 v1 (ix2 r l) = k0_pay1 (F := Ideal) v0 v1 (ix2 r l) := by
  unfold k0_pay2
  pointwise

/-- The second store is the transposed rows. -/
theorem pay3 (v0 : Vec Ideal S1024x1024 .f32) (v1 : Vec Ideal S1x1024 .f32) (l r : Fin 1024) :
    k0_pay3 (F := Ideal) v0 v1 (ix2 l r) = k0_pay1 (F := Ideal) v0 v1 (ix2 r l) := by
  unfold k0_pay3
  pointwise

variable (m : (ℓ : Loc nD τ sig) → Buf (Elt Ideal) ℓ) (c : Dev nD)

/-- The input of the norm. -/
abbrev arrX : S4096x1024.Idx → EReal := m ((c : Thread nD τ).loc main_arg0)
/-- The gain. -/
abbrev arrG : S1x1024.Idx → EReal := m ((c : Thread nD τ).loc main_arg1)

/-- Where each window's block lies at a grid point. -/
theorem idxs : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = t.val) :=
  (by decide +kernel : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = t.val))

/-- The rows a grid point reads. -/
theorem blkX (t : Fin cfg0.N) (n : Fin 4096) (r l : Fin 1024) (hn : n.val = 1024 * t.val + r.val) :
    (iblk m c 0 t : Vec Ideal S1024x1024 .f32) (ix2 r l) = arrX m c (ix2 n l) := by
  have hi := (idxs t).1
  unfold iblk
  rw [View.read_apply]
  show V m c main_arg0 _ = arrX m c _
  rw [V_main_arg0]
  congr 1
  funext a
  apply Fin.ext
  match a with
  | ⟨0, _⟩ => show win0_0.index t 0 * 1024 + 1 * r.val = n.val; rw [hi.1]; omega
  | ⟨1, _⟩ => show win0_0.index t 1 * 1024 + 1 * l.val = l.val; rw [hi.2]; omega

/-- The gain a grid point reads. -/
theorem blkG (t : Fin cfg0.N) (l : Fin 1024) :
    (iblk m c 1 t : Vec Ideal S1x1024 .f32) (ix2 0 l) = arrG m c (ix2 0 l) := by
  have hi := (idxs t).2.1
  unfold iblk
  rw [View.read_apply]
  show V m c main_arg1 _ = arrG m c _
  rw [V_main_arg1]
  congr 1
  funext a
  apply Fin.ext
  match a with
  | ⟨0, _⟩ => show win0_1.index t 0 * 1 + 1 * 0 = 0; rw [hi.1]
  | ⟨1, _⟩ => show win0_1.index t 1 * 1024 + 1 * l.val = l.val; rw [hi.2]; omega

/-- What a grid point leaves of the rows. -/
theorem out2 (t : Fin cfg0.N) (n : Fin 4096) (r l : Fin 1024) (hn : n.val = 1024 * t.val + r.val) :
    out0_2 (F := Ideal) (iblk m c 0 t) (iblk m c 1 t) (ix2 r l) = nrm (arrX m c) (arrG m c) n l := by
  unfold out0_2 r0_0 r0_1
  rw [View.canon_unit_zero (S := S1024x1024) (off := ![0,0]) (by decide),
    View.ld_unit_zero (Val := Elt Ideal) (S := S1024x1024) (off := ![0,0]) (by decide),
    View.ld_unit_zero (Val := Elt Ideal) (S := S1x1024) (off := ![0,0]) (by decide), pay2, pay1, blkG]
  unfold nrm
  simp only [blkX m c t n r _ hn]

/-- What a grid point leaves of the transposed rows. -/
theorem out3 (t : Fin cfg0.N) (n : Fin 4096) (r l : Fin 1024) (hn : n.val = 1024 * t.val + r.val) :
    out0_3 (F := Ideal) (iblk m c 0 t) (iblk m c 1 t) (ix2 l r) = nrm (arrX m c) (arrG m c) n l := by
  unfold out0_3 r0_0 r0_1
  rw [View.canon_unit_zero (S := S1024x1024) (off := ![0,0]) (by decide),
    View.ld_unit_zero (Val := Elt Ideal) (S := S1024x1024) (off := ![0,0]) (by decide),
    View.ld_unit_zero (Val := Elt Ideal) (S := S1x1024) (off := ![0,0]) (by decide), pay3, pay1, blkG]
  unfold nrm
  simp only [blkX m c t n r _ hn]

/-- The normalised rows, as an array. -/
def rows (x : S4096x1024.Idx → EReal) (g : S1x1024.Idx → EReal) : S4096x1024.Idx → EReal := fun y => nrm x g (y 0) (y 1)

/-- The transposed rows, as an array. -/
def rowsT (x : S4096x1024.Idx → EReal) (g : S1x1024.Idx → EReal) : S1024x4096.Idx → EReal := fun y => nrm x g (y 1) (y 0)

/-- Which point's block of this output holds an index. -/
theorem cover2 (i : S4096x1024.Idx) (t : Fin cfg0.N) (ht : t.val = (i 0).val / 1024) : i ∈ ((View.whole main_v0_0).slice (win0_2.rect t)).set := by
  have h0 : (i 0 : ℕ) < 4096 := (i 0).isLt
  have h1 : (i 1 : ℕ) < 1024 := (i 1).isLt
  have hi := (idxs t).2.2.1
  rw [View.set_slice_whole, Rect.mem_set_unit]
  intro a
  match a with
  | ⟨0, _⟩ =>
    show win0_2.index t 0 * 1024 ≤ (i 0 : ℕ) ∧ (i 0 : ℕ) < win0_2.index t 0 * 1024 + 1024
    rw [hi.1]; omega
  | ⟨1, _⟩ =>
    show win0_2.index t 1 * 1024 ≤ (i 1 : ℕ) ∧ (i 1 : ℕ) < win0_2.index t 1 * 1024 + 1024
    rw [hi.2]; omega

/-- This output array after the run. -/
theorem final2 : (dats m 0 c).arrAt 2 cfg0.N = rows (arrX m c) (arrG m c) := by
  have hN : cfg0.N = 4 := N_0
  refine (dats m 0 c).arrAt_eq_of_cover 2 (rows (arrX m c) (arrG m c)) (fun t hf => ?_) (fun i => ?_)
  · rw [Cert.Kernel7Ideal.Value.flushed2]
    have hi := (idxs t).2.2.1
    have ht : t.val < 4 := lt_of_lt_of_eq t.isLt hN
    funext y
    rw [View.read_apply]
    show out0_2 (F := Ideal) (iblk m c 0 t) (iblk m c 1 t) _ = rows _ _ _
    have e0 : ((((cfg0.win 2).blk t).view.emb y) 0).val = win0_2.index t 0 * 1024 + 1 * (y 0).val := rfl
    have e1 : ((((cfg0.win 2).blk t).view.emb y) 1).val = win0_2.index t 1 * 1024 + 1 * (y 1).val := rfl
    have h0 : (y 0).val < 1024 := (y 0).isLt
    have h1 : (y 1).val < 1024 := (y 1).isLt
    have hy : (cfg0.win 2).xinj (grid0.coords t) y = ix2 (n0 := 1024) (n1 := 1024) ⟨(y 0).val, h0⟩ ⟨(y 1).val, h1⟩ := by
      funext a
      match a with
      | ⟨0, _⟩ => rfl
      | ⟨1, _⟩ => rfl
    rw [hy, out2 m c t ⟨1024 * t.val + (y 0).val, by omega⟩ ⟨(y 0).val, h0⟩ ⟨(y 1).val, h1⟩ rfl]
    unfold rows
    congr 1
    · exact Fin.ext (by rw [e0, hi.1]; dsimp only; omega)
    · exact Fin.ext (by rw [e1, hi.2]; dsimp only; omega)
  · have h0 : (i 0 : ℕ) < 4096 := (i 0).isLt
    exact ⟨⟨(i 0).val / 1024, by rw [hN]; omega⟩, flush0_2 _, cover2 i _ rfl⟩

/-- Which point's block of this output holds an index. -/
theorem cover3 (i : S1024x4096.Idx) (t : Fin cfg0.N) (ht : t.val = (i 1).val / 1024) : i ∈ ((View.whole main_v0_1).slice (win0_3.rect t)).set := by
  have h0 : (i 0 : ℕ) < 1024 := (i 0).isLt
  have h1 : (i 1 : ℕ) < 4096 := (i 1).isLt
  have hi := (idxs t).2.2.2
  rw [View.set_slice_whole, Rect.mem_set_unit]
  intro a
  match a with
  | ⟨0, _⟩ =>
    show win0_3.index t 0 * 1024 ≤ (i 0 : ℕ) ∧ (i 0 : ℕ) < win0_3.index t 0 * 1024 + 1024
    rw [hi.1]; omega
  | ⟨1, _⟩ =>
    show win0_3.index t 1 * 1024 ≤ (i 1 : ℕ) ∧ (i 1 : ℕ) < win0_3.index t 1 * 1024 + 1024
    rw [hi.2]; omega

/-- This output array after the run. -/
theorem final3 : (dats m 0 c).arrAt 3 cfg0.N = rowsT (arrX m c) (arrG m c) := by
  have hN : cfg0.N = 4 := N_0
  refine (dats m 0 c).arrAt_eq_of_cover 3 (rowsT (arrX m c) (arrG m c)) (fun t hf => ?_) (fun i => ?_)
  · rw [Cert.Kernel7Ideal.Value.flushed3]
    have hi := (idxs t).2.2.2
    have ht : t.val < 4 := lt_of_lt_of_eq t.isLt hN
    funext y
    rw [View.read_apply]
    show out0_3 (F := Ideal) (iblk m c 0 t) (iblk m c 1 t) _ = rowsT _ _ _
    have e0 : ((((cfg0.win 3).blk t).view.emb y) 0).val = win0_3.index t 0 * 1024 + 1 * (y 0).val := rfl
    have e1 : ((((cfg0.win 3).blk t).view.emb y) 1).val = win0_3.index t 1 * 1024 + 1 * (y 1).val := rfl
    have h0 : (y 0).val < 1024 := (y 0).isLt
    have h1 : (y 1).val < 1024 := (y 1).isLt
    have hy : (cfg0.win 3).xinj (grid0.coords t) y = ix2 (n0 := 1024) (n1 := 1024) ⟨(y 0).val, h0⟩ ⟨(y 1).val, h1⟩ := by
      funext a
      match a with
      | ⟨0, _⟩ => rfl
      | ⟨1, _⟩ => rfl
    rw [hy, out3 m c t ⟨1024 * t.val + (y 1).val, by omega⟩ ⟨(y 1).val, h1⟩ ⟨(y 0).val, h0⟩ rfl]
    unfold rowsT
    congr 1
    · exact Fin.ext (by rw [e1, hi.2]; dsimp only; omega)
    · exact Fin.ext (by rw [e0, hi.1]; dsimp only; omega)
  · have h0 : (i 1 : ℕ) < 4096 := (i 1).isLt
    exact ⟨⟨(i 1).val / 1024, by rw [hN]; omega⟩, flush0_3 _, cover3 i _ rfl⟩

section
variable (x : S4096x1024.Idx → EReal) (g : S1x1024.Idx → EReal)

/-- The reference's normalised rows, scaled by the gain. -/
theorem r14 (n : Fin 4096) (l : Fin 1024) : val_main_v14 (F := Ideal) x g (ix2 n l) = nrm x g n l := by
  unfold val_main_v14 val_main_v13 val_main_v12 val_main_v11 val_main_v10 val_main_v9 val_main_v8 val_main_v7 val_main_v6 val_main_v5
    val_main_v4 val_main_v3 val_main_v2 val_main_v1 val_main_v0 val_main_cst val_main_cst_0 val_main_cst_1 nrm
  pointwise

/-- The reference's first result is the rows the call stores. -/
theorem ref : val_main_v14 (F := Ideal) x g = rows x g := by
  funext y
  obtain ⟨n, l, rfl⟩ : ∃ n l, y = ix2 n l := ⟨y 0, y 1, by funext k; match k with | ⟨0, _⟩ => rfl | ⟨1, _⟩ => rfl⟩
  exact r14 x g n l

/-- The reference's second result is the transposed rows the call stores. -/
theorem refT : val_main_v15 (F := Ideal) x g = rowsT x g := by
  funext y
  obtain ⟨l, n, rfl⟩ : ∃ l n, y = ix2 l n := ⟨y 0, y 1, by funext k; match k with | ⟨0, _⟩ => rfl | ⟨1, _⟩ => rfl⟩
  unfold val_main_v15
  pointwise
  exact r14 x g n l
end

/-- The reference's run: it ends, its arguments stay, and it has no semaphore that could be left raised. -/
theorem frame_ref (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ fun r =>
      (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0 :=
  (θ_run Cert.Reference7Ideal.defs _ _).mono
    (fun r h => ⟨fun c => (h c).2.2, sem_eq_zero_of_no_sems (by decide) r.2⟩)
    (Cert.Reference7Ideal.Value.run m g)

/-- The norm's forward call and the plain lines end with equal results. -/
theorem algebraic : algebraic_Kernel7Ideal_Reference7Ideal := by
  intro m g m' g' hpre hargs
  refine ⟨fun c => rows (arrX m c) (arrG m c), fun c => rowsT (arrX m c) (arrG m c), ?_, ?_⟩
  · refine (θ_run _ _ _).mono (fun r h c => ?_) (Cert.Kernel7Ideal.Value.run_blocks m g)
    obtain ⟨e0, e1, e2⟩ := h c
    exact ⟨e0.trans (final2 m c), e1.trans (final3 m c), e2⟩
  · refine (θ_run _ _ _).mono (fun r h c => ?_) (Cert.Reference7Ideal.Value.run m' g')
    obtain ⟨e0, e1, e2⟩ := h c
    obtain ⟨a0, a1⟩ := hargs c
    refine ⟨e0.trans ((val_main_v14_eq _ _).trans ?_), e1.trans ((val_main_v15_eq _ _).trans ?_), e2⟩
    · rw [a0, a1]
      exact ref (arrX m c) (arrG m c)
    · rw [a0, a1]
      exact refT (arrX m c) (arrG m c)

end Cert.Nrf
-- ==== Proof.Att.Spec.lean ====
module

public import proofs.«01_k».proof.Proof.Norm.Real
public import proofs.«01_k».proof.Proof.Conv.Pay

@[expose] public section

noncomputable section

namespace Cert.Att

open Idealize.ShloMosaic Cert.Conv Cert.Norm

/-- Real rows, numbered by naturals. -/
abbrev Mat := ℕ → ℕ → ℝ

/-- Key `j` of a block's 256 keys is one its query row `i` sees: at most 127 places back, and not before the sequence. -/
abbrev ok (n i j : ℕ) : Prop := i < j ∧ j ≤ i + 128 ∧ 128 ≤ 128 * n + j

/-- The row of the sequence that key `j` of block `n` is, where a query row sees it. -/
def key (n j : ℕ) : ℕ := if j < 128 then 128 * (n - 1) + j else 128 * n + (j - 128)

/-- The score of a query row against a key, scaled by an eighth. -/
def sc (Q K : Mat) (n i h j : ℕ) : ℝ :=
  (∑ d : Fin 64, Q (128 * n + i) (64 * h + d.val) * K (key n j) (64 * (h / 4) + d.val)) * (1 / 8)

/-- The weight of a key before the division. -/
def wt (Q K : Mat) (n i h j : ℕ) : ℝ := if ok n i j then Real.exp (sc Q K n i h j) else 0

/-- Attention over the window, with the sink in the denominator. -/
def att (Q K V : Mat) (B : ℕ → ℝ) (n i h d : ℕ) : ℝ :=
  (∑ j : Fin 256, wt Q K n i h j * V (key n j.val) (64 * (h / 4) + d)) / (∑ j : Fin 256, wt Q K n i h j + Real.exp (B h))

/-- Two to the power of a natural logarithm's multiple. -/
theorem two_pow (a m : ℝ) : FloatOps.exp2 (F := Ideal) (φ := .f32) (((a * (Real.log 2)⁻¹ : ℝ) : EReal) - (m : EReal)) = ((Real.exp a * (2 : ℝ) ^ (-m) : ℝ) : EReal) := by
  have h2 : (0 : ℝ) < 2 := by norm_num
  have hl : Real.log 2 ≠ 0 := (Real.log_pos (by norm_num)).ne'
  rw [← EReal.coe_sub]
  show Ideal.exp2 _ = _
  rw [Ideal.exp2_coe]
  congr 1
  show (2 : ℝ) ^ (a * (Real.log 2)⁻¹ - m) = _
  rw [sub_eq_add_neg, Real.rpow_add h2]
  congr 1
  rw [Real.rpow_def_of_pos h2]
  congr 1
  field_simp

/-- A masked key has no weight. -/
theorem two_pow_bot (m : ℝ) : FloatOps.exp2 (F := Ideal) (φ := .f32) ((⊥ : EReal) - (m : EReal)) = 0 := by
  rw [EReal.bot_sub]
  exact Ideal.exp2_bot

/-- The larger of something below infinity and a real is real. -/
theorem max_real {x : EReal} (hx : x < ⊤) (b : ℝ) : ∃ m : ℝ, max x (b : EReal) = m := by
  rcases eq_or_ne x ⊥ with rfl | h
  · exact ⟨b, by simp⟩
  · lift x to ℝ using ⟨hx.ne, h⟩
    exact ⟨max x b, (EReal.coe_strictMono.monotone.map_max).symm⟩

/-- One row of the kernel's attention: the sink's weight stands at the first key, which no row sees. -/
theorem row (v : Fin 256 → Prop) [DecidablePred v] (hv : ¬ v 0) (a x : Fin 256 → ℝ) (b m : ℝ) (s : Fin 256 → EReal)
    (hs : ∀ j, s j = if v j then ((a j * (Real.log 2)⁻¹ : ℝ) : EReal) else ⊥) :
    (∑ j, (if j.val = 0 then (0 : EReal) else
        (if j.val = 0 then FloatOps.exp2 (F := Ideal) (φ := .f32) (((b * (Real.log 2)⁻¹ : ℝ) : EReal) - (m : EReal))
          else FloatOps.exp2 (F := Ideal) (φ := .f32) (s j - (m : EReal))) * (x j : EReal)))
      * Ideal.div 1 (∑ j : Fin 256, if j.val = 0 then FloatOps.exp2 (F := Ideal) (φ := .f32) (((b * (Real.log 2)⁻¹ : ℝ) : EReal) - (m : EReal))
          else FloatOps.exp2 (F := Ideal) (φ := .f32) (s j - (m : EReal)))
    = (((∑ j, (if v j then Real.exp (a j) else 0) * x j) / (∑ j, (if v j then Real.exp (a j) else 0) + Real.exp b) : ℝ) : EReal) := by
  set t : ℝ := (2 : ℝ) ^ (-m) with ht
  have tp : 0 < t := Real.rpow_pos_of_pos (by norm_num) _
  set E : Fin 256 → ℝ := fun j => if v j then Real.exp (a j) else 0 with hE
  have E0 : ∀ j : Fin 256, j.val = 0 → E j = 0 := fun j hj => by
    have : j = 0 := Fin.ext hj
    subst this
    exact if_neg hv
  have Ep : ∀ j, 0 ≤ E j := fun j => by rw [hE]; dsimp only; split <;> positivity
  have es : ∀ j, FloatOps.exp2 (F := Ideal) (φ := .f32) (s j - (m : EReal)) = ((E j * t : ℝ) : EReal) := fun j => by
    rw [hs, hE]; dsimp only
    split
    · exact two_pow _ _
    · rw [two_pow_bot, zero_mul]; rfl
  have n1 : ∀ j : Fin 256, (if j.val = 0 then (0 : EReal) else
      (if j.val = 0 then FloatOps.exp2 (F := Ideal) (φ := .f32) (((b * (Real.log 2)⁻¹ : ℝ) : EReal) - (m : EReal))
        else FloatOps.exp2 (F := Ideal) (φ := .f32) (s j - (m : EReal))) * (x j : EReal)) = ((E j * x j * t : ℝ) : EReal) := fun j => by
    by_cases hj : j.val = 0
    · rw [if_pos hj, E0 j hj]; simp
    · rw [if_neg hj, if_neg hj, es, ← EReal.coe_mul]; congr 1; ring
  have n2 : ∀ j : Fin 256, (if j.val = 0 then FloatOps.exp2 (F := Ideal) (φ := .f32) (((b * (Real.log 2)⁻¹ : ℝ) : EReal) - (m : EReal))
      else FloatOps.exp2 (F := Ideal) (φ := .f32) (s j - (m : EReal))) = ((E j * t + (if j = 0 then Real.exp b * t else 0) : ℝ) : EReal) := fun j => by
    by_cases hj : j.val = 0
    · rw [if_pos hj, two_pow, E0 j hj, if_pos (Fin.ext hj), zero_mul, zero_add]
    · rw [if_neg hj, es, if_neg (fun h => hj (by rw [h]; rfl)), add_zero]
  rw [Finset.sum_congr rfl fun j _ => n1 j, Finset.sum_congr rfl fun j _ => n2 j]
  simp only [coe_sum]
  have d : (∑ j : Fin 256, (E j * t + if j = 0 then Real.exp b * t else 0)) = (∑ j, E j + Real.exp b) * t := by
    rw [Finset.sum_add_distrib, ← Finset.sum_mul, Finset.sum_ite_eq', if_pos (Finset.mem_univ _)]; ring
  have dp : 0 < ∑ j, E j + Real.exp b := add_pos_of_nonneg_of_pos (Finset.sum_nonneg fun j _ => Ep j) (Real.exp_pos b)
  rw [d, ← Finset.sum_mul]
  have : Ideal.div 1 (((∑ j, E j + Real.exp b) * t : ℝ) : EReal) = ((1 / ((∑ j, E j + Real.exp b) * t) : ℝ) : EReal) := by
    exact_mod_cast div_real 1 _ (mul_pos dp tp).ne'
  rw [this, ← EReal.coe_mul]
  congr 1
  field_simp
  rfl

/-- One row of the reference's attention. -/
theorem row_ref (v : Fin 256 → Prop) [DecidablePred v] (a x : Fin 256 → ℝ) (b m : ℝ) (s : Fin 256 → EReal)
    (hs : ∀ j, s j = if v j then (a j : EReal) else ⊥) :
    ∑ j : Fin 256, (x j : EReal) * Ideal.div (Ideal.exp (s j - (m : EReal))) (∑ j : Fin 256, Ideal.exp (s j - (m : EReal)) + Ideal.exp ((b : EReal) - (m : EReal)))
    = (((∑ j, (if v j then Real.exp (a j) else 0) * x j) / (∑ j, (if v j then Real.exp (a j) else 0) + Real.exp b) : ℝ) : EReal) := by
  set t : ℝ := Real.exp (-m) with ht
  have tp : 0 < t := Real.exp_pos _
  set E : Fin 256 → ℝ := fun j => if v j then Real.exp (a j) else 0 with hE
  have Ep : ∀ j, 0 ≤ E j := fun j => by rw [hE]; dsimp only; split <;> positivity
  have ec : ∀ y : ℝ, Ideal.exp ((y : EReal) - (m : EReal)) = ((Real.exp y * t : ℝ) : EReal) := fun y => by
    rw [← EReal.coe_sub, Ideal.exp_coe, sub_eq_add_neg, Real.exp_add]
  have es : ∀ j, Ideal.exp (s j - (m : EReal)) = ((E j * t : ℝ) : EReal) := fun j => by
    rw [hs, hE]; dsimp only
    split
    · exact ec _
    · rw [EReal.bot_sub, Ideal.exp_bot, zero_mul]; rfl
  have dp : 0 < ∑ j, E j + Real.exp b := add_pos_of_nonneg_of_pos (Finset.sum_nonneg fun j _ => Ep j) (Real.exp_pos b)
  have d : (∑ j : Fin 256, E j * t) + Real.exp b * t = (∑ j, E j + Real.exp b) * t := by rw [← Finset.sum_mul]; ring
  simp only [es, ec, coe_sum]
  rw [← EReal.coe_add, d]
  simp only [div_real _ _ (mul_pos dp tp).ne', ← EReal.coe_mul, coe_sum]
  congr 1
  rw [Finset.sum_div]
  refine Finset.sum_congr rfl fun j _ => ?_
  field_simp
  rfl

end Cert.Att
-- ==== Proof.Att.Pay.lean ====
module

public import proofs.«01_k».proof.Proof.Gen.Kernel8Ideal.Frame
public import proofs.«01_k».proof.Proof.Att.Spec

@[expose] public section

noncomputable section

namespace Cert.Att

open Cert.Kernel8Ideal Cert.Kernel8Ideal.Gen Idealize.ShloMosaic Idealize.ShloMosaic.TcCoe Idealize.SL.Sem
open Cert.Conv (sel_eq)
open Cert.Norm (coe_sum)

/-- The kernel's named scale, an eighth over the logarithm of two. -/
theorem scale_named : Named.named (F := Ideal) κ "scale_log2e" (φ := .f32) 0x3E38AA3B#32 = (((1 / 8) * (Real.log 2)⁻¹ : ℝ) : EReal) :=
  IdealRules.named_const.ideal_named_scalar _ _ _ _ rfl

/-- The kernel's named one over the logarithm of two. -/
theorem log2e_named : Named.named (F := Ideal) κ "log2e" (φ := .f32) 0x3FB8AA3B#32 = (((Real.log 2)⁻¹ : ℝ) : EReal) :=
  IdealRules.named_const.ideal_named_scalar _ _ _ _ rfl

/-- Two blocks of rows on top of each other. -/
theorem stack {x y : Vec Ideal S128x128 .bf16} {X : Mat}
    (hx : ∀ i l : Fin 128, x (ix2 i l) = (X i.val l.val : EReal)) (hy : ∀ i l : Fin 128, y (ix2 i l) = (X (128 + i.val) l.val : EReal))
    (r : Fin 256) (l : Fin 128) : k0_pay6 (F := Ideal) x y (ix2 r l) = (X r.val l.val : EReal) := by
  unfold k0_pay6
  pointwise
  simp only [hx, hy]
  split
  · rfl
  · rw [show 128 + (r.val - 128) = r.val by omega]

/-- The query rows of two heads, scaled. -/
theorem qpp {x y : Vec Ideal S128x128 .bf16} {X : Mat}
    (hx : ∀ i l : Fin 128, x (ix2 i l) = (X i.val l.val : EReal)) (hy : ∀ i l : Fin 128, y (ix2 i l) = (X (128 + i.val) l.val : EReal))
    (r : Fin 256) (l : Fin 128) : k0_pay5 (F := Ideal) x y (ix2 r l) = ((X r.val l.val * ((1 / 8) * (Real.log 2)⁻¹) : ℝ) : EReal) := by
  unfold k0_pay5
  pointwise
  simp only [hx, hy, scale_named]
  rw [EReal.coe_mul (X r.val l.val)]
  split
  · rfl
  · rw [show 128 + (r.val - 128) = r.val by omega]

/-- The sinks of the two heads, in the base two. -/
theorem snk (A B : ℝ) (z : Fin 1) (r : Fin 256) :
    k0_pay8 (F := Ideal) (A : EReal) (B : EReal) (ix2 z r) = (((if r.val < 128 then A else B) * (Real.log 2)⁻¹ : ℝ) : EReal) := by
  unfold k0_pay8
  pointwise
  simp only [log2e_named, ← EReal.coe_mul]
  split <;> simp_all

section
variable {q0 q1 k0 k1 v0 v1 : Vec Ideal S128x128 .bf16} {bias : Vec Ideal S1x256x256 .f32} {QL KL VL : Mat}
  {okk : ℕ → ℕ → Prop} [∀ j r, Decidable (okk j r)]

/-- The scores in the base two, masked keys at minus infinity. -/
theorem scores (hq0 : ∀ i l : Fin 128, q0 (ix2 i l) = (QL i.val l.val : EReal)) (hq1 : ∀ i l : Fin 128, q1 (ix2 i l) = (QL (128 + i.val) l.val : EReal))
    (hk0 : ∀ i l : Fin 128, k0 (ix2 i l) = (KL i.val l.val : EReal)) (hk1 : ∀ i l : Fin 128, k1 (ix2 i l) = (KL (128 + i.val) l.val : EReal))
    (hb : ∀ j r : Fin 256, bias (ix3 0 j r) = if okk j.val r.val then (0 : EReal) else ⊥) (j r : Fin 256) :
    k0_pay7 (F := Ideal) bias q0 q1 k0 k1 (ix2 j r)
      = if okk j.val r.val then ((((∑ l : Fin 128, QL r.val l.val * KL j.val l.val) * (1 / 8)) * (Real.log 2)⁻¹ : ℝ) : EReal) else ⊥ := by
  have e : k0_pay7 (F := Ideal) bias q0 q1 k0 k1 (ix2 j r)
      = ∑ l : Fin 128, k0_pay6 (F := Ideal) k0 k1 (ix2 j l) * k0_pay5 (F := Ideal) q0 q1 (ix2 r l) + bias (ix3 0 j r) := by
    unfold k0_pay7 k0_pay2 k0_pay6
    pointwise
  rw [e, hb]
  simp only [stack hk0 hk1, qpp hq0 hq1, ← EReal.coe_mul, coe_sum]
  split
  · rw [add_zero]
    congr 1
    rw [Finset.sum_mul, Finset.sum_mul]
    exact Finset.sum_congr rfl fun l _ => by ring
  · exact EReal.add_bot _

/-- A row's greatest score is below infinity. -/
theorem mx {s : FVec Ideal S256x256 .f32} (hs : ∀ j r : Fin 256, s (ix2 j r) < ⊤) (r : Fin 256) :
    multiReduction (F := Ideal) .maximumf [0] S256 s 0xFF800000#32 reduces_S256x256_S256 (.inl rfl) rfl (ix1 r) < ⊤ := by
  refine lt_of_eq_of_lt (Ideal.multiReduction_maximumf_single s 0xFF800000#32 reduces_S256x256_S256 (.inl rfl) rfl (ix1 r)) ?_
  rw [Finset.fold_max_lt]
  refine ⟨?_, fun k _ => ?_⟩
  · show Ideal.ofBits .f32 0xFF800000#32 < ⊤
    simp [Ideal.ofBits, Ideal.ieee]
  · have : reduces_S256x256_S256.lift (ix1 r) k = ix2 (n0 := 256) (n1 := 256) k r := by
      funext a; match a with | ⟨0, _⟩ => rfl | ⟨1, _⟩ => rfl
    rw [Function.comp_apply, this]
    exact hs k r

/-- One head of each pair: the weighted mean of the value rows, the sink in the denominator. -/
theorem half (hq0 : ∀ i l : Fin 128, q0 (ix2 i l) = (QL i.val l.val : EReal)) (hq1 : ∀ i l : Fin 128, q1 (ix2 i l) = (QL (128 + i.val) l.val : EReal))
    (hk0 : ∀ i l : Fin 128, k0 (ix2 i l) = (KL i.val l.val : EReal)) (hk1 : ∀ i l : Fin 128, k1 (ix2 i l) = (KL (128 + i.val) l.val : EReal))
    (hv0 : ∀ i l : Fin 128, v0 (ix2 i l) = (VL i.val l.val : EReal)) (hv1 : ∀ i l : Fin 128, v1 (ix2 i l) = (VL (128 + i.val) l.val : EReal))
    (hb : ∀ j r : Fin 256, bias (ix3 0 j r) = if okk j.val r.val then (0 : EReal) else ⊥) (h0 : ∀ r, ¬ okk 0 r) (A B : ℝ) (r : Fin 256) (l : Fin 128) :
    k0_pay14 (F := Ideal) k0_pay3 k0_pay4 (k0_pay6 v0 v1) (k0_pay7 bias q0 q1 k0 k1) (k0_pay8 (A : EReal) (B : EReal)) (k0_pay9 bias q0 q1 k0 k1) (ix2 r l)
      = (((∑ j : Fin 256, (if okk j.val r.val then Real.exp ((∑ l : Fin 128, QL r.val l.val * KL j.val l.val) * (1 / 8)) else 0) * VL j.val l.val)
          / (∑ j : Fin 256, (if okk j.val r.val then Real.exp ((∑ l : Fin 128, QL r.val l.val * KL j.val l.val) * (1 / 8)) else 0)
              + Real.exp (if r.val < 128 then A else B)) : ℝ) : EReal) := by
  have S := scores hq0 hq1 hk0 hk1 hb
  have M : k0_pay9 (F := Ideal) bias q0 q1 k0 k1 (ix1 r) < ⊤ := by
    unfold k0_pay9
    refine mx (fun j r => ?_) r
    rw [S]; split
    · exact EReal.coe_lt_top _
    · exact bot_lt_top
  obtain ⟨m, hm⟩ := max_real M ((if r.val < 128 then A else B) * (Real.log 2)⁻¹)
  unfold k0_pay14 k0_pay12 k0_pay11 k0_pay10 k0_pay3 k0_pay4
  pointwise
  rw [snk, hm]
  have sl : ∀ (j : Fin 256) (a b : EReal), Scalar.select (IntOp.cmpi CmpIPredicate.eq (BitVec.ofNat 32 j.val) 0#32) a b = if j.val = 0 then a else b :=
    fun j a b => sel_eq j.val 0 (by have := j.isLt; omega) (by norm_num) a b
  simp only [sl, stack hv0 hv1]
  exact row (fun j => okk j.val r.val) (h0 r.val) _ (fun j => VL j.val l.val) _ m (fun j => k0_pay7 (F := Ideal) bias q0 q1 k0 k1 (ix2 j r)) (fun j => S j r)
end

end Cert.Att
-- ==== Proof.Att.Group.lean ====
module

public import proofs.«01_k».proof.Proof.Att.Pay

@[expose] public section

noncomputable section

namespace Cert.Att

open Cert.Kernel8Ideal Cert.Kernel8Ideal.Gen Idealize.ShloMosaic Idealize.ShloMosaic.TcCoe Idealize.SL.Sem

/-- A sum over 128 lanes, one half of them zero. -/
theorem lanes (h : ℕ) (hh : h < 2) (f g : ℕ → ℝ) :
    ∑ l : Fin 128, f l.val * (if l.val / 64 = h then g (l.val % 64) else 0) = ∑ d : Fin 64, f (64 * h + d.val) * g d.val := by
  have two : ∀ F : ℕ → ℝ, ∑ l : Fin 128, F l.val = ∑ d : Fin 64, F d.val + ∑ d : Fin 64, F (64 + d.val) :=
    fun F => Fin.sum_univ_add (a := 64) (b := 64) fun l => F l.val
  have e0 : ∀ d : Fin 64, d.val / 64 = 0 := fun d => by have := d.isLt; omega
  have e0' : ∀ d : Fin 64, d.val % 64 = d.val := fun d => by have := d.isLt; omega
  have e1 : ∀ d : Fin 64, (64 + d.val) / 64 = 1 := fun d => by have := d.isLt; omega
  have e1' : ∀ d : Fin 64, (64 + d.val) % 64 = d.val := fun d => by have := d.isLt; omega
  rw [two fun l => f l * (if l / 64 = h then g (l % 64) else 0)]
  simp only [e0, e0', e1, e1']
  obtain rfl | rfl : h = 0 ∨ h = 1 := by omega
  · simp
  · simp

/-- The keys' and the values' array: each head's columns in one half of 128 lanes, the other half zero, in both ways. -/
def KV (K V : Mat) (r c : ℕ) : ℝ :=
  if (c % 128) / 64 = (c / 512) % 2 then (if c < 1024 then K else V) r (64 * ((c % 512) / 128) + c % 64) else 0

/-- The blocks a grid point `n` works on, as rows of the whole arrays. -/
structure Blk (Q K V : Mat) (B : ℕ → ℝ) (Z : ℕ → ℕ → EReal) (n : ℕ)
    (x0 : Vec Ideal S128x1024 .bf16) (x1 x2 : Vec Ideal S128x2048 .bf16) (x3 : Vec Ideal S128x1024 .bf16)
    (x4 : Vec Ideal S1x16 .f32) (x5 : Vec Ideal S1x256x256 .f32) : Prop where
  h0 : ∀ (i : Fin 128) (l : Fin 1024), x0 (ix2 i l) = (Q (128 * n + i.val) l.val : EReal)
  h1 : ∀ (i : Fin 128) (l : Fin 2048), x1 (ix2 i l) = (KV K V (128 * n + i.val) l.val : EReal)
  h2 : ∀ (i : Fin 128) (l : Fin 2048), x2 (ix2 i l) = (KV K V (128 * (n - 1) + i.val) l.val : EReal)
  h3 : ∀ (i : Fin 128) (l : Fin 1024), x3 (ix2 i l) = Z (128 * n + i.val) l.val
  h4 : ∀ h : Fin 16, x4 (ix2 0 h) = (B h.val : EReal)
  h5 : ∀ j r : Fin 256, x5 (ix3 0 j r) = if ok n (r.val % 128) j.val then (0 : EReal) else ⊥

/-- Both heads of each pair of a group of four. -/
def grp (bias : Vec Ideal S1x256x256 .f32) (q0 q1 k00 k01 v00 v01 k10 k11 v10 v11 : Vec Ideal S128x128 .bf16) (a0 b0 a1 b1 : EReal) : FVec Ideal S256x128 .f32 :=
  addf (k0_pay14 (F := Ideal) k0_pay3 k0_pay4 (k0_pay6 v00 v01) (k0_pay7 bias q0 q1 k00 k01) (k0_pay8 a0 b0) (k0_pay9 bias q0 q1 k00 k01))
    (k0_pay14 (F := Ideal) k0_pay3 k0_pay4 (k0_pay6 v10 v11) (k0_pay7 bias q0 q1 k10 k11) (k0_pay8 a1 b1) (k0_pay9 bias q0 q1 k10 k11))

/-- The eight tiles of 128 columns, two from each group. -/
def tiles (g0 g1 g2 g3 : FVec Ideal S256x128 .f32) : FVec Ideal S128x1024 .f32 :=
  concatenate S128x1024 1 [⟨S128x128, extractStridedSlice S128x128 ![0, 0] g0 slices_S256x128_o0_0_S128x128⟩, ⟨S128x128, extractStridedSlice S128x128 ![128, 0] g0 slices_S256x128_o128_0_S128x128⟩,
    ⟨S128x128, extractStridedSlice S128x128 ![0, 0] g1 slices_S256x128_o0_0_S128x128⟩, ⟨S128x128, extractStridedSlice S128x128 ![128, 0] g1 slices_S256x128_o128_0_S128x128⟩,
    ⟨S128x128, extractStridedSlice S128x128 ![0, 0] g2 slices_S256x128_o0_0_S128x128⟩, ⟨S128x128, extractStridedSlice S128x128 ![128, 0] g2 slices_S256x128_o128_0_S128x128⟩,
    ⟨S128x128, extractStridedSlice S128x128 ![0, 0] g3 slices_S256x128_o0_0_S128x128⟩, ⟨S128x128, extractStridedSlice S128x128 ![128, 0] g3 slices_S256x128_o128_0_S128x128⟩]
    concatenates_S128x128_S128x128_S128x128_S128x128_S128x128_S128x128_S128x128_S128x128_S128x1024_d1

/-- Sixteen query heads, one from each group in turn, in the tiles. -/
theorem tiles_at {g0 g1 g2 g3 : FVec Ideal S256x128 .f32} {W : ℕ → ℕ → ℕ → EReal} {n : ℕ}
    (hg0 : ∀ (r : Fin 256) (l : Fin 128), g0 (ix2 r l) = W (r.val % 128) (4 * 0 + 2 * (r.val / 128) + l.val / 64) (l.val % 64))
    (hg1 : ∀ (r : Fin 256) (l : Fin 128), g1 (ix2 r l) = W (r.val % 128) (4 * 1 + 2 * (r.val / 128) + l.val / 64) (l.val % 64))
    (hg2 : ∀ (r : Fin 256) (l : Fin 128), g2 (ix2 r l) = W (r.val % 128) (4 * 2 + 2 * (r.val / 128) + l.val / 64) (l.val % 64))
    (hg3 : ∀ (r : Fin 256) (l : Fin 128), g3 (ix2 r l) = W (r.val % 128) (4 * 3 + 2 * (r.val / 128) + l.val / 64) (l.val % 64))
    (i : Fin 128) (y : Fin 1024) : tiles g0 g1 g2 g3 (ix2 i y) = W i.val (y.val / 64) (y.val % 64) := by
  have hi := i.isLt; have hy := y.isLt
  unfold tiles
  pointwise
  simp only [hg0, hg1, hg2, hg3]
  split_ifs <;> congr 1 <;> (try dsimp only) <;> omega

section
variable {Q K V : Mat} {B : ℕ → ℝ} {Z : ℕ → ℕ → EReal} {n : ℕ}
    {x0 : Vec Ideal S128x1024 .bf16} {x1 x2 : Vec Ideal S128x2048 .bf16} {x3 : Vec Ideal S128x1024 .bf16}
    {x4 : Vec Ideal S1x16 .f32} {x5 : Vec Ideal S1x256x256 .f32}

/-- The query rows of a group's two pairs of heads. -/
def QL (Q : Mat) (n hk : ℕ) : Mat := fun r l => Q (128 * n + r % 128) (256 * hk + 128 * (r / 128) + l)
/-- The key (or value) rows of a group, in one half of the lanes. -/
def KL (K : Mat) (n hk h : ℕ) : Mat := fun j l => if l / 64 = h then K (key n j) (64 * hk + l % 64) else 0

/-- One head of each pair of a group. -/
theorem half_att (hk h : ℕ) (hh : h < 2) {q0 q1 k0 k1 v0 v1 : Vec Ideal S128x128 .bf16} {bias : Vec Ideal S1x256x256 .f32}
    (hq0 : ∀ i l : Fin 128, q0 (ix2 i l) = (QL Q n hk i.val l.val : EReal)) (hq1 : ∀ i l : Fin 128, q1 (ix2 i l) = (QL Q n hk (128 + i.val) l.val : EReal))
    (hk0 : ∀ i l : Fin 128, k0 (ix2 i l) = (KL K n hk h i.val l.val : EReal)) (hk1 : ∀ i l : Fin 128, k1 (ix2 i l) = (KL K n hk h (128 + i.val) l.val : EReal))
    (hv0 : ∀ i l : Fin 128, v0 (ix2 i l) = (KL V n hk h i.val l.val : EReal)) (hv1 : ∀ i l : Fin 128, v1 (ix2 i l) = (KL V n hk h (128 + i.val) l.val : EReal))
    (hb : ∀ j r : Fin 256, bias (ix3 0 j r) = if ok n (r.val % 128) j.val then (0 : EReal) else ⊥)
    {a b : EReal} (ha : a = (B (4 * hk + h) : EReal)) (hb' : b = (B (4 * hk + (2 + h)) : EReal)) (r : Fin 256) (l : Fin 128) :
    k0_pay14 (F := Ideal) k0_pay3 k0_pay4 (k0_pay6 v0 v1) (k0_pay7 bias q0 q1 k0 k1) (k0_pay8 a b) (k0_pay9 bias q0 q1 k0 k1) (ix2 r l)
      = ((if l.val / 64 = h then att Q K V B n (r.val % 128) (4 * hk + 2 * (r.val / 128) + l.val / 64) (l.val % 64) else 0 : ℝ) : EReal) := by
  have hr := r.isLt
  rw [ha, hb', half (okk := fun j r => ok n (r % 128) j) hq0 hq1 hk0 hk1 hv0 hv1 hb (fun r => by simp) (B (4 * hk + h)) (B (4 * hk + (2 + h))) r l]
  congr 1
  have dot : ∀ j : Fin 256, (∑ l : Fin 128, QL Q n hk r.val l.val * KL K n hk h j.val l.val) * (1 / 8) = sc Q K n (r.val % 128) (4 * hk + 2 * (r.val / 128) + h) j.val := fun j => by
    unfold KL sc
    rw [lanes h hh (QL Q n hk r.val) (fun d => K (key n j.val) (64 * hk + d))]
    unfold QL
    congr 1
    refine Finset.sum_congr rfl fun d _ => ?_
    congr 2 <;> omega
  simp only [dot]
  by_cases hl : l.val / 64 = h
  · unfold att wt KL
    simp only [hl, if_true]
    congr 1
    · refine Finset.sum_congr rfl fun j _ => ?_
      congr 2; omega
    · congr 2
      split <;> congr 1 <;> omega
  · unfold KL
    simp [hl]

/-- A group of four query heads. -/
theorem grp_att (hk : ℕ) {q0 q1 k00 k01 v00 v01 k10 k11 v10 v11 : Vec Ideal S128x128 .bf16} {bias : Vec Ideal S1x256x256 .f32}
    (hq0 : ∀ i l : Fin 128, q0 (ix2 i l) = (QL Q n hk i.val l.val : EReal)) (hq1 : ∀ i l : Fin 128, q1 (ix2 i l) = (QL Q n hk (128 + i.val) l.val : EReal))
    (hk00 : ∀ i l : Fin 128, k00 (ix2 i l) = (KL K n hk 0 i.val l.val : EReal)) (hk01 : ∀ i l : Fin 128, k01 (ix2 i l) = (KL K n hk 0 (128 + i.val) l.val : EReal))
    (hv00 : ∀ i l : Fin 128, v00 (ix2 i l) = (KL V n hk 0 i.val l.val : EReal)) (hv01 : ∀ i l : Fin 128, v01 (ix2 i l) = (KL V n hk 0 (128 + i.val) l.val : EReal))
    (hk10 : ∀ i l : Fin 128, k10 (ix2 i l) = (KL K n hk 1 i.val l.val : EReal)) (hk11 : ∀ i l : Fin 128, k11 (ix2 i l) = (KL K n hk 1 (128 + i.val) l.val : EReal))
    (hv10 : ∀ i l : Fin 128, v10 (ix2 i l) = (KL V n hk 1 i.val l.val : EReal)) (hv11 : ∀ i l : Fin 128, v11 (ix2 i l) = (KL V n hk 1 (128 + i.val) l.val : EReal))
    (hb : ∀ j r : Fin 256, bias (ix3 0 j r) = if ok n (r.val % 128) j.val then (0 : EReal) else ⊥)
    {a0 b0 a1 b1 : EReal} (ha0 : a0 = (B (4 * hk + 0) : EReal)) (hb0 : b0 = (B (4 * hk + (2 + 0)) : EReal))
    (ha1 : a1 = (B (4 * hk + 1) : EReal)) (hb1 : b1 = (B (4 * hk + (2 + 1)) : EReal)) (r : Fin 256) (l : Fin 128) :
    grp bias q0 q1 k00 k01 v00 v01 k10 k11 v10 v11 a0 b0 a1 b1 (ix2 r l)
      = (att Q K V B n (r.val % 128) (4 * hk + 2 * (r.val / 128) + l.val / 64) (l.val % 64) : EReal) := by
  have hl := l.isLt
  unfold grp
  pointwise
  rw [half_att hk 0 (by omega) hq0 hq1 hk00 hk01 hv00 hv01 hb ha0 hb0, half_att hk 1 (by omega) hq0 hq1 hk10 hk11 hv10 hv11 hb ha1 hb1, ← EReal.coe_add]
  congr 1
  by_cases h : l.val / 64 = 0
  · rw [if_pos h, if_neg (by omega), add_zero]
  · rw [if_neg h, if_pos (by omega), zero_add]
end

end Cert.Att
-- ==== Proof.Att.Block.lean ====
module

public import proofs.«01_k».proof.Proof.Att.Group

@[expose] public section

noncomputable section

namespace Cert.Att

open Cert.Kernel8Ideal Cert.Kernel8Ideal.Gen Idealize.ShloMosaic Idealize.ShloMosaic.TcCoe Idealize.SL.Sem

/-- SiLU. -/
def sil (z : EReal) : EReal := z * Ideal.div 1 (1 + Ideal.exp (0 - z))

/-- The gated attention at a row and a column. -/
def gat (Q K V : Mat) (B : ℕ → ℝ) (Z : ℕ → ℕ → EReal) (n i y : ℕ) : EReal :=
  (att Q K V B n i (y / 64) (y % 64) : EReal) * sil (Z (128 * n + i) y)

/-- A load of 128 lanes of a block, entry by entry. -/
theorem ld_at {N : ℕ} (x : Vec Ideal ⟨2, ![128, N]⟩ .bf16) (o : ℕ) (h) (i l : Fin 128) (ho : o + l.val < N) :
    View.ld (Val := Elt Ideal) (e' := .bf16) x (Rect.unit (s := ⟨2, ![128, N]⟩) ![0, o] ![128, 128] h) (ix2 i l) = x (ix2 i ⟨o + l.val, ho⟩) := by
  show x _ = x _
  congr 1
  funext a
  apply Fin.ext
  match a with
  | ⟨0, _⟩ => show 0 + 1 * i.val = i.val; omega
  | ⟨1, _⟩ => show o + 1 * l.val = o + l.val; omega

/-- A load of one sink. -/
theorem ld_sink (x : Vec Ideal S1x16 .f32) (o : ℕ) (h) (ho : o < 16) (z) :
    View.ld (Val := Elt Ideal) (e' := .f32) x (Rect.unit (s := S1x16) ![0, o] ![1, 1] h) z = x (ix2 0 ⟨o, ho⟩) := by
  show x _ = x _
  congr 1
  funext a
  apply Fin.ext
  match a with
  | ⟨0, _⟩ => show 0 + 1 * (z 0).val = 0; have : (z 0).val < 1 := (z 0).isLt; omega
  | ⟨1, _⟩ => show o + 1 * (z 1).val = o; have : (z 1).val < 1 := (z 1).isLt; omega

/-- The gate. -/
theorem gate_at (x : Vec Ideal S128x1024 .bf16) (i : Fin 128) (y : Fin 1024) : k0_pay91 (F := Ideal) x (ix2 i y) = sil (x (ix2 i y)) := by
  unfold k0_pay91
  pointwise
  rfl

/-- The gated product. -/
theorem gated_at (a : FVec Ideal S128x1024 .f32) (x : Vec Ideal S128x1024 .bf16) (i : Fin 128) (y : Fin 1024) :
    k0_pay1 (F := Ideal) a (k0_pay91 x) (ix2 i y) = a (ix2 i y) * sil (x (ix2 i y)) := by
  unfold k0_pay1
  pointwise
  rw [gate_at]

variable {Q K V : Mat} {B : ℕ → ℝ} {Z : ℕ → ℕ → EReal} (c : Dev nD) (t : Fin cfg0.N)
    {x0 : Vec Ideal S128x1024 .bf16} {x1 x2 : Vec Ideal S128x2048 .bf16} {x3 : Vec Ideal S128x1024 .bf16}
    {x4 : Vec Ideal S1x16 .f32} {x5 : Vec Ideal S1x256x256 .f32} (D : Blk Q K V B Z t.val x0 x1 x2 x3 x4 x5)

section
include D

/-- The query rows of a pair of heads. -/
theorem ldq0 (hk : ℕ) (o : ℕ) (h) (ho : o = 256 * hk) (hh : hk < 4) (i l : Fin 128) :
    View.ld (Val := Elt Ideal) (e' := .bf16) x0 (Rect.unit (s := S128x1024) ![0, o] ![128, 128] h) (ix2 i l) = (QL Q t.val hk i.val l.val : EReal) := by
  have hi := i.isLt; have hl := l.isLt
  refine (ld_at x0 o h i l (by omega)).trans ((D.h0 _ _).trans ?_)
  unfold QL; congr 2 <;> (try dsimp only) <;> omega

/-- The query rows of the other pair of heads. -/
theorem ldq1 (hk : ℕ) (o : ℕ) (h) (ho : o = 256 * hk + 128) (hh : hk < 4) (i l : Fin 128) :
    View.ld (Val := Elt Ideal) (e' := .bf16) x0 (Rect.unit (s := S128x1024) ![0, o] ![128, 128] h) (ix2 i l) = (QL Q t.val hk (128 + i.val) l.val : EReal) := by
  have hi := i.isLt; have hl := l.isLt
  refine (ld_at x0 o h i l (by omega)).trans ((D.h0 _ _).trans ?_)
  unfold QL; congr 2 <;> (try dsimp only) <;> omega

/-- The key rows of the block before. -/
theorem ldk0 (hk s : ℕ) (o : ℕ) (h) (ho : o = 512 * s + 128 * hk) (hh : hk < 4) (hs : s < 2) (i l : Fin 128) :
    View.ld (Val := Elt Ideal) (e' := .bf16) x2 (Rect.unit (s := S128x2048) ![0, o] ![128, 128] h) (ix2 i l) = (KL K t.val hk s i.val l.val : EReal) := by
  have hi := i.isLt; have hl := l.isLt
  refine (ld_at x2 o h i l (by omega)).trans ((D.h2 _ _).trans ?_)
  unfold KV KL key; dsimp only
  congr 1
  rw [if_pos hi, if_pos (show o + l.val < 1024 by omega)]
  congr 1
  · rw [show (o + l.val) % 128 / 64 = l.val / 64 by omega, show (o + l.val) / 512 % 2 = s by omega]
  · congr 1; omega

/-- The key rows of the block itself. -/
theorem ldk1 (hk s : ℕ) (o : ℕ) (h) (ho : o = 512 * s + 128 * hk) (hh : hk < 4) (hs : s < 2) (i l : Fin 128) :
    View.ld (Val := Elt Ideal) (e' := .bf16) x1 (Rect.unit (s := S128x2048) ![0, o] ![128, 128] h) (ix2 i l) = (KL K t.val hk s (128 + i.val) l.val : EReal) := by
  have hi := i.isLt; have hl := l.isLt
  refine (ld_at x1 o h i l (by omega)).trans ((D.h1 _ _).trans ?_)
  unfold KV KL key; dsimp only
  congr 1
  rw [if_neg (show ¬ 128 + i.val < 128 by omega), if_pos (show o + l.val < 1024 by omega)]
  congr 1
  · rw [show (o + l.val) % 128 / 64 = l.val / 64 by omega, show (o + l.val) / 512 % 2 = s by omega]
  · congr 1 <;> omega

/-- The value rows of the block before. -/
theorem ldv0 (hk s : ℕ) (o : ℕ) (h) (ho : o = 1024 + 512 * s + 128 * hk) (hh : hk < 4) (hs : s < 2) (i l : Fin 128) :
    View.ld (Val := Elt Ideal) (e' := .bf16) x2 (Rect.unit (s := S128x2048) ![0, o] ![128, 128] h) (ix2 i l) = (KL V t.val hk s i.val l.val : EReal) := by
  have hi := i.isLt; have hl := l.isLt
  refine (ld_at x2 o h i l (by omega)).trans ((D.h2 _ _).trans ?_)
  unfold KV KL key; dsimp only
  congr 1
  rw [if_pos hi, if_neg (show ¬ o + l.val < 1024 by omega)]
  congr 1
  · rw [show (o + l.val) % 128 / 64 = l.val / 64 by omega, show (o + l.val) / 512 % 2 = s by omega]
  · congr 1; omega

/-- The value rows of the block itself. -/
theorem ldv1 (hk s : ℕ) (o : ℕ) (h) (ho : o = 1024 + 512 * s + 128 * hk) (hh : hk < 4) (hs : s < 2) (i l : Fin 128) :
    View.ld (Val := Elt Ideal) (e' := .bf16) x1 (Rect.unit (s := S128x2048) ![0, o] ![128, 128] h) (ix2 i l) = (KL V t.val hk s (128 + i.val) l.val : EReal) := by
  have hi := i.isLt; have hl := l.isLt
  refine (ld_at x1 o h i l (by omega)).trans ((D.h1 _ _).trans ?_)
  unfold KV KL key; dsimp only
  congr 1
  rw [if_neg (show ¬ 128 + i.val < 128 by omega), if_neg (show ¬ o + l.val < 1024 by omega)]
  congr 1
  · rw [show (o + l.val) % 128 / 64 = l.val / 64 by omega, show (o + l.val) / 512 % 2 = s by omega]
  · congr 1 <;> omega

/-- A sink. -/
theorem lds (o k : ℕ) (h) (ho : o < 16) (hk : o = k) (z) :
    View.ld (Val := Elt Ideal) (e' := .f32) x4 (Rect.unit (s := S1x16) ![0, o] ![1, 1] h) z = (B k : EReal) := by
  subst hk
  rw [ld_sink x4 o h ho z, D.h4]
end

include D in
/-- What a grid point leaves of the gated attention. -/
theorem out6 (q0 : Fin 128) (q1 : Fin 1024) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      x0 x1 x2 x3 x4 x5 (ix2 q0 q1) = gat Q K V B Z t.val q0.val q1.val := by
  suffices h : out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      x0 x1 x2 x3 x4 x5 = fun y => gat Q K V B Z t.val (y 0).val (y 1).val from congrFun h (ix2 q0 q1)
  unfold out0_A_6
  rw [View.read_writes_eq_canon _ _ _ (cover0_A_6 (F := Ideal) c _ _ _ _ _ _ _ _ _ _ _ _ _ _ _ _ _ _ _ _ _ _ _)]
  funext y
  refine View.canon_apply_of_pieces (fun y : S128x1024.Idx => gat Q K V B Z t.val (y 0).val (y 1).val) _ ?_ y (cover0_A_6 (F := Ideal) c _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [View.ld_unit_zero (Val := Elt Ideal) (S := S128x1024) (off := ![0,0]) (by decide),
    View.ld_unit_zero (Val := Elt Ideal) (S := S1x256x256) (off := ![0,0,0]) (by decide)]
  intro p hp
  simp only [List.mem_cons, List.not_mem_nil, or_false] at hp
  rcases hp with rfl
  intro q
  dsimp only at q ⊢
  idx_vars q
  change k0_pay1 (F := Ideal) (tiles (grp x5 (View.ld x0 (Rect.unit ![0, 0] ![128, 128] inb_S128x1024_S128x128_0_0)) (View.ld x0 (Rect.unit ![0, 128] ![128, 128] inb_S128x1024_S128x128_0_128)) (View.ld x2 (Rect.unit ![0, 0] ![128, 128] inb_S128x2048_S128x128_0_0)) (View.ld x1 (Rect.unit ![0, 0] ![128, 128] inb_S128x2048_S128x128_0_0)) (View.ld x2 (Rect.unit ![0, 1024] ![128, 128] inb_S128x2048_S128x128_0_1024)) (View.ld x1 (Rect.unit ![0, 1024] ![128, 128] inb_S128x2048_S128x128_0_1024)) (View.ld x2 (Rect.unit ![0, 512] ![128, 128] inb_S128x2048_S128x128_0_512)) (View.ld x1 (Rect.unit ![0, 512] ![128, 128] inb_S128x2048_S128x128_0_512)) (View.ld x2 (Rect.unit ![0, 1536] ![128, 128] inb_S128x2048_S128x128_0_1536)) (View.ld x1 (Rect.unit ![0, 1536] ![128, 128] inb_S128x2048_S128x128_0_1536)) (View.ld x4 (Rect.unit ![0, 0] ![1, 1] inb_S1x16_S1x1_0_0) (Shape.Idx.first (by decide))) (View.ld x4 (Rect.unit ![0, 2] ![1, 1] inb_S1x16_S1x1_0_2) (Shape.Idx.first (by decide))) (View.ld x4 (Rect.unit ![0, 1] ![1, 1] inb_S1x16_S1x1_0_1) (Shape.Idx.first (by decide))) (View.ld x4 (Rect.unit ![0, 3] ![1, 1] inb_S1x16_S1x1_0_3) (Shape.Idx.first (by decide))))
      (grp x5 (View.ld x0 (Rect.unit ![0, 256] ![128, 128] inb_S128x1024_S128x128_0_256)) (View.ld x0 (Rect.unit ![0, 384] ![128, 128] inb_S128x1024_S128x128_0_384)) (View.ld x2 (Rect.unit ![0, 128] ![128, 128] inb_S128x2048_S128x128_0_128)) (View.ld x1 (Rect.unit ![0, 128] ![128, 128] inb_S128x2048_S128x128_0_128)) (View.ld x2 (Rect.unit ![0, 1152] ![128, 128] inb_S128x2048_S128x128_0_1152)) (View.ld x1 (Rect.unit ![0, 1152] ![128, 128] inb_S128x2048_S128x128_0_1152)) (View.ld x2 (Rect.unit ![0, 640] ![128, 128] inb_S128x2048_S128x128_0_640)) (View.ld x1 (Rect.unit ![0, 640] ![128, 128] inb_S128x2048_S128x128_0_640)) (View.ld x2 (Rect.unit ![0, 1664] ![128, 128] inb_S128x2048_S128x128_0_1664)) (View.ld x1 (Rect.unit ![0, 1664] ![128, 128] inb_S128x2048_S128x128_0_1664)) (View.ld x4 (Rect.unit ![0, 4] ![1, 1] inb_S1x16_S1x1_0_4) (Shape.Idx.first (by decide))) (View.ld x4 (Rect.unit ![0, 6] ![1, 1] inb_S1x16_S1x1_0_6) (Shape.Idx.first (by decide))) (View.ld x4 (Rect.unit ![0, 5] ![1, 1] inb_S1x16_S1x1_0_5) (Shape.Idx.first (by decide))) (View.ld x4 (Rect.unit ![0, 7] ![1, 1] inb_S1x16_S1x1_0_7) (Shape.Idx.first (by decide))))
      (grp x5 (View.ld x0 (Rect.unit ![0, 512] ![128, 128] inb_S128x1024_S128x128_0_512)) (View.ld x0 (Rect.unit ![0, 640] ![128, 128] inb_S128x1024_S128x128_0_640)) (View.ld x2 (Rect.unit ![0, 256] ![128, 128] inb_S128x2048_S128x128_0_256)) (View.ld x1 (Rect.unit ![0, 256] ![128, 128] inb_S128x2048_S128x128_0_256)) (View.ld x2 (Rect.unit ![0, 1280] ![128, 128] inb_S128x2048_S128x128_0_1280)) (View.ld x1 (Rect.unit ![0, 1280] ![128, 128] inb_S128x2048_S128x128_0_1280)) (View.ld x2 (Rect.unit ![0, 768] ![128, 128] inb_S128x2048_S128x128_0_768)) (View.ld x1 (Rect.unit ![0, 768] ![128, 128] inb_S128x2048_S128x128_0_768)) (View.ld x2 (Rect.unit ![0, 1792] ![128, 128] inb_S128x2048_S128x128_0_1792)) (View.ld x1 (Rect.unit ![0, 1792] ![128, 128] inb_S128x2048_S128x128_0_1792)) (View.ld x4 (Rect.unit ![0, 8] ![1, 1] inb_S1x16_S1x1_0_8) (Shape.Idx.first (by decide))) (View.ld x4 (Rect.unit ![0, 10] ![1, 1] inb_S1x16_S1x1_0_10) (Shape.Idx.first (by decide))) (View.ld x4 (Rect.unit ![0, 9] ![1, 1] inb_S1x16_S1x1_0_9) (Shape.Idx.first (by decide))) (View.ld x4 (Rect.unit ![0, 11] ![1, 1] inb_S1x16_S1x1_0_11) (Shape.Idx.first (by decide))))
      (grp x5 (View.ld x0 (Rect.unit ![0, 768] ![128, 128] inb_S128x1024_S128x128_0_768)) (View.ld x0 (Rect.unit ![0, 896] ![128, 128] inb_S128x1024_S128x128_0_896)) (View.ld x2 (Rect.unit ![0, 384] ![128, 128] inb_S128x2048_S128x128_0_384)) (View.ld x1 (Rect.unit ![0, 384] ![128, 128] inb_S128x2048_S128x128_0_384)) (View.ld x2 (Rect.unit ![0, 1408] ![128, 128] inb_S128x2048_S128x128_0_1408)) (View.ld x1 (Rect.unit ![0, 1408] ![128, 128] inb_S128x2048_S128x128_0_1408)) (View.ld x2 (Rect.unit ![0, 896] ![128, 128] inb_S128x2048_S128x128_0_896)) (View.ld x1 (Rect.unit ![0, 896] ![128, 128] inb_S128x2048_S128x128_0_896)) (View.ld x2 (Rect.unit ![0, 1920] ![128, 128] inb_S128x2048_S128x128_0_1920)) (View.ld x1 (Rect.unit ![0, 1920] ![128, 128] inb_S128x2048_S128x128_0_1920)) (View.ld x4 (Rect.unit ![0, 12] ![1, 1] inb_S1x16_S1x1_0_12) (Shape.Idx.first (by decide))) (View.ld x4 (Rect.unit ![0, 14] ![1, 1] inb_S1x16_S1x1_0_14) (Shape.Idx.first (by decide))) (View.ld x4 (Rect.unit ![0, 13] ![1, 1] inb_S1x16_S1x1_0_13) (Shape.Idx.first (by decide))) (View.ld x4 (Rect.unit ![0, 15] ![1, 1] inb_S1x16_S1x1_0_15) (Shape.Idx.first (by decide))))) (k0_pay91 x3) (ix2 q0 q1) = gat Q K V B Z t.val (0 + 1 * q0.val) (0 + 1 * q1.val)
  rw [show 0 + 1 * q0.val = q0.val by omega, show 0 + 1 * q1.val = q1.val by omega]
  have T := tiles_at (n := t.val) (W := fun i h d => (att Q K V B t.val i h d : EReal))
      (grp_att 0 (ldq0 t D 0 0 inb_S128x1024_S128x128_0_0 rfl (by decide)) (ldq1 t D 0 128 inb_S128x1024_S128x128_0_128 rfl (by decide))
        (ldk0 t D 0 0 0 inb_S128x2048_S128x128_0_0 rfl (by decide) (by decide)) (ldk1 t D 0 0 0 inb_S128x2048_S128x128_0_0 rfl (by decide) (by decide)) (ldv0 t D 0 0 1024 inb_S128x2048_S128x128_0_1024 rfl (by decide) (by decide)) (ldv1 t D 0 0 1024 inb_S128x2048_S128x128_0_1024 rfl (by decide) (by decide))
        (ldk0 t D 0 1 512 inb_S128x2048_S128x128_0_512 rfl (by decide) (by decide)) (ldk1 t D 0 1 512 inb_S128x2048_S128x128_0_512 rfl (by decide) (by decide)) (ldv0 t D 0 1 1536 inb_S128x2048_S128x128_0_1536 rfl (by decide) (by decide)) (ldv1 t D 0 1 1536 inb_S128x2048_S128x128_0_1536 rfl (by decide) (by decide))
        D.h5 (lds t D 0 (4 * 0 + 0) inb_S1x16_S1x1_0_0 (by decide) rfl (Shape.Idx.first (by decide))) (lds t D 2 (4 * 0 + (2 + 0)) inb_S1x16_S1x1_0_2 (by decide) rfl (Shape.Idx.first (by decide))) (lds t D 1 (4 * 0 + 1) inb_S1x16_S1x1_0_1 (by decide) rfl (Shape.Idx.first (by decide))) (lds t D 3 (4 * 0 + (2 + 1)) inb_S1x16_S1x1_0_3 (by decide) rfl (Shape.Idx.first (by decide))))
      (grp_att 1 (ldq0 t D 1 256 inb_S128x1024_S128x128_0_256 rfl (by decide)) (ldq1 t D 1 384 inb_S128x1024_S128x128_0_384 rfl (by decide))
        (ldk0 t D 1 0 128 inb_S128x2048_S128x128_0_128 rfl (by decide) (by decide)) (ldk1 t D 1 0 128 inb_S128x2048_S128x128_0_128 rfl (by decide) (by decide)) (ldv0 t D 1 0 1152 inb_S128x2048_S128x128_0_1152 rfl (by decide) (by decide)) (ldv1 t D 1 0 1152 inb_S128x2048_S128x128_0_1152 rfl (by decide) (by decide))
        (ldk0 t D 1 1 640 inb_S128x2048_S128x128_0_640 rfl (by decide) (by decide)) (ldk1 t D 1 1 640 inb_S128x2048_S128x128_0_640 rfl (by decide) (by decide)) (ldv0 t D 1 1 1664 inb_S128x2048_S128x128_0_1664 rfl (by decide) (by decide)) (ldv1 t D 1 1 1664 inb_S128x2048_S128x128_0_1664 rfl (by decide) (by decide))
        D.h5 (lds t D 4 (4 * 1 + 0) inb_S1x16_S1x1_0_4 (by decide) rfl (Shape.Idx.first (by decide))) (lds t D 6 (4 * 1 + (2 + 0)) inb_S1x16_S1x1_0_6 (by decide) rfl (Shape.Idx.first (by decide))) (lds t D 5 (4 * 1 + 1) inb_S1x16_S1x1_0_5 (by decide) rfl (Shape.Idx.first (by decide))) (lds t D 7 (4 * 1 + (2 + 1)) inb_S1x16_S1x1_0_7 (by decide) rfl (Shape.Idx.first (by decide))))
      (grp_att 2 (ldq0 t D 2 512 inb_S128x1024_S128x128_0_512 rfl (by decide)) (ldq1 t D 2 640 inb_S128x1024_S128x128_0_640 rfl (by decide))
        (ldk0 t D 2 0 256 inb_S128x2048_S128x128_0_256 rfl (by decide) (by decide)) (ldk1 t D 2 0 256 inb_S128x2048_S128x128_0_256 rfl (by decide) (by decide)) (ldv0 t D 2 0 1280 inb_S128x2048_S128x128_0_1280 rfl (by decide) (by decide)) (ldv1 t D 2 0 1280 inb_S128x2048_S128x128_0_1280 rfl (by decide) (by decide))
        (ldk0 t D 2 1 768 inb_S128x2048_S128x128_0_768 rfl (by decide) (by decide)) (ldk1 t D 2 1 768 inb_S128x2048_S128x128_0_768 rfl (by decide) (by decide)) (ldv0 t D 2 1 1792 inb_S128x2048_S128x128_0_1792 rfl (by decide) (by decide)) (ldv1 t D 2 1 1792 inb_S128x2048_S128x128_0_1792 rfl (by decide) (by decide))
        D.h5 (lds t D 8 (4 * 2 + 0) inb_S1x16_S1x1_0_8 (by decide) rfl (Shape.Idx.first (by decide))) (lds t D 10 (4 * 2 + (2 + 0)) inb_S1x16_S1x1_0_10 (by decide) rfl (Shape.Idx.first (by decide))) (lds t D 9 (4 * 2 + 1) inb_S1x16_S1x1_0_9 (by decide) rfl (Shape.Idx.first (by decide))) (lds t D 11 (4 * 2 + (2 + 1)) inb_S1x16_S1x1_0_11 (by decide) rfl (Shape.Idx.first (by decide))))
      (grp_att 3 (ldq0 t D 3 768 inb_S128x1024_S128x128_0_768 rfl (by decide)) (ldq1 t D 3 896 inb_S128x1024_S128x128_0_896 rfl (by decide))
        (ldk0 t D 3 0 384 inb_S128x2048_S128x128_0_384 rfl (by decide) (by decide)) (ldk1 t D 3 0 384 inb_S128x2048_S128x128_0_384 rfl (by decide) (by decide)) (ldv0 t D 3 0 1408 inb_S128x2048_S128x128_0_1408 rfl (by decide) (by decide)) (ldv1 t D 3 0 1408 inb_S128x2048_S128x128_0_1408 rfl (by decide) (by decide))
        (ldk0 t D 3 1 896 inb_S128x2048_S128x128_0_896 rfl (by decide) (by decide)) (ldk1 t D 3 1 896 inb_S128x2048_S128x128_0_896 rfl (by decide) (by decide)) (ldv0 t D 3 1 1920 inb_S128x2048_S128x128_0_1920 rfl (by decide) (by decide)) (ldv1 t D 3 1 1920 inb_S128x2048_S128x128_0_1920 rfl (by decide) (by decide))
        D.h5 (lds t D 12 (4 * 3 + 0) inb_S1x16_S1x1_0_12 (by decide) rfl (Shape.Idx.first (by decide))) (lds t D 14 (4 * 3 + (2 + 0)) inb_S1x16_S1x1_0_14 (by decide) rfl (Shape.Idx.first (by decide))) (lds t D 13 (4 * 3 + 1) inb_S1x16_S1x1_0_13 (by decide) rfl (Shape.Idx.first (by decide))) (lds t D 15 (4 * 3 + (2 + 1)) inb_S1x16_S1x1_0_15 (by decide) rfl (Shape.Idx.first (by decide)))) q0 q1
  refine (gated_at _ x3 q0 q1).trans ?_
  rw [T, D.h3]
  rfl

end Cert.Att
-- ==== Proof.Att.Arr.lean ====
module

public import proofs.«01_k».proof.Proof.Gen.Kernel8Ideal.Value
public import proofs.«01_k».proof.Proof.Att.Block

@[expose] public section

noncomputable section

namespace Cert.Att

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The queries. -/
abbrev arrQ : S4096x1024.Idx → EReal := m ((c : Thread nD τ).loc main_arg0)
/-- The keys. -/
abbrev arrK : S4096x256.Idx → EReal := m ((c : Thread nD τ).loc main_arg1)
/-- The values. -/
abbrev arrV : S4096x256.Idx → EReal := m ((c : Thread nD τ).loc main_arg2)
/-- The gate's activations. -/
abbrev arrZ : S4096x1024.Idx → EReal := m ((c : Thread nD τ).loc main_arg3)
/-- The sinks. -/
abbrev arrS : S1x16.Idx → EReal := m ((c : Thread nD τ).loc main_arg4)
/-- The mask that is added to the scores. -/
abbrev arrM : S2x256x256.Idx → EReal := m ((c : Thread nD τ).loc main_arg5)

/-- Zeros. -/
def zer : S4096x4x64.Idx → EReal := broadcastInDim S4096x4x64 ![] bcast_S_S4096x4x64 (constant (F := Ideal) S_ .bf16 0x0000#16)
/-- Each head's columns in the first half of its lanes. -/
def lo (a : S4096x256.Idx → EReal) : S4096x512.Idx → EReal :=
  shapeCast S4096x512 (concatenate S4096x4x128 2 [⟨S4096x4x64, shapeCast S4096x4x64 a shapeCasts_S4096x256_S4096x4x64⟩, ⟨S4096x4x64, zer⟩] concatenates_S4096x4x64_S4096x4x64_S4096x4x128_d2) shapeCasts_S4096x4x128_S4096x512
/-- Each head's columns in the second half of its lanes. -/
def hi (a : S4096x256.Idx → EReal) : S4096x512.Idx → EReal :=
  shapeCast S4096x512 (concatenate S4096x4x128 2 [⟨S4096x4x64, zer⟩, ⟨S4096x4x64, shapeCast S4096x4x64 a shapeCasts_S4096x256_S4096x4x64⟩] concatenates_S4096x4x64_S4096x4x64_S4096x4x128_d2) shapeCasts_S4096x4x128_S4096x512
/-- The keys' and the values' array. -/
def kvArr (k v : S4096x256.Idx → EReal) : S4096x2048.Idx → EReal :=
  concatenate S4096x2048 1 [⟨S4096x512, lo k⟩, ⟨S4096x512, hi k⟩, ⟨S4096x512, lo v⟩, ⟨S4096x512, hi v⟩] concatenates_S4096x512_S4096x512_S4096x512_S4096x512_S4096x2048_d1

/-- The array the kernel finds the keys and the values in. -/
theorem V_kv : V m c main_v16 = kvArr (arrK m c) (arrV m c) := by
  show StableHlo.after hostOps0 _ (Proc.devRef .tc main_v16) = _
  after_results
  rfl

/-- A head's columns in the first half of its lanes, entry by entry. -/
theorem lo_at {a : S4096x256.Idx → EReal} {A : Mat} (h : ∀ (r : Fin 4096) (l : Fin 256), a (ix2 r l) = (A r.val l.val : EReal)) (r : Fin 4096) (l : Fin 512) :
    lo a (ix2 r l) = ((if (l.val % 128) / 64 = 0 then A r.val (64 * (l.val / 128) + l.val % 64) else 0 : ℝ) : EReal) := by
  unfold lo zer
  pointwise
  split
  · refine (h _ _).trans (congrArg _ ?_)
    refine Eq.trans ?_ (if_pos (by omega)).symm
    exact congrArg (A r.val) (by dsimp only; omega)
  · exact (congrArg (fun z : ℝ => (z : EReal)) (if_neg (by omega))).symm

/-- A head's columns in the second half of its lanes, entry by entry. -/
theorem hi_at {a : S4096x256.Idx → EReal} {A : Mat} (h : ∀ (r : Fin 4096) (l : Fin 256), a (ix2 r l) = (A r.val l.val : EReal)) (r : Fin 4096) (l : Fin 512) :
    hi a (ix2 r l) = ((if (l.val % 128) / 64 = 1 then A r.val (64 * (l.val / 128) + l.val % 64) else 0 : ℝ) : EReal) := by
  unfold hi zer
  pointwise
  split
  · exact (congrArg (fun z : ℝ => (z : EReal)) (if_neg (by omega))).symm
  · refine (h _ _).trans (congrArg _ ?_)
    refine Eq.trans ?_ (if_pos (by omega)).symm
    exact congrArg (A r.val) (by dsimp only; omega)

/-- The keys' and the values' array, entry by entry. -/
theorem kv_at {k v : S4096x256.Idx → EReal} {K V : Mat} (hk : ∀ (r : Fin 4096) (l : Fin 256), k (ix2 r l) = (K r.val l.val : EReal))
    (hv : ∀ (r : Fin 4096) (l : Fin 256), v (ix2 r l) = (V r.val l.val : EReal)) (r : Fin 4096) (l : Fin 2048) :
    kvArr k v (ix2 r l) = (KV K V r.val l.val : EReal) := by
  have hl := l.isLt
  unfold kvArr
  pointwise
  simp only [lo_at hk, hi_at hk, lo_at hv, hi_at hv]
  unfold KV
  by_cases h0 : l.val < 512
  · rw [dif_pos h0, if_pos (show l.val < 1024 by omega), show l.val / 512 % 2 = 0 by omega, show l.val % 512 = l.val by omega]
  · rw [dif_neg h0]
    by_cases h1 : l.val - 512 < 512
    · rw [dif_pos h1, if_pos (show l.val < 1024 by omega), show l.val / 512 % 2 = 1 by omega, show (l.val - 512) % 128 = l.val % 128 by omega,
        show l.val % 512 = l.val - 512 by omega, show (l.val - 512) % 64 = l.val % 64 by omega]
    · rw [dif_neg h1]
      by_cases h2 : l.val - 512 - 512 < 512
      · rw [dif_pos h2, if_neg (show ¬ l.val < 1024 by omega), show l.val / 512 % 2 = 0 by omega, show (l.val - 512 - 512) % 128 = l.val % 128 by omega,
          show l.val % 512 = l.val - 512 - 512 by omega, show (l.val - 512 - 512) % 64 = l.val % 64 by omega]
      · rw [dif_neg h2, if_neg (show ¬ l.val < 1024 by omega), show l.val / 512 % 2 = 1 by omega, show (l.val - 512 - 512 - 512) % 128 = l.val % 128 by omega,
          show l.val % 512 = l.val - 512 - 512 - 512 by omega, show (l.val - 512 - 512 - 512) % 64 = l.val % 64 by omega]

/-- Where each window's block lies at a grid point. -/
theorem idxs : ∀ t : Fin cfg0.N, (win0_0.index t 0 = t.val ∧ win0_0.index t 1 = 0)
    ∧ (win0_1.index t 0 = t.val ∧ win0_1.index t 1 = 0)
    ∧ (win0_2.index t 0 = t.val - 1 ∧ win0_2.index t 1 = 0)
    ∧ (win0_3.index t 0 = t.val ∧ win0_3.index t 1 = 0)
    ∧ (win0_4.index t 0 = 0 ∧ win0_4.index t 1 = 0)
    ∧ (win0_5.index t 0 = min t.val 1 ∧ win0_5.index t 1 = 0 ∧ win0_5.index t 2 = 0)
    ∧ (win0_6.index t 0 = t.val ∧ win0_6.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val - 1 ∧ win0_2.index t 1 = 0)
    ∧ (win0_3.index t 0 = t.val ∧ win0_3.index t 1 = 0)
    ∧ (win0_4.index t 0 = 0 ∧ win0_4.index t 1 = 0)
    ∧ (win0_5.index t 0 = min t.val 1 ∧ win0_5.index t 1 = 0 ∧ win0_5.index t 2 = 0)
    ∧ (win0_6.index t 0 = t.val ∧ win0_6.index t 1 = 0))

/-- The arguments as real rows, and the mask. -/
structure Args (Q K W : Mat) (B : ℕ → ℝ) (q : S4096x1024.Idx → EReal) (k v : S4096x256.Idx → EReal) (s : S1x16.Idx → EReal) : Prop where
  q : ∀ (r : Fin 4096) (l : Fin 1024), q (ix2 r l) = (Q r.val l.val : EReal)
  k : ∀ (r : Fin 4096) (l : Fin 256), k (ix2 r l) = (K r.val l.val : EReal)
  v : ∀ (r : Fin 4096) (l : Fin 256), v (ix2 r l) = (W r.val l.val : EReal)
  s : ∀ h : Fin 16, s (ix2 0 h) = (B h.val : EReal)

/-- The mask of the window: one for the first block, one for the others. -/
def Band (b : S2x256x256.Idx → EReal) : Prop := ∀ (z : Fin 2) (j r : Fin 256), b (ix3 z j r) = if ok z.val (r.val % 128) j.val then (0 : EReal) else ⊥

/-- An array's rows, numbered by naturals. -/
def rowsZ (z : S4096x1024.Idx → EReal) (r l : ℕ) : EReal := if h : r < 4096 ∧ l < 1024 then z (ix2 ⟨r, h.1⟩ ⟨l, h.2⟩) else 0

variable {Q K W : Mat} {B : ℕ → ℝ} (A : Args Q K W B (arrQ m c) (arrK m c) (arrV m c) (arrS m c)) (M : Band (arrM m c))

include A in
/-- The query rows of a point. -/
theorem iblk0 (t : Fin cfg0.N) (r : Fin 128) (l : Fin 1024) : (iblk m c 0 t : Vec Ideal S128x1024 .bf16) (ix2 r l) = (Q (128 * t.val + r.val) l.val : EReal) := by
  have ht : t.val < 32 := lt_of_lt_of_eq t.isLt (show cfg0.N = 32 from N_0)
  have hi := (idxs t).1
  refine Eq.trans ?_ (A.q ⟨128 * t.val + r.val, by omega⟩ l)
  unfold iblk
  rw [View.read_apply]
  show V m c main_arg0 _ = arrQ m c _
  rw [V_main_arg0]
  congr 1
  funext a
  apply Fin.ext
  match a with
  | ⟨0, _⟩ => show win0_0.index t 0 * 128 + 1 * r.val = 128 * t.val + r.val; rw [hi.1]; omega
  | ⟨1, _⟩ => show win0_0.index t 1 * 1024 + 1 * l.val = l.val; rw [hi.2]; omega

include A in
/-- The key and value rows of a point's block. -/
theorem iblk1 (t : Fin cfg0.N) (r : Fin 128) (l : Fin 2048) : (iblk m c 1 t : Vec Ideal S128x2048 .bf16) (ix2 r l) = (KV K W (128 * t.val + r.val) l.val : EReal) := by
  have ht : t.val < 32 := lt_of_lt_of_eq t.isLt (show cfg0.N = 32 from N_0)
  have hi := (idxs t).2.1
  refine Eq.trans ?_ (kv_at A.k A.v ⟨128 * t.val + r.val, by omega⟩ l)
  unfold iblk
  rw [View.read_apply]
  show V m c main_v16 _ = kvArr _ _ _
  rw [V_kv]
  congr 1
  funext a
  apply Fin.ext
  match a with
  | ⟨0, _⟩ => show win0_1.index t 0 * 128 + 1 * r.val = 128 * t.val + r.val; rw [hi.1]; omega
  | ⟨1, _⟩ => show win0_1.index t 1 * 2048 + 1 * l.val = l.val; rw [hi.2]; omega

include A in
/-- The key and value rows of the block before. -/
theorem iblk2 (t : Fin cfg0.N) (r : Fin 128) (l : Fin 2048) : (iblk m c 2 t : Vec Ideal S128x2048 .bf16) (ix2 r l) = (KV K W (128 * (t.val - 1) + r.val) l.val : EReal) := by
  have ht : t.val < 32 := lt_of_lt_of_eq t.isLt (show cfg0.N = 32 from N_0)
  have hi := (idxs t).2.2.1
  refine Eq.trans ?_ (kv_at A.k A.v ⟨128 * (t.val - 1) + r.val, by omega⟩ l)
  unfold iblk
  rw [View.read_apply]
  show V m c main_v16 _ = kvArr _ _ _
  rw [V_kv]
  congr 1
  funext a
  apply Fin.ext
  match a with
  | ⟨0, _⟩ => show win0_2.index t 0 * 128 + 1 * r.val = 128 * (t.val - 1) + r.val; rw [hi.1]; omega
  | ⟨1, _⟩ => show win0_2.index t 1 * 2048 + 1 * l.val = l.val; rw [hi.2]; omega

/-- The gate's rows of a point. -/
theorem iblk3 (t : Fin cfg0.N) (r : Fin 128) (l : Fin 1024) : (iblk m c 3 t : Vec Ideal S128x1024 .bf16) (ix2 r l) = rowsZ (arrZ m c) (128 * t.val + r.val) l.val := by
  have ht : t.val < 32 := lt_of_lt_of_eq t.isLt (show cfg0.N = 32 from N_0)
  have hi := (idxs t).2.2.2.1
  unfold rowsZ
  rw [dif_pos ⟨by omega, l.isLt⟩]
  unfold iblk
  rw [View.read_apply]
  show V m c main_arg3 _ = arrZ m c _
  rw [V_main_arg3]
  congr 1
  funext a
  apply Fin.ext
  match a with
  | ⟨0, _⟩ => show win0_3.index t 0 * 128 + 1 * r.val = 128 * t.val + r.val; rw [hi.1]; omega
  | ⟨1, _⟩ => show win0_3.index t 1 * 1024 + 1 * l.val = l.val; rw [hi.2]; omega

include A in
/-- The sinks. -/
theorem iblk4 (t : Fin cfg0.N) (h : Fin 16) : (iblk m c 4 t : Vec Ideal S1x16 .f32) (ix2 0 h) = (B h.val : EReal) := by
  have hi := (idxs t).2.2.2.2.1
  refine Eq.trans ?_ (A.s h)
  unfold iblk
  rw [View.read_apply]
  show V m c main_arg4 _ = arrS m c _
  rw [V_main_arg4]
  congr 1
  funext a
  apply Fin.ext
  match a with
  | ⟨0, _⟩ => show win0_4.index t 0 * 1 + 1 * 0 = 0; rw [hi.1]
  | ⟨1, _⟩ => show win0_4.index t 1 * 16 + 1 * h.val = h.val; rw [hi.2]; omega

include M in
/-- The mask of a point. -/
theorem iblk5 (t : Fin cfg0.N) (j r : Fin 256) : (iblk m c 5 t : Vec Ideal S1x256x256 .f32) (ix3 0 j r) = if ok t.val (r.val % 128) j.val then (0 : EReal) else ⊥ := by
  have hi := (idxs t).2.2.2.2.2.1
  refine Eq.trans ?_ ((M ⟨min t.val 1, by omega⟩ j r).trans ?_)
  · unfold iblk
    rw [View.read_apply]
    show V m c main_arg5 _ = arrM m c _
    rw [V_main_arg5]
    congr 1
    funext a
    apply Fin.ext
    match a with
    | ⟨0, _⟩ => show win0_5.index t 0 * 1 + 1 * 0 = min t.val 1; rw [hi.1]; omega
    | ⟨1, _⟩ => show win0_5.index t 1 * 256 + 1 * j.val = j.val; rw [hi.2.1]; omega
    | ⟨2, _⟩ => show win0_5.index t 2 * 256 + 1 * r.val = r.val; rw [hi.2.2]; omega
  · refine if_congr ?_ rfl rfl
    dsimp only
    constructor <;> rintro ⟨a, b, e⟩ <;> exact ⟨a, b, by omega⟩

include A M in
/-- The blocks of a grid point are rows of the argument arrays. -/
theorem blk (t : Fin cfg0.N) : Blk Q K W B (rowsZ (arrZ m c)) t.val (iblk m c 0 t) (iblk m c 1 t) (iblk m c 2 t) (iblk m c 3 t) (iblk m c 4 t) (iblk m c 5 t) where
  h0 := iblk0 m c A t
  h1 := iblk1 m c A t
  h2 := iblk2 m c A t
  h3 := iblk3 m c t
  h4 := iblk4 m c A t
  h5 := iblk5 m c M t

/-- The gated attention as one array. -/
def attArr (Q K W : Mat) (B : ℕ → ℝ) (z : S4096x1024.Idx → EReal) : S4096x1024.Idx → EReal :=
  fun y => (att Q K W B ((y 0).val / 128) ((y 0).val % 128) ((y 1).val / 64) ((y 1).val % 64) : EReal) * sil (z y)

/-- Which point's block of the output holds an index. -/
theorem cover6 (i : S4096x1024.Idx) (t : Fin cfg0.N) (ht : t.val = (i 0).val / 128) : i ∈ ((View.whole main_v17_0).slice (win0_6.rect t)).set := by
  have h0 : (i 0 : ℕ) < 4096 := (i 0).isLt
  have h1 : (i 1 : ℕ) < 1024 := (i 1).isLt
  have hi := (idxs t).2.2.2.2.2.2
  rw [View.set_slice_whole, Rect.mem_set_unit]
  intro a
  match a with
  | ⟨0, _⟩ =>
    show win0_6.index t 0 * 128 ≤ (i 0 : ℕ) ∧ (i 0 : ℕ) < win0_6.index t 0 * 128 + 128
    rw [hi.1]; omega
  | ⟨1, _⟩ =>
    show win0_6.index t 1 * 1024 ≤ (i 1 : ℕ) ∧ (i 1 : ℕ) < win0_6.index t 1 * 1024 + 1024
    rw [hi.2]; omega

include A M in
/-- The output array after the run. -/
theorem final6 : (dats m 0 c).arrAt 6 cfg0.N = attArr Q K W B (arrZ m c) := by
  have hN : cfg0.N = 32 := N_0
  refine (dats m 0 c).arrAt_eq_of_cover 6 (attArr Q K W B (arrZ m c)) (fun t hf => ?_) (fun i => ?_)
  · rw [Cert.Kernel8Ideal.Value.flushed6_A]
    have ht : t.val < 32 := lt_of_lt_of_eq t.isLt hN
    have hi := (idxs t).2.2.2.2.2.2
    funext y
    rw [View.read_apply]
    have h0 : (y 0).val < 128 := (y 0).isLt
    have h1 : (y 1).val < 1024 := (y 1).isLt
    have hy : (cfg0.win 6).xinj (grid0.coords t) y = ix2 (n0 := 128) (n1 := 1024) ⟨(y 0).val, h0⟩ ⟨(y 1).val, h1⟩ := by
      funext a
      match a with
      | ⟨0, _⟩ => rfl
      | ⟨1, _⟩ => rfl
    have e : ((cfg0.win 6).blk t).view.emb y = ix2 (n0 := 4096) (n1 := 1024) ⟨128 * t.val + (y 0).val, by omega⟩ ⟨(y 1).val, h1⟩ := by
      funext a
      apply Fin.ext
      match a with
      | ⟨0, _⟩ => show win0_6.index t 0 * 128 + 1 * (y 0).val = 128 * t.val + (y 0).val; rw [hi.1]; omega
      | ⟨1, _⟩ => show win0_6.index t 1 * 1024 + 1 * (y 1).val = (y 1).val; rw [hi.2]; omega
    show out0_A_6 (F := Ideal) c (grid0.coords t) _ _ _ _ _ _ _ _ _ _ _ _ _ _ _ _ _ _ _ _ _ _ ((cfg0.win 6).xinj (grid0.coords t) y) = attArr _ _ _ _ _ (((cfg0.win 6).blk t).view.emb y)
    rw [hy, e, out6 c t (blk m c A M t)]
    unfold attArr gat rowsZ
    dsimp only
    rw [dif_pos ⟨by omega, h1⟩]
    show (att Q K W B t.val (y 0).val ((y 1).val / 64) ((y 1).val % 64) : EReal) * _
      = (att Q K W B ((128 * t.val + (y 0).val) / 128) ((128 * t.val + (y 0).val) % 128) ((y 1).val / 64) ((y 1).val % 64) : EReal) * _
    rw [show (128 * t.val + (y 0).val) / 128 = t.val by omega, show (128 * t.val + (y 0).val) % 128 = (y 0).val by omega]
  · have h0 : (i 0 : ℕ) < 4096 := (i 0).isLt
    exact ⟨⟨(i 0).val / 128, by rw [hN]; omega⟩, flush0_6 _, cover6 i _ rfl⟩

end Cert.Att
-- ==== Proof.Att.Ref.lean ====
module

public import proofs.«01_k».proof.Proof.Gen.Reference8Ideal.Read
public import proofs.«01_k».proof.Proof.Att.Spec
public import Idealize.ShloMosaic.Lib.KernelVsHost

@[expose] public section

noncomputable section

namespace Cert.Att

open Cert.Reference8Ideal Cert.Reference8Ideal.Gen Idealize.ShloMosaic Idealize.ShloMosaic.TcCoe Idealize.SL.Sem
open Cert.Reference8Ideal.Read Cert.Conv Cert.Norm

/-- A difference of integers, as words. -/
theorem ofInt_sub (a b : ℤ) : BitVec.ofInt 32 (a - b) = BitVec.ofInt 32 a - BitVec.ofInt 32 b := by
  rw [sub_eq_add_neg, BitVec.ofInt_add, BitVec.ofInt_neg, ← BitVec.sub_eq_add_neg]

/-- A word that is a small integer has that value. -/
theorem toInt_of {x : BitVec 32} {z : ℤ} (h : x = BitVec.ofInt 32 z) (h0 : -2147483648 ≤ z) (h1 : z < 2147483648) : x.toInt = z := by
  rw [h, BitVec.toInt_ofInt]
  exact Int.bmod_eq_of_le (by norm_num; omega) (by norm_num; omega)

/-- The mask's words say which keys a query row sees. -/
theorem mask_val (n i j : ℕ) (hn : n < 32) (hi : i < 128) (hj : j < 256) (a b : EReal) : Scalar.select
      (IntOp.andi
        (IntOp.andi
          (IntOp.cmpi CmpIPredicate.sge
            (IntOp.subi (IntOp.addi (IntOp.muli (BitVec.ofNat 32 n) 128#32) (BitVec.ofNat 32 i))
              (IntOp.addi (IntOp.muli (IntOp.subi (BitVec.ofNat 32 n) 1#32) 128#32) (BitVec.ofNat 32 j)))
            0#32)
          (IntOp.cmpi CmpIPredicate.slt
            (IntOp.subi (IntOp.addi (IntOp.muli (BitVec.ofNat 32 n) 128#32) (BitVec.ofNat 32 i))
              (IntOp.addi (IntOp.muli (IntOp.subi (BitVec.ofNat 32 n) 1#32) 128#32) (BitVec.ofNat 32 j)))
            128#32))
        (IntOp.cmpi CmpIPredicate.sge
          (IntOp.addi (IntOp.muli (IntOp.subi (BitVec.ofNat 32 n) 1#32) 128#32) (BitVec.ofNat 32 j)) 0#32))
      a b =
    if ok n i j then a else b := by
  have k1 : (IntOp.addi (IntOp.muli (IntOp.subi (BitVec.ofNat 32 n) 1#32) 128#32) (BitVec.ofNat 32 j)) = BitVec.ofInt 32 (((n : ℤ) - 1) * 128 + j) := by
    show (BitVec.ofNat 32 n - 1#32) * 128#32 + BitVec.ofNat 32 j = _
    rw [BitVec.ofInt_add, BitVec.ofInt_mul, ofInt_sub]; rfl
  have k2 : (IntOp.addi (IntOp.muli (BitVec.ofNat 32 n) 128#32) (BitVec.ofNat 32 i)) = BitVec.ofInt 32 ((n : ℤ) * 128 + i) := by
    show (BitVec.ofNat 32 n) * 128#32 + BitVec.ofNat 32 i = _
    rw [BitVec.ofInt_add, BitVec.ofInt_mul]; rfl
  have k3 : IntOp.subi (BitVec.ofInt 32 ((n : ℤ) * 128 + i)) (BitVec.ofInt 32 (((n : ℤ) - 1) * 128 + j)) = BitVec.ofInt 32 ((i : ℤ) + 128 - j) := by
    show _ - _ = _
    rw [← ofInt_sub]; congr 1; ring
  rw [k1, k2, k3]
  have t3 := toInt_of (rfl : BitVec.ofInt 32 ((i : ℤ) + 128 - j) = _) (by omega) (by omega)
  have t1 := toInt_of (rfl : BitVec.ofInt 32 (((n : ℤ) - 1) * 128 + j) = _) (by omega) (by omega)
  have c1 : IntOp.cmpi CmpIPredicate.sge (BitVec.ofInt 32 ((i : ℤ) + 128 - j)) 0#32 = BitVec.ofBool (decide (j ≤ i + 128)) := by
    show BitVec.ofBool (BitVec.sle _ _) = _
    rw [BitVec.sle, t3]; congr 2; simp; omega
  have c2 : IntOp.cmpi CmpIPredicate.slt (BitVec.ofInt 32 ((i : ℤ) + 128 - j)) 128#32 = BitVec.ofBool (decide (i < j)) := by
    show BitVec.ofBool (BitVec.slt _ _) = _
    rw [BitVec.slt, t3]; congr 2; simp; omega
  have c3 : IntOp.cmpi CmpIPredicate.sge (BitVec.ofInt 32 (((n : ℤ) - 1) * 128 + j)) 0#32 = BitVec.ofBool (decide (128 ≤ 128 * n + j)) := by
    show BitVec.ofBool (BitVec.sle _ _) = _
    rw [BitVec.sle, t1]; congr 2; simp; omega
  rw [c1, c2, c3]
  unfold ok
  by_cases e1 : j ≤ i + 128 <;> by_cases e2 : i < j <;> by_cases e3 : 128 ≤ 128 * n + j <;> simp [e1, e2, e3, Scalar.select, IntOp.andi]
/-- The word of zero, as a number. -/
theorem zero_word : FloatOps.sitofp (F := Ideal) FTy.bf16 (0#32) = ((0 : ℝ) : EReal) := by
  show (((0#32 : BitVec 32).toInt : ℝ) : EReal) = _
  simp

/-- The window's rows of an array: the block before, nothing before the first, and the block itself. -/
def win (A : Mat) (n j c : ℕ) : ℝ := if n = 0 ∧ j < 128 then 0 else A (key n j) c

/-- Nothing stands before the sequence. -/
theorem win_zero {A : Mat} {n j c : ℕ} (h0 : n = 0) (h : j < 128) : win A n j c = 0 := by
  unfold win; rw [if_pos ⟨h0, h⟩]

/-- The first half of a window is the block before. -/
theorem win_lo {A : Mat} {n j c : ℕ} (h0 : ¬ n = 0) (h : j < 128) : win A n j c = A (128 * (n - 1) + j) c := by
  unfold win key; rw [if_neg (by omega), if_pos h]

/-- The second half of a window is the block itself. -/
theorem win_hi {A : Mat} {n j c : ℕ} (h : ¬ j < 128) : win A n j c = A (128 * n + (j - 128)) c := by
  unfold win key; rw [if_neg (by omega), if_neg h]

section
variable {q : S4096x1024.Idx → EReal} {k v : S4096x256.Idx → EReal} {s : S1x16.Idx → EReal} {Q K W : Mat} {B : ℕ → ℝ}
variable (hq : ∀ (r : Fin 4096) (l : Fin 1024), q (ix2 r l) = (Q r.val l.val : EReal)) (hk : ∀ (r : Fin 4096) (l : Fin 256), k (ix2 r l) = (K r.val l.val : EReal))
  (hv : ∀ (r : Fin 4096) (l : Fin 256), v (ix2 r l) = (W r.val l.val : EReal)) (hs : ∀ h : Fin 16, s (ix2 0 h) = (B h.val : EReal))

/-- The keys of a window, as the reference lays them out. -/
theorem kb_op (k : S4096x256.Idx → EReal) (n : Fin 32) (j : Fin 256) (g : Fin 4) (d : Fin 64) : val_main_v9 (F := Ideal) k (ix4 n j g d)
    = if h : j.val < 128 then
        if h1 : (1 ≤ n.val ∧ n.val - 1 < 31) ∧ j.val < 128 then k (ix2 ⟨(n.val - 1) * 128 + j.val, by omega⟩ ⟨g.val * 64 + d.val, by omega⟩)
        else FloatOps.sitofp (F := Ideal) FTy.bf16 (0#32)
      else k (ix2 ⟨n.val * 128 + (j.val - 128), by omega⟩ ⟨g.val * 64 + d.val, by omega⟩) := by
  unfold val_main_v9 val_main_v8 val_main_v7 val_main_v6 val_main_v2 val_main_call0_v0 val_main_c
  pointwise

include hk in
/-- The keys of a window. -/
theorem kb (n : Fin 32) (j : Fin 256) (g : Fin 4) (d : Fin 64) : val_main_v9 (F := Ideal) k (ix4 n j g d) = (win K n.val j.val (64 * g.val + d.val) : EReal) := by
  rw [kb_op]
  by_cases h : j.val < 128
  · rw [dif_pos h]
    by_cases h0 : n.val = 0
    · rw [dif_neg (by omega), win_zero h0 h]
      exact zero_word
    · rw [dif_pos ⟨⟨by omega, by omega⟩, h⟩, win_lo h0 h, hk]
      refine congrArg (fun z : ℝ => (z : EReal)) (congrArg₂ K ?_ ?_) <;> dsimp only <;> omega
  · rw [dif_neg h, win_hi h, hk]
    refine congrArg (fun z : ℝ => (z : EReal)) (congrArg₂ K ?_ ?_) <;> dsimp only <;> omega

include hq in
/-- The query rows of a block. -/
theorem qb (n : Fin 32) (i : Fin 128) (g p : Fin 4) (d : Fin 64) : val_main_v14 (F := Ideal) q (ix5 n i g p d) = (Q (128 * n.val + i.val) (64 * (4 * g.val + p.val) + d.val) : EReal) := by
  unfold val_main_v14 val_main_v5 val_main_v1
  pointwise
  rw [hq]
  refine congrArg (fun z : ℝ => (z : EReal)) (congrArg₂ Q ?_ ?_) <;> dsimp only <;> omega

/-- The mask. -/
theorem mask (n : Fin 32) (i : Fin 128) (g p : Fin 4) (j : Fin 256) (a b : EReal) :
    Scalar.select (val_main_call2_v1 (F := Ideal) (ix5 n g p i j)) a b = if ok n.val i.val j.val then a else b := by
  unfold val_main_call2_v1 val_main_v50 val_main_v49 val_main_v48 val_main_v47 val_main_v46 val_main_c_6 val_main_v45 val_main_v44 val_main_v43 val_main_c_5
    val_main_v42 val_main_v41 val_main_c_4 val_main_v40 val_main_v39 val_main_v38 val_main_v37 val_main_v36 val_main_v35 val_main_v34 val_main_v33 val_main_v32
    val_main_v31 val_main_c_3 val_main_v30 val_main_v29 val_main_c_2 val_main_v28 val_main_v27 val_main_v26 val_main_v25 val_main_v24 val_main_v23 val_main_v22
    val_main_c_1 val_main_v21 val_main_v20
  pointwise
  exact mask_val n.val i.val j.val n.isLt i.isLt j.isLt a b

include hs in
/-- The sinks. -/
theorem sk (n : Fin 32) (i : Fin 128) (g p : Fin 4) : val_main_v56 (F := Ideal) s (ix5 n g p i 0) = (B (4 * g.val + p.val) : EReal) := by
  unfold val_main_v56 val_main_v53 val_main_v52 val_main_v4
  pointwise
  rw [hs]
  refine congrArg (fun z : ℝ => (z : EReal)) (congrArg B ?_)
  dsimp only; omega

include hv in
/-- The values of a window. -/
theorem vb (n : Fin 32) (j : Fin 256) (g : Fin 4) (d : Fin 64) : val_main_v13 (F := Ideal) v (ix4 n j g d) = (win W n.val j.val (64 * g.val + d.val) : EReal) :=
  kb hv n j g d

/-- A key that is seen is no key before the sequence. -/
theorem win_ok {A : Mat} {n i j c : ℕ} (h : ok n i j) : win A n j c = A (key n j) c := if_neg (by unfold ok at h; omega)

/-- The scores as a sum of products. -/
theorem dot16 (q : S4096x1024.Idx → EReal) (k : S4096x256.Idx → EReal) (n : Fin 32) (i : Fin 128) (g p : Fin 4) (j : Fin 256) :
    val_main_v16 (F := Ideal) q k (ix5 n g j i p) = ∑ d : Fin 64, val_main_v15 (F := Ideal) k (ix4 n j g d) * val_main_v14 (F := Ideal) q (ix5 n i g p d) := by
  rw [val_main_v16_apply]
  refine Finset.sum_congr rfl fun d _ => congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl | ⟨4, _⟩ => rfl

/-- The masked scores, operation by operation. -/
theorem scr_op (q : S4096x1024.Idx → EReal) (k : S4096x256.Idx → EReal) (n : Fin 32) (i : Fin 128) (g p : Fin 4) (j : Fin 256) :
    val_main_v51 (F := Ideal) q k (ix5 n g p i j) = Scalar.select (val_main_call2_v1 (F := Ideal) (ix5 n g p i j))
      ((∑ d : Fin 64, val_main_v15 (F := Ideal) k (ix4 n j g d) * val_main_v14 (F := Ideal) q (ix5 n i g p d)) * FloatOps.ofBits (F := Ideal) .f32 0x3E000000#32) (FloatOps.ofBits (F := Ideal) .f32 0xFF800000#32) := by
  rw [← dot16]
  unfold val_main_v51 val_main_v19 val_main_v18 val_main_cst val_main_v17 val_main_call2_v2 val_main_call2_v0 val_main_cst_7
  generalize val_main_v16 (F := Ideal) q k = y0
  generalize val_main_call2_v1 (F := Ideal) = y1
  pointwise
  rfl

include hq hk in
/-- The masked scores. -/
theorem scr (n : Fin 32) (i : Fin 128) (g p : Fin 4) (j : Fin 256) : val_main_v51 (F := Ideal) q k (ix5 n g p i j)
    = if ok n.val i.val j.val then (sc Q K n.val i.val (4 * g.val + p.val) j.val : EReal) else ⊥ := by
  have e := scr_op q k n i g p j
  rw [e, mask]
  have o : FloatOps.ofBits (F := Ideal) .f32 0x3E000000#32 = ((1 / 8 : ℝ) : EReal) := by
    show Ideal.ofBits _ _ = _
    simp [Ideal.ofBits, Ideal.ieee]
    rw [← EReal.coe_mul]; congr 1; norm_num
  have o' : FloatOps.ofBits (F := Ideal) .f32 0xFF800000#32 = (⊥ : EReal) := by
    show Ideal.ofBits _ _ = _
    simp [Ideal.ofBits, Ideal.ieee]
  rw [o, o']
  by_cases h : ok n.val i.val j.val
  · rw [if_pos h, if_pos h]
    have f : ∀ d : Fin 64, val_main_v15 (F := Ideal) k (ix4 n j g d) * val_main_v14 (F := Ideal) q (ix5 n i g p d)
        = ((Q (128 * n.val + i.val) (64 * (4 * g.val + p.val) + d.val) * K (key n.val j.val) (64 * ((4 * g.val + p.val) / 4) + d.val) : ℝ) : EReal) := fun d => by
      have f1 : val_main_v15 (F := Ideal) k (ix4 n j g d) = _ := kb hk n j g d
      rw [f1, qb hq, win_ok h, ← EReal.coe_mul, mul_comm, show (4 * g.val + p.val) / 4 = g.val by omega]
    simp only [f, coe_sum]
    rw [← EReal.coe_mul]
    rfl
  · rw [if_neg h, if_neg h]

/-- A row's greatest entry is below infinity, where its entries are. -/
theorem mx_gen (x : FVec Ideal S32x4x4x128x256 .f32) (hx : ∀ n g p i j, x (ix5 n g p i j) < ⊤) (n : Fin 32) (i : Fin 128) (g p : Fin 4) :
    Host.reduce FloatOps.maximumf x (constant (F := Ideal) S_ .f32 0xFF800000#32) reducesTo_S32x4x4x128x256_S32x4x4x128_d4 h_S_ (ix4 n g p i) < ⊤ := by
  have R : S32x4x4x128x256.Reduces [4] S32x4x4x128 := by decide
  have E := hostReduce_maximumf_eq_multiReduction x 0xFF800000#32 reducesTo_S32x4x4x128x256_S32x4x4x128_d4 h_S_ R (.inl rfl) rfl
  rw [congrFun E (ix4 n g p i)]
  refine lt_of_eq_of_lt (Ideal.multiReduction_maximumf_single x 0xFF800000#32 R (.inl rfl) rfl (ix4 n g p i)) ?_
  rw [Finset.fold_max_lt]
  refine ⟨?_, fun j _ => ?_⟩
  · show Ideal.ofBits .f32 0xFF800000#32 < ⊤
    simp [Ideal.ofBits, Ideal.ieee]
  · have : R.lift (ix4 n g p i) j = ix5 (n0 := 32) (n1 := 4) (n2 := 4) (n3 := 128) (n4 := 256) n g p i j := by
      funext a; match a with | ⟨0, _⟩ => rfl | ⟨1, _⟩ => rfl | ⟨2, _⟩ => rfl | ⟨3, _⟩ => rfl | ⟨4, _⟩ => rfl
    rw [Function.comp_apply, this]
    exact hx n g p i j

include hq hk in
/-- A row's greatest score is below infinity. -/
theorem mx54 (n : Fin 32) (i : Fin 128) (g p : Fin 4) : val_main_v54 (F := Ideal) q k (ix4 n g p i) < ⊤ := by
  have h : ∀ n g p i j, val_main_v51 (F := Ideal) q k (ix5 n g p i j) < ⊤ := fun n g p i j => by
    rw [scr hq hk]
    split
    · exact EReal.coe_lt_top _
    · exact bot_lt_top
  unfold val_main_v54 val_main_cst_8
  generalize val_main_v51 (F := Ideal) q k = y at h ⊢
  exact mx_gen y h n i g p

/-- A row's sum of exponentials. -/
theorem sum61 (q : S4096x1024.Idx → EReal) (k : S4096x256.Idx → EReal) (s : S1x16.Idx → EReal) (n : Fin 32) (i : Fin 128) (g p : Fin 4) :
    val_main_v61 (F := Ideal) q k s (ix4 n g p i) = ∑ j : Fin 256, val_main_v60 (F := Ideal) q k s (ix5 n g p i j) := by
  rw [val_main_v61_apply, val_main_cst_9_apply]
  have o : FloatOps.ofBits (F := Ideal) .f32 0x00000000#32 = (0 : EReal) := by
    show Ideal.ofBits _ _ = _
    simp [Ideal.ofBits, Ideal.ieee]
  rw [o, zero_add]
  refine Finset.sum_congr rfl fun j _ => congrArg _ ?_
  funext a; match a with | ⟨0, _⟩ => rfl | ⟨1, _⟩ => rfl | ⟨2, _⟩ => rfl | ⟨3, _⟩ => rfl | ⟨4, _⟩ => rfl

/-- The exponentials. -/
theorem exp60 (q : S4096x1024.Idx → EReal) (k : S4096x256.Idx → EReal) (s : S1x16.Idx → EReal) (n : Fin 32) (i : Fin 128) (g p : Fin 4) (j : Fin 256) :
    val_main_v60 (F := Ideal) q k s (ix5 n g p i j) = Ideal.exp (val_main_v51 (F := Ideal) q k (ix5 n g p i j) - val_main_v57 (F := Ideal) q k s (ix5 n g p i 0)) := by
  unfold val_main_v60 val_main_v59 val_main_v58
  generalize val_main_v51 (F := Ideal) q k = y0
  generalize val_main_v57 (F := Ideal) q k s = y1
  pointwise

/-- The weights. -/
theorem div69 (q : S4096x1024.Idx → EReal) (k : S4096x256.Idx → EReal) (s : S1x16.Idx → EReal) (n : Fin 32) (i : Fin 128) (g p : Fin 4) (j : Fin 256) :
    val_main_v69 (F := Ideal) q k s (ix5 n g p i j) = Ideal.div (val_main_v60 (F := Ideal) q k s (ix5 n g p i j))
      (val_main_v61 (F := Ideal) q k s (ix4 n g p i) + Ideal.exp (val_main_v63 (F := Ideal) s (ix5 n g p i 0) - val_main_v57 (F := Ideal) q k s (ix5 n g p i 0))) := by
  unfold val_main_v69 val_main_v68 val_main_v67 val_main_v66 val_main_v65 val_main_v64 val_main_v62
  generalize val_main_v60 (F := Ideal) q k s = y0
  generalize val_main_v61 (F := Ideal) q k s = y1
  generalize val_main_v63 (F := Ideal) s = y2
  generalize val_main_v57 (F := Ideal) q k s = y3
  pointwise

/-- The greatest score or the sink. -/
theorem max57 (q : S4096x1024.Idx → EReal) (k : S4096x256.Idx → EReal) (s : S1x16.Idx → EReal) (n : Fin 32) (i : Fin 128) (g p : Fin 4) :
    val_main_v57 (F := Ideal) q k s (ix5 n g p i 0) = max (val_main_v54 (F := Ideal) q k (ix4 n g p i)) (val_main_v56 (F := Ideal) s (ix5 n g p i 0)) := by
  have e : idx_main_v55 (ix5 (n0 := 32) (n1 := 4) (n2 := 4) (n3 := 128) (n4 := 1) n g p i 0) = ix4 (n0 := 32) (n1 := 4) (n2 := 4) (n3 := 128) n g p i := by
    funext a; match a with | ⟨0, _⟩ => rfl | ⟨1, _⟩ => rfl | ⟨2, _⟩ => rfl | ⟨3, _⟩ => rfl
  rw [val_main_v57_apply, val_main_v55_apply, e]
  generalize val_main_v54 (F := Ideal) q k (ix4 n g p i) = a
  generalize val_main_v56 (F := Ideal) s (ix5 n g p i 0) = b
  rfl

/-- The weighted values as a sum of products. -/
theorem dot70 (q : S4096x1024.Idx → EReal) (k v : S4096x256.Idx → EReal) (s : S1x16.Idx → EReal) (n : Fin 32) (i : Fin 128) (g p : Fin 4) (d : Fin 64) :
    val_main_v70 (F := Ideal) q k v s (ix5 n g d p i) = ∑ j : Fin 256, val_main_v13 (F := Ideal) v (ix4 n j g d) * val_main_v69 (F := Ideal) q k s (ix5 n g p i j) := by
  rw [val_main_v70_apply]
  refine Finset.sum_congr rfl fun d _ => congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl | ⟨4, _⟩ => rfl

include hq hk hv hs in
/-- The reference's attention, before the gate. -/
theorem att_ref (n : Fin 32) (i : Fin 128) (g p : Fin 4) (d : Fin 64) : val_main_v70 (F := Ideal) q k v s (ix5 n g d p i)
    = (att Q K W B n.val i.val (4 * g.val + p.val) d.val : EReal) := by
  obtain ⟨m, hm⟩ := max_real (mx54 hq hk n i g p) (B (4 * g.val + p.val))
  rw [← sk hs n i g p, ← max57] at hm
  have h69 : ∀ j : Fin 256, val_main_v69 (F := Ideal) q k s (ix5 n g p i j)
      = Ideal.div (Ideal.exp (val_main_v51 (F := Ideal) q k (ix5 n g p i j) - (m : EReal)))
        (∑ j : Fin 256, Ideal.exp (val_main_v51 (F := Ideal) q k (ix5 n g p i j) - (m : EReal)) + Ideal.exp ((B (4 * g.val + p.val) : EReal) - (m : EReal))) := fun j => by
    have h63 : val_main_v63 (F := Ideal) s (ix5 n g p i 0) = (B (4 * g.val + p.val) : EReal) := sk hs n i g p
    rw [div69, sum61, h63, hm]
    simp only [exp60, hm]
  rw [dot70]
  simp only [h69, vb hv]
  refine (row_ref (fun j => ok n.val i.val j.val) (fun j => sc Q K n.val i.val (4 * g.val + p.val) j.val) (fun j => win W n.val j.val (64 * g.val + d.val))
    (B (4 * g.val + p.val)) m (fun j => val_main_v51 (F := Ideal) q k (ix5 n g p i j)) (fun j => scr hq hk n i g p j)).trans ?_
  refine congrArg (fun z : ℝ => (z : EReal)) (congrArg₂ (· / ·) (Finset.sum_congr rfl fun j _ => ?_) rfl)
  unfold wt
  by_cases h : ok n.val i.val j.val
  · rw [if_pos h, win_ok h, show (4 * g.val + p.val) / 4 = g.val by omega]
  · rw [if_neg h, zero_mul, zero_mul]

include hq hk hv hs in
/-- The reference's result, entry by entry. -/
theorem ref_at (z : S4096x1024.Idx → EReal) (r : Fin 4096) (l : Fin 1024) : val_main_v81 (F := Ideal) q k v z s (ix2 r l)
    = (att Q K W B (r.val / 128) (r.val % 128) (l.val / 64) (l.val % 64) : EReal) * (z (ix2 r l) * Ideal.div 1 (1 + Ideal.exp (0 - z (ix2 r l)))) := by
  have e : val_main_v72 (F := Ideal) q k v s (ix2 r l)
      = val_main_v70 (F := Ideal) q k v s (ix5 ⟨r.val / 128, by omega⟩ ⟨l.val / 256, by omega⟩ ⟨l.val % 64, by omega⟩ ⟨l.val / 64 % 4, by omega⟩ ⟨r.val % 128, by omega⟩) := by
    unfold val_main_v72 val_main_v71
    generalize val_main_v70 (F := Ideal) q k v s = y0
    pointwise
  rw [att_ref hq hk hv hs] at e
  dsimp only at e
  rw [show 4 * (l.val / 256) + l.val / 64 % 4 = l.val / 64 by omega] at e
  rw [← e]
  unfold val_main_v81 val_main_v80
  generalize val_main_v72 (F := Ideal) q k v s = y0
  unfold val_main_v79 val_main_v78 val_main_v77 val_main_cst_11 val_main_v76 val_main_v75 val_main_cst_10 val_main_v74 val_main_v73 val_main_v0
  pointwise
  rw [zero_sub]
end

end Cert.Att
-- ==== Proof.Att.Pre.lean ====
module

public import proofs.«01_k».proof.Pre_finite8
public import proofs.«01_k».proof.Proof.Conv.Pre
public import proofs.«01_k».proof.Proof.Att.Ref

@[expose] public section

noncomputable section

namespace Cert.Att

open Idealize.ShloMosaic Idealize.ShloMosaic.TcCoe Cert.Conv

/-- The side conditions of the precondition's operations. -/
theorem preFacts : Cert.Pre_finite8.Facts where
  bcast_S_S4096x1024 := by decide
  reducesTo_S4096x1024_S_d0_1 := by decide
  h_S_ := by decide
  bcast_S_S4096x256 := by decide
  reducesTo_S4096x256_S_d0_1 := by decide
  bcast_S_S1x16 := by decide
  reducesTo_S1x16_S_d0_1 := by decide
  bcast_S_S256x256 := by decide
  bcast_S256x256_S1x256x256_1_2 := by decide
  concatenates_S1x256x256_S1x256x256_S2x256x256_d0 := by decide
  reducesTo_S2x256x256_S_d0_1_2 := by decide

/-- A comparison's bit that is set says the two are equal. -/
theorem eq_of_bit {a b : EReal} (e : BitVec.ofBool (decide (a = b)) = 1#1) : a = b := by
  by_contra h
  simp [h] at e

/-- A query row within its block. -/
theorem row_word (r : Fin 256) : IntOp.andi (BitVec.ofNat 32 r.val) 127#32 = BitVec.ofNat 32 (r.val % 128) := by
  revert r; decide +kernel

/-- The mask's words, for the blocks after the first. -/
theorem band_val (i j : ℕ) (hi : i < 128) (hj : j < 256) : IntOp.andi (IntOp.cmpi CmpIPredicate.sgt (BitVec.ofNat 32 j) (BitVec.ofNat 32 i))
    (IntOp.cmpi CmpIPredicate.sle (BitVec.ofNat 32 j) (IntOp.addi (BitVec.ofNat 32 i) 128#32)) = BitVec.ofBool (decide (i < j ∧ j ≤ i + 128)) := by
  have t1 := toInt_of (rfl : BitVec.ofInt 32 (i : ℤ) = _) (by omega) (by omega)
  have t2 := toInt_of (rfl : BitVec.ofInt 32 (j : ℤ) = _) (by omega) (by omega)
  have t3 := toInt_of (rfl : BitVec.ofInt 32 ((i : ℤ) + 128) = _) (by omega) (by omega)
  have k3 : IntOp.addi (BitVec.ofNat 32 i) 128#32 = BitVec.ofInt 32 ((i : ℤ) + 128) := by
    show (BitVec.ofNat 32 i) + 128#32 = _
    rw [BitVec.ofInt_add]; rfl
  have k1 : BitVec.ofNat 32 i = BitVec.ofInt 32 (i : ℤ) := rfl
  have k2 : BitVec.ofNat 32 j = BitVec.ofInt 32 (j : ℤ) := rfl
  have c1 : IntOp.cmpi CmpIPredicate.sgt (BitVec.ofNat 32 j) (BitVec.ofNat 32 i) = BitVec.ofBool (decide (i < j)) := by
    show BitVec.ofBool (BitVec.slt _ _) = _
    rw [k1, k2, BitVec.slt, t1, t2]; congr 2; simp
  have c2 : IntOp.cmpi CmpIPredicate.sle (BitVec.ofNat 32 j) (BitVec.ofInt 32 ((i : ℤ) + 128)) = BitVec.ofBool (decide (j ≤ i + 128)) := by
    show BitVec.ofBool (BitVec.sle _ _) = _
    rw [k2, BitVec.sle, t2, t3]; congr 2; simp; omega
  rw [k3, c1, c2]
  by_cases e1 : j ≤ i + 128 <;> by_cases e2 : i < j <;> simp [e1, e2, IntOp.andi]

/-- The mask's word that bounds the keys from below. -/
theorem low_val (j : ℕ) (hj : j < 256) : IntOp.cmpi CmpIPredicate.sge (BitVec.ofNat 32 j) 128#32 = BitVec.ofBool (decide (128 ≤ j)) := by
  have t2 := toInt_of (rfl : BitVec.ofInt 32 (j : ℤ) = _) (by omega) (by omega)
  have k2 : BitVec.ofNat 32 j = BitVec.ofInt 32 (j : ℤ) := rfl
  show BitVec.ofBool (BitVec.sle _ _) = _
  rw [k2, BitVec.sle, t2]; congr 2; simp

/-- The precondition, read: the queries, keys, values and sinks are real numbers, and the bias is the band's mask. -/
theorem pre_real [Cert.Pre_finite8.Facts] (x0 : FVec Ideal Cert.Pre_finite8.S4096x1024 .bf16) (x1 x2 : FVec Ideal Cert.Pre_finite8.S4096x256 .bf16)
    (x3 : FVec Ideal Cert.Pre_finite8.S4096x1024 .bf16) (x4 : FVec Ideal Cert.Pre_finite8.S1x16 .f32) (x5 : FVec Ideal Cert.Pre_finite8.S2x256x256 .f32)
    (h : Cert.Pre_finite8.fn (F := Ideal) x0 x1 x2 x3 x4 x5 = fun _ => 1#1) :
    (∀ i, IsR (x0 i)) ∧ (∀ i, IsR (x1 i)) ∧ (∀ i, IsR (x2 i)) ∧ (∀ i, IsR (x4 i))
      ∧ ∀ (z : Fin 2) (j r : Fin 256), x5 (ix3 z j r) = if ok z.val (r.val % 128) j.val then (0 : EReal) else ⊥ := by
  have h := congrFun h (fun a => a.elim0)
  unfold Cert.Pre_finite8.fn Cert.Pre_finite8.fn_part1 Cert.Pre_finite8.fn_part2 Cert.Pre_finite8.fn_where at h
  dsimp only at h
  obtain ⟨h, h5⟩ := IntOp.andi_eq_one.mp h
  obtain ⟨h, h4⟩ := IntOp.andi_eq_one.mp h
  obtain ⟨h, h2⟩ := IntOp.andi_eq_one.mp h
  obtain ⟨h0, h1⟩ := IntOp.andi_eq_one.mp h
  refine ⟨fun i => isR_of_abs ?_, fun i => isR_of_abs ?_, fun i => isR_of_abs ?_, fun i => isR_of_abs ?_, fun z j r => ?_⟩
  · have e := Host.reduce_andi_all _ _ _ _ _ h0 i
    pointwise at e
    exact (lt_of_bit e).trans_eq (by simp [Ideal.ofBits, Ideal.ieee])
  · have e := Host.reduce_andi_all _ _ _ _ _ h1 i
    pointwise at e
    exact (lt_of_bit e).trans_eq (by simp [Ideal.ofBits, Ideal.ieee])
  · have e := Host.reduce_andi_all _ _ _ _ _ h2 i
    pointwise at e
    exact (lt_of_bit e).trans_eq (by simp [Ideal.ofBits, Ideal.ieee])
  · have e := Host.reduce_andi_all _ _ _ _ _ h4 i
    pointwise at e
    exact (lt_of_bit e).trans_eq (by simp [Ideal.ofBits, Ideal.ieee])
  · have e := Host.reduce_andi_all _ _ _ _ _ h5 (ix3 z j r)
    pointwise at e
    refine (eq_of_bit e).trans ?_
    clear e h h0 h1 h2 h4 h5
    simp only [id_eq]
    pointwise
    have o : Ideal.ofBits FTy.f32 0xFF800000#32 = (⊥ : EReal) := by simp [Ideal.ofBits, Ideal.ieee]
    have hz : z.val < 2 := z.isLt
    rw [row_word, band_val (r.val % 128) j.val (by omega) j.isLt, low_val j.val j.isLt, o]
    unfold ok
    by_cases hz0 : z.val < 1 <;> by_cases e1 : r.val % 128 < j.val <;> by_cases e2 : j.val ≤ r.val % 128 + 128 <;> by_cases e3 : 128 ≤ j.val <;>
      by_cases e4 : 128 ≤ 128 * z.val + j.val <;> first | omega | simp [hz0, e1, e2, e3, e4, Scalar.select, IntOp.andi]

end Cert.Att
-- ==== Proof.Att.Claim.lean ====
module

public import proofs.«01_k».proof.Proof.Gen.Reference8Ideal.Run
public import proofs.«01_k».proof.Defs
public import proofs.«01_k».proof.Proof.Att.Arr
public import proofs.«01_k».proof.Proof.Att.Pre
public import Idealize.ShloMosaic.Lib.Claim

@[expose] public section

noncomputable section

namespace Cert.Att

open Cert.Kernel8Ideal Cert.Kernel8Ideal.Gen Idealize.ShloMosaic Idealize.ShloMosaic.TcCoe Idealize.SL.Sem
open Cert.Reference8Ideal.Read Cert.Conv

/-- A matrix of real numbers, as rows numbered by naturals. -/
theorem rows_of {a b : ℕ} {x : (⟨2, ![a, b]⟩ : Shape).Idx → EReal} (h : ∀ i, IsR (x i)) : ∃ X : Mat, ∀ (r : Fin a) (l : Fin b), x (ix2 r l) = (X r.val l.val : EReal) := by
  choose f hf using h
  refine ⟨fun r l => if e : r < a ∧ l < b then f (ix2 ⟨r, e.1⟩ ⟨l, e.2⟩) else 0, fun r l => ?_⟩
  dsimp only
  rw [dif_pos ⟨r.isLt, l.isLt⟩]
  exact hf (ix2 r l)

/-- The reference's run: it ends, its arguments stay, and it has no semaphore that could be left raised. -/
theorem frame_ref (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ fun r =>
      (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
        ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
        ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0 :=
  (θ_run Cert.Reference8Ideal.defs _ _).mono
    (fun r h => ⟨fun c => (h c).2, sem_eq_zero_of_no_sems (by decide) r.2⟩)
    (Cert.Reference8Ideal.Value.run m g)

/-- The two named constants are within rounding of the words they stand for. -/
theorem preserves : preserves_Kernel8_Kernel8Ideal :=
  ⟨IdealRules.named_const.statement Cert.Kernel8Ideal.κ "scale_log2e" .f32 0x3E38AA3B#32 _ rfl,
    IdealRules.named_const.statement Cert.Kernel8Ideal.κ "log2e" .f32 0x3FB8AA3B#32 _ rfl⟩

/-- The attention's forward call and the plain lines end with equal results. -/
theorem algebraic : algebraic_Kernel8Ideal_Reference8Ideal_pre_finite8 (hPre_finite8 := preFacts) := by
  intro m g m' g' hpre hargs
  have X : ∀ c : Dev nD, ∃ (Q K W : Mat) (B : ℕ → ℝ), Args Q K W B (arrQ m c) (arrK m c) (arrV m c) (arrS m c) ∧ Band (arrM m c) := fun c => by
    obtain ⟨p0, p1, p2, p4, p5⟩ := @pre_real preFacts _ _ _ _ _ _ (hpre c)
    obtain ⟨Q, hQ⟩ := rows_of p0
    obtain ⟨K, hK⟩ := rows_of p1
    obtain ⟨W, hW⟩ := rows_of p2
    obtain ⟨S, hS⟩ := rows_of p4
    exact ⟨Q, K, W, S 0, ⟨hQ, hK, hW, hS 0⟩, p5⟩
  choose Q K W B A M using X
  refine ⟨fun c => attArr (Q c) (K c) (W c) (B c) (arrZ m c), ?_, ?_⟩
  · refine (θ_run _ _ _).mono (fun r h c => ?_) (Cert.Kernel8Ideal.Value.run_blocks m g)
    obtain ⟨e0, -, e2⟩ := h c
    exact ⟨e0.trans (final6 m c (A c) (M c)), e2⟩
  · refine (θ_run _ _ _).mono (fun r h c => ?_) (Cert.Reference8Ideal.Value.run m' g')
    obtain ⟨e0, e1⟩ := h c
    obtain ⟨a0, a1, a2, a3, a4, -⟩ := hargs c
    refine ⟨e0.trans ((val_main_v81_eq m' c).trans ?_), e1⟩
    rw [a0, a1, a2, a3, a4]
    funext y
    obtain ⟨r, l, rfl⟩ : ∃ r l, y = ix2 r l := ⟨y 0, y 1, by funext a; match a with | ⟨0, _⟩ => rfl | ⟨1, _⟩ => rfl⟩
    exact ref_at (A c).q (A c).k (A c).v (A c).s (arrZ m c) r l

end Cert.Att
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Conv.Claim
public import proofs.«01_k».proof.Proof.Norm.Claim
public import proofs.«01_k».proof.Proof.Wgr.Claim
public import proofs.«01_k».proof.Proof.Mrg.Claim
public import proofs.«01_k».proof.Proof.Inp.Claim
public import proofs.«01_k».proof.Proof.Cvf.Claim
public import proofs.«01_k».proof.Proof.Nrf.Claim
public import proofs.«01_k».proof.Proof.Att.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Everything claimed: the frames, the idealization, and the equality over the extended reals. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Conv.preFacts, Cert.Norm.preFacts, Cert.Att.preFacts,
    fun m g _ => Cert.Kernel.Gen.frame m g, fun m g _ => Cert.KernelIdeal.Gen.frame m g, fun m g _ => Cert.KernelIdeal.Gen.frame m g,
    fun m g _ => Cert.Conv.frame_ref m g, fun m g _ => Cert.Conv.frame_ref m g,
    fun m g _ => Cert.Kernel2.Gen.frame m g, fun m g _ => Cert.Kernel2Ideal.Gen.frame m g, fun m g _ => Cert.Kernel2Ideal.Gen.frame m g,
    fun m g _ => Cert.Norm.frame_ref m g, fun m g _ => Cert.Norm.frame_ref m g,
    fun m g _ => Cert.Kernel3.Gen.frame m g, fun m g _ => Cert.Kernel3Ideal.Gen.frame m g, fun m g _ => Cert.Mrg.frame_ref m g,
    fun m g _ => Cert.Kernel4.Gen.frame m g, fun m g _ => Cert.Kernel4Ideal.Gen.frame m g, fun m g _ => Cert.Wgr.frame_ref m g,
    Cert.Inp.frame_bits, fun m g _ => Cert.Inp.frame_any m g, fun m g _ => Cert.Inp.frame_ref m g,
    fun m g _ => Cert.Kernel6.Gen.frame m g, fun m g _ => Cert.Kernel6Ideal.Gen.frame m g, fun m g _ => Cert.Cvf.frame_ref m g,
    fun m g _ => Cert.Kernel7.Gen.frame m g, fun m g _ => Cert.Kernel7Ideal.Gen.frame m g, fun m g _ => Cert.Nrf.frame_ref m g,
    fun m g _ => Cert.Kernel8.Gen.frame m g, fun m g _ => Cert.Kernel8Ideal.Gen.frame m g, fun m g _ => Cert.Kernel8Ideal.Gen.frame m g,
    fun m g _ => Cert.Att.frame_ref m g, fun m g _ => Cert.Att.frame_ref m g,
    trivial, Cert.Conv.algebraic, trivial, Cert.Norm.algebraic, trivial, Cert.Mrg.algebraic, trivial, Cert.Wgr.algebraic, trivial, Cert.Inp.algebraic,
    trivial, Cert.Cvf.algebraic, trivial, Cert.Nrf.algebraic, Cert.Att.preserves, Cert.Att.algebraic⟩

end Cert.Proof

end
